-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![8192, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  bcast_S_S256x64 : S_.BroadcastsInDim S256x64 (![] : Fin 0 → Fin S256x64.rank)
  bcast_S_S512x1 : S_.BroadcastsInDim S512x1 (![] : Fin 0 → Fin S512x1.rank)

variable [Facts]

def fn {F : FTy → Type} [FloatOps F] (main_arg0 : FVec F S512x256 .f32) (main_arg1 : FVec F S256x64 .f32) (main_arg2 : IVec S512x1 32) (main_arg3 : FVec F S4x256x512 .f32) (main_arg4 : FVec F S256x512 .f32) : IVec S512x256 1 × IVec S256x64 1 × IVec S512x1 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x64 .f32 := Host.absf main_arg1
  let main_cst_0 : FVec F S_ .f32 := constant S_ .f32 0x7F800000#32
  let main_v4 : FVec F S256x64 .f32 := broadcastInDim S256x64 ![] bcast_S_S256x64 main_cst_0
  let main_v5 : IVec S256x64 1 := cmpf .olt main_v3 main_v4
  let main_c : IVec S_ 32 := constantI S_ 32 0#32
  let main_v6 : IVec S512x1 32 := broadcastInDim S512x1 ![] bcast_S_S512x1 main_c
  let main_v7 : IVec S512x1 1 := cmpi .sge main_arg2 main_v6
  let main_c_1 : IVec S_ 32 := constantI S_ 32 64#32
  let main_v8 : IVec S512x1 32 := broadcastInDim S512x1 ![] bcast_S_S512x1 main_c_1
  let main_v9 : IVec S512x1 1 := cmpi .slt main_arg2 main_v8
  let main_v10 : IVec S512x1 1 := andi main_v7 main_v9
  (main_v2, main_v5, main_v10)
-- ==== Pre_finite_and_routed_ReferenceIdeal.lean ====
abbrev S8192x256 : Shape := ⟨2, ![8192, 256]⟩
abbrev S256x64 : Shape := ⟨2, ![256, 64]⟩
abbrev S8192x1 : Shape := ⟨2, ![8192, 1]⟩
abbrev S64x256x512 : Shape := ⟨3, ![64, 256, 512]⟩
abbrev S256x512 : Shape := ⟨2, ![256, 512]⟩
abbrev S_ : Shape := ⟨0, ![]⟩

class Facts : Prop where
  bcast_S_S8192x256 : S_.BroadcastsInDim S8192x256 (![] : Fin 0 → Fin S8192x256.rank)
  bcast_S_S256x64 : S_.BroadcastsInDim S256x64 (![] : Fin 0 → Fin S256x64.rank)
  bcast_S_S8192x1 : S_.BroadcastsInDim S8192x1 (![] : Fin 0 → Fin S8192x1.rank)

variable [Facts]

def fn {F : FTy → Type} [FloatOps F] (main_arg0 : FVec F S8192x256 .f32) (main_arg1 : FVec F S256x64 .f32) (main_arg2 : IVec S8192x1 32) (main_arg3 : FVec F S64x256x512 .f32) (main_arg4 : FVec F S256x512 .f32) : IVec S8192x256 1 × IVec S256x64 1 × IVec S8192x1 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S256x64 .f32 := Host.absf main_arg1
  let main_cst_0 : FVec F S_ .f32 := constant S_ .f32 0x7F800000#32
  let main_v4 : FVec F S256x64 .f32 := broadcastInDim S256x64 ![] bcast_S_S256x64 main_cst_0
  let main_v5 : IVec S256x64 1 := cmpf .olt main_v3 main_v4
  let main_c : IVec S_ 32 := constantI S_ 32 0#32
  let main_v6 : IVec S8192x1 32 := broadcastInDim S8192x1 ![] bcast_S_S8192x1 main_c
  let main_v7 : IVec S8192x1 1 := cmpi .sge main_arg2 main_v6
  let main_c_1 : IVec S_ 32 := constantI S_ 32 64#32
  let main_v8 : IVec S8192x1 32 := broadcastInDim S8192x1 ![] bcast_S_S8192x1 main_c_1
  let main_v9 : IVec S8192x1 1 := cmpi .slt main_arg2 main_v8
  let main_v10 : IVec S8192x1 1 := andi main_v7 main_v9
  (main_v2, main_v5, main_v10)
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S3x256x384 : Shape := ⟨3, ![3, 256, 384]⟩
abbrev S3x256x512 : Shape := ⟨3, ![3, 256, 512]⟩
abbrev S3 : Shape := ⟨1, ![3]⟩
abbrev S_ : Shape := ⟨0, ![]⟩
abbrev S512x64 : Shape := ⟨2, ![512, 64]⟩
abbrev S512 : Shape := ⟨1, ![512]⟩
abbrev S512x128 : Shape := ⟨2, ![512, 128]⟩
abbrev S256x256 : Shape := ⟨2, ![256, 256]⟩
abbrev S1x256x256 : Shape := ⟨3, ![1, 256, 256]⟩
abbrev S256x128 : Shape := ⟨2, ![256, 128]⟩
abbrev S1x256x128 : Shape := ⟨3, ![1, 256, 128]⟩
abbrev S1x256x1 : Shape := ⟨3, ![1, 256, 1]⟩
abbrev S256x1 : Shape := ⟨2, ![256, 1]⟩
abbrev S1x256x512 : Shape := ⟨3, ![1, 256, 512]⟩
abbrev S1 : Shape := ⟨1, ![1]⟩
abbrev S1x256x384 : Shape := ⟨3, ![1, 256, 384]⟩
abbrev S256x384 : Shape := ⟨2, ![256, 384]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x64, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S512x512, .f32⟩
  | .local _ .vmem, ⟨6, _⟩ => ⟨S3x256x384, .bf16⟩
  | .local _ .vmem, ⟨7, _⟩ => ⟨S3x256x512, .bf16⟩
  | .local _ .vmem, ⟨8, _⟩ => ⟨S3x256x384, .bf16⟩
  | .local _ .vmem, ⟨9, _⟩ => ⟨S3x256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 5 30 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_70 : BitVec 32 := 1#32
  let v178 : BitVec 32 := Scalar.muli v7 c1_i32_70
  let v179 : BitVec 32 := Scalar.addi c0_i32_71 v178
  v179.toNat
def k0_dev4 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_80 : BitVec 32 := 1#32
  let v188 : BitVec 32 := Scalar.muli v5 c1_i32_80
  let v189 : BitVec 32 := Scalar.addi c0_i32_81 v188
  v189.toNat
def k0_dev5 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_100 : BitVec 32 := 1#32
  let v206 : BitVec 32 := Scalar.muli v7 c1_i32_100
  let v207 : BitVec 32 := Scalar.addi c0_i32_101 v206
  v207.toNat
def k0_dev6 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_120 : BitVec 32 := 1#32
  let v224 : BitVec 32 := Scalar.muli v5 c1_i32_120
  let v225 : BitVec 32 := Scalar.addi c0_i32_121 v224
  v225.toNat
def k0_dev7 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_165 : BitVec 32 := 1#32
  let v348 : BitVec 32 := Scalar.muli v5 c1_i32_165
  let v349 : BitVec 32 := Scalar.addi c0_i32_166 v348
  v349.toNat
def k0_dev8 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_177 : BitVec 32 := 1#32
  let v356 : BitVec 32 := Scalar.muli v7 c1_i32_177
  let v357 : BitVec 32 := Scalar.addi c0_i32_178 v356
  v357.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_186 : BitVec 32 := 1#32
  let v362 : BitVec 32 := Scalar.muli v7 c1_i32_186
  let v363 : BitVec 32 := Scalar.addi c0_i32_187 v362
  v363.toNat
def k0_dev10 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_199 : BitVec 32 := 1#32
  let v376 : BitVec 32 := Scalar.muli v5 c1_i32_199
  let v377 : BitVec 32 := Scalar.addi c0_i32_200 v376
  v377.toNat
def k0_dev11 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_221 : BitVec 32 := 1#32
  let v394 : BitVec 32 := Scalar.muli v7 c1_i32_221
  let v395 : BitVec 32 := Scalar.addi c0_i32_222 v394
  v395.toNat
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_243 : BitVec 32 := 1#32
  let v412 : BitVec 32 := Scalar.muli v5 c1_i32_243
  let v413 : BitVec 32 := Scalar.addi c0_i32_244 v412
  v413.toNat
def k0_dev13 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_288 : BitVec 32 := 1#32
  let v536 : BitVec 32 := Scalar.muli v5 c1_i32_288
  let v537 : BitVec 32 := Scalar.addi c0_i32_289 v536
  v537.toNat
def k0_dev14 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_300 : BitVec 32 := 1#32
  let v544 : BitVec 32 := Scalar.muli v7 c1_i32_300
  let v545 : BitVec 32 := Scalar.addi c0_i32_301 v544
  v545.toNat
def k0_dev15 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_312 : BitVec 32 := 1#32
  let v552 : BitVec 32 := Scalar.muli v5 c1_i32_312
  let v553 : BitVec 32 := Scalar.addi c0_i32_313 v552
  v553.toNat
def k0_dev16 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_334 : BitVec 32 := 1#32
  let v570 : BitVec 32 := Scalar.muli v7 c1_i32_334
  let v571 : BitVec 32 := Scalar.addi c0_i32_335 v570
  v571.toNat
def k0_dev17 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_350 : BitVec 32 := 1#32
  let v586 : BitVec 32 := Scalar.muli v7 c1_i32_350
  let v587 : BitVec 32 := Scalar.addi c0_i32_351 v586
  v587.toNat
def k0_dev18 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_372 : BitVec 32 := 1#32
  let v604 : BitVec 32 := Scalar.muli v5 c1_i32_372
  let v605 : BitVec 32 := Scalar.addi c0_i32_373 v604
  v605.toNat
def k0_dev19 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_394 : BitVec 32 := 1#32
  let v622 : BitVec 32 := Scalar.muli v7 c1_i32_394
  let v623 : BitVec 32 := Scalar.addi c0_i32_395 v622
  v623.toNat
def k0_dev20 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_416 : BitVec 32 := 1#32
  let v640 : BitVec 32 := Scalar.muli v5 c1_i32_416
  let v641 : BitVec 32 := Scalar.addi c0_i32_417 v640
  v641.toNat
def k0_dev21 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_462 : BitVec 32 := 1#32
  let v764 : BitVec 32 := Scalar.muli v5 c1_i32_462
  let v765 : BitVec 32 := Scalar.addi c0_i32_463 v764
  v765.toNat
def k0_dev22 (d0 : Dev nD) : Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_474 : BitVec 32 := 1#32
  let v772 : BitVec 32 := Scalar.muli v7 c1_i32_474
  let v773 : BitVec 32 := Scalar.addi c0_i32_475 v772
  v773.toNat
def k0_dev23 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_486 : BitVec 32 := 1#32
  let v780 : BitVec 32 := Scalar.muli v5 c1_i32_486
  let v781 : BitVec 32 := Scalar.addi c0_i32_487 v780
  v781.toNat
def k0_dev24 (d0 : Dev nD) : Nat :=
  let c0_i32_511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_510 : BitVec 32 := 1#32
  let v798 : BitVec 32 := Scalar.muli v7 c1_i32_510
  let v799 : BitVec 32 := Scalar.addi c0_i32_511 v798
  v799.toNat
def k0_dev25 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_526 : BitVec 32 := 1#32
  let v814 : BitVec 32 := Scalar.muli v7 c1_i32_526
  let v815 : BitVec 32 := Scalar.addi c0_i32_527 v814
  v815.toNat
def k0_dev26 (d0 : Dev nD) : Nat :=
  let c0_i32_551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_550 : BitVec 32 := 1#32
  let v832 : BitVec 32 := Scalar.muli v5 c1_i32_550
  let v833 : BitVec 32 := Scalar.addi c0_i32_551 v832
  v833.toNat
def k0_dev27 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_572 : BitVec 32 := 1#32
  let v850 : BitVec 32 := Scalar.muli v7 c1_i32_572
  let v851 : BitVec 32 := Scalar.addi c0_i32_573 v850
  v851.toNat
def k0_dev28 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_594 : BitVec 32 := 1#32
  let v868 : BitVec 32 := Scalar.muli v5 c1_i32_594
  let v869 : BitVec 32 := Scalar.addi c0_i32_595 v868
  v869.toNat
def k0_dev29 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_640 : BitVec 32 := 1#32
  let v992 : BitVec 32 := Scalar.muli v5 c1_i32_640
  let v993 : BitVec 32 := Scalar.addi c0_i32_641 v992
  v993.toNat
def k0_dev30 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_652 : BitVec 32 := 1#32
  let v1000 : BitVec 32 := Scalar.muli v7 c1_i32_652
  let v1001 : BitVec 32 := Scalar.addi c0_i32_653 v1000
  v1001.toNat
def k0_dev31 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_664 : BitVec 32 := 1#32
  let v1008 : BitVec 32 := Scalar.muli v5 c1_i32_664
  let v1009 : BitVec 32 := Scalar.addi c0_i32_665 v1008
  v1009.toNat
def k0_dev32 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_688 : BitVec 32 := 1#32
  let v1026 : BitVec 32 := Scalar.muli v7 c1_i32_688
  let v1027 : BitVec 32 := Scalar.addi c0_i32_689 v1026
  v1027.toNat
def k0_dev33 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_704 : BitVec 32 := 1#32
  let v1042 : BitVec 32 := Scalar.muli v7 c1_i32_704
  let v1043 : BitVec 32 := Scalar.addi c0_i32_705 v1042
  v1043.toNat
def k0_dev34 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_728 : BitVec 32 := 1#32
  let v1060 : BitVec 32 := Scalar.muli v5 c1_i32_728
  let v1061 : BitVec 32 := Scalar.addi c0_i32_729 v1060
  v1061.toNat
def k0_dev35 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_750 : BitVec 32 := 1#32
  let v1078 : BitVec 32 := Scalar.muli v7 c1_i32_750
  let v1079 : BitVec 32 := Scalar.addi c0_i32_751 v1078
  v1079.toNat
def k0_dev36 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_772 : BitVec 32 := 1#32
  let v1096 : BitVec 32 := Scalar.muli v5 c1_i32_772
  let v1097 : BitVec 32 := Scalar.addi c0_i32_773 v1096
  v1097.toNat
def k0_dev37 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_818 : BitVec 32 := 1#32
  let v1220 : BitVec 32 := Scalar.muli v5 c1_i32_818
  let v1221 : BitVec 32 := Scalar.addi c0_i32_819 v1220
  v1221.toNat
def k0_dev38 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_830 : BitVec 32 := 1#32
  let v1228 : BitVec 32 := Scalar.muli v7 c1_i32_830
  let v1229 : BitVec 32 := Scalar.addi c0_i32_831 v1228
  v1229.toNat
def k0_dev39 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_842 : BitVec 32 := 1#32
  let v1236 : BitVec 32 := Scalar.muli v5 c1_i32_842
  let v1237 : BitVec 32 := Scalar.addi c0_i32_843 v1236
  v1237.toNat
def k0_dev40 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_866 : BitVec 32 := 1#32
  let v1254 : BitVec 32 := Scalar.muli v7 c1_i32_866
  let v1255 : BitVec 32 := Scalar.addi c0_i32_867 v1254
  v1255.toNat
def k0_dev41 (d0 : Dev nD) : Nat :=
  let c0_i32_883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_882 : BitVec 32 := 1#32
  let v1270 : BitVec 32 := Scalar.muli v7 c1_i32_882
  let v1271 : BitVec 32 := Scalar.addi c0_i32_883 v1270
  v1271.toNat
def k0_dev42 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_906 : BitVec 32 := 1#32
  let v1288 : BitVec 32 := Scalar.muli v5 c1_i32_906
  let v1289 : BitVec 32 := Scalar.addi c0_i32_907 v1288
  v1289.toNat
def k0_dev43 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_928 : BitVec 32 := 1#32
  let v1306 : BitVec 32 := Scalar.muli v7 c1_i32_928
  let v1307 : BitVec 32 := Scalar.addi c0_i32_929 v1306
  v1307.toNat
def k0_dev44 (d0 : Dev nD) : Nat :=
  let c0_i32_951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_950 : BitVec 32 := 1#32
  let v1324 : BitVec 32 := Scalar.muli v5 c1_i32_950
  let v1325 : BitVec 32 := Scalar.addi c0_i32_951 v1324
  v1325.toNat
def k0_dev45 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_996 : BitVec 32 := 1#32
  let v1448 : BitVec 32 := Scalar.muli v5 c1_i32_996
  let v1449 : BitVec 32 := Scalar.addi c0_i32_997 v1448
  v1449.toNat
def k0_dev46 (d0 : Dev nD) : Nat :=
  let c0_i32_1009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1008 : BitVec 32 := 1#32
  let v1456 : BitVec 32 := Scalar.muli v7 c1_i32_1008
  let v1457 : BitVec 32 := Scalar.addi c0_i32_1009 v1456
  v1457.toNat
def k0_dev47 (d0 : Dev nD) : Nat :=
  let c0_i32_1021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1020 : BitVec 32 := 1#32
  let v1464 : BitVec 32 := Scalar.muli v5 c1_i32_1020
  let v1465 : BitVec 32 := Scalar.addi c0_i32_1021 v1464
  v1465.toNat
def k0_dev48 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1044 : BitVec 32 := 1#32
  let v1482 : BitVec 32 := Scalar.muli v7 c1_i32_1044
  let v1483 : BitVec 32 := Scalar.addi c0_i32_1045 v1482
  v1483.toNat
def k0_dev49 (d0 : Dev nD) : Nat :=
  let c0_i32_1061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1060 : BitVec 32 := 1#32
  let v1498 : BitVec 32 := Scalar.muli v7 c1_i32_1060
  let v1499 : BitVec 32 := Scalar.addi c0_i32_1061 v1498
  v1499.toNat
def k0_dev50 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1084 : BitVec 32 := 1#32
  let v1516 : BitVec 32 := Scalar.muli v5 c1_i32_1084
  let v1517 : BitVec 32 := Scalar.addi c0_i32_1085 v1516
  v1517.toNat
def k0_dev51 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1106 : BitVec 32 := 1#32
  let v1534 : BitVec 32 := Scalar.muli v7 c1_i32_1106
  let v1535 : BitVec 32 := Scalar.addi c0_i32_1107 v1534
  v1535.toNat
def k0_dev52 (d0 : Dev nD) : Nat :=
  let c0_i32_1129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1128 : BitVec 32 := 1#32
  let v1552 : BitVec 32 := Scalar.muli v5 c1_i32_1128
  let v1553 : BitVec 32 := Scalar.addi c0_i32_1129 v1552
  v1553.toNat
def k0_dev53 (d0 : Dev nD) : Nat :=
  let c0_i32_1175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1174 : BitVec 32 := 1#32
  let v1676 : BitVec 32 := Scalar.muli v5 c1_i32_1174
  let v1677 : BitVec 32 := Scalar.addi c0_i32_1175 v1676
  v1677.toNat
def k0_dev54 (d0 : Dev nD) : Nat :=
  let c0_i32_1187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1186 : BitVec 32 := 1#32
  let v1684 : BitVec 32 := Scalar.muli v7 c1_i32_1186
  let v1685 : BitVec 32 := Scalar.addi c0_i32_1187 v1684
  v1685.toNat
def k0_dev55 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1198 : BitVec 32 := 1#32
  let v1692 : BitVec 32 := Scalar.muli v5 c1_i32_1198
  let v1693 : BitVec 32 := Scalar.addi c0_i32_1199 v1692
  v1693.toNat
def k0_dev56 (d0 : Dev nD) : Nat :=
  let c0_i32_1223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1222 : BitVec 32 := 1#32
  let v1710 : BitVec 32 := Scalar.muli v7 c1_i32_1222
  let v1711 : BitVec 32 := Scalar.addi c0_i32_1223 v1710
  v1711.toNat
def k0_dev57 (d0 : Dev nD) : Nat :=
  let c0_i32_1239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1238 : BitVec 32 := 1#32
  let v1726 : BitVec 32 := Scalar.muli v7 c1_i32_1238
  let v1727 : BitVec 32 := Scalar.addi c0_i32_1239 v1726
  v1727.toNat
def k0_dev58 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1262 : BitVec 32 := 1#32
  let v1744 : BitVec 32 := Scalar.muli v5 c1_i32_1262
  let v1745 : BitVec 32 := Scalar.addi c0_i32_1263 v1744
  v1745.toNat
def k0_dev59 (d0 : Dev nD) : Nat :=
  let c0_i32_1285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1284 : BitVec 32 := 1#32
  let v1762 : BitVec 32 := Scalar.muli v7 c1_i32_1284
  let v1763 : BitVec 32 := Scalar.addi c0_i32_1285 v1762
  v1763.toNat
def k0_dev60 (d0 : Dev nD) : Nat :=
  let c0_i32_1307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1306 : BitVec 32 := 1#32
  let v1780 : BitVec 32 := Scalar.muli v5 c1_i32_1306
  let v1781 : BitVec 32 := Scalar.addi c0_i32_1307 v1780
  v1781.toNat
def k0_dev61 (d0 : Dev nD) : Nat :=
  let c0_i32_1353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1352 : BitVec 32 := 1#32
  let v1904 : BitVec 32 := Scalar.muli v5 c1_i32_1352
  let v1905 : BitVec 32 := Scalar.addi c0_i32_1353 v1904
  v1905.toNat
def k0_dev62 (d0 : Dev nD) : Nat :=
  let c0_i32_1365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1364 : BitVec 32 := 1#32
  let v1912 : BitVec 32 := Scalar.muli v7 c1_i32_1364
  let v1913 : BitVec 32 := Scalar.addi c0_i32_1365 v1912
  v1913.toNat
def k0_dev63 (d0 : Dev nD) : Nat :=
  let c0_i32_1377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1376 : BitVec 32 := 1#32
  let v1920 : BitVec 32 := Scalar.muli v5 c1_i32_1376
  let v1921 : BitVec 32 := Scalar.addi c0_i32_1377 v1920
  v1921.toNat
def k0_dev64 (d0 : Dev nD) : Nat :=
  let c0_i32_1401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1400 : BitVec 32 := 1#32
  let v1938 : BitVec 32 := Scalar.muli v7 c1_i32_1400
  let v1939 : BitVec 32 := Scalar.addi c0_i32_1401 v1938
  v1939.toNat
def k0_dev65 (d0 : Dev nD) : Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1416 : BitVec 32 := 1#32
  let v1954 : BitVec 32 := Scalar.muli v7 c1_i32_1416
  let v1955 : BitVec 32 := Scalar.addi c0_i32_1417 v1954
  v1955.toNat
def k0_dev66 (d0 : Dev nD) : Nat :=
  let c0_i32_1441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1440 : BitVec 32 := 1#32
  let v1972 : BitVec 32 := Scalar.muli v5 c1_i32_1440
  let v1973 : BitVec 32 := Scalar.addi c0_i32_1441 v1972
  v1973.toNat
def k0_dev67 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1462 : BitVec 32 := 1#32
  let v1990 : BitVec 32 := Scalar.muli v7 c1_i32_1462
  let v1991 : BitVec 32 := Scalar.addi c0_i32_1463 v1990
  v1991.toNat
def k0_dev68 (d0 : Dev nD) : Nat :=
  let c0_i32_1485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1484 : BitVec 32 := 1#32
  let v2008 : BitVec 32 := Scalar.muli v5 c1_i32_1484
  let v2009 : BitVec 32 := Scalar.addi c0_i32_1485 v2008
  v2009.toNat
def k0_dev69 (d0 : Dev nD) : Nat :=
  let c0_i32_1531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1530 : BitVec 32 := 1#32
  let v2132 : BitVec 32 := Scalar.muli v5 c1_i32_1530
  let v2133 : BitVec 32 := Scalar.addi c0_i32_1531 v2132
  v2133.toNat
def k0_dev70 (d0 : Dev nD) : Nat :=
  let c0_i32_1543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1542 : BitVec 32 := 1#32
  let v2140 : BitVec 32 := Scalar.muli v7 c1_i32_1542
  let v2141 : BitVec 32 := Scalar.addi c0_i32_1543 v2140
  v2141.toNat
def k0_dev71 (d0 : Dev nD) : Nat :=
  let c0_i32_1555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1554 : BitVec 32 := 1#32
  let v2148 : BitVec 32 := Scalar.muli v5 c1_i32_1554
  let v2149 : BitVec 32 := Scalar.addi c0_i32_1555 v2148
  v2149.toNat
def k0_dev72 (d0 : Dev nD) : Nat :=
  let c0_i32_1579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1578 : BitVec 32 := 1#32
  let v2166 : BitVec 32 := Scalar.muli v7 c1_i32_1578
  let v2167 : BitVec 32 := Scalar.addi c0_i32_1579 v2166
  v2167.toNat
def k0_dev73 (d0 : Dev nD) : Nat :=
  let c0_i32_1595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1594 : BitVec 32 := 1#32
  let v2182 : BitVec 32 := Scalar.muli v7 c1_i32_1594
  let v2183 : BitVec 32 := Scalar.addi c0_i32_1595 v2182
  v2183.toNat
def k0_dev74 (d0 : Dev nD) : Nat :=
  let c0_i32_1619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1618 : BitVec 32 := 1#32
  let v2200 : BitVec 32 := Scalar.muli v5 c1_i32_1618
  let v2201 : BitVec 32 := Scalar.addi c0_i32_1619 v2200
  v2201.toNat
def k0_dev75 (d0 : Dev nD) : Nat :=
  let c0_i32_1641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1640 : BitVec 32 := 1#32
  let v2218 : BitVec 32 := Scalar.muli v7 c1_i32_1640
  let v2219 : BitVec 32 := Scalar.addi c0_i32_1641 v2218
  v2219.toNat
def k0_dev76 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1662 : BitVec 32 := 1#32
  let v2236 : BitVec 32 := Scalar.muli v5 c1_i32_1662
  let v2237 : BitVec 32 := Scalar.addi c0_i32_1663 v2236
  v2237.toNat
def k0_dev77 (d0 : Dev nD) : Nat :=
  let c0_i32_1709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1708 : BitVec 32 := 1#32
  let v2360 : BitVec 32 := Scalar.muli v5 c1_i32_1708
  let v2361 : BitVec 32 := Scalar.addi c0_i32_1709 v2360
  v2361.toNat
def k0_dev78 (d0 : Dev nD) : Nat :=
  let c0_i32_1721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1720 : BitVec 32 := 1#32
  let v2368 : BitVec 32 := Scalar.muli v7 c1_i32_1720
  let v2369 : BitVec 32 := Scalar.addi c0_i32_1721 v2368
  v2369.toNat
def k0_dev79 (d0 : Dev nD) : Nat :=
  let c0_i32_1733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1732 : BitVec 32 := 1#32
  let v2376 : BitVec 32 := Scalar.muli v5 c1_i32_1732
  let v2377 : BitVec 32 := Scalar.addi c0_i32_1733 v2376
  v2377.toNat
def k0_dev80 (d0 : Dev nD) : Nat :=
  let c0_i32_1757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1756 : BitVec 32 := 1#32
  let v2394 : BitVec 32 := Scalar.muli v7 c1_i32_1756
  let v2395 : BitVec 32 := Scalar.addi c0_i32_1757 v2394
  v2395.toNat
def k0_dev81 (d0 : Dev nD) : Nat :=
  let c0_i32_1773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1772 : BitVec 32 := 1#32
  let v2410 : BitVec 32 := Scalar.muli v7 c1_i32_1772
  let v2411 : BitVec 32 := Scalar.addi c0_i32_1773 v2410
  v2411.toNat
def k0_dev82 (d0 : Dev nD) : Nat :=
  let c0_i32_1797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1796 : BitVec 32 := 1#32
  let v2428 : BitVec 32 := Scalar.muli v5 c1_i32_1796
  let v2429 : BitVec 32 := Scalar.addi c0_i32_1797 v2428
  v2429.toNat
def k0_dev83 (d0 : Dev nD) : Nat :=
  let c0_i32_1819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1818 : BitVec 32 := 1#32
  let v2446 : BitVec 32 := Scalar.muli v7 c1_i32_1818
  let v2447 : BitVec 32 := Scalar.addi c0_i32_1819 v2446
  v2447.toNat
def k0_dev84 (d0 : Dev nD) : Nat :=
  let c0_i32_1841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1840 : BitVec 32 := 1#32
  let v2464 : BitVec 32 := Scalar.muli v5 c1_i32_1840
  let v2465 : BitVec 32 := Scalar.addi c0_i32_1841 v2464
  v2465.toNat
def k0_dev85 (d0 : Dev nD) : Nat :=
  let c0_i32_1887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1886 : BitVec 32 := 1#32
  let v2588 : BitVec 32 := Scalar.muli v5 c1_i32_1886
  let v2589 : BitVec 32 := Scalar.addi c0_i32_1887 v2588
  v2589.toNat
def k0_dev86 (d0 : Dev nD) : Nat :=
  let c0_i32_1899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1898 : BitVec 32 := 1#32
  let v2596 : BitVec 32 := Scalar.muli v7 c1_i32_1898
  let v2597 : BitVec 32 := Scalar.addi c0_i32_1899 v2596
  v2597.toNat
def k0_dev87 (d0 : Dev nD) : Nat :=
  let c0_i32_1911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1910 : BitVec 32 := 1#32
  let v2604 : BitVec 32 := Scalar.muli v5 c1_i32_1910
  let v2605 : BitVec 32 := Scalar.addi c0_i32_1911 v2604
  v2605.toNat
def k0_dev88 (d0 : Dev nD) : Nat :=
  let c0_i32_1935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1934 : BitVec 32 := 1#32
  let v2622 : BitVec 32 := Scalar.muli v7 c1_i32_1934
  let v2623 : BitVec 32 := Scalar.addi c0_i32_1935 v2622
  v2623.toNat
def k0_dev89 (d0 : Dev nD) : Nat :=
  let c0_i32_1951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1950 : BitVec 32 := 1#32
  let v2638 : BitVec 32 := Scalar.muli v7 c1_i32_1950
  let v2639 : BitVec 32 := Scalar.addi c0_i32_1951 v2638
  v2639.toNat
def k0_dev90 (d0 : Dev nD) : Nat :=
  let c0_i32_1975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1974 : BitVec 32 := 1#32
  let v2656 : BitVec 32 := Scalar.muli v5 c1_i32_1974
  let v2657 : BitVec 32 := Scalar.addi c0_i32_1975 v2656
  v2657.toNat
def k0_dev91 (d0 : Dev nD) : Nat :=
  let c0_i32_1997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1996 : BitVec 32 := 1#32
  let v2674 : BitVec 32 := Scalar.muli v7 c1_i32_1996
  let v2675 : BitVec 32 := Scalar.addi c0_i32_1997 v2674
  v2675.toNat
def k0_dev92 (d0 : Dev nD) : Nat :=
  let c0_i32_2019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2018 : BitVec 32 := 1#32
  let v2692 : BitVec 32 := Scalar.muli v5 c1_i32_2018
  let v2693 : BitVec 32 := Scalar.addi c0_i32_2019 v2692
  v2693.toNat
def k0_dev93 (d0 : Dev nD) : Nat :=
  let c0_i32_2065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2064 : BitVec 32 := 1#32
  let v2816 : BitVec 32 := Scalar.muli v5 c1_i32_2064
  let v2817 : BitVec 32 := Scalar.addi c0_i32_2065 v2816
  v2817.toNat
def k0_dev94 (d0 : Dev nD) : Nat :=
  let c0_i32_2077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2076 : BitVec 32 := 1#32
  let v2824 : BitVec 32 := Scalar.muli v7 c1_i32_2076
  let v2825 : BitVec 32 := Scalar.addi c0_i32_2077 v2824
  v2825.toNat
def k0_dev95 (d0 : Dev nD) : Nat :=
  let c0_i32_2089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2088 : BitVec 32 := 1#32
  let v2832 : BitVec 32 := Scalar.muli v5 c1_i32_2088
  let v2833 : BitVec 32 := Scalar.addi c0_i32_2089 v2832
  v2833.toNat
def k0_dev96 (d0 : Dev nD) : Nat :=
  let c0_i32_2113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2112 : BitVec 32 := 1#32
  let v2850 : BitVec 32 := Scalar.muli v7 c1_i32_2112
  let v2851 : BitVec 32 := Scalar.addi c0_i32_2113 v2850
  v2851.toNat
def k0_dev97 (d0 : Dev nD) : Nat :=
  let c0_i32_2129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2128 : BitVec 32 := 1#32
  let v2866 : BitVec 32 := Scalar.muli v7 c1_i32_2128
  let v2867 : BitVec 32 := Scalar.addi c0_i32_2129 v2866
  v2867.toNat
def k0_dev98 (d0 : Dev nD) : Nat :=
  let c0_i32_2153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2152 : BitVec 32 := 1#32
  let v2884 : BitVec 32 := Scalar.muli v5 c1_i32_2152
  let v2885 : BitVec 32 := Scalar.addi c0_i32_2153 v2884
  v2885.toNat
def k0_dev99 (d0 : Dev nD) : Nat :=
  let c0_i32_2175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2174 : BitVec 32 := 1#32
  let v2902 : BitVec 32 := Scalar.muli v7 c1_i32_2174
  let v2903 : BitVec 32 := Scalar.addi c0_i32_2175 v2902
  v2903.toNat
def k0_dev100 (d0 : Dev nD) : Nat :=
  let c0_i32_2197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2196 : BitVec 32 := 1#32
  let v2920 : BitVec 32 := Scalar.muli v5 c1_i32_2196
  let v2921 : BitVec 32 := Scalar.addi c0_i32_2197 v2920
  v2921.toNat
def k0_dev101 (d0 : Dev nD) : Nat :=
  let c0_i32_2243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2242 : BitVec 32 := 1#32
  let v3044 : BitVec 32 := Scalar.muli v5 c1_i32_2242
  let v3045 : BitVec 32 := Scalar.addi c0_i32_2243 v3044
  v3045.toNat
def k0_dev102 (d0 : Dev nD) : Nat :=
  let c0_i32_2255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2254 : BitVec 32 := 1#32
  let v3052 : BitVec 32 := Scalar.muli v7 c1_i32_2254
  let v3053 : BitVec 32 := Scalar.addi c0_i32_2255 v3052
  v3053.toNat
def k0_dev103 (d0 : Dev nD) : Nat :=
  let c0_i32_2267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2266 : BitVec 32 := 1#32
  let v3060 : BitVec 32 := Scalar.muli v5 c1_i32_2266
  let v3061 : BitVec 32 := Scalar.addi c0_i32_2267 v3060
  v3061.toNat
def k0_dev104 (d0 : Dev nD) : Nat :=
  let c0_i32_2291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2290 : BitVec 32 := 1#32
  let v3078 : BitVec 32 := Scalar.muli v7 c1_i32_2290
  let v3079 : BitVec 32 := Scalar.addi c0_i32_2291 v3078
  v3079.toNat
def k0_dev105 (d0 : Dev nD) : Nat :=
  let c0_i32_2307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2306 : BitVec 32 := 1#32
  let v3094 : BitVec 32 := Scalar.muli v7 c1_i32_2306
  let v3095 : BitVec 32 := Scalar.addi c0_i32_2307 v3094
  v3095.toNat
def k0_dev106 (d0 : Dev nD) : Nat :=
  let c0_i32_2331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2330 : BitVec 32 := 1#32
  let v3112 : BitVec 32 := Scalar.muli v5 c1_i32_2330
  let v3113 : BitVec 32 := Scalar.addi c0_i32_2331 v3112
  v3113.toNat
def k0_dev107 (d0 : Dev nD) : Nat :=
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2352 : BitVec 32 := 1#32
  let v3130 : BitVec 32 := Scalar.muli v7 c1_i32_2352
  let v3131 : BitVec 32 := Scalar.addi c0_i32_2353 v3130
  v3131.toNat
def k0_dev108 (d0 : Dev nD) : Nat :=
  let c0_i32_2375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2374 : BitVec 32 := 1#32
  let v3148 : BitVec 32 := Scalar.muli v5 c1_i32_2374
  let v3149 : BitVec 32 := Scalar.addi c0_i32_2375 v3148
  v3149.toNat
def k0_dev109 (d0 : Dev nD) : Nat :=
  let c0_i32_2439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2438 : BitVec 32 := 1#32
  let v3284 : BitVec 32 := Scalar.muli v5 c1_i32_2438
  let v3285 : BitVec 32 := Scalar.addi c0_i32_2439 v3284
  v3285.toNat
def k0_dev110 (d0 : Dev nD) : Nat :=
  let c0_i32_2463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2462 : BitVec 32 := 1#32
  let v3302 : BitVec 32 := Scalar.muli v7 c1_i32_2462
  let v3303 : BitVec 32 := Scalar.addi c0_i32_2463 v3302
  v3303.toNat
def k0_dev111 (d0 : Dev nD) : Nat :=
  let c0_i32_2479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2478 : BitVec 32 := 1#32
  let v3318 : BitVec 32 := Scalar.muli v7 c1_i32_2478
  let v3319 : BitVec 32 := Scalar.addi c0_i32_2479 v3318
  v3319.toNat
def k0_dev112 (d0 : Dev nD) : Nat :=
  let c0_i32_2503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2502 : BitVec 32 := 1#32
  let v3336 : BitVec 32 := Scalar.muli v5 c1_i32_2502
  let v3337 : BitVec 32 := Scalar.addi c0_i32_2503 v3336
  v3337.toNat
def k0_dev113 (d0 : Dev nD) : Nat :=
  let c0_i32_2608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2607 : BitVec 32 := 1#32
  let v3504 : BitVec 32 := Scalar.muli v7 c1_i32_2607
  let v3505 : BitVec 32 := Scalar.addi c0_i32_2608 v3504
  v3505.toNat
def k0_dev114 (d0 : Dev nD) : Nat :=
  let c0_i32_2645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2644 : BitVec 32 := 1#32
  let v3536 : BitVec 32 := Scalar.muli v5 c1_i32_2644
  let v3537 : BitVec 32 := Scalar.addi c0_i32_2645 v3536
  v3537.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x256 : Shape := ⟨2, ![8192, 256]⟩
abbrev S256x64 : Shape := ⟨2, ![256, 64]⟩
abbrev S8192x1 : Shape := ⟨2, ![8192, 1]⟩
abbrev S64x256x512 : Shape := ⟨3, ![64, 256, 512]⟩
abbrev S256x512 : Shape := ⟨2, ![256, 512]⟩
abbrev S8192x64 : Shape := ⟨2, ![8192, 64]⟩
abbrev S_ : Shape := ⟨0, ![]⟩
abbrev S8192 : Shape := ⟨1, ![8192]⟩
abbrev S8192x512 : Shape := ⟨2, ![8192, 512]⟩
abbrev S8192x1x1 : Shape := ⟨3, ![8192, 1, 1]⟩
abbrev S8192x256x512 : Shape := ⟨3, ![8192, 256, 512]⟩

abbrev nBuf : Space → Nat
  | .hbm => 34
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S8192x1, .i32⟩
  | .hbm, ⟨3, _⟩ => ⟨S64x256x512, .f32⟩
  | .hbm, ⟨4, _⟩ => ⟨S256x512, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x64, .f32⟩
  | .hbm, ⟨16, _⟩ => ⟨S8192x64, .f32⟩
  | .hbm, ⟨17, _⟩ => ⟨S8192x512, .f32⟩
  | .hbm, ⟨18, _⟩ => ⟨S8192, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S8192x1, .f32⟩
  | .hbm, ⟨28, _⟩ => ⟨S8192x1, .i32⟩
  | .hbm, ⟨29, _⟩ => ⟨S8192x256x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Proof.Ring.lean ====
/-
The geometry of the exchange: the sixteen devices on a ring, the four streams of copies
that run round it, the three slots of each stream's buffer, and the semaphore cells.

Two kinds of message travel, each in both directions.  A packet (`acw`, `accw`) is half of a
device's rows of `x` with the expert chosen for each row; it is passed on unchanged from
device to device.  A partial sum (`bcw`, `bccw`) follows its packet one step behind and
gathers each visited device's contribution.  `acw` and `bcw` move to the next device,
`accw` and `bccw` to the previous one.  Every stream makes fifteen copies.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Release

@[expose] public section

noncomputable section

namespace Cert.MoE

open Cert.KernelIdeal Cert.KernelIdeal.Gen
open Idealize.ShloMosaic Idealize.ShloMosaic.TcCoe

/-! ## The ring of devices -/

set_option backward.proofsInPublic true in
/-- The next device round the ring. -/
def nxt (c : Dev nD) : Dev nD := ⟨(c.val + 1) % 16, Nat.mod_lt _ (by decide)⟩
set_option backward.proofsInPublic true in
/-- The previous one. -/
def prv (c : Dev nD) : Dev nD := ⟨(c.val + 15) % 16, Nat.mod_lt _ (by decide)⟩
theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

/-! ## The four streams -/

/-- The streams of copies: packets and partial sums, to the next device and to the previous. -/
inductive Rg | acw | bcw | accw | bccw
deriving DecidableEq

instance : Fintype Rg := ⟨{.acw, .bcw, .accw, .bccw}, fun q => by cases q <;> decide⟩

theorem univ_Rg : (Finset.univ : Finset Rg) = {.acw, .bcw, .accw, .bccw} := rfl

/-- A stream's number: the order of its semaphore arrays. -/
def qi : Rg → ℕ | .acw => 0 | .bcw => 1 | .accw => 2 | .bccw => 3
def ringOf : ℕ → Rg | 0 => .acw | 1 => .bcw | 2 => .accw | _ => .bccw
theorem ringOf_qi (q : Rg) : ringOf (qi q) = q := by cases q <;> rfl

/-- The slot a stream's first copy leaves from. -/
def k0 : Rg → ℕ | .acw => 0 | .bcw => 1 | .accw => 0 | .bccw => 1

/-- Where a stream's copies go, and where they come from. -/
def dstD : Rg → Dev nD → Dev nD | .acw => nxt | .bcw => nxt | .accw => prv | .bccw => prv
def backD : Rg → Dev nD → Dev nD | .acw => prv | .bcw => prv | .accw => nxt | .bccw => nxt
theorem back_dst (q : Rg) (c : Dev nD) : backD q (dstD q c) = c := by cases q <;> first | exact prv_nxt c | exact nxt_prv c
theorem dst_back (q : Rg) (c : Dev nD) : dstD q (backD q c) = c := by cases q <;> first | exact prv_nxt c | exact nxt_prv c

/-! ## The buffers and their slots -/

/-- A slot of a stream's buffer as the buffer's slice, and as the kernel's copies name it. -/
@[reducible] def Sl : Rg → Shape | .acw => S1x256x384 | .bcw => S1x256x512 | .accw => S1x256x384 | .bccw => S1x256x512
@[reducible] def Sq : Rg → Shape | .acw => S256x384 | .bcw => S256x512 | .accw => S256x384 | .bccw => S256x512

theorem inbA (s : Fin 3) : ∀ a, (![s.val, 0, 0] : Fin 3 → Nat) a + S1x256x384.size a ≤ S3x256x384.size a := by revert s; decide
theorem inbB (s : Fin 3) : ∀ a, (![s.val, 0, 0] : Fin 3 → Nat) a + S1x256x512.size a ≤ S3x256x512.size a := by revert s; decide

/-- Slot `s` of a packet buffer, of a partial-sum buffer. -/
abbrev rectA (s : Fin 3) : Rect S3x256x384 := Rect.unit (s := S3x256x384) ![s.val, 0, 0] S1x256x384.size (inbA s)
abbrev rectB (s : Fin 3) : Rect S3x256x512 := Rect.unit (s := S3x256x512) ![s.val, 0, 0] S1x256x512.size (inbB s)

abbrev slotA (m : Memref sig .tc .vmem S3x256x384 .bf16) (s : Fin 3) : Memref sig .tc .vmem S256x384 .bf16 :=
  (m.slice (rectA s) (fun _ => rfl)).squeeze S256x384 squeezes_S1x256x384_S256x384
abbrev slotB (m : Memref sig .tc .vmem S3x256x512 .bf16) (s : Fin 3) : Memref sig .tc .vmem S256x512 .bf16 :=
  (m.slice (rectB s) (fun _ => rfl)).squeeze S256x512 squeezes_S1x256x512_S256x512

/-- A stream's buffer. -/
def bufR : Rg → Ref sig .tc | .acw => cc0_scratch0 | .bcw => cc0_scratch1 | .accw => cc0_scratch2 | .bccw => cc0_scratch3

/-- Slot `s` of stream `q`, as the copies name it. -/
def slotM (q : Rg) (s : Fin 3) : Memref sig .tc .vmem (Sq q) .bf16 :=
  match q with
  | .acw => slotA (Memref.whole cc0_scratch0) s
  | .bcw => slotB (Memref.whole cc0_scratch1) s
  | .accw => slotA (Memref.whole cc0_scratch2) s
  | .bccw => slotB (Memref.whole cc0_scratch3) s

/-- The two indexings of a slot, matched. -/
def eA : S256x384.Idx ≃ S1x256x384.Idx := Shape.reshapeEquiv squeezes_S1x256x384_S256x384.numel_eq
def eB : S256x512.Idx ≃ S1x256x512.Idx := Shape.reshapeEquiv squeezes_S1x256x512_S256x512.numel_eq
def sqE (q : Rg) : (Sq q).Idx ≃ (Sl q).Idx :=
  match q with | .acw => eA | .bcw => eB | .accw => eA | .bccw => eB

/-! ## The semaphores and their cells -/

/-- A stream's send and receive semaphore of slot `s`, and its credit semaphore. -/
def sendS (q : Rg) (s : Fin 3) : DmaSem sig := ⟨6 + 6 * qi q + s.val, by have := s.isLt; show _ < 30; cases q <;> simp only [qi] <;> omega⟩
def recvS (q : Rg) (s : Fin 3) : DmaSem sig := ⟨9 + 6 * qi q + s.val, by have := s.isLt; show _ < 30; cases q <;> simp only [qi] <;> omega⟩
def credS (q : Rg) : Sem sig := ⟨qi q, by show _ < 5; cases q <;> simp only [qi] <;> omega⟩

/-- The slot copy `j` leaves from, and the one it lands in. -/
def srcS (q : Rg) (j : ℕ) : Fin 3 := ⟨(j + k0 q) % 3, Nat.mod_lt _ (by decide)⟩
def dstS (q : Rg) (j : ℕ) : Fin 3 := ⟨(j + k0 q + 1) % 3, Nat.mod_lt _ (by decide)⟩
theorem srcS_succ (q : Rg) (j : ℕ) : srcS q (j + 1) = dstS q j := Fin.ext (by simp only [srcS, dstS]; congr 1; omega)
theorem srcS_mod (q : Rg) (j : ℕ) : srcS q (j % 3) = srcS q j := Fin.ext (by simp only [srcS]; omega)
theorem dstS_mod (q : Rg) (j : ℕ) : dstS q (j % 3) = dstS q j := Fin.ext (by simp only [dstS]; omega)

abbrev sendCell (q : Rg) (c : Dev nD) (j : ℕ) : GSem nD τ sig := ((c : Thread nD τ), .dma (sendS q (srcS q j)))
abbrev recvCell (q : Rg) (c : Dev nD) (j : ℕ) : GSem nD τ sig := ((c : Thread nD τ), .dma (recvS q (dstS q j)))
abbrev credCell (q : Rg) (c : Dev nD) : GSem nD τ sig := ((c : Thread nD τ), .reg (credS q))
abbrev barCell (c : Dev nD) : GSem nD τ sig := ((c : Thread nD τ), .reg barrier0)

theorem sendCell_mod (q : Rg) (c : Dev nD) (j : ℕ) : sendCell q c (j % 3) = sendCell q c j := by unfold sendCell; rw [srcS_mod]
theorem recvCell_mod (q : Rg) (c : Dev nD) (j : ℕ) : recvCell q c (j % 3) = recvCell q c j := by unfold recvCell; rw [dstS_mod]

/-- Every copy of a stream credits a slot's bytes. -/
def NN (q : Rg) : ℕ := match q with
  | .acw => (slotA (Memref.whole cc0_scratch0) 0).view.dmaCredit
  | .bcw => (slotB (Memref.whole cc0_scratch1) 0).view.dmaCredit
  | .accw => (slotA (Memref.whole cc0_scratch2) 0).view.dmaCredit
  | .bccw => (slotB (Memref.whole cc0_scratch3) 0).view.dmaCredit
theorem NN_eq (q : Rg) (s : Fin 3) : (slotM q s).view.dmaCredit = NN q := by cases q <;> rfl
theorem NN_pos (q : Rg) : 0 < NN q := by cases q <;> exact View.dmaCredit_pos _ (by decide)

/-! ## Counting

Copy `j` belongs to class `j % 3`.  Of the first `n` copies, `cnt e n` are of class `e`. -/

def cnt (e n : ℕ) : ℕ := (n + 2 - e) / 3
theorem cnt_self (j : ℕ) : cnt (j % 3) j = j / 3 := by unfold cnt; omega
theorem cnt_succ_self (j : ℕ) : cnt (j % 3) (j + 1) = j / 3 + 1 := by unfold cnt; omega
theorem cnt_succ_ne {e j : ℕ} (he : e < 3) (h : e ≠ j % 3) : cnt e (j + 1) = cnt e j := by unfold cnt; omega

end Cert.MoE
-- ==== Proof.Sched.lean ====
/-
What every semaphore of the exchange means.  Each DMA semaphore is used for five copies, one
after another; a credit semaphore counts thirteen units; the barrier semaphore two.

A landing hands its receiver the slot it fills, together with what is known of its contents.
A completed departure hands back the half of the source slot that the copy was reading.
A credit, like a barrier signal, carries no memory: it carries the knowledge that slots have
been released and that the receiver waits for the next landing there.  Slots themselves pass
from reader to writer through the release protocol.
-/
module

public import proofs.«01_k».proof.Proof.Ring

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type}

/-- Whose slot: stream, reading device, class of the copies that land in it. -/
abbrev Key : Type := Rg × Dev nD × Fin 3

abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × USlots Key)).trans embR
abbrev ES : Emb (USlots Key) (MT nD τ sig ℕ (Elt F) ℕ UU ℕ) := (Emb.inr : Emb (USlots Key) (UB × USlots Key)).trans embR

example : (ER (F := F)).LandsIn (upEmb : UEmb _ 𝕄) := inferInstance
example : (ES (F := F)).LandsIn (upEmb : UEmb _ 𝕄) := inferInstance

/-! ## Slots held -/

/-- Share `sh` of slot `s` of stream `q` on device `c`, holding `f`. -/
def slotPts (q : Rg) (c : Dev nD) (s : Fin 3) (sh : PosShare TreeShare) (f : Buf (Elt F) ((slotM q s).view.loc (c : Thread nD τ))) : sProp 𝕄 :=
  (slotM q s).view.loc (c : Thread nD τ) ↦[(slotM q s).view.set]{sh} f

instance (q : Rg) (c : Dev nD) (s sh f) : BI.Storable (upEmb : UEmb _ 𝕄) (slotPts (F := F) q c s sh f) := by unfold slotPts; infer_instance

/-- What may be said of a slot's contents, indexed as the buffer's slice. -/
abbrev Says (F : FTy → Type) (q : Rg) : Type := ((Sl q).Idx → Elt F .bf16) → Prop

/-- The contents `f` of a slot, read through it, satisfy `P`. -/
def holds (q : Rg) (c : Dev nD) (s : Fin 3) (P : Says F q) (f : Buf (Elt F) ((slotM q s).view.loc (c : Thread nD τ))) : Prop :=
  P fun y => (slotM q s).view.read (Elt F) f ((sqE q).symm y)

/-- Share `sh` of a slot of which `P` is known. -/
def slotIs (q : Rg) (c : Dev nD) (s : Fin 3) (sh : PosShare TreeShare) (P : Says F q) : sProp 𝕄 :=
  iprop(∃ f : Buf (Elt F) ((slotM q s).view.loc (c : Thread nD τ)), ⌜holds q c s P f⌝ ∗ slotPts q c s sh f)

instance (q : Rg) (c : Dev nD) (s sh P) : BI.Storable (upEmb : UEmb _ 𝕄) (slotIs (F := F) q c s sh P) := by unfold slotIs; infer_instance

/-- A slot held in full, whatever is in it. -/
def slotAny (k : Key) : sProp 𝕄 := slot ((slotM k.1 (dstS k.1 k.2.2)).view.loc (k.2.1 : Thread nD τ)) (slotM k.1 (dstS k.1 k.2.2)).view.set

instance (k : Key) : BI.Storable (upEmb : UEmb _ 𝕄) (slotAny (F := F) k) := by unfold slotAny; infer_instance

theorem slotAny_false (k : Key) : iprop(slotAny (F := F) k ∗ slotAny k) ⊢ (False : sProp 𝕄) := by
  unfold slotAny
  refine slot_slot_false ?_
  rcases k with ⟨q, d, e⟩
  rw [← Finset.card_pos, View.card_set]
  show 0 < (Sq q).numel
  cases q <;> decide

/-! ## What the messages carry -/

/-- The class of copy `j`. -/
def cls (j : ℕ) : Fin 3 := ⟨j % 3, Nat.mod_lt _ (by decide)⟩

/-- Device `d` has released its slots for the first `n` landings of stream `q`, and has come to wait for each. -/
def Rel (q : Rg) (d : Dev nD) (n : ℕ) : sProp 𝕄 :=
  bigSep (Finset.range n) fun j => iprop(released ES (q, d, cls j) (j / 3 + 1) ∗ reached ER (recvCell q d j) (j / 3))

instance (q : Rg) (d : Dev nD) (n : ℕ) : BI.Persistent (Rel (F := F) q d n) := by unfold Rel; infer_instance
instance (q : Rg) (d : Dev nD) (n : ℕ) : BI.Storable (upEmb : UEmb _ 𝕄) (Rel (F := F) q d n) := by unfold Rel; infer_instance

variable (X : (q : Rg) → Dev nD → ℕ → Says F q)

/-- Landing `j` on device `c`: the slot, with what the sender said of its contents. -/
def recvPay (q : Rg) (c : Dev nD) (j : ℕ) : sProp 𝕄 := slotIs q c (dstS q j) fullShare (X q (backD q c) j)
/-- Departure `j` from device `c` completed: the half of the source slot lent to the copy. -/
def sendPay (q : Rg) (c : Dev nD) (j : ℕ) : sProp 𝕄 := slotIs q c (srcS q j) fullShare.left fun _ => True
/-- Credit `i` at device `c`. -/
def credPay (q : Rg) (c : Dev nD) (i : ℕ) : sProp 𝕄 := Rel q (dstD q c) (i + 3)
/-- The barrier signals at device `d`: `0` from the next device, `1` from the previous. -/
def barPay (d : Dev nD) (n : ℕ) : sProp 𝕄 :=
  if n = 0 then iprop(Rel .acw (nxt d) 2 ∗ Rel .bcw (nxt d) 2) else iprop(Rel .accw (prv d) 2 ∗ Rel .bccw (prv d) 2)

instance (q : Rg) (c : Dev nD) (j : ℕ) : BI.Storable (upEmb : UEmb _ 𝕄) (recvPay X q c j) := by unfold recvPay; infer_instance
instance (q : Rg) (c : Dev nD) (j : ℕ) : BI.Storable (upEmb : UEmb _ 𝕄) (sendPay (F := F) q c j) := by unfold sendPay; infer_instance
instance (q : Rg) (c : Dev nD) (j : ℕ) : BI.Storable (upEmb : UEmb _ 𝕄) (credPay (F := F) q c j) := by unfold credPay; infer_instance
instance (c : Dev nD) (j : ℕ) : BI.Storable (upEmb : UEmb _ 𝕄) (barPay (F := F) c j) := by unfold barPay; split <;> infer_instance

/-! ## The schedule -/

/-- The payload of round `r` of DMA semaphore `n`. -/
def dmaPay (n : ℕ) (c : Dev nD) (r : ℕ) : sProp 𝕄 :=
  if (n - 6) % 6 < 3 then sendPay (ringOf ((n - 6) / 6)) c (3 * r + (n % 3 + 3 - k0 (ringOf ((n - 6) / 6))) % 3)
  else recvPay X (ringOf ((n - 6) / 6)) c (3 * r + (n % 3 + 5 - k0 (ringOf ((n - 6) / 6))) % 3)

def dutiesOf (r : ℕ) : SemLoc sig → Finset ℕ
  | .dma n => if 6 ≤ n.val ∧ r < 5 then {0} else ∅
  | .reg n => if r = 0 then (if n.val = 4 then Finset.range 2 else Finset.range 13) else ∅
def amountOf : SemLoc sig → ℕ
  | .dma n => NN (ringOf ((n.val - 6) / 6))
  | .reg _ => 1
def payOf (c : Dev nD) (r d : ℕ) : SemLoc sig → sProp 𝕄
  | .dma n => dmaPay X n.val c r
  | .reg n => if n.val = 4 then barPay c d else credPay (ringOf n.val) c d

def Rd : Rounds.Schedule (GSem nD τ sig) ℕ 𝕄 where
  duties g r := if g.1.2 = .tc then dutiesOf r g.2 else ∅
  unitless _ := False
  amount g _ _ := amountOf g.2
  payload g r d := payOf X g.1.1 r d g.2
  amount_pos g _ _ _ := by
    show 0 < amountOf g.2
    rcases g.2 with n | n
    · exact Nat.one_pos
    · exact NN_pos _

instance (g : GSem nD τ sig) (r d : ℕ) : BI.Storable (upEmb : UEmb _ 𝕄) ((Rd X).payload g r d) := by
  show BI.Storable upEmb (payOf X g.1.1 r d g.2)
  rcases g with ⟨t, n | n⟩
  · show BI.Storable upEmb (if n.val = 4 then barPay t.1 d else credPay (ringOf n.val) t.1 d)
    split <;> infer_instance
  · show BI.Storable upEmb (dmaPay X n.val t.1 r)
    unfold dmaPay; split <;> infer_instance

section
variable (q : Rg) (c : Dev nD) (j : ℕ)

theorem duties_send (r : ℕ) (h : r < 5) : (Rd X).duties (sendCell q c j) r = {0} := by
  have h6 : 6 ≤ (sendS q (srcS q j)).val ∧ r < 5 := ⟨by show 6 ≤ 6 + 6 * qi q + _; omega, h⟩
  show dutiesOf r (.dma (sendS q (srcS q j))) = _
  unfold dutiesOf; exact if_pos h6
theorem duties_recv (r : ℕ) (h : r < 5) : (Rd X).duties (recvCell q c j) r = {0} := by
  have h6 : 6 ≤ (recvS q (dstS q j)).val ∧ r < 5 := ⟨by show 6 ≤ 9 + 6 * qi q + _; omega, h⟩
  show dutiesOf r (.dma (recvS q (dstS q j))) = _
  unfold dutiesOf; exact if_pos h6
theorem duties_cred : (Rd X).duties (credCell q c) 0 = Finset.range 13 := by cases q <;> rfl
theorem duties_bar : (Rd X).duties (barCell c) 0 = Finset.range 2 := rfl
theorem duties_late (g : GSem nD τ sig) (r : ℕ) (h : 5 ≤ r) : (Rd X).duties g r = ∅ := by
  show (if _ then dutiesOf r g.2 else _) = _
  split
  · rcases g.2 with n | n
    · exact if_neg (by omega)
    · exact if_neg (by omega)
  · rfl
theorem duties_cred_late (g : GSem nD τ sig) (n : Sem sig) (hg : g.2 = .reg n) (r : ℕ) (h : 1 ≤ r) : (Rd X).duties g r = ∅ := by
  show (if _ then dutiesOf r g.2 else _) = _
  rw [hg]; split
  · exact if_neg (by omega)
  · rfl

theorem amount_send (r d : ℕ) : (Rd X).amount (sendCell q c j) r d = NN q := by
  show NN (ringOf ((6 + 6 * qi q + (j + k0 q) % 3 - 6) / 6)) = _
  rw [show (6 + 6 * qi q + (j + k0 q) % 3 - 6) / 6 = qi q by omega, ringOf_qi]
theorem amount_recv (r d : ℕ) : (Rd X).amount (recvCell q c j) r d = NN q := by
  show NN (ringOf ((9 + 6 * qi q + (j + k0 q + 1) % 3 - 6) / 6)) = _
  rw [show (9 + 6 * qi q + (j + k0 q + 1) % 3 - 6) / 6 = qi q by omega, ringOf_qi]
theorem amount_cred (r d : ℕ) : (Rd X).amount (credCell q c) r d = 1 := rfl
theorem amount_bar (r d : ℕ) : (Rd X).amount (barCell c) r d = 1 := rfl

theorem expect_send (r : ℕ) (h : r < 5) : (Rd X).expect (sendCell q c j) r = NN q := by
  unfold Schedule.expect Schedule.amountOf; rw [duties_send X q c j r h, Finset.sum_singleton, amount_send]
theorem expect_recv (r : ℕ) (h : r < 5) : (Rd X).expect (recvCell q c j) r = NN q := by
  unfold Schedule.expect Schedule.amountOf; rw [duties_recv X q c j r h, Finset.sum_singleton, amount_recv]
theorem expect_cred : (Rd X).expect (credCell q c) 0 = 13 := by
  unfold Schedule.expect Schedule.amountOf; rw [duties_cred]; rfl
theorem expect_bar : (Rd X).expect (barCell c) 0 = 2 := by
  unfold Schedule.expect Schedule.amountOf; rw [duties_bar]; rfl

theorem k0_le : k0 q ≤ 1 := by cases q <;> decide

theorem payload_send (d : ℕ) : (Rd X).payload (sendCell q c j) (j / 3) d = sendPay q c j := by
  have hk := k0_le q
  show dmaPay X (6 + 6 * qi q + (j + k0 q) % 3) c (j / 3) = _
  unfold dmaPay
  rw [if_pos (by omega), show (6 + 6 * qi q + (j + k0 q) % 3 - 6) / 6 = qi q by omega, ringOf_qi,
    show 3 * (j / 3) + ((6 + 6 * qi q + (j + k0 q) % 3) % 3 + 3 - k0 q) % 3 = j by omega]
theorem payload_recv (d : ℕ) : (Rd X).payload (recvCell q c j) (j / 3) d = recvPay X q c j := by
  have hk := k0_le q
  show dmaPay X (9 + 6 * qi q + (j + k0 q + 1) % 3) c (j / 3) = _
  unfold dmaPay
  rw [if_neg (by omega), show (9 + 6 * qi q + (j + k0 q + 1) % 3 - 6) / 6 = qi q by omega, ringOf_qi,
    show 3 * (j / 3) + ((9 + 6 * qi q + (j + k0 q + 1) % 3) % 3 + 5 - k0 q) % 3 = j by omega]
theorem payload_cred (d : ℕ) : (Rd X).payload (credCell q c) 0 d = credPay q c d := by
  show (if qi q = 4 then _ else credPay (ringOf (qi q)) c d) = _
  rw [if_neg (by cases q <;> decide), ringOf_qi]
theorem payload_bar (d : ℕ) : (Rd X).payload (barCell c) 0 d = barPay c d := rfl

end

/-! ## Levels

Units are named by the level at which they may be waited for: a device may wait for a unit of
a level below everything it still owes. -/

/-- The level of copy `j`'s landing, and of credit `i`. -/
def lvS (q : Rg) (j : ℕ) : ℕ := j + 2 + k0 q
def lvC (q : Rg) (i : ℕ) : ℕ := i + 3 + k0 q

def L (g : GSem nD τ sig) : Finset ℕ := if g.1.2 = .tc then Finset.range 64 else ∅
def lv (_ : GSem nD τ sig) (ι : ℕ) : ℕ := ι

theorem L_of_ne (g : GSem nD τ sig) (h : g.1.2 ≠ .tc) : L g = ∅ := if_neg h
theorem mem_L (c : Dev nD) (sm : SemLoc sig) {ι : ℕ} (h : ι < 64) : ι ∈ L ((c : Thread nD τ), sm) := by
  unfold L; rw [if_pos rfl]; exact Finset.mem_range.mpr h

end Cert.MoE
-- ==== Proof.State.lean ====
/-
What a device holds while the exchange runs: for each of the four streams, how far it has come
and what is left to do, and the three slots of the stream's buffer.
-/
module

public import proofs.«01_k».proof.Proof.Sched

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type}

local notation "𝕄" => MT nD τ sig ℕ (Elt F) ℕ UU ℕ

/-! ## How far a stream has come -/

/-- A slot: with the peer (or waiting to be), held in full, or half of it held while a copy reads the other half. -/
inductive SS (F : FTy → Type) (q : Rg)
  | gone
  | full (P : Says F q)
  | half (P : Says F q)

/-- A stream on a device: `s` copies started, `v` landings received, `w` departures completed, `g` credits given,
    `h` credits had; and its three slots. -/
structure RS (F : FTy → Type) (q : Rg) where
  s : ℕ
  v : ℕ
  w : ℕ
  g : ℕ
  h : ℕ
  t0 : SS F q
  t1 : SS F q
  t2 : SS F q

namespace RS
variable {q : Rg}
def slot (r : RS F q) : Fin 3 → SS F q | 0 => r.t0 | 1 => r.t1 | 2 => r.t2
def setSlot (r : RS F q) (i : Fin 3) (x : SS F q) : RS F q :=
  { r with t0 := (match i with | 0 => x | _ => r.t0), t1 := (match i with | 1 => x | _ => r.t1), t2 := (match i with | 2 => x | _ => r.t2) }
theorem setSlot_self (r : RS F q) (i : Fin 3) (x : SS F q) : (r.setSlot i x).slot i = x := by fin_cases i <;> rfl
theorem setSlot_ne (r : RS F q) {i i' : Fin 3} (x : SS F q) (h : i' ≠ i) : (r.setSlot i x).slot i' = r.slot i' := by
  fin_cases i <;> fin_cases i' <;> first | rfl | exact absurd rfl h
end RS

/-- The four streams. -/
structure St4 (F : FTy → Type) where
  a : RS F .acw
  b : RS F .bcw
  a' : RS F .accw
  b' : RS F .bccw

namespace St4
def get (σ : St4 F) : (q : Rg) → RS F q | .acw => σ.a | .bcw => σ.b | .accw => σ.a' | .bccw => σ.b'
def set (σ : St4 F) (q : Rg) (r : RS F q) : St4 F :=
  match q, r with
  | .acw, r => { σ with a := r } | .bcw, r => { σ with b := r } | .accw, r => { σ with a' := r } | .bccw, r => { σ with b' := r }
theorem get_set_self (σ : St4 F) (q : Rg) (r : RS F q) : (σ.set q r).get q = r := by cases q <;> rfl
theorem get_set_ne (σ : St4 F) {q q' : Rg} (r : RS F q) (h : q' ≠ q) : (σ.set q r).get q' = σ.get q' := by
  cases q <;> cases q' <;> first | rfl | exact absurd rfl h
end St4

/-! ## What is owed -/

abbrev dueS (q : Rg) (c : Dev nD) (j : ℕ) : CellTallies nD τ sig ℕ := tallyAt (recvCell q (dstD q c) j) (lvS q j) (NN q)
abbrev dueC (q : Rg) (c : Dev nD) (i : ℕ) : CellTallies nD τ sig ℕ := tallyAt (credCell q (backD q c)) (lvC q i) 1

/-- What a device still owes of a stream of which it has started `s` copies and given `g` credits. -/
def owedR (q : Rg) (c : Dev nD) (s g : ℕ) : CellTallies nD τ sig ℕ :=
  ∑ j ∈ Finset.Ico s 15, dueS q c j + ∑ i ∈ Finset.Ico g 13, dueC q c i

def owed (c : Dev nD) (σ : St4 F) : CellTallies nD τ sig ℕ := ∑ q : Rg, owedR q c (σ.get q).s (σ.get q).g

theorem sum_Ico_first {M : Type} [AddCommMonoid M] {A : ℕ → M} {a b : ℕ} (h : a < b) : ∑ j ∈ Finset.Ico a b, A j = A a + ∑ j ∈ Finset.Ico (a + 1) b, A j := by
  rw [show Finset.Ico a b = insert a (Finset.Ico (a + 1) b) from by ext x; simp only [Finset.mem_Ico, Finset.mem_insert]; omega,
    Finset.sum_insert (by simp only [Finset.mem_Ico]; omega)]

theorem owedR_start (q : Rg) (c : Dev nD) {s : ℕ} (g : ℕ) (h : s < 15) : owedR q c s g = owedR q c (s + 1) g + dueS q c s := by
  unfold owedR; rw [sum_Ico_first h, add_right_comm, add_assoc, add_comm (dueS q c s), add_comm (∑ i ∈ Finset.Ico g 13, dueC q c i)]
theorem owedR_credit (q : Rg) (c : Dev nD) (s : ℕ) {g : ℕ} (h : g < 13) : owedR q c s g = owedR q c s (g + 1) + dueC q c g := by
  unfold owedR; rw [sum_Ico_first (A := fun i => dueC q c i) h, add_assoc, add_comm (dueC q c g)]

/-- Changing one stream changes what is owed by that stream's difference. -/
theorem owed_set (c : Dev nD) (σ : St4 F) (q : Rg) (r : RS F q) (D : CellTallies nD τ sig ℕ)
    (h : owedR q c (σ.get q).s (σ.get q).g = owedR q c r.s r.g + D) : owed c σ = owed c (σ.set q r) + D := by
  have hr : ∑ x ∈ Finset.univ.erase q, owedR x c (σ.get x).s (σ.get x).g
      = ∑ x ∈ Finset.univ.erase q, owedR x c ((σ.set q r).get x).s ((σ.set q r).get x).g :=
    Finset.sum_congr rfl fun x hx => by rw [σ.get_set_ne r (Finset.ne_of_mem_erase hx)]
  unfold owed
  rw [← Finset.add_sum_erase Finset.univ (fun x => owedR x c (σ.get x).s (σ.get x).g) (Finset.mem_univ q),
    ← Finset.add_sum_erase Finset.univ (fun x => owedR x c ((σ.set q r).get x).s ((σ.set q r).get x).g) (Finset.mem_univ q)]
  simp only [σ.get_set_self]
  rw [h, hr, add_right_comm]

theorem owed_same (c : Dev nD) (σ : St4 F) (q : Rg) (r : RS F q) (hs : r.s = (σ.get q).s) (hg : r.g = (σ.get q).g) :
    owed c σ = owed c (σ.set q r) := by
  have := owed_set c σ q r 0 (by rw [hs, hg, add_zero])
  rwa [add_zero] at this

/-- A cell that is owed something is a landing or a credit still to come. -/
theorem owed_pos {c : Dev nD} {σ : St4 F} {g : GSem nD τ sig} {ι : ℕ} (h : 0 < owed c σ g ι) :
    ∃ q : Rg, (∃ j, (σ.get q).s ≤ j ∧ j < 15 ∧ g = recvCell q (dstD q c) j ∧ ι = lvS q j)
      ∨ ∃ i, (σ.get q).g ≤ i ∧ i < 13 ∧ g = credCell q (backD q c) ∧ ι = lvC q i := by
  unfold owed owedR at h
  by_contra hn
  simp only [not_exists, not_or, not_and] at hn
  have hz : (∑ q : Rg, (∑ j ∈ Finset.Ico (σ.get q).s 15, dueS q c j + ∑ i ∈ Finset.Ico (σ.get q).g 13, dueC q c i)) g ι = 0 := by
    rw [Finset.sum_apply, Finsupp.finset_sum_apply]
    refine Finset.sum_eq_zero fun q _ => ?_
    rw [Pi.add_apply, Finsupp.add_apply, Finset.sum_apply, Finset.sum_apply, Finsupp.finset_sum_apply, Finsupp.finset_sum_apply]
    obtain ⟨h1, h2⟩ := hn q
    have e1 : ∑ j ∈ Finset.Ico (σ.get q).s 15, (dueS q c j g) ι = 0 := Finset.sum_eq_zero fun j hj => by
      rw [Finset.mem_Ico] at hj
      unfold dueS
      rw [tallyAt_apply]; exact if_neg fun e => h1 j hj.1 hj.2 e.1 e.2
    have e2 : ∑ i ∈ Finset.Ico (σ.get q).g 13, (dueC q c i g) ι = 0 := Finset.sum_eq_zero fun i hi => by
      rw [Finset.mem_Ico] at hi
      unfold dueC
      rw [tallyAt_apply]; exact if_neg fun e => h2 i hi.1 hi.2 e.1 e.2
    exact (congrArg₂ (· + ·) e1 e2).trans (add_zero 0)
  omega

/-- The levels, as every device knows them. -/
def Lev : sProp 𝕄 := levAts L lv
instance : BI.Persistent (Lev (F := F)) := by unfold Lev; infer_instance

/-- Everything still owed lies above level `b`. -/
def Above (σ : St4 F) (b : ℕ) : Prop :=
  ∀ q : Rg, ((σ.get q).s < 15 → b < lvS q (σ.get q).s) ∧ ((σ.get q).g < 13 → b < lvC q (σ.get q).g)

/-- A device may wait at a level below everything it owes. -/
theorem mayWait (c : Dev nD) (σ : St4 F) (sm : SemLoc sig) (b : ℕ) (hb : b < 64) (h : Above σ b) :
    Lev (F := F) ⊢ MayWait (c : Thread nD τ) sm b (owed c σ) :=
  show (levAts L lv : sProp 𝕄) ⊢ _ from MayOwe.of_cut (L := L) (lev := lv) b (fun p hp => by rw [Finset.mem_singleton.mp hp]; exact mem_L c sm hb)
    (fun g ι hg => by
      obtain ⟨q, ⟨j, h1, h2, rfl, rfl⟩ | ⟨i, h1, h2, rfl, rfl⟩⟩ := owed_pos hg
      · exact mem_L _ _ (by have := k0_le q; unfold lvS; omega)
      · exact mem_L _ _ (by have := k0_le q; unfold lvC; omega))
    (fun p hp => by rw [Finset.mem_singleton.mp hp]; exact le_refl _)
    (fun g ι hg => by
      obtain ⟨q, ⟨j, h1, h2, rfl, rfl⟩ | ⟨i, h1, h2, rfl, rfl⟩⟩ := owed_pos hg
      · have := (h q).1 (by omega); unfold lvS at this; unfold lv lvS; omega
      · have := (h q).2 (by omega); unfold lvC at this; unfold lv lvC; omega)

/-! ## What a device holds of a stream -/

variable (X : (q : Rg) → Dev nD → ℕ → Says F q)

/-- A slot in the state named. -/
def slotSt (q : Rg) (c : Dev nD) (i : Fin 3) : SS F q → sProp 𝕄
  | .gone => iprop(emp)
  | .full P => slotIs q c i fullShare P
  | .half P => slotIs q c i fullShare.right P

/-- What the copies still to be started need: both duties, and leave to take the landing slot. -/
def toSend (q : Rg) (c : Dev nD) (s : ℕ) : sProp 𝕄 :=
  bigSep (Finset.Ico s 15) fun j => iprop(dutyTok ER (sendCell q c j) (j / 3) 0 ∗ dutyTok ER (recvCell q (dstD q c) j) (j / 3) 0
    ∗ writeTok ES (q, dstD q c, cls j) (j / 3 + 1))
/-- The departures still to be waited for, of the copies started. -/
def flying (q : Rg) (c : Dev nD) (w s : ℕ) : sProp 𝕄 := bigSep (Finset.Ico w s) fun j => cred (tallyAt (sendCell q c j) 0 (NN q))
/-- The landings still to be waited for. -/
def toLand (q : Rg) (c : Dev nD) (v : ℕ) : sProp 𝕄 := bigSep (Finset.Ico v 15) fun j => cred (tallyAt (recvCell q c j) (lvS q j) (NN q))
/-- Where the device stands at its three send cells, and at its three receive cells. -/
def atSend (q : Rg) (c : Dev nD) (w : ℕ) : sProp 𝕄 :=
  bigSep (Finset.range 3) fun e => iprop(atPos ER (sendCell q c e) (cnt e w) ∅ 0 ∗ reached ER (sendCell q c e) (cnt e w))
def atRecv (q : Rg) (c : Dev nD) (v : ℕ) : sProp 𝕄 :=
  bigSep (Finset.range 3) fun e => iprop(atPos ER (recvCell q c e) (cnt e v) ∅ 0 ∗ reached ER (recvCell q c e) (cnt e v))
/-- The credits still to be given, and those still to be had. -/
def toGive (q : Rg) (c : Dev nD) (g : ℕ) : sProp 𝕄 := bigSep (Finset.Ico g 13) fun i => dutyTok ER (credCell q (backD q c)) 0 i
def toHave (q : Rg) (c : Dev nD) (h : ℕ) : sProp 𝕄 := bigSep (Finset.Ico h 13) fun i => cred (tallyAt (credCell q c) (lvC q i) 1)
/-- Where it stands at its own credit cell: `h` units taken, and what they carried. -/
def atCred (q : Rg) (c : Dev nD) (h : ℕ) : sProp 𝕄 :=
  iprop(∃ T : Finset ℕ, ⌜T ⊆ Finset.range 13 ∧ h ≤ T.card⌝ ∗ atPos ER (credCell q c) 0 T h ∗ bigSep T fun d => Rel q (dstD q c) (d + 3))
/-- How often it has released each class of slot. -/
def readers (q : Rg) (c : Dev nD) (g : ℕ) : sProp 𝕄 := bigSep (Finset.range 3) fun e => readerAt ES (q, c, cls e) (cnt e (g + 2))

/-- Everything a device holds of stream `q`. -/
def Gh (q : Rg) (c : Dev nD) (r : RS F q) : sProp 𝕄 :=
  iprop(toSend q c r.s ∗ flying q c r.w r.s ∗ toLand q c r.v ∗ atSend q c r.w ∗ atRecv q c r.v
    ∗ toGive q c r.g ∗ toHave q c r.h ∗ atCred q c r.h ∗ readers q c r.g ∗ Rel q c (r.g + 2) ∗ Rel q (dstD q c) (r.h + 2)
    ∗ slotSt q c 0 r.t0 ∗ slotSt q c 1 r.t1 ∗ slotSt q c 2 r.t2)

/-- The three slots, one of them singled out. -/
theorem slots_split (q : Rg) (c : Dev nD) (r : RS F q) (i : Fin 3) (x : SS F q) :
    iprop(slotSt q c 0 r.t0 ∗ slotSt q c 1 r.t1 ∗ slotSt q c 2 r.t2)
      ⊢ (iprop(slotSt q c i (r.slot i) ∗ (slotSt q c i x -∗ slotSt q c 0 (r.setSlot i x).t0 ∗ slotSt q c 1 (r.setSlot i x).t1 ∗ slotSt q c 2 (r.setSlot i x).t2)) : sProp 𝕄) := by
  iintro ⟨H0, H1, H2⟩
  fin_cases i
  · isplitl [H0]; · iexact H0
    iintro H; isplitl [H]; · iexact H
    isplitl [H1]; · iexact H1
    iexact H2
  · isplitl [H1]; · iexact H1
    iintro H; isplitl [H0]; · iexact H0
    isplitl [H]; · iexact H
    iexact H2
  · isplitl [H2]; · iexact H2
    iintro H; isplitl [H0]; · iexact H0
    isplitl [H1]; · iexact H1
    iexact H

/-! ## The invariants -/

/-- Every cell's invariant, every slot's, and the levels. -/
def Inv (K : GSem nD τ sig → ℕ) (ks : Key → ℕ) : sProp 𝕄 :=
  iprop((bigSep (Finset.univ : Finset (Rg × Dev nD × Fin 3)) fun x => cellInv ER (Rd X) (K (sendCell x.1 x.2.1 x.2.2)) (sendCell x.1 x.2.1 x.2.2))
    ∗ (bigSep (Finset.univ : Finset (Rg × Dev nD × Fin 3)) fun x => cellInv ER (Rd X) (K (recvCell x.1 x.2.1 x.2.2)) (recvCell x.1 x.2.1 x.2.2))
    ∗ (bigSep (Finset.univ : Finset (Rg × Dev nD)) fun x => iprop(cellInv ER (Rd X) (K (credCell x.1 x.2)) (credCell x.1 x.2) ∗ reached ER (credCell x.1 x.2) 0))
    ∗ (bigSep (Finset.univ : Finset (Dev nD)) fun d => iprop(cellInv ER (Rd X) (K (barCell d)) (barCell d) ∗ reached ER (barCell d) 0))
    ∗ (bigSep (Finset.univ : Finset Key) fun k => slotInv ES (ks k) k (slotAny k))
    ∗ Lev (F := F))

instance (K : GSem nD τ sig → ℕ) (ks : Key → ℕ) : BI.Persistent (Inv X K ks) := by unfold Inv; infer_instance

section
variable (K : GSem nD τ sig → ℕ) (ks : Key → ℕ)

theorem Inv_send (q : Rg) (c : Dev nD) (j : ℕ) : Inv X K ks ⊢ cellInv ER (Rd X) (K (sendCell q c j)) (sendCell q c j) := by
  unfold Inv
  exact sep_elim_left.trans ((bigSep_elim (Finset.mem_univ ((q, c, cls j) : Rg × Dev nD × Fin 3))).trans (Entails.of_eq (show cellInv ER (Rd X) (K (sendCell q c (j % 3))) (sendCell q c (j % 3)) = _ by rw [sendCell_mod])))
theorem Inv_recv (q : Rg) (c : Dev nD) (j : ℕ) : Inv X K ks ⊢ cellInv ER (Rd X) (K (recvCell q c j)) (recvCell q c j) := by
  unfold Inv
  exact (sep_elim_right.trans sep_elim_left).trans ((bigSep_elim (Finset.mem_univ ((q, c, cls j) : Rg × Dev nD × Fin 3))).trans (Entails.of_eq (show cellInv ER (Rd X) (K (recvCell q c (j % 3))) (recvCell q c (j % 3)) = _ by rw [recvCell_mod])))
theorem Inv_cred (q : Rg) (c : Dev nD) : Inv X K ks ⊢ iprop(cellInv ER (Rd X) (K (credCell q c)) (credCell q c) ∗ reached ER (credCell q c) 0) := by
  unfold Inv
  exact (sep_elim_right.trans (sep_elim_right.trans sep_elim_left)).trans (bigSep_elim (Finset.mem_univ ((q, c) : Rg × Dev nD)))
theorem Inv_bar (c : Dev nD) : Inv X K ks ⊢ iprop(cellInv ER (Rd X) (K (barCell c)) (barCell c) ∗ reached ER (barCell c) 0) := by
  unfold Inv
  exact (sep_elim_right.trans (sep_elim_right.trans (sep_elim_right.trans sep_elim_left))).trans (bigSep_elim (Finset.mem_univ (c : Dev nD)))
theorem Inv_slot (k : Key) : Inv X K ks ⊢ slotInv ES (ks k) k (slotAny k) := by
  unfold Inv
  exact (sep_elim_right.trans (sep_elim_right.trans (sep_elim_right.trans (sep_elim_right.trans sep_elim_left)))).trans (bigSep_elim (Finset.mem_univ (k : Key)))
theorem Inv_levels : Inv X K ks ⊢ Lev (F := F) := by
  unfold Inv
  iintro ⟨-, -, -, -, -, H⟩
  iexact H

/-- The state of device `c` in mid-run: the invariants, what it owes, its four streams, and `Y` beside. -/
def St (c : Dev nD) (σ : St4 F) (Y : sProp 𝕄) : sProp 𝕄 :=
  iprop(Inv X K ks ∗ (∃ W, owes (c : Thread nD τ) (owed c σ) W) ∗ (bigSep Finset.univ fun q : Rg => Gh q c (σ.get q)) ∗ Y)

/-- One stream taken out of the four, to be put back changed. -/
theorem streams_split (c : Dev nD) (σ : St4 F) (q : Rg) (r : RS F q) :
    bigSep Finset.univ (fun q' : Rg => Gh q' c (σ.get q'))
      ⊢ (iprop(Gh q c (σ.get q) ∗ (Gh q c r -∗ bigSep Finset.univ fun q' : Rg => Gh q' c ((σ.set q r).get q'))) : sProp 𝕄) := by
  have hr : bigSep (Finset.univ.erase q) (fun x : Rg => Gh (F := F) x c (σ.get x)) = bigSep (Finset.univ.erase q) fun x : Rg => Gh x c ((σ.set q r).get x) :=
    bigSep_congr fun x hx => by rw [σ.get_set_ne r (Finset.ne_of_mem_erase hx)]
  have h2 : iprop(Gh q c r ∗ bigSep (Finset.univ.erase q) fun x : Rg => Gh x c ((σ.set q r).get x)) ⊢ bigSep Finset.univ fun x : Rg => Gh (F := F) x c ((σ.set q r).get x) := by
    rw [bigSep_erase (s := Finset.univ) (Φ := fun x : Rg => Gh (F := F) x c ((σ.set q r).get x)) (Finset.mem_univ q)]
    simp only [σ.get_set_self]
    exact BI.Entails.refl _
  rw [bigSep_erase (s := Finset.univ) (Φ := fun x : Rg => Gh (F := F) x c (σ.get x)) (Finset.mem_univ q), hr]
  refine (show iprop(Gh q c (σ.get q) ∗ bigSep (Finset.univ.erase q) (fun x : Rg => Gh x c ((σ.set q r).get x))) ⊢ _ from ?_)
  iintro ⟨H, Hr⟩
  isplitl [H]; · iexact H
  iintro H
  iapply h2
  isplitl [H]; · iexact H
  iexact Hr

end

end Cert.MoE
-- ==== Proof.Slots.lean ====
/-
Reading and writing a slot: what a copy leaves in the slot it lands in, what a load of a slot
or of part of it reads, what a store leaves.
-/
module

public import proofs.«01_k».proof.Proof.State
public import Idealize.ShloMosaic.Lib.ViewIndex

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- The weakest precondition of a run of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Shares of a slot -/

/-- A slot held in full is its two halves. -/
theorem slot_halve (q : Rg) (c : Dev nD) (i : Fin 3) (f) :
    slotPts (F := F) q c i fullShare f ⊣⊢ iprop(slotPts q c i fullShare.left f ∗ slotPts q c i fullShare.right f) :=
  pointsTo_share (PosShare.mem_left_op_right fullShare)

/-- The two halves of a slot, at contents told apart, are the slot in full. -/
theorem slot_rejoin (q : Rg) (c : Dev nD) (i : Fin 3) (P : Says F q) :
    iprop(slotIs q c i fullShare.left (fun _ => True) ∗ slotIs q c i fullShare.right P) ⊢ slotIs (F := F) q c i fullShare P := by
  unfold slotIs slotPts
  iintro ⟨⟨%f, -, Hl⟩, ⟨%g, %hg, Hr⟩⟩
  ihave %hag := (pointsTo_agree (ℓ := (slotM q i).view.loc (c : Thread nD τ)) (I := (slotM q i).view.set) (J := (slotM q i).view.set)
    (q₁ := fullShare.left) (q₂ := fullShare.right) (f := f) (g := g)) $$ [Hl Hr]
  · isplitl [Hl]; · iexact Hl
    iexact Hr
  iexists g
  isplitr; · ipureintro; exact hg
  iapply (pointsTo_share (PosShare.mem_left_op_right fullShare)).2
  isplitl [Hl]
  · iapply (Entails.of_eq (pointsTo_congr (fun x hx => (hag x (Finset.mem_inter.mpr ⟨hx, hx⟩)).1))); iexact Hl
  · iexact Hr

/-- The elements of a slot do not depend on the half of the notation used. -/
theorem slotAny_eq (q : Rg) (c : Dev nD) (j : ℕ) :
    slotAny (F := F) (q, c, cls j) = iprop(∃ f, slotPts q c (dstS q j) fullShare f) := by
  unfold slotAny slot slotPts
  rw [show dstS q ((cls j : Fin 3) : ℕ) = dstS q j from dstS_mod q j]

theorem slotIs_any (q : Rg) (c : Dev nD) (j : ℕ) (P : Says F q) : slotIs q c (dstS q j) fullShare P ⊢ slotAny (F := F) (q, c, cls j) := by
  rw [slotAny_eq]; unfold slotIs
  iintro ⟨%f, -, H⟩
  iexists f; iexact H

/-- What a copy of a slot leaves in the slot it lands in is what was read. -/
theorem holds_landed (q : Rg) (c d : Dev nD) (i i' : Fin 3) (P : Says F q) (fs : Buf (Elt F) ((slotM q i).view.loc (c : Thread nD τ)))
    (fd : Buf (Elt F) ((slotM q i').view.loc (d : Thread nD τ))) (h : holds q c i P fs) :
    holds q d i' P ((slotM q i').view.write (Elt F) fd ((slotM q i).view.read (Elt F) fs) Finset.univ) := by
  unfold holds; rw [View.read_write_univ]; exact h

/-! ## Loads and stores of a packet slot -/

section
variable (c : Dev nD)

/-- A load through a rectangle `r` of the buffer that is the part `sub` of slot `i` reads that part. -/
theorem load_partA {α : Type} {Q : α → sProp 𝕄} (m : Memref sig .tc .vmem S3x256x384 .bf16) (i : Fin 3) (sh : PosShare TreeShare)
    (f : Buf (Elt F) ((slotA m i).view.loc (c : Thread nD τ))) (r : Rect S3x256x384) (sub : r.shape.Idx → S1x256x384.Idx)
    (hr : ∀ y, r.emb y = (rectA i).emb (sub y)) {hl : m.view.LoadsAt r.toLoadRect}
    {k : (r.shape.Idx → Elt F .bf16) → Prog (TpuEff nD τ sig (Elt F) Λ₀ .tc) α} :
    ((slotA m i).view.loc (c : Thread nD τ) ↦[(slotA m i).view.set]{sh} f)
      ⊢ (iprop((((slotA m i).view.loc (c : Thread nD τ) ↦[(slotA m i).view.set]{sh} f)
          -∗ WP c (k fun y => (slotA m i).view.read (Elt F) f (eA.symm (sub y))) Q)
        -∗ WP c (.op (.load m r.toLoadRect hl) k) Q) : sProp 𝕄) := by
  have hv : m.view.readAt (Elt F) r.toLoadRect f = fun y => (slotA m i).view.read (Elt F) f (eA.symm (sub y)) := by
    funext y
    show m.view.read (Elt F) f (r.emb y) = m.view.read (Elt F) f ((rectA i).emb (eA (eA.symm (sub y))))
    exact congrArg _ ((hr y).trans (congrArg _ (eA.apply_symm_apply (sub y)).symm))
  rw [← hv]
  refine wp_load 𝒱₀ (c : Thread nD τ) none Set.univ (m := m) (r := r.toLoadRect) (S := (slotA m i).view.set) ?_
  show m.view.setOn r.set ⊆ ((m.view.slice (rectA i)).reshape S256x384 squeezes_S1x256x384_S256x384.numel_eq).set
  rw [View.set_reshape, View.set_slice]
  refine Finset.map_subset_map.mpr fun x hx => ?_
  rw [← Rect.map_emb_univ, Finset.mem_map] at hx ⊢
  obtain ⟨y, -, rfl⟩ := hx
  exact ⟨sub y, Finset.mem_univ _, (hr y).symm⟩

/-- A store through `r` writes the part `sub` of slot `i` and leaves the rest of it. -/
theorem store_partA {α : Type} {Q : α → sProp 𝕄} (m : Memref sig .tc .vmem S3x256x384 .bf16) (i : Fin 3)
    (f : Buf (Elt F) ((slotA m i).view.loc (c : Thread nD τ))) (r : Rect S3x256x384) (sub : r.shape.Idx → S1x256x384.Idx)
    (hr : ∀ y, r.emb y = (rectA i).emb (sub y)) (w : r.shape.Idx → Elt F .bf16) {hx : (m.access r).Stores Finset.univ} {hm : Finset.univ = Finset.univ ∨ ∀ a, r.stride a = 1}
    {k : PUnit → Prog (TpuEff nD τ sig (Elt F) Λ₀ .tc) α} :
    ((slotA m i).view.loc (c : Thread nD τ) ↦[(slotA m i).view.set]{fullShare} f)
      ⊢ (iprop((∀ g, ⌜(∀ y, (slotA m i).view.read (Elt F) g (eA.symm (sub y)) = w y)
            ∧ ∀ z, (∀ y, sub y ≠ z) → (slotA m i).view.read (Elt F) g (eA.symm z) = (slotA m i).view.read (Elt F) f (eA.symm z)⌝
          ∗ ((slotA m i).view.loc (c : Thread nD τ) ↦[(slotA m i).view.set]{fullShare} g) -∗ WP c (k ⟨⟩) Q)
        -∗ WP c (.op (.store m r w Finset.univ hx hm) k) Q) : sProp 𝕄) := by
  have hS : (m.access r).setOn Finset.univ ⊆ (slotA m i).view.set := by
    show (m.view.slice r).set ⊆ ((m.view.slice (rectA i)).reshape S256x384 squeezes_S1x256x384_S256x384.numel_eq).set
    rw [View.set_reshape, View.set_slice, View.set_slice]
    refine Finset.map_subset_map.mpr fun x hx => ?_
    rw [← Rect.map_emb_univ, Finset.mem_map] at hx ⊢
    obtain ⟨y, -, rfl⟩ := hx
    exact ⟨sub y, Finset.mem_univ _, (hr y).symm⟩
  have hrd : ∀ (g : Buf (Elt F) ((slotA m i).view.loc (c : Thread nD τ))) (z : S1x256x384.Idx),
      (slotA m i).view.read (Elt F) g (eA.symm z) = m.view.read (Elt F) g ((rectA i).emb z) := fun g z => by
    show m.view.read (Elt F) g ((rectA i).emb (eA (eA.symm z))) = _
    exact congrArg (fun x : S1x256x384.Idx => m.view.read (Elt F) g ((rectA i).emb x)) (eA.apply_symm_apply z)
  iintro H Hk
  iapply (wp_store 𝒱₀ (c : Thread nD τ) none Set.univ (m := m) (r := r) (Mk := Finset.univ) (S := (slotA m i).view.set) hS) $$ H
  iintro H
  iapply Hk $$ %((m.access r).write (Elt F) f w Finset.univ)
  isplitr
  · ipureintro
    refine ⟨fun y => ?_, fun z hz => ?_⟩
    · rw [hrd, ← hr]
      exact congrFun (View.read_write_univ (v := m.view.slice r) f w) y
    · rw [hrd, hrd]
      refine View.read_congr_at _ ?_
      refine View.write_of_not_mem _ _ _ ?_
      rw [View.setOn_univ]
      show _ ∉ (m.view.slice r).set
      rw [View.set_slice, Finset.mem_map' , ← Rect.map_emb_univ, Finset.mem_map]
      rintro ⟨y, -, hy⟩
      rw [hr] at hy
      exact hz y ((rectA i).emb.injective hy)
  · iexact H

/-! ## Loads and stores of a partial-sum slot -/

/-- A load of slot `i` reads what it holds. -/
theorem load_slotB {α : Type} {Q : α → sProp 𝕄} (m : Memref sig .tc .vmem S3x256x512 .bf16) (i : Fin 3) (sh : PosShare TreeShare)
    (f : Buf (Elt F) ((slotB m i).view.loc (c : Thread nD τ))) {hl : m.view.LoadsAt (rectB i).toLoadRect}
    {k : ((rectB i).shape.Idx → Elt F .bf16) → Prog (TpuEff nD τ sig (Elt F) Λ₀ .tc) α} :
    ((slotB m i).view.loc (c : Thread nD τ) ↦[(slotB m i).view.set]{sh} f)
      ⊢ (iprop((((slotB m i).view.loc (c : Thread nD τ) ↦[(slotB m i).view.set]{sh} f)
          -∗ WP c (k fun y : S1x256x512.Idx => (slotB m i).view.read (Elt F) f (eB.symm y)) Q)
        -∗ WP c (.op (.load m (rectB i).toLoadRect hl) k) Q) : sProp 𝕄) := by
  have hv : m.view.readAt (Elt F) (rectB i).toLoadRect f = fun y : S1x256x512.Idx => (slotB m i).view.read (Elt F) f (eB.symm y) := by
    funext y
    exact congrArg (fun x : S1x256x512.Idx => m.view.read (Elt F) f ((rectB i).emb x)) (eB.apply_symm_apply y).symm
  rw [← hv]
  refine wp_load 𝒱₀ (c : Thread nD τ) none Set.univ (m := m) (r := (rectB i).toLoadRect) (S := (slotB m i).view.set) ?_
  show m.view.setOn (rectB i).set ⊆ ((m.view.slice (rectB i)).reshape S256x512 squeezes_S1x256x512_S256x512.numel_eq).set
  rw [View.set_reshape, View.set_slice]
  exact Finset.Subset.refl _

/-- A store of slot `i` leaves what was stored. -/
theorem store_slotB {α : Type} {Q : α → sProp 𝕄} (m : Memref sig .tc .vmem S3x256x512 .bf16) (i : Fin 3)
    (f : Buf (Elt F) ((slotB m i).view.loc (c : Thread nD τ))) (w : (rectB i).shape.Idx → Elt F .bf16)
    {hx : (m.access (rectB i)).Stores Finset.univ} {hm : Finset.univ = Finset.univ ∨ ∀ a, (rectB i).stride a = 1}
    {k : PUnit → Prog (TpuEff nD τ sig (Elt F) Λ₀ .tc) α} :
    ((slotB m i).view.loc (c : Thread nD τ) ↦[(slotB m i).view.set]{fullShare} f)
      ⊢ (iprop((∀ g, ⌜(fun y : S1x256x512.Idx => (slotB m i).view.read (Elt F) g (eB.symm y)) = w⌝
          ∗ ((slotB m i).view.loc (c : Thread nD τ) ↦[(slotB m i).view.set]{fullShare} g) -∗ WP c (k ⟨⟩) Q)
        -∗ WP c (.op (.store m (rectB i) w Finset.univ hx hm) k) Q) : sProp 𝕄) := by
  have hS : (m.access (rectB i)).setOn Finset.univ ⊆ (slotB m i).view.set := by
    show (m.view.slice (rectB i)).set ⊆ ((m.view.slice (rectB i)).reshape S256x512 squeezes_S1x256x512_S256x512.numel_eq).set
    rw [View.set_reshape]
  iintro H Hk
  iapply (wp_store 𝒱₀ (c : Thread nD τ) none Set.univ (m := m) (r := rectB i) (Mk := Finset.univ) (S := (slotB m i).view.set) hS) $$ H
  iintro H
  iapply Hk $$ %((m.access (rectB i)).write (Elt F) f w Finset.univ)
  isplitr
  · ipureintro
    funext y
    show (m.view.slice (rectB i)).read (Elt F) _ (eB (eB.symm y)) = w y
    exact (congrArg (fun x : S1x256x512.Idx => (m.view.slice (rectB i)).read (Elt F) _ x) (eB.apply_symm_apply y)).trans
      (congrFun (View.read_write_univ (v := m.view.slice (rectB i)) f w) y)
  · iexact H

end

end Cert.MoE
-- ==== Proof.Ops.lean ====
/-
One step of a device's run for each kind of operation: starting a copy, waiting for a landing
or a departure, giving a credit and waiting for one.  Each says what the operation asks of the
state and how the state changes.
-/
module

public import proofs.«01_k».proof.Proof.Slots
public import Idealize.SL.BI.BigOpNat

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Taking pieces out -/

theorem toSend_take (q : Rg) (c : Dev nD) {j : ℕ} (h : j < 15) :
    toSend (F := F) q c j = iprop((dutyTok ER (sendCell q c j) (j / 3) 0 ∗ dutyTok ER (recvCell q (dstD q c) j) (j / 3) 0
      ∗ writeTok ES (q, dstD q c, cls j) (j / 3 + 1)) ∗ toSend q c (j + 1)) := by
  unfold toSend; rw [bigSep_Ico_succ_bot h]
theorem flying_put (q : Rg) (c : Dev nD) {w j : ℕ} (h : w ≤ j) :
    flying (F := F) q c w (j + 1) = iprop(cred (tallyAt (sendCell q c j) 0 (NN q)) ∗ flying q c w j) := by
  unfold flying; rw [bigSep_Ico_succ_top h]
theorem flying_take (q : Rg) (c : Dev nD) {w s : ℕ} (h : w < s) :
    flying (F := F) q c w s = iprop(cred (tallyAt (sendCell q c w) 0 (NN q)) ∗ flying q c (w + 1) s) := by
  unfold flying; rw [bigSep_Ico_succ_bot h]
theorem toLand_take (q : Rg) (c : Dev nD) {v : ℕ} (h : v < 15) :
    toLand (F := F) q c v = iprop(cred (tallyAt (recvCell q c v) (lvS q v) (NN q)) ∗ toLand q c (v + 1)) := by
  unfold toLand; rw [bigSep_Ico_succ_bot h]
theorem toGive_take (q : Rg) (c : Dev nD) {g : ℕ} (h : g < 13) :
    toGive (F := F) q c g = iprop(dutyTok ER (credCell q (backD q c)) 0 g ∗ toGive q c (g + 1)) := by
  unfold toGive; rw [bigSep_Ico_succ_bot h]
theorem toHave_take (q : Rg) (c : Dev nD) {h : ℕ} (hh : h < 13) :
    toHave (F := F) q c h = iprop(cred (tallyAt (credCell q c) (lvC q h) 1) ∗ toHave q c (h + 1)) := by
  unfold toHave; rw [bigSep_Ico_succ_bot hh]

theorem Rel_mono (q : Rg) (d : Dev nD) {n n' : ℕ} (h : n' ≤ n) : Rel (F := F) q d n ⊢ Rel q d n' := by
  unfold Rel; exact bigSep_subset (fun x hx => Finset.mem_range.mpr (by have := Finset.mem_range.mp hx; omega))
theorem Rel_at (q : Rg) (d : Dev nD) {n j : ℕ} (h : j < n) :
    Rel (F := F) q d n ⊢ iprop(released ES (q, d, cls j) (j / 3 + 1) ∗ reached ER (recvCell q d j) (j / 3)) := by
  unfold Rel; exact bigSep_elim (Finset.mem_range.mpr h)
theorem Rel_succ (q : Rg) (d : Dev nD) (n : ℕ) :
    Rel (F := F) q d (n + 1) = iprop((released ES (q, d, cls n) (n / 3 + 1) ∗ reached ER (recvCell q d n) (n / 3)) ∗ Rel q d n) := by
  unfold Rel; rw [bigSep_range_succ]

/-- Three things counted by class: the one whose turn it is, to be moved on by one. -/
theorem class_move (A : ℕ → ℕ → sProp 𝕄) (w : ℕ) :
    bigSep (Finset.range 3) (fun e => A e (cnt e w))
      ⊢ (iprop(A (w % 3) (w / 3) ∗ (A (w % 3) (w / 3 + 1) -∗ bigSep (Finset.range 3) fun e => A e (cnt e (w + 1)))) : sProp 𝕄) := by
  have hm : w % 3 ∈ Finset.range 3 := Finset.mem_range.mpr (Nat.mod_lt _ (by decide))
  have hr : bigSep ((Finset.range 3).erase (w % 3)) (fun e => A e (cnt e w)) = bigSep ((Finset.range 3).erase (w % 3)) fun e => A e (cnt e (w + 1)) :=
    bigSep_congr fun e he => by
      rw [Finset.mem_erase, Finset.mem_range] at he
      rw [cnt_succ_ne he.2 he.1]
  have h2 : iprop(A (w % 3) (w / 3 + 1) ∗ bigSep ((Finset.range 3).erase (w % 3)) fun e => A e (cnt e (w + 1))) ⊢ bigSep (Finset.range 3) fun e => A e (cnt e (w + 1)) := by
    rw [bigSep_erase (Φ := fun e => A e (cnt e (w + 1))) hm, cnt_succ_self]; exact BI.Entails.refl _
  rw [bigSep_erase (Φ := fun e => A e (cnt e w)) hm, hr, cnt_self]
  refine (show iprop(A (w % 3) (w / 3) ∗ bigSep ((Finset.range 3).erase (w % 3)) fun e => A e (cnt e (w + 1))) ⊢ _ from ?_)
  iintro ⟨H, Hr⟩
  isplitl [H]; · iexact H
  iintro H
  iapply h2
  isplitl [H]; · iexact H
  iexact Hr

theorem atSend_move (q : Rg) (c : Dev nD) (w : ℕ) :
    atSend (F := F) q c w ⊢ iprop((atPos ER (sendCell q c w) (w / 3) ∅ 0 ∗ reached ER (sendCell q c w) (w / 3))
      ∗ ((atPos ER (sendCell q c w) (w / 3 + 1) ∅ 0 ∗ reached ER (sendCell q c w) (w / 3 + 1)) -∗ atSend q c (w + 1))) := by
  have h := class_move (F := F) (fun e n => iprop(atPos ER (sendCell q c e) n ∅ 0 ∗ reached ER (sendCell q c e) n)) w
  rw [sendCell_mod] at h; exact h
theorem atRecv_move (q : Rg) (c : Dev nD) (v : ℕ) :
    atRecv (F := F) q c v ⊢ iprop((atPos ER (recvCell q c v) (v / 3) ∅ 0 ∗ reached ER (recvCell q c v) (v / 3))
      ∗ ((atPos ER (recvCell q c v) (v / 3 + 1) ∅ 0 ∗ reached ER (recvCell q c v) (v / 3 + 1)) -∗ atRecv q c (v + 1))) := by
  have h := class_move (F := F) (fun e n => iprop(atPos ER (recvCell q c e) n ∅ 0 ∗ reached ER (recvCell q c e) n)) v
  rw [recvCell_mod] at h; exact h
theorem cls_cls (j : ℕ) : cls (j % 3) = cls j := Fin.ext (by simp only [cls]; omega)
theorem readers_move (q : Rg) (c : Dev nD) (g : ℕ) :
    readers (F := F) q c g ⊢ iprop(readerAt ES (q, c, cls (g + 2)) ((g + 2) / 3)
      ∗ (readerAt ES (q, c, cls (g + 2)) ((g + 2) / 3 + 1) -∗ readers q c (g + 1))) := by
  have h := class_move (F := F) (fun e n => readerAt ES (q, c, cls e) n) (g + 2)
  rw [cls_cls] at h; exact h

/-- Rounds reached at a send cell, and at a receive cell. -/
theorem atSend_reached (q : Rg) (c : Dev nD) {w j : ℕ} (h : cnt (j % 3) w = j / 3) : atSend (F := F) q c w ⊢ reached ER (sendCell q c j) (j / 3) := by
  have hm : j % 3 ∈ Finset.range 3 := Finset.mem_range.mpr (Nat.mod_lt _ (by decide))
  have e := bigSep_elim (Φ := fun e => iprop(atPos ER (sendCell q c e) (cnt e w) ∅ 0 ∗ reached (ER (F := F)) (sendCell q c e) (cnt e w))) hm
  rw [sendCell_mod, h] at e
  exact BI.Entails.trans e (show (iprop(atPos ER (sendCell q c j) (j / 3) ∅ 0 ∗ reached ER (sendCell q c j) (j / 3)) : sProp 𝕄) ⊢ _ from by iintro ⟨-, H⟩; iexact H)
theorem atRecv_reached (q : Rg) (c : Dev nD) {v j : ℕ} (h : cnt (j % 3) v = j / 3) : atRecv (F := F) q c v ⊢ reached ER (recvCell q c j) (j / 3) := by
  have hm : j % 3 ∈ Finset.range 3 := Finset.mem_range.mpr (Nat.mod_lt _ (by decide))
  have e := bigSep_elim (Φ := fun e => iprop(atPos ER (recvCell q c e) (cnt e v) ∅ 0 ∗ reached (ER (F := F)) (recvCell q c e) (cnt e v))) hm
  rw [recvCell_mod, h] at e
  exact BI.Entails.trans e (show (iprop(atPos ER (recvCell q c j) (j / 3) ∅ 0 ∗ reached ER (recvCell q c j) (j / 3)) : sProp 𝕄) ⊢ _ from by iintro ⟨-, H⟩; iexact H)

theorem slot_full {q : Rg} {c : Dev nD} {i : Fin 3} {r : RS F q} {P : Says F q} (h : r.slot i = .full P) :
    slotSt q c i (r.slot i) ⊢ slotIs q c i fullShare P := by rw [h]; exact BI.Entails.refl _
theorem slot_half {q : Rg} {c : Dev nD} {i : Fin 3} {r : RS F q} {P : Says F q} (h : r.slot i = .half P) :
    slotSt q c i (r.slot i) ⊢ slotIs q c i fullShare.right P := by rw [h]; exact BI.Entails.refl _

theorem to_full (q : Rg) (c : Dev nD) (i : Fin 3) (P : Says F q) : slotIs q c i fullShare P ⊢ slotSt (F := F) q c i (.full P) := BI.Entails.refl _

/-! ## The operations -/

section
variable (X : (q : Rg) → Dev nD → ℕ → Says F q) (K : GSem nD τ sig → ℕ) (ks : Key → ℕ) (c : Dev nD)

theorem recv_rest (q : Rg) (j : ℕ) (hj : j < 15) :
    (bigSep ((Rd X).duties ((c : Thread nD τ), SemLoc.dma (recvS q (dstS q j))) (j / 3) \ ∅) fun d => (Rd X).payload ((c : Thread nD τ), SemLoc.dma (recvS q (dstS q j))) (j / 3) d)
      ⊢ slotIs q c (dstS q j) fullShare (X q (backD q c) j) := by
  refine Entails.of_eq ?_
  rw [show ((c : Thread nD τ), SemLoc.dma (recvS q (dstS q j))) = recvCell q c j from rfl, duties_recv X q c _ _ (by omega),
    show ({0} : Finset ℕ) \ ∅ = {0} from by decide, bigSep_singleton, payload_recv]
  rfl
theorem send_rest (q : Rg) (j : ℕ) (hj : j < 15) :
    (bigSep ((Rd X).duties ((c : Thread nD τ), SemLoc.dma (sendS q (srcS q j))) (j / 3) \ ∅) fun d => (Rd X).payload ((c : Thread nD τ), SemLoc.dma (sendS q (srcS q j))) (j / 3) d)
      ⊢ slotIs q c (srcS q j) fullShare.left fun _ => True := by
  refine Entails.of_eq ?_
  rw [show ((c : Thread nD τ), SemLoc.dma (sendS q (srcS q j))) = sendCell q c j from rfl, duties_send X q c _ _ (by omega),
    show ({0} : Finset ℕ) \ ∅ = {0} from by decide, bigSep_singleton, payload_send]
  rfl

theorem mayWait' (σ : St4 F) (sm : SemLoc sig) (b : ℕ) (hb : b < 64) (h : Above σ b) :
    Inv X K ks ⊢ MayWait (c : Thread nD τ) sm b (owed c σ) := by
  have h1 := @Inv_levels F X K ks
  have h2 := mayWait (F := F) c σ sm b hb h
  exact h1.trans h2

/-- Copy `j` of stream `q` starts: its source slot is held in full and says what the receiver is to be told; the receiver
    has released the slot it lands in. -/
theorem op_start (q : Rg) {σ : St4 F} {Y : sProp 𝕄} (j : ℕ) {d : Dev nD} (hd : d = dstD q c) (hs : (σ.get q).s = j) (hj : j < 15)
    (hh : j < (σ.get q).h + 2) (hw : (σ.get q).w ≤ j ∧ j ≤ (σ.get q).w + 2) {P : Says F q} (hsl : (σ.get q).slot (srcS q j) = .full P)
    (hP : ∀ U, P U → X q c j U)
    {hsc} {hsrc : (slotM q (srcS q j)).view.WordExact} {hdst : (slotM q (dstS q j)).view.WordExact}
    {hsem} {α : Type} {Q : α → sProp 𝕄} {k : PUnit → Prog (TpuEff nD τ sig (Elt F) Λ₀ .tc) α}
    (hk : St X K ks c (σ.set q { (σ.get q).setSlot (srcS q j) (.half P) with s := j + 1 }) Y ⊢ WP c (k ⟨⟩) Q) :
    St X K ks c σ Y ⊢ WP c (.op (.enqueueDma (slotM q (srcS q j)) (.remote (Dev.tc d : Thread nD τ) (slotM q (dstS q j)) (.dma (sendS q (srcS q j))) hsc)
      (.dma (recvS q (dstS q j))) hsrc hdst hsem) k) Q := by
  subst hd
  have hc3 : cnt (j % 3) (σ.get q).w = j / 3 := by unfold cnt; omega
  unfold St at hk ⊢
  rw [owed_set c σ q { (σ.get q).setSlot (srcS q j) (.half P) with s := j + 1 } (dueS q c j)
    (by rw [hs]; exact owedR_start q c _ hj)]
  iintro ⟨#HI, ⟨%W, HO⟩, HS, HY⟩
  ihave HS := streams_split c σ q { (σ.get q).setSlot (srcS q j) (.half P) with s := j + 1 } $$ HS
  icases HS with ⟨HG, Hback⟩
  unfold Gh
  rw [hs]
  icases HG with ⟨Hs, Hf, Hl, Has, Har, Hg, Hh, Hc, Hr, #Hrel, #Hrel', Hslots⟩
  ihave Hslots := slots_split q c (σ.get q) (srcS q j) (.half P) $$ Hslots
  icases Hslots with ⟨Hsrc, Hslots⟩
  ihave Hsrc := (slot_full hsl) $$ Hsrc
  unfold slotIs
  icases Hsrc with ⟨%fs, %hfs, Hsrc⟩
  ihave Hsrc := (slot_halve q c (srcS q j) fs).1 $$ Hsrc
  icases Hsrc with ⟨Hsl, Hsr⟩
  ihave Hs := (Entails.of_eq (toSend_take q c hj)) $$ Hs
  icases Hs with ⟨⟨Hd1, Hd2, Hwt⟩, Hs⟩
  ihave #Hrj := (Rel_at q (dstD q c) hh) $$ Hrel'
  icases Hrj with ⟨#Hrd, #Hrr⟩
  ihave #Hrs := (atSend_reached q c hc3) $$ Has
  ihave #HIsl := (Inv_slot X K ks (q, dstD q c, cls j)) $$ HI
  imod (slot_take (n := j / 3 + 1) ES (Set.mem_univ _)) $$ [Hwt] with Hdst
  · isplitr; · iexact HIsl
    isplitr; · iexact Hrd
    iexact Hwt
  ihave Hdst := (Entails.of_eq (slotAny_eq q (dstD q c) j)) $$ Hdst
  icases Hdst with ⟨%fd, Hdst⟩
  iapply (Rounds.wp_send_pointsTo 𝒱₀ ER (Rd X) (c : Thread nD τ) none (κ₁ := K (sendCell q c j)) (κ₂ := K (recvCell q (dstD q c) j))
    (q := fullShare.left) (fs := fs) (fd := fd) (r₁ := j / 3) (r₂ := j / 3) (d₁ := 0) (d₂ := 0)
    (by rw [show ((c : Thread nD τ), SemLoc.dma (sendS q (srcS q j))) = sendCell q c j from rfl, duties_send X q c j _ (by omega)]; exact Finset.mem_singleton_self 0)
    (by rw [show (((dstD q c : Dev nD) : Thread nD τ), SemLoc.dma (recvS q (dstS q j))) = recvCell q (dstD q c) j from rfl, duties_recv X q _ j _ (by omega)]; exact Finset.mem_singleton_self 0)
    (lvS q j) 0 (NN q) (by exact NN_eq q _)
    (amount_send X q c j (j / 3) 0) (amount_recv X q (dstD q c) j (j / 3) 0)
    (owed c (σ.set q { (σ.get q).setSlot (srcS q j) (.half P) with s := j + 1 })) rfl (W := W)
    (by
      rw [show (Rd X).payload ((c : Thread nD τ), SemLoc.dma (sendS q (srcS q j))) (j / 3) 0 = sendPay q c j from payload_send X q c j 0]
      unfold sendPay slotIs slotPts
      iintro H
      iexists fs
      isplitr; · ipureintro; exact trivial
      iexact H)
    (by
      rw [show (Rd X).payload (((dstD q c : Dev nD) : Thread nD τ), SemLoc.dma (recvS q (dstS q j))) (j / 3) 0 = recvPay X q (dstD q c) j from payload_recv X q (dstD q c) j 0]
      unfold recvPay slotIs slotPts
      iintro H
      iexists _
      isplitr
      · ipureintro
        rw [back_dst]
        exact holds_landed q c (dstD q c) (srcS q j) (dstS q j) (X q c j) fs fd (hP _ hfs)
      iexact H)) $$ [Hsl Hdst HO Hd1 Hd2]
  · isplitr; · iapply (Inv_send X K ks q c j); iexact HI
    isplitr; · iapply (Inv_recv X K ks q (dstD q c) j); iexact HI
    isplitl [Hsl]; · unfold slotPts; iexact Hsl
    isplitl [Hdst]; · unfold slotPts; iexact Hdst
    isplitl [HO]; · iexact HO
    isplitl [Hd1]; · iexact Hd1
    isplitr; · iexact Hrs
    isplitl [Hd2]; · iexact Hd2
    iexact Hrr
  iintro ⟨Hcr, HO⟩
  iapply hk
  isplitr; · iexact HI
  isplitl [HO]; · iexists W; iexact HO
  isplitr [HY]
  · iapply Hback
    isplitl [Hs]; · iexact Hs
    isplitl [Hf Hcr]
    · iapply (Entails.of_eq (flying_put q c hw.1).symm)
      isplitl [Hcr]; · iexact Hcr
      iexact Hf
    isplitl [Hl]; · iexact Hl
    isplitl [Has]; · iexact Has
    isplitl [Har]; · iexact Har
    isplitl [Hg]; · iexact Hg
    isplitl [Hh]; · iexact Hh
    isplitl [Hc]; · iexact Hc
    isplitl [Hr]; · iexact Hr
    isplitr; · iexact Hrel
    isplitr; · iexact Hrel'
    iapply Hslots
    unfold slotSt slotIs
    iexists fs
    isplitr; · ipureintro; exact hfs
    iexact Hsr
  · iexact HY

/-- A device waits for landing `j`: the slot comes with what its sender said of it. -/
theorem op_recv (q : Rg) {σ : St4 F} {Y : sProp 𝕄} (j : ℕ) (hv : (σ.get q).v = j) (hj : j < 15)
    (hsl : (σ.get q).slot (dstS q j) = .gone) (hab : Above σ (lvS q j)) {i' : Fin 3}
    {sp : Space} {s : Shape} {e : EltTy} {src : Memref sig .tc sp s e} {hsrc : src.view.WordExact} {hdst : (slotM q i').view.WordExact}
    {α : Type} {Q : α → sProp 𝕄} {k : PUnit → Prog (TpuEff nD τ sig (Elt F) Λ₀ .tc) α}
    (hk : St X K ks c (σ.set q { (σ.get q).setSlot (dstS q j) (.full (X q (backD q c) j)) with v := j + 1 }) Y ⊢ WP c (k ⟨⟩) Q) :
    St X K ks c σ Y ⊢ WP c (.op (.waitDma2 (recvS q (dstS q j)) src (slotM q i') hsrc hdst) k) Q := by
  subst hv
  unfold St at hk ⊢
  rw [owed_same c σ q { (σ.get q).setSlot (dstS q (σ.get q).v) (.full (X q (backD q c) (σ.get q).v)) with v := (σ.get q).v + 1 } rfl rfl]
  iintro ⟨#HI, ⟨%W, HO⟩, HS, HY⟩
  ihave HS := streams_split c σ q { (σ.get q).setSlot (dstS q (σ.get q).v) (.full (X q (backD q c) (σ.get q).v)) with v := (σ.get q).v + 1 } $$ HS
  icases HS with ⟨HG, Hback⟩
  unfold Gh
  icases HG with ⟨Hs, Hf, Hl, Has, Har, Hg, Hh, Hc, Hr, #Hrel, #Hrel', Hslots⟩
  ihave Hslots := slots_split q c (σ.get q) (dstS q (σ.get q).v) (.full (X q (backD q c) (σ.get q).v)) $$ Hslots
  icases Hslots with ⟨-, Hslots⟩
  ihave Hl := (Entails.of_eq (toLand_take q c hj)) $$ Hl
  icases Hl with ⟨Hcr, Hl⟩
  ihave Har := (atRecv_move q c (σ.get q).v) $$ Har
  icases Har with ⟨⟨Hat, -⟩, Har⟩
  iapply (Rounds.wp_wait_rest_token 𝒱₀ ER (Rd X) (c : Thread nD τ) none (κ := K (recvCell q c (σ.get q).v)) (sm := .dma (recvS q (dstS q (σ.get q).v)))
    (wpE_waitDma2_eq 𝒱₀ (c : Thread nD τ) none Set.univ) (Set.mem_univ _) (lvS q (σ.get q).v)
    (O := owed c σ) (W := W) (R := (σ.get q).v / 3) (m := 0) (T := ∅)
    (by rw [show ((c : Thread nD τ), SemLoc.dma (recvS q (dstS q (σ.get q).v))) = recvCell q c (σ.get q).v from rfl, expect_recv X q c _ _ (by omega), NN_eq, Nat.zero_add])) $$ [Hcr HO Hat]
  · isplitr; · iapply (Inv_recv X K ks q c _); iexact HI
    isplitl [Hcr]; · rw [NN_eq]; iexact Hcr
    isplitl [HO]; · rw [owed_same c σ q { (σ.get q).setSlot (dstS q (σ.get q).v) (.full (X q (backD q c) (σ.get q).v)) with v := (σ.get q).v + 1 } rfl rfl]; iexact HO
    isplitr; · iapply (@mayWait' F _ X K ks c σ (.dma (recvS q (dstS q (σ.get q).v))) (lvS q (σ.get q).v) (by have := k0_le q; unfold lvS; omega) hab); iexact HI
    iexact Hat
  iintro ⟨HO, Hat, #Hre, Hpay⟩
  iapply hk
  isplitr; · iexact HI
  isplitl [HO]; · iexists _; rw [← owed_same c σ q { (σ.get q).setSlot (dstS q (σ.get q).v) (.full (X q (backD q c) (σ.get q).v)) with v := (σ.get q).v + 1 } rfl rfl]; iexact HO
  isplitr [HY]
  · iapply Hback
    isplitl [Hs]; · iexact Hs
    isplitl [Hf]; · iexact Hf
    isplitl [Hl]; · iexact Hl
    isplitl [Has]; · iexact Has
    isplitl [Har Hat]
    · iapply Har
      isplitl [Hat]; · iexact Hat
      iexact Hre
    isplitl [Hg]; · iexact Hg
    isplitl [Hh]; · iexact Hh
    isplitl [Hc]; · iexact Hc
    isplitl [Hr]; · iexact Hr
    isplitr; · iexact Hrel
    isplitr; · iexact Hrel'
    iapply Hslots
    ihave Hpay := (recv_rest X c q _ hj) $$ Hpay
    iapply (to_full q c _ _); iexact Hpay
  · iexact HY

/-- A device waits for the departure of copy `j`: the lent half of the slot comes back. -/
theorem op_send (q : Rg) {σ : St4 F} {Y : sProp 𝕄} (j : ℕ) (hv : (σ.get q).w = j) (hj : j < 15) (hs : j < (σ.get q).s)
    {P : Says F q} (hsl : (σ.get q).slot (srcS q j) = .half P) (hab : Above σ 0) {i' : Fin 3}
    {sp : Space} {s : Shape} {e : EltTy} {src : Memref sig .tc sp s e} {hsrc : src.view.WordExact} {hdst : (slotM q i').view.WordExact}
    {α : Type} {Q : α → sProp 𝕄} {k : PUnit → Prog (TpuEff nD τ sig (Elt F) Λ₀ .tc) α}
    (hk : St X K ks c (σ.set q { (σ.get q).setSlot (srcS q j) (.full P) with w := j + 1 }) Y ⊢ WP c (k ⟨⟩) Q) :
    St X K ks c σ Y ⊢ WP c (.op (.waitDma2 (sendS q (srcS q j)) src (slotM q i') hsrc hdst) k) Q := by
  subst hv
  unfold St at hk ⊢
  rw [owed_same c σ q { (σ.get q).setSlot (srcS q (σ.get q).w) (.full P) with w := (σ.get q).w + 1 } rfl rfl]
  iintro ⟨#HI, ⟨%W, HO⟩, HS, HY⟩
  ihave HS := streams_split c σ q { (σ.get q).setSlot (srcS q (σ.get q).w) (.full P) with w := (σ.get q).w + 1 } $$ HS
  icases HS with ⟨HG, Hback⟩
  unfold Gh
  icases HG with ⟨Hs, Hf, Hl, Has, Har, Hg, Hh, Hc, Hr, #Hrel, #Hrel', Hslots⟩
  ihave Hslots := slots_split q c (σ.get q) (srcS q (σ.get q).w) (.full P) $$ Hslots
  icases Hslots with ⟨Hsrc, Hslots⟩
  ihave Hsrc := (slot_half hsl) $$ Hsrc
  ihave Hf := (Entails.of_eq (flying_take q c hs)) $$ Hf
  icases Hf with ⟨Hcr, Hf⟩
  ihave Has := (atSend_move q c (σ.get q).w) $$ Has
  icases Has with ⟨⟨Hat, -⟩, Has⟩
  iapply (Rounds.wp_wait_rest_token 𝒱₀ ER (Rd X) (c : Thread nD τ) none (κ := K (sendCell q c (σ.get q).w)) (sm := .dma (sendS q (srcS q (σ.get q).w)))
    (wpE_waitDma2_eq 𝒱₀ (c : Thread nD τ) none Set.univ) (Set.mem_univ _) 0
    (O := owed c σ) (W := W) (R := (σ.get q).w / 3) (m := 0) (T := ∅)
    (by rw [show ((c : Thread nD τ), SemLoc.dma (sendS q (srcS q (σ.get q).w))) = sendCell q c (σ.get q).w from rfl, expect_send X q c _ _ (by omega), NN_eq, Nat.zero_add])) $$ [Hcr HO Hat]
  · isplitr; · iapply (Inv_send X K ks q c _); iexact HI
    isplitl [Hcr]; · rw [NN_eq]; iexact Hcr
    isplitl [HO]; · rw [owed_same c σ q { (σ.get q).setSlot (srcS q (σ.get q).w) (.full P) with w := (σ.get q).w + 1 } rfl rfl]; iexact HO
    isplitr; · iapply (@mayWait' F _ X K ks c σ (.dma (sendS q (srcS q (σ.get q).w))) 0 (by decide) hab); iexact HI
    iexact Hat
  iintro ⟨HO, Hat, #Hre, Hpay⟩
  iapply hk
  isplitr; · iexact HI
  isplitl [HO]; · iexists _; rw [← owed_same c σ q { (σ.get q).setSlot (srcS q (σ.get q).w) (.full P) with w := (σ.get q).w + 1 } rfl rfl]; iexact HO
  isplitr [HY]
  · iapply Hback
    isplitl [Hs]; · iexact Hs
    isplitl [Hf]; · iexact Hf
    isplitl [Hl]; · iexact Hl
    isplitl [Has Hat]
    · iapply Has
      isplitl [Hat]; · iexact Hat
      iexact Hre
    isplitl [Har]; · iexact Har
    isplitl [Hg]; · iexact Hg
    isplitl [Hh]; · iexact Hh
    isplitl [Hc]; · iexact Hc
    isplitl [Hr]; · iexact Hr
    isplitr; · iexact Hrel
    isplitr; · iexact Hrel'
    iapply Hslots
    ihave Hpay := (send_rest X c q _ hj) $$ Hpay
    iapply (to_full q c _ P)
    iapply (slot_rejoin q c _ P)
    isplitl [Hpay]; · iexact Hpay
    iexact Hsrc
  · iexact HY

theorem srcS_dstS (q : Rg) (i : ℕ) : srcS q i = dstS q (i + 2) := Fin.ext (by show (i + k0 q) % 3 = (i + 2 + k0 q + 1) % 3; omega)

/-- The slot from which copy `i` departed is the one in which copy `i + 2` lands. -/
theorem slotIs_leave (q : Rg) (c : Dev nD) (i : ℕ) (P : Says F q) : slotIs q c (srcS q i) fullShare P ⊢ slotAny (F := F) (q, c, cls (i + 2)) := by
  rw [srcS_dstS]; exact slotIs_any q c (i + 2) P

/-- A device gives credit `i`: it releases the slot from which copy `i` has departed. -/
theorem op_give (q : Rg) {σ : St4 F} {Y : sProp 𝕄} (i : ℕ) {d : Dev nD} (hd : d = backD q c) (hg : (σ.get q).g = i) (hi : i < 13)
    (hv : i ≤ (σ.get q).v ∧ (σ.get q).v ≤ i + 2) {P : Says F q} (hsl : (σ.get q).slot (srcS q i) = .full P)
    {α : Type} {Q : α → sProp 𝕄} {k : PUnit → Prog (TpuEff nD τ sig (Elt F) Λ₀ .tc) α}
    (hk : St X K ks c (σ.set q { (σ.get q).setSlot (srcS q i) .gone with g := i + 1 }) Y ⊢ WP c (k ⟨⟩) Q) :
    St X K ks c σ Y ⊢ WP c (.op (.semSignal (Dev.tc d : Thread nD τ) (credS q) 1) k) Q := by
  subst hd
  have hc3 : cnt ((i + 2) % 3) (σ.get q).v = (i + 2) / 3 := by unfold cnt; omega
  unfold St at hk ⊢
  rw [owed_set c σ q { (σ.get q).setSlot (srcS q i) .gone with g := i + 1 } (dueC q c i)
    (by rw [hg]; exact owedR_credit q c _ hi)]
  iintro ⟨#HI, ⟨%W, HO⟩, HS, HY⟩
  ihave HS := streams_split c σ q { (σ.get q).setSlot (srcS q i) .gone with g := i + 1 } $$ HS
  icases HS with ⟨HG, Hback⟩
  unfold Gh
  rw [hg]
  icases HG with ⟨Hs, Hf, Hl, Has, Har, Hg, Hh, Hc, Hr, #Hrel, #Hrel', Hslots⟩
  ihave Hslots := slots_split q c (σ.get q) (srcS q i) .gone $$ Hslots
  icases Hslots with ⟨Hsrc, Hslots⟩
  ihave Hsrc := (slot_full hsl) $$ Hsrc
  ihave Hsrc := (slotIs_leave q c i P) $$ Hsrc
  ihave Hg := (Entails.of_eq (toGive_take q c hi)) $$ Hg
  icases Hg with ⟨Hd, Hg⟩
  ihave #Hra := (atRecv_reached q c hc3) $$ Har
  ihave Hr := (readers_move q c i) $$ Hr
  icases Hr with ⟨Hrd, Hr⟩
  ihave #HIsl := (Inv_slot X K ks (q, c, cls (i + 2))) $$ HI
  imod (slot_release (n := (i + 2) / 3) ES (Set.mem_univ _) (slotAny_false (q, c, cls (i + 2)))) $$ [Hrd Hsrc] with ⟨Hrd, #Hrel3⟩
  · isplitr; · iexact HIsl
    isplitl [Hrd]; · iexact Hrd
    iexact Hsrc
  ihave #HR := (show iprop((released ES (q, c, cls (i + 2)) ((i + 2) / 3 + 1) ∗ reached ER (recvCell q c (i + 2)) ((i + 2) / 3)) ∗ Rel q c (i + 2)) ⊢ (Rel q c (i + 3) : sProp 𝕄)
    from Entails.of_eq (Rel_succ q c (i + 2)).symm) $$ []
  · isplitr
    · isplitr; · iexact Hrel3
      iexact Hra
    · iexact Hrel
  ihave #HIc := (Inv_cred X K ks q (backD q c)) $$ HI
  icases HIc with ⟨#HIc, #Hrc⟩
  iapply (Rounds.wp_signal 𝒱₀ ER (Rd X) (c : Thread nD τ) none (r := 0) (d := i) (κ := K (credCell q (backD q c)))
    (show i ∈ (Rd X).duties (credCell q (backD q c)) 0 from by rw [duties_cred]; exact Finset.mem_range.mpr hi)
    (amount_cred X q (backD q c) 0 i) (lvC q i) (owed c (σ.set q { (σ.get q).setSlot (srcS q i) .gone with g := i + 1 })) rfl (W := W)) $$ [HO Hd]
  · isplitr; · iexact HIc
    isplitl [HO]; · iexact HO
    isplitl [Hd]; · iexact Hd
    isplitr
    · rw [show (Rd X).payload (((backD q c : Dev nD) : Thread nD τ), SemLoc.reg (credS q)) 0 i = credPay q (backD q c) i from payload_cred X q (backD q c) i]
      unfold credPay
      rw [dst_back]
      iexact HR
    iexact Hrc
  iintro HO
  iapply hk
  isplitr; · iexact HI
  isplitl [HO]; · iexists W; iexact HO
  isplitr [HY]
  · iapply Hback
    isplitl [Hs]; · iexact Hs
    isplitl [Hf]; · iexact Hf
    isplitl [Hl]; · iexact Hl
    isplitl [Has]; · iexact Has
    isplitl [Har]; · iexact Har
    isplitl [Hg]; · iexact Hg
    isplitl [Hh]; · iexact Hh
    isplitl [Hc]; · iexact Hc
    isplitl [Hr Hrd]
    · iapply Hr; iexact Hrd
    isplitr; · iexact HR
    isplitr; · iexact Hrel'
    iapply Hslots
    unfold slotSt
    iempintro
  · iexact HY

/-- A device waits for credit `i`: one unit more, and of what the units taken carry the furthest is at least the next landing's. -/
theorem op_have (q : Rg) {σ : St4 F} {Y : sProp 𝕄} (i : ℕ) (hh : (σ.get q).h = i) (hi : i < 13) (hab : Above σ (lvC q i))
    {α : Type} {Q : α → sProp 𝕄} {k : PUnit → Prog (TpuEff nD τ sig (Elt F) Λ₀ .tc) α}
    (hk : St X K ks c (σ.set q { σ.get q with h := i + 1 }) Y ⊢ WP c (k ⟨⟩) Q) :
    St X K ks c σ Y ⊢ WP c (.op (.semWait (credS q) 1) k) Q := by
  have ho := owed_same c σ q { σ.get q with h := i + 1 } rfl rfl
  unfold St at hk ⊢
  rw [← ho] at hk
  iintro ⟨#HI, ⟨%W, HO⟩, HS, HY⟩
  ihave HS := streams_split c σ q { σ.get q with h := i + 1 } $$ HS
  icases HS with ⟨HG, Hback⟩
  unfold Gh
  rw [hh]
  icases HG with ⟨Hs, Hf, Hl, Has, Har, Hg, Hh, Hc, Hr, #Hrel, #Hrel', Hslots⟩
  ihave Hh := (Entails.of_eq (toHave_take q c hi)) $$ Hh
  icases Hh with ⟨Hcr, Hh⟩
  ihave #HIc := (Inv_cred X K ks q c) $$ HI
  icases HIc with ⟨#HIc, -⟩
  unfold atCred
  icases Hc with ⟨%T, %hT, Hat, #HT⟩
  iapply (Rounds.wp_wait 𝒱₀ ER (Rd X) (c : Thread nD τ) none (κ := K (credCell q c)) (sm := .reg (credS q)) (k' := 1)
    (wpE_semWait_eq 𝒱₀ (c : Thread nD τ) none Set.univ) (Set.mem_univ _) (cr := Finsupp.single (lvC q i) 1)
    (O := owed c σ) (W := W) {(.reg (credS q), lvC q i)} (R := 0) (m := i) (T := T)
    (by rw [Util.total_single]) (image_single_subset _ _ _)) $$ [Hcr HO Hat]
  · isplitr; · iexact HIc
    isplitl [Hcr]; · iexact Hcr
    isplitl [HO]; · iexact HO
    isplitr; · iapply (@mayWait' F _ X K ks c σ (.reg (credS q)) (lvC q i) (by have := k0_le q; unfold lvC; omega) hab); iexact HI
    iexact Hat
  iintro %S ⟨%hS, HO, Hat, Hpay⟩
  have hcard : i + 1 ≤ S.card := by
    have h := hS.2.2
    rw [show ((c : Thread nD τ), SemLoc.reg (credS q)) = credCell q c from rfl, expect_cred, duties_cred,
      Finset.card_sdiff_of_subset (by have := hS.2.1; rwa [show ((c : Thread nD τ), SemLoc.reg (credS q)) = credCell q c from rfl, duties_cred] at this), Finset.card_range] at h
    omega
  have hsub : S ⊆ Finset.range 13 := by
    have := hS.2.1; rwa [show ((c : Thread nD τ), SemLoc.reg (credS q)) = credCell q c from rfl, duties_cred] at this
  obtain ⟨d, hdS, hdi⟩ : ∃ d ∈ S, i ≤ d := by
    by_contra hn
    have : S ⊆ Finset.range i := fun d hd => Finset.mem_range.mpr (by by_contra h; exact hn ⟨d, hd, by omega⟩)
    have := Finset.card_le_card this
    rw [Finset.card_range] at this; omega
  have hpq : bigSep (S \ T) (fun d => (Rd X).payload ((c : Thread nD τ), SemLoc.reg (credS q)) 0 d) = bigSep (S \ T) fun d => Rel q (dstD q c) (d + 3) :=
    bigSep_congr fun d _ => payload_cred X q c d
  ihave #Hpay := (Entails.of_eq hpq) $$ Hpay
  have hST : iprop((bigSep T fun d => Rel (F := F) q (dstD q c) (d + 3)) ∗ bigSep (S \ T) fun d => Rel q (dstD q c) (d + 3)) ⊢ bigSep S fun d => Rel (F := F) q (dstD q c) (d + 3) := by
    refine Entails.of_eq ?_
    rw [← Finset.union_sdiff_of_subset hS.1, bigSep_union (Finset.disjoint_sdiff), Finset.union_sdiff_of_subset hS.1]; rfl
  ihave #HSall := hST $$ []
  · isplitr; · iexact HT
    iexact Hpay
  have hd1 : (bigSep S fun d => Rel (F := F) q (dstD q c) (d + 3)) ⊢ Rel q (dstD q c) (i + 1 + 2) :=
    BI.Entails.trans (bigSep_elim (Φ := fun d => Rel (F := F) q (dstD q c) (d + 3)) hdS) (Rel_mono q (dstD q c) (by omega))
  ihave #Hnew := hd1 $$ HSall
  iapply hk
  isplitr; · iexact HI
  isplitl [HO]; · iexists _; iexact HO
  isplitr [HY]
  · iapply Hback
    isplitl [Hs]; · iexact Hs
    isplitl [Hf]; · iexact Hf
    isplitl [Hl]; · iexact Hl
    isplitl [Has]; · iexact Has
    isplitl [Har]; · iexact Har
    isplitl [Hg]; · iexact Hg
    isplitl [Hh]; · iexact Hh
    isplitl [Hat]
    · iexists S
      isplitr; · ipureintro; exact ⟨hsub, hcard⟩
      isplitl [Hat]; · iexact Hat
      iexact HSall
    isplitl [Hr]; · iexact Hr
    isplitr; · iexact Hrel
    isplitr; · iexact Hnew
    iexact Hslots
  · iexact HY

end

end Cert.MoE
-- ==== Proof.Contents.lean ====
/-
What the messages hold: the packet each device makes of its own rows, a device's contribution to
a packet that reaches it, and the partial sums as they travel.
-/
module

public import proofs.«01_k».proof.Proof.Ops

@[expose] public section

noncomputable section

namespace Cert.MoE

open Cert.KernelIdeal Cert.KernelIdeal.Gen
open Idealize.ShloMosaic Idealize.ShloMosaic.TcCoe

variable {F : FTy → Type} [FloatOps F]

/-- What each device is given: its rows of `x`, the router's weights, its rows' experts, its own experts' weights and the
    shared expert's weights. -/
structure In (F : FTy → Type) where
  x : Dev nD → Vec F S512x256 .f32
  w : Dev nD → Vec F S256x64 .f32
  r : Dev nD → Vec F S512x1 .i32
  e : Dev nD → Vec F S4x256x512 .f32
  s : Dev nD → Vec F S256x512 .f32

variable (I : In F)

/-- The position of a device on the ring as the kernel computes it. -/
def pos (d : Dev nD) : BitVec 32 := Scalar.remsi (Scalar.divsi (Dev.word d) 1#32) 16#32

/-- The rows a packet carries, scaled: the first half of a device's rows goes one way round, the second half the other. -/
def px (q : Rg) (d : Dev nD) : Vec F S1x256x256 .bf16 :=
  match q with
  | .acw | .bcw => k0_pay7 (k0_pay1 (I.x d)) (k0_pay2 (I.x d) (I.w d)) (k0_pay4 (I.r d))
  | .accw | .bccw => k0_pay9 (k0_pay1 (I.x d)) (k0_pay2 (I.x d) (I.w d)) (k0_pay4 (I.r d))

/-- The part of a packet that holds the experts, as it is stored. -/
def prw (q : Rg) (d : Dev nD) : Vec F S1x256x128 .bf16 :=
  match q with
  | .acw | .bcw => k0_pay8 (F := F) (k0_pay3 (F := F) (I.r d))
  | .accw | .bccw => k0_pay10 (F := F) (k0_pay3 (F := F) (I.r d))

set_option backward.proofsInPublic true in
/-- The first column of the experts' part; and where the two parts lie in a slot. -/
def embC (y : S1x256x1.Idx) : S1x256x128.Idx := (Rect.unit (s := S1x256x128) ![0, 0, 0] S1x256x1.size (by decide)).emb y
set_option backward.proofsInPublic true in
def embX (y : S1x256x256.Idx) : S1x256x384.Idx := (Rect.unit (s := S1x256x384) ![0, 0, 0] S1x256x256.size (by decide)).emb y
set_option backward.proofsInPublic true in
def embW (y : S1x256x128.Idx) : S1x256x384.Idx := (Rect.unit (s := S1x256x384) ![0, 0, 256] S1x256x128.size (by decide)).emb y
set_option backward.proofsInPublic true in
def embR (y : S1x256x1.Idx) : S1x256x384.Idx := (Rect.unit (s := S1x256x384) ![0, 0, 256] S1x256x1.size (by decide)).emb y

/-- The experts of a packet's rows: one number to a row. -/
def pr (q : Rg) (d : Dev nD) : Vec F S1x256x1 .bf16 := fun y => prw I q d (embC y)

/-- Device `d`'s contribution to the packet of device `o`. -/
def Cc (q : Rg) (d o : Dev nD) : FVec F S256x512 .f32 :=
  k0_pay41 (k0_pay11 (I.e d)) (k0_pay12 (F := F) (pos d)) (k0_pay39 (px I q o)) (k0_pay40 (pr I q o))

/-- The device whose packet copy `j` from `c` carries. -/
def org (q : Rg) (c : Dev nD) : ℕ → Dev nD
  | 0 => c
  | j + 1 => org q (backD q c) j

/-- The partial sum that copy `j` from `c` carries. -/
def Bv (q : Rg) (c : Dev nD) : ℕ → Vec F S1x256x512 .bf16
  | 0 => k0_pay36 (Cc I q c (org q (backD q c) 0))
  | j + 1 => k0_pay47 (Cc I q c (org q (backD q c) (j + 1))) (Bv q (backD q c) j)

/-- A slot holding a packet. -/
def isPkt (a : Vec F S1x256x256 .bf16) (b : Vec F S1x256x1 .bf16) (U : S1x256x384.Idx → Elt F .bf16) : Prop :=
  (∀ y, U (embX y) = a y) ∧ ∀ y, U (embR y) = b y

/-- What copy `j` of stream `q` from device `c` carries. -/
def XX (q : Rg) (c : Dev nD) (j : ℕ) : Says F q :=
  match q with
  | .acw => isPkt (px I .acw (org .acw c j)) (pr I .acw (org .acw c j))
  | .accw => isPkt (px I .accw (org .accw c j)) (pr I .accw (org .accw c j))
  | .bcw => fun U => U = Bv I .bcw c j
  | .bccw => fun U => U = Bv I .bccw c j

/-- A device's own rows: the shared expert's values, and its own experts' contribution. -/
def homeCw (c : Dev nD) : FVec F S256x512 .f32 :=
  addf (k0_pay14 (k0_pay1 (I.x c)) (I.s c)) (Cc I .acw c c)
def homeCcw (c : Dev nD) : FVec F S256x512 .f32 :=
  addf (k0_pay20 (k0_pay13 (k0_pay1 (I.x c)) (I.s c))) (Cc I .accw c c)

/-- The two halves of a device's result. -/
def outCw (c : Dev nD) : FVec F S256x512 .f32 := k0_pay208 (homeCw I c) (Bv I .bcw (prv c) 14)
def outCcw (c : Dev nD) : FVec F S256x512 .f32 := k0_pay209 (homeCcw I c) (Bv I .bccw (nxt c) 14)

end Cert.MoE
-- ==== Proof.Steps.lean ====
/-
The kernel's loads and stores as steps of the state: each reads or replaces what one slot, or
one staged block, holds.
-/
module

public import proofs.«01_k».proof.Proof.Contents

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! A slot's share in terms of the buffer's own slice. -/
theorem slotIs_acw (c : Dev nD) (i : Fin 3) (sh : PosShare TreeShare) (P : Says F .acw) :
    slotIs .acw c i sh P = iprop(∃ f : Buf (Elt F) ((slotA (Memref.whole cc0_scratch0) i).view.loc (c : Thread nD τ)), ⌜P fun y : S1x256x384.Idx => (slotA (Memref.whole cc0_scratch0) i).view.read (Elt F) f (eA.symm y)⌝
      ∗ ((slotA (Memref.whole cc0_scratch0) i).view.loc (c : Thread nD τ) ↦[(slotA (Memref.whole cc0_scratch0) i).view.set]{sh} f)) := rfl
theorem slotIs_accw (c : Dev nD) (i : Fin 3) (sh : PosShare TreeShare) (P : Says F .accw) :
    slotIs .accw c i sh P = iprop(∃ f : Buf (Elt F) ((slotA (Memref.whole cc0_scratch2) i).view.loc (c : Thread nD τ)), ⌜P fun y : S1x256x384.Idx => (slotA (Memref.whole cc0_scratch2) i).view.read (Elt F) f (eA.symm y)⌝
      ∗ ((slotA (Memref.whole cc0_scratch2) i).view.loc (c : Thread nD τ) ↦[(slotA (Memref.whole cc0_scratch2) i).view.set]{sh} f)) := rfl
theorem slotIs_bcw (c : Dev nD) (i : Fin 3) (sh : PosShare TreeShare) (P : Says F .bcw) :
    slotIs .bcw c i sh P = iprop(∃ f : Buf (Elt F) ((slotB (Memref.whole cc0_scratch1) i).view.loc (c : Thread nD τ)), ⌜P fun y : S1x256x512.Idx => (slotB (Memref.whole cc0_scratch1) i).view.read (Elt F) f (eB.symm y)⌝
      ∗ ((slotB (Memref.whole cc0_scratch1) i).view.loc (c : Thread nD τ) ↦[(slotB (Memref.whole cc0_scratch1) i).view.set]{sh} f)) := rfl
theorem slotIs_bccw (c : Dev nD) (i : Fin 3) (sh : PosShare TreeShare) (P : Says F .bccw) :
    slotIs .bccw c i sh P = iprop(∃ f : Buf (Elt F) ((slotB (Memref.whole cc0_scratch3) i).view.loc (c : Thread nD τ)), ⌜P fun y : S1x256x512.Idx => (slotB (Memref.whole cc0_scratch3) i).view.read (Elt F) f (eB.symm y)⌝
      ∗ ((slotB (Memref.whole cc0_scratch3) i).view.loc (c : Thread nD τ) ↦[(slotB (Memref.whole cc0_scratch3) i).view.set]{sh} f)) := rfl

section
variable (X : (q : Rg) → Dev nD → ℕ → Says F q) (K : GSem nD τ sig → ℕ) (ks : Key → ℕ) (c : Dev nD)

/-- One slot taken out of the state, to be put back changed. -/
theorem St_slot (q : Rg) (σ : St4 F) (Y : sProp 𝕄) (i : Fin 3) (x : SS F q) :
    St X K ks c σ Y ⊢ iprop(slotSt q c i ((σ.get q).slot i) ∗ (slotSt q c i x -∗ St X K ks c (σ.set q ((σ.get q).setSlot i x)) Y)) := by
  unfold St
  rw [owed_same c σ q ((σ.get q).setSlot i x) rfl rfl]
  iintro ⟨#HI, HO, HS, HY⟩
  ihave HS := streams_split c σ q ((σ.get q).setSlot i x) $$ HS
  icases HS with ⟨HG, Hback⟩
  unfold Gh
  icases HG with ⟨Hs, Hf, Hl, Has, Har, Hg, Hh, Hc, Hr, #Hrel, #Hrel', Hslots⟩
  ihave Hslots := slots_split q c (σ.get q) i x $$ Hslots
  icases Hslots with ⟨Hslot, Hsb⟩
  isplitl [Hslot]; · iexact Hslot
  iintro Hx
  isplitr; · iexact HI
  isplitl [HO]; · iexact HO
  isplitr [HY]
  · iapply Hback
    isplitl [Hs]; · iexact Hs
    isplitl [Hf]; · iexact Hf
    isplitl [Hl]; · iexact Hl
    isplitl [Has]; · iexact Has
    isplitl [Har]; · iexact Har
    isplitl [Hg]; · iexact Hg
    isplitl [Hh]; · iexact Hh
    isplitl [Hc]; · iexact Hc
    isplitl [Hr]; · iexact Hr
    isplitr; · iexact Hrel
    isplitr; · iexact Hrel'
    iapply Hsb; iexact Hx
  · iexact HY

theorem set_same (q : Rg) (σ : St4 F) (i : Fin 3) : σ.set q ((σ.get q).setSlot i ((σ.get q).slot i)) = σ := by
  cases q <;> fin_cases i <;> rfl

/-- What lies beside the streams may be exchanged. -/
theorem St_beside {σ : St4 F} {Y Y' : sProp 𝕄} (h : Y ⊢ Y') : St X K ks c σ Y ⊢ St X K ks c σ Y' := by
  unfold St
  iintro ⟨HI, HO, HS, HY⟩
  isplitl [HI]; · iexact HI
  isplitl [HO]; · iexact HO
  isplitl [HS]; · iexact HS
  iapply h; iexact HY

/-- A share of a slot, whichever it is. -/
theorem slot_share {q : Rg} {i : Fin 3} {x : SS F q} {P : Says F q} (h : x = .full P ∨ x = .half P) :
    ∃ sh, slotSt q c i x = slotIs q c i sh P := by
  rcases h with rfl | rfl
  · exact ⟨_, rfl⟩
  · exact ⟨_, rfl⟩

/-- A load of a part of a packet's slot reads what is known of that part. -/
theorem ld_acw {σ : St4 F} {Y : sProp 𝕄} (i : Fin 3) {P : Says F .acw} (hsl : (σ.get .acw).slot i = .full P ∨ (σ.get .acw).slot i = .half P)
    {r : Rect S3x256x384} (sub : r.shape.Idx → S1x256x384.Idx) (hr : ∀ y, r.emb y = (rectA i).emb (sub y)) {a : r.shape.Idx → Elt F .bf16}
    (ha : ∀ U, P U → ∀ y, U (sub y) = a y) {hl : (Memref.whole cc0_scratch0 : Memref sig .tc .vmem S3x256x384 .bf16).view.LoadsAt r.toLoadRect}
    {α : Type} {Q : α → sProp 𝕄} {k : (r.shape.Idx → Elt F .bf16) → Prog (TpuEff nD τ sig (Elt F) Λ₀ .tc) α}
    (hk : St X K ks c σ Y ⊢ WP c (k a) Q) :
    St X K ks c σ Y ⊢ WP c (.op (.load (Memref.whole cc0_scratch0 : Memref sig .tc .vmem S3x256x384 .bf16) r.toLoadRect hl) k) Q := by
  refine (St_slot X K ks c .acw σ Y i ((σ.get .acw).slot i)).trans ?_
  rw [set_same]
  obtain ⟨sh, hsh⟩ := slot_share (F := F) c hsl (i := i)
  rw [hsh]
  simp only [slotIs_acw]
  iintro ⟨⟨%f, %hf, H⟩, Hback⟩
  have hk' : St X K ks c σ Y ⊢ WP c (k fun y => (slotA (Memref.whole cc0_scratch0) i).view.read (Elt F) f (eA.symm (sub y))) Q := by
    rw [show (fun y => (slotA (Memref.whole cc0_scratch0) i).view.read (Elt F) f (eA.symm (sub y))) = a from funext fun y => ha _ hf y]; exact hk
  iapply (load_partA (F := F) c (Memref.whole cc0_scratch0) i sh f r sub hr (hl := hl) (k := k)) $$ H
  iintro H
  iapply hk'
  iapply Hback
  iexists f
  isplitr; · ipureintro; exact hf
  iexact H

/-- A load of a part of a packet's slot whose value is not used. -/
theorem ldx_acw {σ : St4 F} {Y : sProp 𝕄} (i : Fin 3) {P : Says F .acw} (hsl : (σ.get .acw).slot i = .full P ∨ (σ.get .acw).slot i = .half P)
    {r : Rect S3x256x384} (sub : r.shape.Idx → S1x256x384.Idx) (hr : ∀ y, r.emb y = (rectA i).emb (sub y))
    {hl : (Memref.whole cc0_scratch0 : Memref sig .tc .vmem S3x256x384 .bf16).view.LoadsAt r.toLoadRect}
    {α : Type} {Q : α → sProp 𝕄} {k : (r.shape.Idx → Elt F .bf16) → Prog (TpuEff nD τ sig (Elt F) Λ₀ .tc) α}
    (hk : ∀ a, St X K ks c σ Y ⊢ WP c (k a) Q) :
    St X K ks c σ Y ⊢ WP c (.op (.load (Memref.whole cc0_scratch0 : Memref sig .tc .vmem S3x256x384 .bf16) r.toLoadRect hl) k) Q := by
  refine (St_slot X K ks c .acw σ Y i ((σ.get .acw).slot i)).trans ?_
  rw [set_same]
  obtain ⟨sh, hsh⟩ := slot_share (F := F) c hsl (i := i)
  rw [hsh]
  simp only [slotIs_acw]
  iintro ⟨⟨%f, %hf, H⟩, Hback⟩
  iapply (load_partA (F := F) c (Memref.whole cc0_scratch0) i sh f r sub hr (hl := hl) (k := k)) $$ H
  iintro H
  iapply (hk _)
  iapply Hback
  iexists f
  isplitr; · ipureintro; exact hf
  iexact H

/-- A store of a part of a packet's slot changes that part and no other. -/
theorem st_acw {σ : St4 F} {Y : sProp 𝕄} (i : Fin 3) {P : Says F .acw} (hsl : (σ.get .acw).slot i = .full P)
    {r : Rect S3x256x384} (sub : r.shape.Idx → S1x256x384.Idx) (hr : ∀ y, r.emb y = (rectA i).emb (sub y)) {w : r.shape.Idx → Elt F .bf16}
    (P' : Says F .acw) (hP : ∀ U U', P U → (∀ y, U' (sub y) = w y) → (∀ z, (∀ y, sub y ≠ z) → U' z = U z) → P' U')
    {hx : ((Memref.whole cc0_scratch0 : Memref sig .tc .vmem S3x256x384 .bf16).access r).Stores Finset.univ} {hm : Finset.univ = Finset.univ ∨ ∀ a, r.stride a = 1}
    {α : Type} {Q : α → sProp 𝕄} {k : PUnit → Prog (TpuEff nD τ sig (Elt F) Λ₀ .tc) α}
    (hk : St X K ks c (σ.set .acw ((σ.get .acw).setSlot i (.full P'))) Y ⊢ WP c (k ⟨⟩) Q) :
    St X K ks c σ Y ⊢ WP c (.op (.store (Memref.whole cc0_scratch0 : Memref sig .tc .vmem S3x256x384 .bf16) r w Finset.univ hx hm) k) Q := by
  refine (St_slot X K ks c .acw σ Y i (.full P')).trans ?_
  rw [hsl]
  show iprop(slotIs .acw c i fullShare P ∗ (slotIs .acw c i fullShare P' -∗ _)) ⊢ _
  simp only [slotIs_acw]
  iintro ⟨⟨%f, %hf, H⟩, Hback⟩
  iapply (store_partA (F := F) c (Memref.whole cc0_scratch0) i f r sub hr w (hx := hx) (hm := hm) (k := k)) $$ H
  iintro %g ⟨%hg, H⟩
  iapply hk
  iapply Hback
  iexists g
  isplitr; · ipureintro; exact hP _ _ hf hg.1 hg.2
  iexact H

/-- A load of a part of a packet's slot reads what is known of that part. -/
theorem ld_accw {σ : St4 F} {Y : sProp 𝕄} (i : Fin 3) {P : Says F .accw} (hsl : (σ.get .accw).slot i = .full P ∨ (σ.get .accw).slot i = .half P)
    {r : Rect S3x256x384} (sub : r.shape.Idx → S1x256x384.Idx) (hr : ∀ y, r.emb y = (rectA i).emb (sub y)) {a : r.shape.Idx → Elt F .bf16}
    (ha : ∀ U, P U → ∀ y, U (sub y) = a y) {hl : (Memref.whole cc0_scratch2 : Memref sig .tc .vmem S3x256x384 .bf16).view.LoadsAt r.toLoadRect}
    {α : Type} {Q : α → sProp 𝕄} {k : (r.shape.Idx → Elt F .bf16) → Prog (TpuEff nD τ sig (Elt F) Λ₀ .tc) α}
    (hk : St X K ks c σ Y ⊢ WP c (k a) Q) :
    St X K ks c σ Y ⊢ WP c (.op (.load (Memref.whole cc0_scratch2 : Memref sig .tc .vmem S3x256x384 .bf16) r.toLoadRect hl) k) Q := by
  refine (St_slot X K ks c .accw σ Y i ((σ.get .accw).slot i)).trans ?_
  rw [set_same]
  obtain ⟨sh, hsh⟩ := slot_share (F := F) c hsl (i := i)
  rw [hsh]
  simp only [slotIs_accw]
  iintro ⟨⟨%f, %hf, H⟩, Hback⟩
  have hk' : St X K ks c σ Y ⊢ WP c (k fun y => (slotA (Memref.whole cc0_scratch2) i).view.read (Elt F) f (eA.symm (sub y))) Q := by
    rw [show (fun y => (slotA (Memref.whole cc0_scratch2) i).view.read (Elt F) f (eA.symm (sub y))) = a from funext fun y => ha _ hf y]; exact hk
  iapply (load_partA (F := F) c (Memref.whole cc0_scratch2) i sh f r sub hr (hl := hl) (k := k)) $$ H
  iintro H
  iapply hk'
  iapply Hback
  iexists f
  isplitr; · ipureintro; exact hf
  iexact H

/-- A load of a part of a packet's slot whose value is not used. -/
theorem ldx_accw {σ : St4 F} {Y : sProp 𝕄} (i : Fin 3) {P : Says F .accw} (hsl : (σ.get .accw).slot i = .full P ∨ (σ.get .accw).slot i = .half P)
    {r : Rect S3x256x384} (sub : r.shape.Idx → S1x256x384.Idx) (hr : ∀ y, r.emb y = (rectA i).emb (sub y))
    {hl : (Memref.whole cc0_scratch2 : Memref sig .tc .vmem S3x256x384 .bf16).view.LoadsAt r.toLoadRect}
    {α : Type} {Q : α → sProp 𝕄} {k : (r.shape.Idx → Elt F .bf16) → Prog (TpuEff nD τ sig (Elt F) Λ₀ .tc) α}
    (hk : ∀ a, St X K ks c σ Y ⊢ WP c (k a) Q) :
    St X K ks c σ Y ⊢ WP c (.op (.load (Memref.whole cc0_scratch2 : Memref sig .tc .vmem S3x256x384 .bf16) r.toLoadRect hl) k) Q := by
  refine (St_slot X K ks c .accw σ Y i ((σ.get .accw).slot i)).trans ?_
  rw [set_same]
  obtain ⟨sh, hsh⟩ := slot_share (F := F) c hsl (i := i)
  rw [hsh]
  simp only [slotIs_accw]
  iintro ⟨⟨%f, %hf, H⟩, Hback⟩
  iapply (load_partA (F := F) c (Memref.whole cc0_scratch2) i sh f r sub hr (hl := hl) (k := k)) $$ H
  iintro H
  iapply (hk _)
  iapply Hback
  iexists f
  isplitr; · ipureintro; exact hf
  iexact H

/-- A store of a part of a packet's slot changes that part and no other. -/
theorem st_accw {σ : St4 F} {Y : sProp 𝕄} (i : Fin 3) {P : Says F .accw} (hsl : (σ.get .accw).slot i = .full P)
    {r : Rect S3x256x384} (sub : r.shape.Idx → S1x256x384.Idx) (hr : ∀ y, r.emb y = (rectA i).emb (sub y)) {w : r.shape.Idx → Elt F .bf16}
    (P' : Says F .accw) (hP : ∀ U U', P U → (∀ y, U' (sub y) = w y) → (∀ z, (∀ y, sub y ≠ z) → U' z = U z) → P' U')
    {hx : ((Memref.whole cc0_scratch2 : Memref sig .tc .vmem S3x256x384 .bf16).access r).Stores Finset.univ} {hm : Finset.univ = Finset.univ ∨ ∀ a, r.stride a = 1}
    {α : Type} {Q : α → sProp 𝕄} {k : PUnit → Prog (TpuEff nD τ sig (Elt F) Λ₀ .tc) α}
    (hk : St X K ks c (σ.set .accw ((σ.get .accw).setSlot i (.full P'))) Y ⊢ WP c (k ⟨⟩) Q) :
    St X K ks c σ Y ⊢ WP c (.op (.store (Memref.whole cc0_scratch2 : Memref sig .tc .vmem S3x256x384 .bf16) r w Finset.univ hx hm) k) Q := by
  refine (St_slot X K ks c .accw σ Y i (.full P')).trans ?_
  rw [hsl]
  show iprop(slotIs .accw c i fullShare P ∗ (slotIs .accw c i fullShare P' -∗ _)) ⊢ _
  simp only [slotIs_accw]
  iintro ⟨⟨%f, %hf, H⟩, Hback⟩
  iapply (store_partA (F := F) c (Memref.whole cc0_scratch2) i f r sub hr w (hx := hx) (hm := hm) (k := k)) $$ H
  iintro %g ⟨%hg, H⟩
  iapply hk
  iapply Hback
  iexists g
  isplitr; · ipureintro; exact hP _ _ hf hg.1 hg.2
  iexact H

/-- A load of a partial sum's slot reads what it is known to hold. -/
theorem ld_bcw {σ : St4 F} {Y : sProp 𝕄} (i : Fin 3) {P : Says F .bcw} (hsl : (σ.get .bcw).slot i = .full P)
    {a : Vec F S1x256x512 .bf16} (ha : ∀ U, P U → U = a)
    {hl : (Memref.whole cc0_scratch1 : Memref sig .tc .vmem S3x256x512 .bf16).view.LoadsAt (rectB i).toLoadRect}
    {α : Type} {Q : α → sProp 𝕄} {k : ((rectB i).shape.Idx → Elt F .bf16) → Prog (TpuEff nD τ sig (Elt F) Λ₀ .tc) α}
    (hk : St X K ks c σ Y ⊢ WP c (k a) Q) :
    St X K ks c σ Y ⊢ WP c (.op (.load (Memref.whole cc0_scratch1 : Memref sig .tc .vmem S3x256x512 .bf16) (rectB i).toLoadRect hl) k) Q := by
  refine (St_slot X K ks c .bcw σ Y i ((σ.get .bcw).slot i)).trans ?_
  rw [set_same, hsl]
  show iprop(slotIs .bcw c i fullShare P ∗ (slotIs .bcw c i fullShare P -∗ _)) ⊢ _
  simp only [slotIs_bcw]
  iintro ⟨⟨%f, %hf, H⟩, Hback⟩
  have hk' : St X K ks c σ Y ⊢ WP c (k fun y : S1x256x512.Idx => (slotB (Memref.whole cc0_scratch1) i).view.read (Elt F) f (eB.symm y)) Q := by
    rw [show (fun y : S1x256x512.Idx => (slotB (Memref.whole cc0_scratch1) i).view.read (Elt F) f (eB.symm y)) = a from ha _ hf]; exact hk
  iapply (load_slotB (F := F) c (Memref.whole cc0_scratch1) i fullShare f (hl := hl) (k := k)) $$ H
  iintro H
  iapply hk'
  iapply Hback
  iexists f
  isplitr; · ipureintro; exact hf
  iexact H

/-- A load of a partial sum's slot whose value is not used. -/
theorem ldx_bcw {σ : St4 F} {Y : sProp 𝕄} (i : Fin 3) {P : Says F .bcw} (hsl : (σ.get .bcw).slot i = .full P)
    {hl : (Memref.whole cc0_scratch1 : Memref sig .tc .vmem S3x256x512 .bf16).view.LoadsAt (rectB i).toLoadRect}
    {α : Type} {Q : α → sProp 𝕄} {k : ((rectB i).shape.Idx → Elt F .bf16) → Prog (TpuEff nD τ sig (Elt F) Λ₀ .tc) α}
    (hk : ∀ a, St X K ks c σ Y ⊢ WP c (k a) Q) :
    St X K ks c σ Y ⊢ WP c (.op (.load (Memref.whole cc0_scratch1 : Memref sig .tc .vmem S3x256x512 .bf16) (rectB i).toLoadRect hl) k) Q := by
  refine (St_slot X K ks c .bcw σ Y i ((σ.get .bcw).slot i)).trans ?_
  rw [set_same, hsl]
  show iprop(slotIs .bcw c i fullShare P ∗ (slotIs .bcw c i fullShare P -∗ _)) ⊢ _
  simp only [slotIs_bcw]
  iintro ⟨⟨%f, %hf, H⟩, Hback⟩
  iapply (load_slotB (F := F) c (Memref.whole cc0_scratch1) i fullShare f (hl := hl) (k := k)) $$ H
  iintro H
  iapply (hk _)
  iapply Hback
  iexists f
  isplitr; · ipureintro; exact hf
  iexact H

/-- A store of a partial sum's slot. -/
theorem st_bcw {σ : St4 F} {Y : sProp 𝕄} (i : Fin 3) {P : Says F .bcw} (hsl : (σ.get .bcw).slot i = .full P)
    {w : (rectB i).shape.Idx → Elt F .bf16} (P' : Says F .bcw) (hP : P' w)
    {hx : ((Memref.whole cc0_scratch1 : Memref sig .tc .vmem S3x256x512 .bf16).access (rectB i)).Stores Finset.univ} {hm : Finset.univ = Finset.univ ∨ ∀ a, (rectB i).stride a = 1}
    {α : Type} {Q : α → sProp 𝕄} {k : PUnit → Prog (TpuEff nD τ sig (Elt F) Λ₀ .tc) α}
    (hk : St X K ks c (σ.set .bcw ((σ.get .bcw).setSlot i (.full P'))) Y ⊢ WP c (k ⟨⟩) Q) :
    St X K ks c σ Y ⊢ WP c (.op (.store (Memref.whole cc0_scratch1 : Memref sig .tc .vmem S3x256x512 .bf16) (rectB i) w Finset.univ hx hm) k) Q := by
  refine (St_slot X K ks c .bcw σ Y i (.full P')).trans ?_
  rw [hsl]
  show iprop(slotIs .bcw c i fullShare P ∗ (slotIs .bcw c i fullShare P' -∗ _)) ⊢ _
  simp only [slotIs_bcw]
  iintro ⟨⟨%f, %hf, H⟩, Hback⟩
  iapply (store_slotB (F := F) c (Memref.whole cc0_scratch1) i f w (hx := hx) (hm := hm) (k := k)) $$ H
  iintro %g ⟨%hg, H⟩
  iapply hk
  iapply Hback
  iexists g
  isplitr
  · ipureintro
    rw [hg]; exact hP
  iexact H

/-- A load of a partial sum's slot reads what it is known to hold. -/
theorem ld_bccw {σ : St4 F} {Y : sProp 𝕄} (i : Fin 3) {P : Says F .bccw} (hsl : (σ.get .bccw).slot i = .full P)
    {a : Vec F S1x256x512 .bf16} (ha : ∀ U, P U → U = a)
    {hl : (Memref.whole cc0_scratch3 : Memref sig .tc .vmem S3x256x512 .bf16).view.LoadsAt (rectB i).toLoadRect}
    {α : Type} {Q : α → sProp 𝕄} {k : ((rectB i).shape.Idx → Elt F .bf16) → Prog (TpuEff nD τ sig (Elt F) Λ₀ .tc) α}
    (hk : St X K ks c σ Y ⊢ WP c (k a) Q) :
    St X K ks c σ Y ⊢ WP c (.op (.load (Memref.whole cc0_scratch3 : Memref sig .tc .vmem S3x256x512 .bf16) (rectB i).toLoadRect hl) k) Q := by
  refine (St_slot X K ks c .bccw σ Y i ((σ.get .bccw).slot i)).trans ?_
  rw [set_same, hsl]
  show iprop(slotIs .bccw c i fullShare P ∗ (slotIs .bccw c i fullShare P -∗ _)) ⊢ _
  simp only [slotIs_bccw]
  iintro ⟨⟨%f, %hf, H⟩, Hback⟩
  have hk' : St X K ks c σ Y ⊢ WP c (k fun y : S1x256x512.Idx => (slotB (Memref.whole cc0_scratch3) i).view.read (Elt F) f (eB.symm y)) Q := by
    rw [show (fun y : S1x256x512.Idx => (slotB (Memref.whole cc0_scratch3) i).view.read (Elt F) f (eB.symm y)) = a from ha _ hf]; exact hk
  iapply (load_slotB (F := F) c (Memref.whole cc0_scratch3) i fullShare f (hl := hl) (k := k)) $$ H
  iintro H
  iapply hk'
  iapply Hback
  iexists f
  isplitr; · ipureintro; exact hf
  iexact H

/-- A load of a partial sum's slot whose value is not used. -/
theorem ldx_bccw {σ : St4 F} {Y : sProp 𝕄} (i : Fin 3) {P : Says F .bccw} (hsl : (σ.get .bccw).slot i = .full P)
    {hl : (Memref.whole cc0_scratch3 : Memref sig .tc .vmem S3x256x512 .bf16).view.LoadsAt (rectB i).toLoadRect}
    {α : Type} {Q : α → sProp 𝕄} {k : ((rectB i).shape.Idx → Elt F .bf16) → Prog (TpuEff nD τ sig (Elt F) Λ₀ .tc) α}
    (hk : ∀ a, St X K ks c σ Y ⊢ WP c (k a) Q) :
    St X K ks c σ Y ⊢ WP c (.op (.load (Memref.whole cc0_scratch3 : Memref sig .tc .vmem S3x256x512 .bf16) (rectB i).toLoadRect hl) k) Q := by
  refine (St_slot X K ks c .bccw σ Y i ((σ.get .bccw).slot i)).trans ?_
  rw [set_same, hsl]
  show iprop(slotIs .bccw c i fullShare P ∗ (slotIs .bccw c i fullShare P -∗ _)) ⊢ _
  simp only [slotIs_bccw]
  iintro ⟨⟨%f, %hf, H⟩, Hback⟩
  iapply (load_slotB (F := F) c (Memref.whole cc0_scratch3) i fullShare f (hl := hl) (k := k)) $$ H
  iintro H
  iapply (hk _)
  iapply Hback
  iexists f
  isplitr; · ipureintro; exact hf
  iexact H

/-- A store of a partial sum's slot. -/
theorem st_bccw {σ : St4 F} {Y : sProp 𝕄} (i : Fin 3) {P : Says F .bccw} (hsl : (σ.get .bccw).slot i = .full P)
    {w : (rectB i).shape.Idx → Elt F .bf16} (P' : Says F .bccw) (hP : P' w)
    {hx : ((Memref.whole cc0_scratch3 : Memref sig .tc .vmem S3x256x512 .bf16).access (rectB i)).Stores Finset.univ} {hm : Finset.univ = Finset.univ ∨ ∀ a, (rectB i).stride a = 1}
    {α : Type} {Q : α → sProp 𝕄} {k : PUnit → Prog (TpuEff nD τ sig (Elt F) Λ₀ .tc) α}
    (hk : St X K ks c (σ.set .bccw ((σ.get .bccw).setSlot i (.full P'))) Y ⊢ WP c (k ⟨⟩) Q) :
    St X K ks c σ Y ⊢ WP c (.op (.store (Memref.whole cc0_scratch3 : Memref sig .tc .vmem S3x256x512 .bf16) (rectB i) w Finset.univ hx hm) k) Q := by
  refine (St_slot X K ks c .bccw σ Y i (.full P')).trans ?_
  rw [hsl]
  show iprop(slotIs .bccw c i fullShare P ∗ (slotIs .bccw c i fullShare P' -∗ _)) ⊢ _
  simp only [slotIs_bccw]
  iintro ⟨⟨%f, %hf, H⟩, Hback⟩
  iapply (store_slotB (F := F) c (Memref.whole cc0_scratch3) i f w (hx := hx) (hm := hm) (k := k)) $$ H
  iintro %g ⟨%hg, H⟩
  iapply hk
  iapply Hback
  iexists g
  isplitr
  · ipureintro
    rw [hg]; exact hP
  iexact H

/-! ## Staged blocks -/

/-- A staged block holding `f`. -/
def stg (c : Dev nD) (b : Ref sig .tc) (f : b.ty.Contents (Elt F)) : sProp 𝕄 := ((c : Thread nD τ).loc b) ↦{fullShare} f

/-- A load of the whole of staged block 0. -/
theorem ld_stg0 {σ : St4 F} {Y : sProp 𝕄} (f : Vec F S512x256 .f32) (hY : Y ⊢ iprop(stg c cc0_stg0_0 f ∗ (stg c cc0_stg0_0 f -∗ Y)))
    {inb : ∀ a, (![0, 0] : Fin 2 → ℕ) a + S512x256.size a ≤ S512x256.size a}
    {hl : (Memref.whole cc0_stg0_0 : Memref sig .tc .vmem S512x256 .f32).view.LoadsAt (Rect.unit (s := S512x256) ![0, 0] S512x256.size inb).toLoadRect}
    {α : Type} {Q : α → sProp 𝕄} {k : Vec F S512x256 .f32 → Prog (TpuEff nD τ sig (Elt F) Λ₀ .tc) α}
    (hk : St X K ks c σ Y ⊢ WP c (k f) Q) :
    St X K ks c σ Y ⊢ WP c (.op (.load (Memref.whole cc0_stg0_0 : Memref sig .tc .vmem S512x256 .f32) (Rect.unit (s := S512x256) ![0, 0] S512x256.size inb).toLoadRect hl) k) Q := by
  have hv : (Memref.whole cc0_stg0_0 : Memref sig .tc .vmem S512x256 .f32).view.readAt (Elt F) (Rect.unit (s := S512x256) ![0, 0] S512x256.size inb).toLoadRect f = f :=
    Memref.readAt_unit_zero (Elt F) cc0_stg0_0 (funext fun a => by fin_cases a <;> rfl) inb f
  have hk' : St X K ks c σ Y ⊢ WP c (k ((Memref.whole cc0_stg0_0 : Memref sig .tc .vmem S512x256 .f32).view.readAt (Elt F) (Rect.unit (s := S512x256) ![0, 0] S512x256.size inb).toLoadRect f)) Q := by
    rw [hv]; exact hk
  unfold St at hk' ⊢
  iintro ⟨#HI, HO, HS, HY⟩
  ihave HY := hY $$ HY
  icases HY with ⟨H, Hb⟩
  unfold stg
  iapply (wp_load 𝒱₀ (c : Thread nD τ) none Set.univ (m := (Memref.whole cc0_stg0_0 : Memref sig .tc .vmem S512x256 .f32)) (r := (Rect.unit (s := S512x256) ![0, 0] S512x256.size inb).toLoadRect) (Finset.subset_univ _)) $$ H
  iintro H
  iapply hk'
  isplitr; · iexact HI
  isplitl [HO]; · iexact HO
  isplitl [HS]; · iexact HS
  iapply Hb; iexact H

/-- A load of the whole of staged block 1. -/
theorem ld_stg1 {σ : St4 F} {Y : sProp 𝕄} (f : Vec F S256x64 .f32) (hY : Y ⊢ iprop(stg c cc0_stg1_0 f ∗ (stg c cc0_stg1_0 f -∗ Y)))
    {inb : ∀ a, (![0, 0] : Fin 2 → ℕ) a + S256x64.size a ≤ S256x64.size a}
    {hl : (Memref.whole cc0_stg1_0 : Memref sig .tc .vmem S256x64 .f32).view.LoadsAt (Rect.unit (s := S256x64) ![0, 0] S256x64.size inb).toLoadRect}
    {α : Type} {Q : α → sProp 𝕄} {k : Vec F S256x64 .f32 → Prog (TpuEff nD τ sig (Elt F) Λ₀ .tc) α}
    (hk : St X K ks c σ Y ⊢ WP c (k f) Q) :
    St X K ks c σ Y ⊢ WP c (.op (.load (Memref.whole cc0_stg1_0 : Memref sig .tc .vmem S256x64 .f32) (Rect.unit (s := S256x64) ![0, 0] S256x64.size inb).toLoadRect hl) k) Q := by
  have hv : (Memref.whole cc0_stg1_0 : Memref sig .tc .vmem S256x64 .f32).view.readAt (Elt F) (Rect.unit (s := S256x64) ![0, 0] S256x64.size inb).toLoadRect f = f :=
    Memref.readAt_unit_zero (Elt F) cc0_stg1_0 (funext fun a => by fin_cases a <;> rfl) inb f
  have hk' : St X K ks c σ Y ⊢ WP c (k ((Memref.whole cc0_stg1_0 : Memref sig .tc .vmem S256x64 .f32).view.readAt (Elt F) (Rect.unit (s := S256x64) ![0, 0] S256x64.size inb).toLoadRect f)) Q := by
    rw [hv]; exact hk
  unfold St at hk' ⊢
  iintro ⟨#HI, HO, HS, HY⟩
  ihave HY := hY $$ HY
  icases HY with ⟨H, Hb⟩
  unfold stg
  iapply (wp_load 𝒱₀ (c : Thread nD τ) none Set.univ (m := (Memref.whole cc0_stg1_0 : Memref sig .tc .vmem S256x64 .f32)) (r := (Rect.unit (s := S256x64) ![0, 0] S256x64.size inb).toLoadRect) (Finset.subset_univ _)) $$ H
  iintro H
  iapply hk'
  isplitr; · iexact HI
  isplitl [HO]; · iexact HO
  isplitl [HS]; · iexact HS
  iapply Hb; iexact H

/-- A load of the whole of staged block 2. -/
theorem ld_stg2 {σ : St4 F} {Y : sProp 𝕄} (f : Vec F S512x1 .i32) (hY : Y ⊢ iprop(stg c cc0_stg2_0 f ∗ (stg c cc0_stg2_0 f -∗ Y)))
    {inb : ∀ a, (![0, 0] : Fin 2 → ℕ) a + S512x1.size a ≤ S512x1.size a}
    {hl : (Memref.whole cc0_stg2_0 : Memref sig .tc .vmem S512x1 .i32).view.LoadsAt (Rect.unit (s := S512x1) ![0, 0] S512x1.size inb).toLoadRect}
    {α : Type} {Q : α → sProp 𝕄} {k : Vec F S512x1 .i32 → Prog (TpuEff nD τ sig (Elt F) Λ₀ .tc) α}
    (hk : St X K ks c σ Y ⊢ WP c (k f) Q) :
    St X K ks c σ Y ⊢ WP c (.op (.load (Memref.whole cc0_stg2_0 : Memref sig .tc .vmem S512x1 .i32) (Rect.unit (s := S512x1) ![0, 0] S512x1.size inb).toLoadRect hl) k) Q := by
  have hv : (Memref.whole cc0_stg2_0 : Memref sig .tc .vmem S512x1 .i32).view.readAt (Elt F) (Rect.unit (s := S512x1) ![0, 0] S512x1.size inb).toLoadRect f = f :=
    Memref.readAt_unit_zero (Elt F) cc0_stg2_0 (funext fun a => by fin_cases a <;> rfl) inb f
  have hk' : St X K ks c σ Y ⊢ WP c (k ((Memref.whole cc0_stg2_0 : Memref sig .tc .vmem S512x1 .i32).view.readAt (Elt F) (Rect.unit (s := S512x1) ![0, 0] S512x1.size inb).toLoadRect f)) Q := by
    rw [hv]; exact hk
  unfold St at hk' ⊢
  iintro ⟨#HI, HO, HS, HY⟩
  ihave HY := hY $$ HY
  icases HY with ⟨H, Hb⟩
  unfold stg
  iapply (wp_load 𝒱₀ (c : Thread nD τ) none Set.univ (m := (Memref.whole cc0_stg2_0 : Memref sig .tc .vmem S512x1 .i32)) (r := (Rect.unit (s := S512x1) ![0, 0] S512x1.size inb).toLoadRect) (Finset.subset_univ _)) $$ H
  iintro H
  iapply hk'
  isplitr; · iexact HI
  isplitl [HO]; · iexact HO
  isplitl [HS]; · iexact HS
  iapply Hb; iexact H

/-- A load of the whole of staged block 3. -/
theorem ld_stg3 {σ : St4 F} {Y : sProp 𝕄} (f : Vec F S4x256x512 .f32) (hY : Y ⊢ iprop(stg c cc0_stg3_0 f ∗ (stg c cc0_stg3_0 f -∗ Y)))
    {inb : ∀ a, (![0, 0, 0] : Fin 3 → ℕ) a + S4x256x512.size a ≤ S4x256x512.size a}
    {hl : (Memref.whole cc0_stg3_0 : Memref sig .tc .vmem S4x256x512 .f32).view.LoadsAt (Rect.unit (s := S4x256x512) ![0, 0, 0] S4x256x512.size inb).toLoadRect}
    {α : Type} {Q : α → sProp 𝕄} {k : Vec F S4x256x512 .f32 → Prog (TpuEff nD τ sig (Elt F) Λ₀ .tc) α}
    (hk : St X K ks c σ Y ⊢ WP c (k f) Q) :
    St X K ks c σ Y ⊢ WP c (.op (.load (Memref.whole cc0_stg3_0 : Memref sig .tc .vmem S4x256x512 .f32) (Rect.unit (s := S4x256x512) ![0, 0, 0] S4x256x512.size inb).toLoadRect hl) k) Q := by
  have hv : (Memref.whole cc0_stg3_0 : Memref sig .tc .vmem S4x256x512 .f32).view.readAt (Elt F) (Rect.unit (s := S4x256x512) ![0, 0, 0] S4x256x512.size inb).toLoadRect f = f :=
    Memref.readAt_unit_zero (Elt F) cc0_stg3_0 (funext fun a => by fin_cases a <;> rfl) inb f
  have hk' : St X K ks c σ Y ⊢ WP c (k ((Memref.whole cc0_stg3_0 : Memref sig .tc .vmem S4x256x512 .f32).view.readAt (Elt F) (Rect.unit (s := S4x256x512) ![0, 0, 0] S4x256x512.size inb).toLoadRect f)) Q := by
    rw [hv]; exact hk
  unfold St at hk' ⊢
  iintro ⟨#HI, HO, HS, HY⟩
  ihave HY := hY $$ HY
  icases HY with ⟨H, Hb⟩
  unfold stg
  iapply (wp_load 𝒱₀ (c : Thread nD τ) none Set.univ (m := (Memref.whole cc0_stg3_0 : Memref sig .tc .vmem S4x256x512 .f32)) (r := (Rect.unit (s := S4x256x512) ![0, 0, 0] S4x256x512.size inb).toLoadRect) (Finset.subset_univ _)) $$ H
  iintro H
  iapply hk'
  isplitr; · iexact HI
  isplitl [HO]; · iexact HO
  isplitl [HS]; · iexact HS
  iapply Hb; iexact H

/-- A load of the whole of staged block 4. -/
theorem ld_stg4 {σ : St4 F} {Y : sProp 𝕄} (f : Vec F S256x512 .f32) (hY : Y ⊢ iprop(stg c cc0_stg4_0 f ∗ (stg c cc0_stg4_0 f -∗ Y)))
    {inb : ∀ a, (![0, 0] : Fin 2 → ℕ) a + S256x512.size a ≤ S256x512.size a}
    {hl : (Memref.whole cc0_stg4_0 : Memref sig .tc .vmem S256x512 .f32).view.LoadsAt (Rect.unit (s := S256x512) ![0, 0] S256x512.size inb).toLoadRect}
    {α : Type} {Q : α → sProp 𝕄} {k : Vec F S256x512 .f32 → Prog (TpuEff nD τ sig (Elt F) Λ₀ .tc) α}
    (hk : St X K ks c σ Y ⊢ WP c (k f) Q) :
    St X K ks c σ Y ⊢ WP c (.op (.load (Memref.whole cc0_stg4_0 : Memref sig .tc .vmem S256x512 .f32) (Rect.unit (s := S256x512) ![0, 0] S256x512.size inb).toLoadRect hl) k) Q := by
  have hv : (Memref.whole cc0_stg4_0 : Memref sig .tc .vmem S256x512 .f32).view.readAt (Elt F) (Rect.unit (s := S256x512) ![0, 0] S256x512.size inb).toLoadRect f = f :=
    Memref.readAt_unit_zero (Elt F) cc0_stg4_0 (funext fun a => by fin_cases a <;> rfl) inb f
  have hk' : St X K ks c σ Y ⊢ WP c (k ((Memref.whole cc0_stg4_0 : Memref sig .tc .vmem S256x512 .f32).view.readAt (Elt F) (Rect.unit (s := S256x512) ![0, 0] S256x512.size inb).toLoadRect f)) Q := by
    rw [hv]; exact hk
  unfold St at hk' ⊢
  iintro ⟨#HI, HO, HS, HY⟩
  ihave HY := hY $$ HY
  icases HY with ⟨H, Hb⟩
  unfold stg
  iapply (wp_load 𝒱₀ (c : Thread nD τ) none Set.univ (m := (Memref.whole cc0_stg4_0 : Memref sig .tc .vmem S256x512 .f32)) (r := (Rect.unit (s := S256x512) ![0, 0] S256x512.size inb).toLoadRect) (Finset.subset_univ _)) $$ H
  iintro H
  iapply hk'
  isplitr; · iexact HI
  isplitl [HO]; · iexact HO
  isplitl [HS]; · iexact HS
  iapply Hb; iexact H

end

end Cert.MoE
-- ==== Proof.Names.lean ====
/-
Names the run of the kernel's parts is written with: its memory references, where the parts of a
packet lie in its slot, and the order of the waits as a decidable test.
-/
module

public import proofs.«01_k».proof.Proof.Steps

@[expose] public section

noncomputable section

namespace Cert.MoE

open Cert.KernelIdeal Cert.KernelIdeal.Gen
open Idealize.ShloMosaic Idealize.ShloMosaic.TcCoe

variable {F : FTy → Type} [FloatOps F]

abbrev m0 : Memref sig .tc .vmem S512x256 .f32 := Memref.whole cc0_stg0_0
abbrev m1 : Memref sig .tc .vmem S256x64 .f32 := Memref.whole cc0_stg1_0
abbrev m2 : Memref sig .tc .vmem S512x1 .i32 := Memref.whole cc0_stg2_0
abbrev m3 : Memref sig .tc .vmem S4x256x512 .f32 := Memref.whole cc0_stg3_0
abbrev m4 : Memref sig .tc .vmem S256x512 .f32 := Memref.whole cc0_stg4_0
abbrev m5 : Memref sig .tc .vmem S512x512 .f32 := Memref.whole cc0_stg5_0
abbrev m6 : Memref sig .tc .vmem S3x256x384 .bf16 := Memref.whole cc0_scratch0
abbrev m7 : Memref sig .tc .vmem S3x256x512 .bf16 := Memref.whole cc0_scratch1
abbrev m8 : Memref sig .tc .vmem S3x256x384 .bf16 := Memref.whole cc0_scratch2
abbrev m9 : Memref sig .tc .vmem S3x256x512 .bf16 := Memref.whole cc0_scratch3
abbrev h0 : m0.IsWhole := Memref.isWhole_whole _
abbrev h1 : m1.IsWhole := Memref.isWhole_whole _
abbrev h2 : m2.IsWhole := Memref.isWhole_whole _
abbrev h3 : m3.IsWhole := Memref.isWhole_whole _
abbrev h4 : m4.IsWhole := Memref.isWhole_whole _
abbrev h5 : m5.IsWhole := Memref.isWhole_whole _
abbrev h6 : m6.IsWhole := Memref.isWhole_whole _
abbrev h7 : m7.IsWhole := Memref.isWhole_whole _
abbrev h8 : m8.IsWhole := Memref.isWhole_whole _
abbrev h9 : m9.IsWhole := Memref.isWhole_whole _

theorem to_nxt {c : Dev nD} {n : ℕ} (h : n = (c.val + 1) % 16) {hn : n < nD} : (⟨n, hn⟩ : Dev nD) = nxt c := Fin.ext h
theorem to_prv {c : Dev nD} {n : ℕ} (h : n = (c.val + 15) % 16) {hn : n < nD} : (⟨n, hn⟩ : Dev nD) = prv c := Fin.ext h

/-- The parts of a packet, in the buffer and in the slot. -/
theorem hrX (i : Fin 3) (inb) (y : S1x256x256.Idx) :
    (Rect.unit (s := S3x256x384) ![i.val, 0, 0] S1x256x256.size inb).emb y = (rectA i).emb (embX y) := by
  funext a; refine Fin.ext ?_
  show (![i.val, 0, 0] : Fin 3 → ℕ) a + 1 * (y a).val = (![i.val, 0, 0] : Fin 3 → ℕ) a + 1 * ((![0, 0, 0] : Fin 3 → ℕ) a + 1 * (y a).val)
  have : (![i.val, 0, 0] : Fin 3 → ℕ) a = (![i.val, 0, 0] : Fin 3 → ℕ) a + (![0, 0, 0] : Fin 3 → ℕ) a := by fin_cases a <;> first | rfl | simp
  omega
theorem hrR (i : Fin 3) (inb) (y : S1x256x1.Idx) :
    (Rect.unit (s := S3x256x384) ![i.val, 0, 256] S1x256x1.size inb).emb y = (rectA i).emb (embR y) := by
  funext a; refine Fin.ext ?_
  show (![i.val, 0, 256] : Fin 3 → ℕ) a + 1 * (y a).val = (![i.val, 0, 0] : Fin 3 → ℕ) a + 1 * ((![0, 0, 256] : Fin 3 → ℕ) a + 1 * (y a).val)
  have : (![i.val, 0, 256] : Fin 3 → ℕ) a = (![i.val, 0, 0] : Fin 3 → ℕ) a + (![0, 0, 256] : Fin 3 → ℕ) a := by fin_cases a <;> first | rfl | simp
  omega
theorem hrW (i : Fin 3) (inb) (y : S1x256x128.Idx) :
    (Rect.unit (s := S3x256x384) ![i.val, 0, 256] S1x256x128.size inb).emb y = (rectA i).emb (embW y) := by
  funext a; refine Fin.ext ?_
  show (![i.val, 0, 256] : Fin 3 → ℕ) a + 1 * (y a).val = (![i.val, 0, 0] : Fin 3 → ℕ) a + 1 * ((![0, 0, 256] : Fin 3 → ℕ) a + 1 * (y a).val)
  have : (![i.val, 0, 256] : Fin 3 → ℕ) a = (![i.val, 0, 0] : Fin 3 → ℕ) a + (![0, 0, 256] : Fin 3 → ℕ) a := by fin_cases a <;> first | rfl | simp
  omega

theorem embR_eq (y : S1x256x1.Idx) : embR y = embW (embC y) := by
  funext a; refine Fin.ext ?_
  show (![0, 0, 256] : Fin 3 → ℕ) a + 1 * (y a).val = (![0, 0, 256] : Fin 3 → ℕ) a + 1 * ((![0, 0, 0] : Fin 3 → ℕ) a + 1 * (y a).val)
  have : (![0, 0, 0] : Fin 3 → ℕ) a = 0 := by fin_cases a <;> rfl
  omega
theorem embX_ne_embW (y : S1x256x256.Idx) (z : S1x256x128.Idx) : embW z ≠ embX y := by
  intro h
  have h2 : 256 + 1 * (z 2).val = 0 + 1 * (y 2).val := congrArg Fin.val (congrFun h 2)
  have h3 : (y 2).val < 256 := (y 2).isLt
  omega

/-- A packet's two parts, stored one after the other, make the packet. -/
theorem pkt_of {a : Vec F S1x256x256 .bf16} {b : Vec F S1x256x128 .bf16} {U U' : S1x256x384.Idx → Elt F .bf16} (hU : ∀ y, U (embX y) = a y)
    (hb : ∀ y, U' (embW y) = b y) (hr : ∀ z, (∀ y, embW y ≠ z) → U' z = U z) : isPkt a (fun y => b (embC y)) U' :=
  ⟨fun y => (hr _ fun z => embX_ne_embW y z).trans (hU y), fun y => by rw [embR_eq]; exact hb _⟩

theorem pktX {a : Vec F S1x256x256 .bf16} {b : Vec F S1x256x1 .bf16} {U} (h : isPkt a b U) : ∀ y, U (embX y) = a y := h.1
theorem pktR {a : Vec F S1x256x256 .bf16} {b : Vec F S1x256x1 .bf16} {U} (h : isPkt a b U) : ∀ y, U (embR y) = b y := h.2

/-- A packet goes on round the ring as it came. -/
theorem pass_acw (I : In F) (c : Dev nD) (j : ℕ) {U} (h : XX I .acw (backD .acw c) j U) : XX I .acw c (j + 1) U := h
theorem pass_accw (I : In F) (c : Dev nD) (j : ℕ) {U} (h : XX I .accw (backD .accw c) j U) : XX I .accw c (j + 1) U := h

/-- Level `b` lies below everything owed by streams that have started `s` copies and given `g` credits. -/
def below (q : Rg) (s g b : ℕ) : Bool := (decide (15 ≤ s) || decide (b < lvS q s)) && (decide (13 ≤ g) || decide (b < lvC q g))
theorem above_of {σ : St4 F} {b : ℕ} (h : (below .acw σ.a.s σ.a.g b && below .bcw σ.b.s σ.b.g b && below .accw σ.a'.s σ.a'.g b && below .bccw σ.b'.s σ.b'.g b) = true) :
    Above σ b := by
  simp only [Bool.and_eq_true] at h
  obtain ⟨⟨⟨h1, h2⟩, h3⟩, h4⟩ := h
  have key : ∀ q s g, below q s g b = true → (s < 15 → b < lvS q s) ∧ (g < 13 → b < lvC q g) := fun q s g h => by
    unfold below at h
    simp only [Bool.and_eq_true, Bool.or_eq_true, decide_eq_true_eq] at h
    exact ⟨fun hs => h.1.resolve_left (by omega), fun hg => h.2.resolve_left (by omega)⟩
  intro q
  cases q
  · exact key _ _ _ h1
  · exact key _ _ _ h2
  · exact key _ _ _ h3
  · exact key _ _ _ h4

end Cert.MoE
-- ==== Proof.Open.lean ====
/-
The first phase of a device's run: it releases two slots of each stream, tells both neighbours
so through their barrier semaphores, and waits for both neighbours' signals.
-/
module

public import proofs.«01_k».proof.Proof.Names

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem bigSep_Rg (Φ : Rg → sProp 𝕄) : bigSep Finset.univ Φ = iprop(Φ .acw ∗ Φ .bcw ∗ Φ .accw ∗ Φ .bccw) :=
  bigSep_univ_eq_bigSepL [Rg.acw, Rg.bcw, Rg.accw, Rg.bccw] (by decide) (by decide) Φ
theorem bigSep_three (Φ : ℕ → sProp 𝕄) : bigSep (Finset.range 3) Φ = iprop(Φ 2 ∗ Φ 1 ∗ Φ 0) :=
  bigSep_eq_bigSepL_of_eq [2, 1, 0] (by decide) (by decide) Φ
theorem bigSep_two (Φ : ℕ → sProp 𝕄) : bigSep (Finset.range 2) Φ = iprop(Φ 1 ∗ Φ 0) :=
  bigSep_eq_bigSepL_of_eq [1, 0] (by decide) (by decide) Φ

/-- The state once the barrier is passed: nothing started, one slot of each stream held. -/
def σi : St4 F :=
  ⟨⟨0, 0, 0, 0, 0, .full (fun _ => True), .gone, .gone⟩, ⟨0, 0, 0, 0, 0, .gone, .full (fun _ => True), .gone⟩,
    ⟨0, 0, 0, 0, 0, .full (fun _ => True), .gone, .gone⟩, ⟨0, 0, 0, 0, 0, .gone, .full (fun _ => True), .gone⟩⟩

/-- What a device is dealt of stream `q`, with the three slots of its buffer. -/
def PreGh (q : Rg) (c : Dev nD) : sProp 𝕄 :=
  iprop(toSend q c 0 ∗ toLand q c 0 ∗ atSend q c 0 ∗ atRecv q c 0 ∗ toGive q c 0 ∗ toHave q c 0 ∗ atPos ER (credCell q c) 0 ∅ 0
    ∗ (readerAt ES (q, c, cls 0) 0 ∗ readerAt ES (q, c, cls 1) 0 ∗ readerAt ES (q, c, cls 2) 0)
    ∗ slotAny (q, c, cls 0) ∗ slotAny (q, c, cls 1) ∗ slotAny (q, c, cls 2))

/-- The two units a device owes its neighbours' barrier semaphores. -/
def owedBar (c : Dev nD) : CellTallies nD τ sig ℕ := tallyAt (barCell (nxt c)) 1 1 + tallyAt (barCell (prv c)) 1 1

section
variable (X : (q : Rg) → Dev nD → ℕ → Says F q) (K : GSem nD τ sig → ℕ) (ks : Key → ℕ) (c : Dev nD)

/-- The slot kept is the one the first copy leaves from. -/
theorem kept (q : Rg) : slotAny (F := F) (q, c, cls 2) ⊢ iprop(slotSt q c 0 ((σi (F := F)).get q).t0 ∗ slotSt q c 1 ((σi (F := F)).get q).t1 ∗ slotSt q c 2 ((σi (F := F)).get q).t2) := by
  rw [slotAny_eq]
  have key : iprop(∃ f, slotPts q c (dstS q 2) fullShare f) ⊢ slotIs (F := F) q c (dstS q 2) fullShare (fun _ => True) := by
    unfold slotIs
    iintro ⟨%f, H⟩
    iexists f
    isplitr; · ipureintro; trivial
    iexact H
  refine key.trans ?_
  cases q
  · show slotIs .acw c 0 fullShare (fun _ => True) ⊢ iprop(slotIs .acw c 0 fullShare (fun _ => True) ∗ emp ∗ emp)
    iintro H; isplitl [H]; · iexact H
    isplitr <;> iempintro
  · show slotIs .bcw c 1 fullShare (fun _ => True) ⊢ iprop(emp ∗ slotIs .bcw c 1 fullShare (fun _ => True) ∗ emp)
    iintro H; isplitr; · iempintro
    isplitl [H]; · iexact H
    iempintro
  · show slotIs .accw c 0 fullShare (fun _ => True) ⊢ iprop(slotIs .accw c 0 fullShare (fun _ => True) ∗ emp ∗ emp)
    iintro H; isplitl [H]; · iexact H
    isplitr <;> iempintro
  · show slotIs .bccw c 1 fullShare (fun _ => True) ⊢ iprop(emp ∗ slotIs .bccw c 1 fullShare (fun _ => True) ∗ emp)
    iintro H; isplitr; · iempintro
    isplitl [H]; · iexact H
    iempintro

/-- A device releases its slots for the first two landings of a stream. -/
theorem open_stream (q : Rg) :
    iprop(Inv X K ks ∗ PreGh q c) ⊢ (|={Set.univ}=> iprop(Rel q c 2 ∗ (Rel q (dstD q c) 2 -∗ Gh q c ((σi (F := F)).get q))) : sProp 𝕄) := by
  have hs : ((σi (F := F)).get q).s = 0 := by cases q <;> rfl
  have hv : ((σi (F := F)).get q).v = 0 := by cases q <;> rfl
  have hw : ((σi (F := F)).get q).w = 0 := by cases q <;> rfl
  have hg : ((σi (F := F)).get q).g = 0 := by cases q <;> rfl
  have hh : ((σi (F := F)).get q).h = 0 := by cases q <;> rfl
  unfold PreGh Gh
  rw [hs, hv, hw, hg, hh]
  iintro ⟨#HI, Hs, Hl, Has, Har, Hg, Hh, Hc, ⟨Hr0, Hr1, Hr2⟩, H0, H1, H2⟩
  ihave #HI0 := (Inv_slot X K ks (q, c, cls 0)) $$ HI
  ihave #HI1 := (Inv_slot X K ks (q, c, cls 1)) $$ HI
  ihave #Hra0 := (atRecv_reached q c (v := 0) (j := 0) rfl) $$ Har
  ihave #Hra1 := (atRecv_reached q c (v := 0) (j := 1) rfl) $$ Har
  imod (slot_release (n := 0) ES (Set.mem_univ _) (slotAny_false (q, c, cls 0))) $$ [Hr0 H0] with ⟨Hr0, #Hrel0⟩
  · isplitr; · iexact HI0
    isplitl [Hr0]; · iexact Hr0
    iexact H0
  imod (slot_release (n := 0) ES (Set.mem_univ _) (slotAny_false (q, c, cls 1))) $$ [Hr1 H1] with ⟨Hr1, #Hrel1⟩
  · isplitr; · iexact HI1
    isplitl [Hr1]; · iexact Hr1
    iexact H1
  ihave #HR0 := (show (emp : sProp 𝕄) ⊢ Rel q c 0 from by unfold Rel; rw [Finset.range_zero, bigSep_empty]; exact BI.Entails.refl _) $$ []
  · iempintro
  ihave #HR1 := (show iprop((released ES (q, c, cls 0) (0 / 3 + 1) ∗ reached ER (recvCell q c 0) (0 / 3)) ∗ Rel q c 0) ⊢ (Rel q c 1 : sProp 𝕄)
    from Entails.of_eq (Rel_succ q c 0).symm) $$ []
  · isplitr
    · isplitr; · iexact Hrel0
      iexact Hra0
    · iexact HR0
  ihave #HR2 := (show iprop((released ES (q, c, cls 1) (1 / 3 + 1) ∗ reached ER (recvCell q c 1) (1 / 3)) ∗ Rel q c 1) ⊢ (Rel q c 2 : sProp 𝕄)
    from Entails.of_eq (Rel_succ q c 1).symm) $$ []
  · isplitr
    · isplitr; · iexact Hrel1
      iexact Hra1
    · iexact HR1
  ihave Hkept := (kept c q) $$ H2
  imodintro
  isplitr; · iexact HR2
  iintro #HRel'
  isplitl [Hs]; · iexact Hs
  isplitr; · unfold flying; rw [Finset.Ico_self, bigSep_empty]; iempintro
  isplitl [Hl]; · iexact Hl
  isplitl [Has]; · iexact Has
  isplitl [Har]; · iexact Har
  isplitl [Hg]; · iexact Hg
  isplitl [Hh]; · iexact Hh
  isplitl [Hc]
  · unfold atCred
    iexists (∅ : Finset ℕ)
    isplitr; · ipureintro; exact ⟨Finset.empty_subset _, Nat.zero_le _⟩
    isplitl [Hc]; · iexact Hc
    rw [bigSep_empty]; iempintro
  isplitl [Hr0 Hr1 Hr2]
  · unfold readers
    rw [bigSep_three]
    isplitl [Hr2]; · iexact Hr2
    isplitl [Hr1]; · iexact Hr1
    iexact Hr0
  isplitr; · iexact HR2
  isplitr; · iexact HRel'
  iexact Hkept

/-- What a device holds at the start of its run, with `Y` beside. -/
def Pre (Y : sProp 𝕄) : sProp 𝕄 :=
  iprop(Inv X K ks ∗ (∃ W, owes (c : Thread nD τ) (owed c (σi (F := F)) + owedBar c) W)
    ∗ (atPos ER (barCell c) 0 ∅ 0 ∗ cred (tallyAt (barCell c) 1 2) ∗ dutyTok ER (barCell (prv c)) 0 0 ∗ dutyTok ER (barCell (nxt c)) 0 1)
    ∗ (bigSep Finset.univ fun q : Rg => PreGh q c) ∗ Y)

/-- Both neighbours told, and both heard from. -/
theorem op_barrier {Y : sProp 𝕄} {d₁ d₂ : Dev nD} (h₁ : d₁ = prv c) (h₂ : d₂ = nxt c) {α : Type} {Q : α → sProp 𝕄}
    {k : PUnit → Prog (TpuEff nD τ sig (Elt F) Λ₀ .tc) α}
    (hk : St X K ks c σi (iprop(atPos ER (barCell c) 1 ∅ 0 ∗ Y)) ⊢ WP c (k ⟨⟩) Q) :
    Pre X K ks c Y ⊢ WP c (.op (.semSignal (Dev.tc d₁ : Thread nD τ) barrier0 1) fun _ => .op (.semSignal (Dev.tc d₂ : Thread nD τ) barrier0 1)
      fun _ => .op (.semWait barrier0 2) k) Q := by
  subst h₁ h₂
  unfold Pre
  rw [bigSep_Rg]
  iintro ⟨#HI, ⟨%W, HO⟩, ⟨Hat, Hcr, Hd0, Hd1⟩, ⟨Ha, Hb, Ha', Hb'⟩, HY⟩
  imod (open_stream X K ks c .acw) $$ [Ha] with ⟨#HRa, Ha⟩
  · isplitr; · iexact HI
    iexact Ha
  imod (open_stream X K ks c .bcw) $$ [Hb] with ⟨#HRb, Hb⟩
  · isplitr; · iexact HI
    iexact Hb
  imod (open_stream X K ks c .accw) $$ [Ha'] with ⟨#HRa', Ha'⟩
  · isplitr; · iexact HI
    iexact Ha'
  imod (open_stream X K ks c .bccw) $$ [Hb'] with ⟨#HRb', Hb'⟩
  · isplitr; · iexact HI
    iexact Hb'
  ihave #Hp := (Inv_bar X K ks (prv c)) $$ HI
  icases Hp with ⟨#HIp, #Hrp⟩
  ihave #Hn := (Inv_bar X K ks (nxt c)) $$ HI
  icases Hn with ⟨#HIn, #Hrn⟩
  ihave #Hm := (Inv_bar X K ks c) $$ HI
  icases Hm with ⟨#HIm, -⟩
  iapply (Rounds.wp_signal 𝒱₀ ER (Rd X) (c : Thread nD τ) none (r := 0) (d := 0) (κ := K (barCell (prv c)))
    (show 0 ∈ (Rd X).duties (barCell (prv c)) 0 from by rw [duties_bar]; decide)
    (amount_bar X (prv c) 0 0) 1 (owed c (σi (F := F)) + tallyAt (barCell (nxt c)) 1 1) (O₀ := owed c (σi (F := F)) + owedBar c) (by unfold owedBar; rw [add_assoc]) (W := W)) $$ [HO Hd0]
  · isplitr; · iexact HIp
    isplitl [HO]; · iexact HO
    isplitl [Hd0]; · iexact Hd0
    isplitr
    · rw [show (Rd X).payload (((prv c : Dev nD) : Thread nD τ), SemLoc.reg barrier0) 0 0 = iprop(Rel .acw (nxt (prv c)) 2 ∗ Rel .bcw (nxt (prv c)) 2) from rfl, nxt_prv]
      isplitr; · iexact HRa
      iexact HRb
    iexact Hrp
  iintro HO
  iapply (Rounds.wp_signal 𝒱₀ ER (Rd X) (c : Thread nD τ) none (r := 0) (d := 1) (κ := K (barCell (nxt c)))
    (show 1 ∈ (Rd X).duties (barCell (nxt c)) 0 from by rw [duties_bar]; decide)
    (amount_bar X (nxt c) 0 1) 1 (owed c (σi (F := F))) rfl (W := W)) $$ [HO Hd1]
  · isplitr; · iexact HIn
    isplitl [HO]; · iexact HO
    isplitl [Hd1]; · iexact Hd1
    isplitr
    · rw [show (Rd X).payload (((nxt c : Dev nD) : Thread nD τ), SemLoc.reg barrier0) 0 1 = iprop(Rel .accw (prv (nxt c)) 2 ∗ Rel .bccw (prv (nxt c)) 2) from rfl, prv_nxt]
      isplitr; · iexact HRa'
      iexact HRb'
    iexact Hrn
  iintro HO
  iapply (Rounds.wp_wait_rest_token 𝒱₀ ER (Rd X) (c : Thread nD τ) none (κ := K (barCell c)) (sm := .reg barrier0)
    (wpE_semWait_eq 𝒱₀ (c : Thread nD τ) none Set.univ) (Set.mem_univ _) 1
    (O := owed c (σi (F := F))) (W := W) (R := 0) (m := 0) (T := ∅)
    (by rw [show ((c : Thread nD τ), SemLoc.reg barrier0) = barCell c from rfl, expect_bar X c])) $$ [Hcr HO Hat]
  · isplitr; · iexact HIm
    isplitl [Hcr]; · iexact Hcr
    isplitl [HO]; · iexact HO
    isplitr; · iapply (@mayWait' F _ X K ks c σi (.reg barrier0) 1 (by decide) (above_of rfl)); iexact HI
    iexact Hat
  iintro ⟨HO, Hat, -, Hpay⟩
  have hp : bigSep ((Rd X).duties (barCell c) 0 \ ∅) (fun d => (Rd X).payload (barCell c) 0 d)
      = iprop((Rel (F := F) .accw (prv c) 2 ∗ Rel .bccw (prv c) 2) ∗ (Rel .acw (nxt c) 2 ∗ Rel .bcw (nxt c) 2)) := by
    rw [duties_bar, Finset.sdiff_empty, bigSep_two]; rfl
  ihave Hpay := (Entails.of_eq hp) $$ Hpay
  icases Hpay with ⟨⟨#Hq1, #Hq2⟩, ⟨#Hq3, #Hq4⟩⟩
  iapply hk
  unfold St
  isplitr; · iexact HI
  isplitl [HO]; · iexists _; iexact HO
  isplitr [HY Hat]
  · rw [bigSep_Rg]
    isplitl [Ha]; · iapply Ha; iexact Hq3
    isplitl [Hb]; · iapply Hb; iexact Hq4
    isplitl [Ha']; · iapply Ha'; iexact Hq1
    iapply Hb'; iexact Hq2
  · isplitl [Hat]; · iexact Hat
    iexact HY

end

end Cert.MoE
-- ==== Proof.Ends.lean ====
/-
The ends of a device's run: its first two parts, which pass the barrier and make the device's own
two packets, and its last, which stores the two halves of its result.
-/
module

public import proofs.«01_k».proof.Proof.Open

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

/-- Where the two halves of a result lie in it. -/
theorem inbTop : ∀ a, (![0, 0] : Fin 2 → Nat) a + S256x512.size a ≤ S512x512.size a := by decide
theorem inbBot : ∀ a, (![256, 0] : Fin 2 → Nat) a + S256x512.size a ≤ S512x512.size a := by decide
def embTop (y : S256x512.Idx) : S512x512.Idx := (Rect.unit (s := S512x512) ![0, 0] S256x512.size inbTop).emb y
def embBot (y : S256x512.Idx) : S512x512.Idx := (Rect.unit (s := S512x512) ![256, 0] S256x512.size inbBot).emb y

theorem top_ne_bot (y z : S256x512.Idx) : embBot y ≠ embTop z := by
  intro h
  have h2 : 256 + 1 * (y 0).val = 0 + 1 * (z 0).val := congrArg Fin.val (congrFun h 0)
  have h3 : (z 0).val < 256 := (z 0).isLt
  omega

/-- A device's result: its two halves in place. -/
def outIs (f : Vec F S512x512 .f32) : Prop := (∀ y, f (embTop y) = outCw I c y) ∧ ∀ y, f (embBot y) = outCcw I c y
def topIs (f : Vec F S512x512 .f32) : Prop := ∀ y, f (embTop y) = outCw I c y

/-- What lies beside the streams: the five staged inputs, the staged result, of which `o` is known, and `Z`. -/
def Beside (o : Vec F S512x512 .f32 → Prop) (Z : sProp 𝕄) : sProp 𝕄 :=
  iprop(stg c cc0_stg0_0 (I.x c) ∗ stg c cc0_stg1_0 (I.w c) ∗ stg c cc0_stg2_0 (I.r c) ∗ stg c cc0_stg3_0 (I.e c) ∗ stg c cc0_stg4_0 (I.s c)
    ∗ (∃ f : Vec F S512x512 .f32, ⌜o f⌝ ∗ stg c cc0_stg5_0 f) ∗ Z)

theorem beside0 (o : Vec F S512x512 .f32 → Prop) (Z : sProp 𝕄) : Beside I c o Z ⊢ iprop(stg c cc0_stg0_0 (I.x c) ∗ (stg c cc0_stg0_0 (I.x c) -∗ Beside I c o Z)) := by
  unfold Beside
  iintro ⟨H0, H1, H2, H3, H4, Hr⟩
  isplitl [H0]; · iexact H0
  iintro H0
  isplitl [H0]; · iexact H0
  isplitl [H1]; · iexact H1
  isplitl [H2]; · iexact H2
  isplitl [H3]; · iexact H3
  isplitl [H4]; · iexact H4
  iexact Hr
theorem beside1 (o : Vec F S512x512 .f32 → Prop) (Z : sProp 𝕄) : Beside I c o Z ⊢ iprop(stg c cc0_stg1_0 (I.w c) ∗ (stg c cc0_stg1_0 (I.w c) -∗ Beside I c o Z)) := by
  unfold Beside
  iintro ⟨H0, H1, H2, H3, H4, Hr⟩
  isplitl [H1]; · iexact H1
  iintro H1
  isplitl [H0]; · iexact H0
  isplitl [H1]; · iexact H1
  isplitl [H2]; · iexact H2
  isplitl [H3]; · iexact H3
  isplitl [H4]; · iexact H4
  iexact Hr
theorem beside2 (o : Vec F S512x512 .f32 → Prop) (Z : sProp 𝕄) : Beside I c o Z ⊢ iprop(stg c cc0_stg2_0 (I.r c) ∗ (stg c cc0_stg2_0 (I.r c) -∗ Beside I c o Z)) := by
  unfold Beside
  iintro ⟨H0, H1, H2, H3, H4, Hr⟩
  isplitl [H2]; · iexact H2
  iintro H2
  isplitl [H0]; · iexact H0
  isplitl [H1]; · iexact H1
  isplitl [H2]; · iexact H2
  isplitl [H3]; · iexact H3
  isplitl [H4]; · iexact H4
  iexact Hr
theorem beside3 (o : Vec F S512x512 .f32 → Prop) (Z : sProp 𝕄) : Beside I c o Z ⊢ iprop(stg c cc0_stg3_0 (I.e c) ∗ (stg c cc0_stg3_0 (I.e c) -∗ Beside I c o Z)) := by
  unfold Beside
  iintro ⟨H0, H1, H2, H3, H4, Hr⟩
  isplitl [H3]; · iexact H3
  iintro H3
  isplitl [H0]; · iexact H0
  isplitl [H1]; · iexact H1
  isplitl [H2]; · iexact H2
  isplitl [H3]; · iexact H3
  isplitl [H4]; · iexact H4
  iexact Hr
theorem beside4 (o : Vec F S512x512 .f32 → Prop) (Z : sProp 𝕄) : Beside I c o Z ⊢ iprop(stg c cc0_stg4_0 (I.s c) ∗ (stg c cc0_stg4_0 (I.s c) -∗ Beside I c o Z)) := by
  unfold Beside
  iintro ⟨H0, H1, H2, H3, H4, Hr⟩
  isplitl [H4]; · iexact H4
  iintro H4
  isplitl [H0]; · iexact H0
  isplitl [H1]; · iexact H1
  isplitl [H2]; · iexact H2
  isplitl [H3]; · iexact H3
  isplitl [H4]; · iexact H4
  iexact Hr

/-- A load of part of the staged result. -/
theorem ldx_out {σ : St4 F} {o : Vec F S512x512 .f32 → Prop} {Z : sProp 𝕄} {r : Rect S512x512} {hl : (m5).view.LoadsAt r.toLoadRect}
    {α : Type} {Q : α → sProp 𝕄} {k : (r.shape.Idx → Elt F .f32) → Prog (TpuEff nD τ sig (Elt F) Λ₀ .tc) α}
    (hk : ∀ a, St (XX I) K ks c σ (Beside I c o Z) ⊢ WP c (k a) Q) :
    St (XX I) K ks c σ (Beside I c o Z) ⊢ WP c (.op (.load m5 r.toLoadRect hl) k) Q := by
  unfold St Beside stg at hk ⊢
  iintro ⟨#HI, HO, HS, H0, H1, H2, H3, H4, ⟨%f, %hf, H5⟩, HZ⟩
  iapply (wp_load 𝒱₀ (c : Thread nD τ) none Set.univ (m := m5) (r := r.toLoadRect) (Finset.subset_univ _)) $$ H5
  iintro H5
  iapply hk
  isplitr; · iexact HI
  isplitl [HO]; · iexact HO
  isplitl [HS]; · iexact HS
  isplitl [H0]; · iexact H0
  isplitl [H1]; · iexact H1
  isplitl [H2]; · iexact H2
  isplitl [H3]; · iexact H3
  isplitl [H4]; · iexact H4
  isplitr [HZ]
  · iexists f
    isplitr; · ipureintro; exact hf
    iexact H5
  · iexact HZ

/-- A store of part of the staged result. -/
theorem st_out {σ : St4 F} {o : Vec F S512x512 .f32 → Prop} {Z : sProp 𝕄} {r : Rect S512x512} {w : r.shape.Idx → Elt F .f32}
    {hx : ((m5).access r).Stores Finset.univ} {hm : Finset.univ = Finset.univ ∨ ∀ a, r.stride a = 1} (o' : Vec F S512x512 .f32 → Prop)
    (ho : ∀ f g : Vec F S512x512 .f32, o f → (∀ y, g (r.emb y) = w y) → (∀ z, (∀ y, r.emb y ≠ z) → g z = f z) → o' g)
    {α : Type} {Q : α → sProp 𝕄} {k : PUnit → Prog (TpuEff nD τ sig (Elt F) Λ₀ .tc) α}
    (hk : St (XX I) K ks c σ (Beside I c o' Z) ⊢ WP c (k ⟨⟩) Q) :
    St (XX I) K ks c σ (Beside I c o Z) ⊢ WP c (.op (.store m5 r w Finset.univ hx hm) k) Q := by
  unfold St Beside stg at hk ⊢
  iintro ⟨#HI, HO, HS, H0, H1, H2, H3, H4, ⟨%f, %hf, H5⟩, HZ⟩
  have hS : ((m5).access r).setOn Finset.univ ⊆ Finset.univ := Finset.subset_univ _
  iapply (wp_store 𝒱₀ (c : Thread nD τ) none Set.univ (m := m5) (r := r) (Mk := Finset.univ) (S := Finset.univ) (Finset.subset_univ _)) $$ H5
  iintro H5
  iapply hk
  isplitr; · iexact HI
  isplitl [HO]; · iexact HO
  isplitl [HS]; · iexact HS
  isplitl [H0]; · iexact H0
  isplitl [H1]; · iexact H1
  isplitl [H2]; · iexact H2
  isplitl [H3]; · iexact H3
  isplitl [H4]; · iexact H4
  isplitr [HZ]
  · iexists (((m5).access r).write (Elt F) f w Finset.univ)
    isplitr
    · ipureintro
      refine ho f _ hf (fun y => ?_) fun z hz => ?_
      · exact congrFun (View.read_write_univ (v := (m5).view.slice r) f w) y
      · refine View.write_of_not_mem _ _ _ ?_
        rw [View.setOn_univ]
        show _ ∉ ((m5).view.slice r).set
        rw [View.set_slice, ← Rect.map_emb_univ, Finset.mem_map]
        rintro ⟨y', hy', e⟩
        rw [Finset.mem_map] at hy'
        obtain ⟨y, -, rfl⟩ := hy'
        exact hz y e
    · iexact H5
  · iexact HZ

/-- A device reads its own number. -/
theorem op_dev {P : sProp 𝕄} {α : Type} {Q : α → sProp 𝕄} {k : Dev nD → Prog (TpuEff nD τ sig (Elt F) Λ₀ .tc) α}
    (hk : P ⊢ WP c (k c) Q) : P ⊢ WP c (.op .deviceId k) Q :=
  hk.trans (Entails.of_eq (Eq.symm (wp_deviceId (defs := defs₀ (F := F)) 𝒱₀ (c : Thread nD τ) none Set.univ (k := k) (Q := Q))))

theorem part1 {o : Vec F S512x512 .f32 → Prop} {Z : sProp 𝕄} {α : Type} {Q : α → sProp 𝕄}
    {k : (Σ' (d0 : Dev nD) (v2 : BitVec 32) (v5 : BitVec 32) (v7 : BitVec 32) (v14 : FVec F S512x256 .f32) (v26 : FVec F S512x64 .f32) (v28 : IVec S512x1 32), IVec S512x64 1) → Prog (TpuEff nD τ sig (Elt F) Λ₀ .tc) α}
    (hk : ∀ v5 v7, St (XX I) K ks c σi (Beside I c o (iprop(atPos ER (barCell c) 1 ∅ 0 ∗ Z)))
      ⊢ WP c (k ⟨c, pos c, v5, v7, k0_pay1 (I.x c), k0_pay2 (I.x c) (I.w c), k0_pay3 (I.r c), k0_pay4 (I.r c)⟩) Q) :
    Pre (XX I) K ks c (Beside I c o Z)
      ⊢ WP c (k0_part1 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 >>= k) Q := by
  have hk' : ∀ v5 v7, St (XX I) K ks c σi (iprop(atPos ER (barCell c) 1 ∅ 0 ∗ Beside I c o Z))
      ⊢ WP c (k ⟨c, pos c, v5, v7, k0_pay1 (I.x c), k0_pay2 (I.x c) (I.w c), k0_pay3 (I.r c), k0_pay4 (I.r c)⟩) Q := fun v5 v7 =>
    (St_beside (XX I) K ks c (by
      unfold Beside
      iintro ⟨Hb, H0, H1, H2, H3, H4, H5, HZ⟩
      isplitl [H0]; · iexact H0
      isplitl [H1]; · iexact H1
      isplitl [H2]; · iexact H2
      isplitl [H3]; · iexact H3
      isplitl [H4]; · iexact H4
      isplitl [H5]; · iexact H5
      isplitl [Hb]; · iexact Hb
      iexact HZ)).trans (hk v5 v7)
  have hb : ∀ {P : sProp 𝕄}, (Beside I c o Z ⊢ iprop(P ∗ (P -∗ Beside I c o Z))) →
      (iprop(atPos ER (barCell c) 1 ∅ 0 ∗ Beside I c o Z) ⊢ iprop(P ∗ (P -∗ iprop(atPos ER (barCell c) 1 ∅ 0 ∗ Beside I c o Z)))) := fun h => by
    iintro ⟨Ha, H⟩
    ihave H := h $$ H
    icases H with ⟨HP, Hb⟩
    isplitl [HP]; · iexact HP
    iintro HP
    isplitl [Ha]; · iexact Ha
    iapply Hb; iexact HP
  rw [k0_part1_eq_skeleton]
  unfold k0_part1_skel
  simp only [semSignalWord, semWaitWord, Prog.lift, Prog.bind_op, Prog.bind_ret, Prog.pure_eq_ret, Prog.bind_assoc]
  refine op_dev c ?_
  refine op_barrier (XX I) K ks c (by exact to_prv (k0_dev1_eq c)) (by exact to_nxt (k0_dev2_eq c)) ?_
  refine ld_stg0 (XX I) K ks c (I.x c) (hb (beside0 I c o Z)) ?_
  refine ld_stg1 (XX I) K ks c (I.w c) (hb (beside1 I c o Z)) ?_
  refine ld_stg2 (XX I) K ks c (I.r c) (hb (beside2 I c o Z)) ?_
  exact hk' _ _

theorem part2 {o : Vec F S512x512 .f32 → Prop} {Z : sProp 𝕄} {α : Type} {Q : α → sProp 𝕄} (v2 : BitVec 32)
    {k : (Σ' (v60 : FVec F S4x256x512 .bf16) (v62 : F .f32) (v65 : FVec F S512x512 .f32), FVec F S256x512 .f32) → Prog (TpuEff nD τ sig (Elt F) Λ₀ .tc) α}
    (hk : St (XX I) K ks c ⟨⟨0, 0, 0, 0, 0, .full (XX I .acw c 0), .gone, .gone⟩, ⟨0, 0, 0, 0, 0, .gone, .full (fun _ => True), .gone⟩, ⟨0, 0, 0, 0, 0, .full (XX I .accw c 0), .gone, .gone⟩, ⟨0, 0, 0, 0, 0, .gone, .full (fun _ => True), .gone⟩⟩ (Beside I c o Z)
      ⊢ WP c (k ⟨k0_pay11 (I.e c), k0_pay12 (F := F) v2, k0_pay13 (k0_pay1 (I.x c)) (I.s c), k0_pay14 (k0_pay1 (I.x c)) (I.s c)⟩) Q) :
    St (XX I) K ks c σi (Beside I c o Z)
      ⊢ WP c (k0_part2 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v2 (k0_pay1 (I.x c)) (k0_pay2 (I.x c) (I.w c)) (k0_pay3 (I.r c)) (k0_pay4 (I.r c)) >>= k) Q := by
  rw [k0_part2_eq_skeleton]
  unfold k0_part2_skel σi
  refine ldx_acw (XX I) K ks c 0 (by exact .inl rfl) embX (hrX 0 _) (fun _ => ?_)
  refine st_acw (XX I) K ks c 0 (by rfl) embX (hrX 0 _) (fun U => ∀ y, U (embX y) = px I .acw c y) (by exact fun U U' _ h _ => h) ?_
  refine ldx_acw (XX I) K ks c 0 (by exact .inl rfl) embW (hrW 0 _) (fun _ => ?_)
  refine st_acw (XX I) K ks c 0 (by rfl) embW (hrW 0 _) (XX I .acw c 0) (by exact fun U U' hU hb hr => pkt_of hU hb hr) ?_
  refine ldx_accw (XX I) K ks c 0 (by exact .inl rfl) embX (hrX 0 _) (fun _ => ?_)
  refine st_accw (XX I) K ks c 0 (by rfl) embX (hrX 0 _) (fun U => ∀ y, U (embX y) = px I .accw c y) (by exact fun U U' _ h _ => h) ?_
  refine ldx_accw (XX I) K ks c 0 (by exact .inl rfl) embW (hrW 0 _) (fun _ => ?_)
  refine st_accw (XX I) K ks c 0 (by rfl) embW (hrW 0 _) (XX I .accw c 0) (by exact fun U U' hU hb hr => pkt_of hU hb hr) ?_
  refine ld_stg3 (XX I) K ks c (I.e c) (beside3 I c o Z) ?_
  refine ld_stg4 (XX I) K ks c (I.s c) (beside4 I c o Z) ?_
  exact hk

theorem part110 {Z : sProp 𝕄} {α : Type} {Q : α → sProp 𝕄} (v5 : BitVec 32)
    {k : PUnit → Prog (TpuEff nD τ sig (Elt F) Λ₀ .tc) α} {o : Vec F S512x512 .f32 → Prop}
    (hk : St (XX I) K ks c ⟨⟨15, 15, 15, 13, 13, .full (XX I .acw (backD .acw c) 14), .full (XX I .acw (backD .acw c) 12), .full (XX I .acw (backD .acw c) 13)⟩, ⟨15, 15, 14, 13, 13, .half (XX I .bcw c 14), .full (XX I .bcw (backD .bcw c) 14), .full (XX I .bcw c 13)⟩, ⟨15, 15, 15, 13, 13, .full (XX I .accw (backD .accw c) 14), .full (XX I .accw (backD .accw c) 12), .full (XX I .accw (backD .accw c) 13)⟩, ⟨15, 15, 14, 13, 13, .half (XX I .bccw c 14), .full (XX I .bccw (backD .bccw c) 14), .full (XX I .bccw c 13)⟩⟩ (Beside I c (outIs I c) Z)
      ⊢ WP c (k ⟨⟩) Q) :
    St (XX I) K ks c ⟨⟨15, 15, 15, 13, 13, .full (XX I .acw (backD .acw c) 14), .full (XX I .acw (backD .acw c) 12), .full (XX I .acw (backD .acw c) 13)⟩, ⟨15, 14, 14, 13, 13, .half (XX I .bcw c 14), .gone, .full (XX I .bcw c 13)⟩, ⟨15, 15, 15, 13, 13, .full (XX I .accw (backD .accw c) 14), .full (XX I .accw (backD .accw c) 12), .full (XX I .accw (backD .accw c) 13)⟩, ⟨15, 14, 14, 13, 13, .half (XX I .bccw c 14), .gone, .full (XX I .bccw c 13)⟩⟩ (Beside I c o Z)
      ⊢ WP c (k0_part110 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v5 (homeCw I c) (homeCcw I c) >>= k) Q := by
  rw [k0_part110_eq_skeleton]
  unfold k0_part110_skel
  refine op_recv (XX I) K ks c .bcw 14 (by rfl) (by decide) (by rfl) (by exact above_of rfl) (i' := 1) ?_
  refine ld_bcw (XX I) K ks c 1 (by rfl) (by exact fun _ h => h) ?_
  refine ldx_out I K ks c (fun _ => ?_)
  refine st_out I K ks c (topIs I c) (by exact fun f g _ h _ => h) ?_
  refine op_recv (XX I) K ks c .bccw 14 (by rfl) (by decide) (by rfl) (by exact above_of rfl) (i' := 1) ?_
  refine ld_bccw (XX I) K ks c 1 (by rfl) (by exact fun _ h => h) ?_
  refine ldx_out I K ks c (fun _ => ?_)
  refine st_out I K ks c (outIs I c) (by exact fun f g hf h hr => ⟨fun y => (hr _ fun z => top_ne_bot z y).trans (hf y), h⟩) ?_
  exact hk

end Cert.MoE
-- ==== Proof.Parts1.lean ====
/-
The run of the kernel's parts 3 to 16: what each does to the state.
-/
module

public import proofs.«01_k».proof.Proof.Names

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

theorem part3 {Y : sProp 𝕄} {α : Type} {Q : α → sProp 𝕄} (v60 : FVec F S4x256x512 .bf16) (v62 : F .f32)
    {k : (Σ' (v68 : FVec F S256x256 .bf16) (v108 : FVec F S256x512 .f32), IVec S256x1 32) → Prog (TpuEff nD τ sig (Elt F) Λ₀ .tc) α}
    (hk : St (XX I) K ks c ⟨⟨0, 0, 0, 0, 0, .full (XX I .acw c 0), .gone, .gone⟩, ⟨0, 0, 0, 0, 0, .gone, .full (fun _ => True), .gone⟩, ⟨0, 0, 0, 0, 0, .full (XX I .accw c 0), .gone, .gone⟩, ⟨0, 0, 0, 0, 0, .gone, .full (fun _ => True), .gone⟩⟩ Y
      ⊢ WP c (k ⟨k0_pay15 (px I .acw (org .acw c 0)), k0_pay17 v60 v62 (px I .acw (org .acw c 0)) (pr I .acw (org .acw c 0)), k0_pay18 v62 (pr I .acw (org .acw c 0))⟩) Q) :
    St (XX I) K ks c ⟨⟨0, 0, 0, 0, 0, .full (XX I .acw c 0), .gone, .gone⟩, ⟨0, 0, 0, 0, 0, .gone, .full (fun _ => True), .gone⟩, ⟨0, 0, 0, 0, 0, .full (XX I .accw c 0), .gone, .gone⟩, ⟨0, 0, 0, 0, 0, .gone, .full (fun _ => True), .gone⟩⟩ Y
      ⊢ WP c (k0_part3 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 >>= k) Q := by
  rw [k0_part3_eq_skeleton]
  unfold k0_part3_skel
  refine ld_acw (XX I) K ks c 0 (by exact .inl rfl) embX (hrX 0 _) (by exact fun _ h => pktX h) ?_
  refine ld_acw (XX I) K ks c 0 (by exact .inl rfl) embR (hrR 0 _) (by exact fun _ h => pktR h) ?_
  exact hk

theorem part4 {Y : sProp 𝕄} {α : Type} {Q : α → sProp 𝕄} (v60 : FVec F S4x256x512 .bf16) (v62 : F .f32) (v65 : FVec F S512x512 .f32) (v66 : FVec F S256x512 .f32) (v68 : FVec F S256x256 .bf16) (v108 : FVec F S256x512 .f32) (v112 : IVec S256x1 32)
    {k : (Σ' (v121 : FVec F S256x512 .f32) (v122 : FVec F S256x512 .f32) (v124 : FVec F S256x256 .bf16) (v127 : FVec F S256x1 .f32) (v152 : FVec F S256x512 .f32), FVec F S256x256 .bf16) → Prog (TpuEff nD τ sig (Elt F) Λ₀ .tc) α}
    (hk : St (XX I) K ks c ⟨⟨0, 0, 0, 0, 0, .full (XX I .acw c 0), .gone, .gone⟩, ⟨0, 0, 0, 0, 0, .gone, .full (fun _ => True), .gone⟩, ⟨0, 0, 0, 0, 0, .full (XX I .accw c 0), .gone, .gone⟩, ⟨0, 0, 0, 0, 0, .gone, .full (fun _ => True), .gone⟩⟩ Y
      ⊢ WP c (k ⟨k0_pay19 v60 v66 v68 v108 v112, k0_pay20 v65, k0_pay21 (px I .accw (org .accw c 0)), k0_pay22 (pr I .accw (org .accw c 0)), k0_pay23 v60 v62 (px I .accw (org .accw c 0)) (pr I .accw (org .accw c 0)), k0_pay24 v62 (pr I .accw (org .accw c 0))⟩) Q) :
    St (XX I) K ks c ⟨⟨0, 0, 0, 0, 0, .full (XX I .acw c 0), .gone, .gone⟩, ⟨0, 0, 0, 0, 0, .gone, .full (fun _ => True), .gone⟩, ⟨0, 0, 0, 0, 0, .full (XX I .accw c 0), .gone, .gone⟩, ⟨0, 0, 0, 0, 0, .gone, .full (fun _ => True), .gone⟩⟩ Y
      ⊢ WP c (k0_part4 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v65 v66 v68 v108 v112 >>= k) Q := by
  rw [k0_part4_eq_skeleton]
  unfold k0_part4_skel
  refine ld_accw (XX I) K ks c 0 (by exact .inl rfl) embX (hrX 0 _) (by exact fun _ h => pktX h) ?_
  refine ld_accw (XX I) K ks c 0 (by exact .inl rfl) embR (hrR 0 _) (by exact fun _ h => pktR h) ?_
  exact hk

theorem part5 {Y : sProp 𝕄} {α : Type} {Q : α → sProp 𝕄} (v5 : BitVec 32) (v7 : BitVec 32) (v60 : FVec F S4x256x512 .bf16) (v62 : F .f32) (v122 : FVec F S256x512 .f32) (v124 : FVec F S256x256 .bf16) (v127 : FVec F S256x1 .f32) (v152 : FVec F S256x512 .f32) (v159 : FVec F S256x256 .bf16)
    {k : (FVec F S256x512 .f32) → Prog (TpuEff nD τ sig (Elt F) Λ₀ .tc) α}
    (hk : St (XX I) K ks c ⟨⟨1, 0, 0, 0, 0, .half (XX I .acw c 0), .gone, .gone⟩, ⟨0, 0, 0, 0, 0, .gone, .full (fun _ => True), .gone⟩, ⟨0, 0, 0, 0, 0, .full (XX I .accw c 0), .gone, .gone⟩, ⟨0, 0, 0, 0, 0, .gone, .full (fun _ => True), .gone⟩⟩ Y
      ⊢ WP c (k (k0_pay25 v60 v62 v122 v124 v127 v152 v159)) Q) :
    St (XX I) K ks c ⟨⟨0, 0, 0, 0, 0, .full (XX I .acw c 0), .gone, .gone⟩, ⟨0, 0, 0, 0, 0, .gone, .full (fun _ => True), .gone⟩, ⟨0, 0, 0, 0, 0, .full (XX I .accw c 0), .gone, .gone⟩, ⟨0, 0, 0, 0, 0, .gone, .full (fun _ => True), .gone⟩⟩ Y
      ⊢ WP c (k0_part5 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v60 v62 v122 v124 v127 v152 v159 >>= k) Q := by
  rw [k0_part5_eq_skeleton]
  unfold k0_part5_skel
  refine op_start (XX I) K ks c .acw 0 (by exact to_nxt (k0_dev3_eq c)) (by rfl) (by decide) (by show 0 < 0 + 2; decide) (by show 0 ≤ 0 ∧ 0 ≤ 0 + 2; decide) (by rfl) (by exact fun _ h => h) ?_
  exact hk

theorem part6 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨2, 1, 0, 0, 0, .half (XX I .acw c 0), .half (XX I .acw (backD .acw c) 0), .gone⟩, ⟨0, 0, 0, 0, 0, .gone, .full (fun _ => True), .gone⟩, ⟨1, 0, 0, 0, 0, .half (XX I .accw c 0), .gone, .gone⟩, ⟨0, 0, 0, 0, 0, .gone, .full (fun _ => True), .gone⟩⟩ Y
      ⊢ WP c (k ⟨⟩) Q) :
    St (XX I) K ks c ⟨⟨1, 0, 0, 0, 0, .half (XX I .acw c 0), .gone, .gone⟩, ⟨0, 0, 0, 0, 0, .gone, .full (fun _ => True), .gone⟩, ⟨0, 0, 0, 0, 0, .full (XX I .accw c 0), .gone, .gone⟩, ⟨0, 0, 0, 0, 0, .gone, .full (fun _ => True), .gone⟩⟩ Y
      ⊢ WP c (k0_part6 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part6_eq_skeleton]
  unfold k0_part6_skel
  refine op_start (XX I) K ks c .accw 0 (by exact to_prv (k0_dev4_eq c)) (by rfl) (by decide) (by show 0 < 0 + 2; decide) (by show 0 ≤ 0 ∧ 0 ≤ 0 + 2; decide) (by rfl) (by exact fun _ h => h) ?_
  refine op_recv (XX I) K ks c .acw 0 (by rfl) (by decide) (by rfl) (by exact above_of rfl) (i' := 1) ?_
  refine op_start (XX I) K ks c .acw 1 (by exact to_nxt (k0_dev5_eq c)) (by rfl) (by decide) (by show 1 < 0 + 2; decide) (by show 0 ≤ 1 ∧ 1 ≤ 0 + 2; decide) (by rfl) (by exact fun _ h => pass_acw I c 0 h) ?_
  exact hk

theorem part7 {Y : sProp 𝕄} {α : Type} {Q : α → sProp 𝕄} (v5 : BitVec 32) (v60 : FVec F S4x256x512 .bf16) (v62 : F .f32)
    {k : (Σ' (v235 : FVec F S256x256 .bf16) (v238 : FVec F S256x1 .f32) (v251 : FVec F S256x512 .f32) (v259 : FVec F S256x256 .bf16), FVec F S1x256x512 .bf16) → Prog (TpuEff nD τ sig (Elt F) Λ₀ .tc) α}
    (hk : St (XX I) K ks c ⟨⟨2, 1, 0, 0, 0, .half (XX I .acw c 0), .half (XX I .acw (backD .acw c) 0), .gone⟩, ⟨0, 0, 0, 0, 0, .gone, .full (fun _ => True), .gone⟩, ⟨2, 1, 0, 0, 0, .half (XX I .accw c 0), .half (XX I .accw (backD .accw c) 0), .gone⟩, ⟨0, 0, 0, 0, 0, .gone, .full (fun _ => True), .gone⟩⟩ Y
      ⊢ WP c (k ⟨k0_pay26 (px I .acw (org .acw (backD .acw c) 0)), k0_pay27 (pr I .acw (org .acw (backD .acw c) 0)), k0_pay28 v60 v62 (px I .acw (org .acw (backD .acw c) 0)) (pr I .acw (org .acw (backD .acw c) 0)), k0_pay29 v62 (px I .acw (org .acw (backD .acw c) 0)) (pr I .acw (org .acw (backD .acw c) 0)), k0_pay30 v60⟩) Q) :
    St (XX I) K ks c ⟨⟨2, 1, 0, 0, 0, .half (XX I .acw c 0), .half (XX I .acw (backD .acw c) 0), .gone⟩, ⟨0, 0, 0, 0, 0, .gone, .full (fun _ => True), .gone⟩, ⟨1, 0, 0, 0, 0, .half (XX I .accw c 0), .gone, .gone⟩, ⟨0, 0, 0, 0, 0, .gone, .full (fun _ => True), .gone⟩⟩ Y
      ⊢ WP c (k0_part7 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v60 v62 >>= k) Q := by
  rw [k0_part7_eq_skeleton]
  unfold k0_part7_skel
  refine op_recv (XX I) K ks c .accw 0 (by rfl) (by decide) (by rfl) (by exact above_of rfl) (i' := 1) ?_
  refine op_start (XX I) K ks c .accw 1 (by exact to_prv (k0_dev6_eq c)) (by rfl) (by decide) (by show 1 < 0 + 2; decide) (by show 0 ≤ 1 ∧ 1 ≤ 0 + 2; decide) (by rfl) (by exact fun _ h => pass_accw I c 0 h) ?_
  refine ld_acw (XX I) K ks c 1 (by exact .inr rfl) embX (hrX 1 _) (by exact fun _ h => pktX h) ?_
  refine ld_acw (XX I) K ks c 1 (by exact .inr rfl) embR (hrR 1 _) (by exact fun _ h => pktR h) ?_
  exact hk

theorem part8 {Y : sProp 𝕄} {α : Type} {Q : α → sProp 𝕄} (v60 : FVec F S4x256x512 .bf16) (v62 : F .f32) (v235 : FVec F S256x256 .bf16) (v238 : FVec F S256x1 .f32) (v251 : FVec F S256x512 .f32) (v259 : FVec F S256x256 .bf16) (v260 : FVec F S1x256x512 .bf16)
    {k : (Σ' (v287 : FVec F S256x512 .f32) (v289 : FVec F S256x256 .bf16) (v292 : FVec F S256x1 .f32) (v305 : FVec F S256x512 .f32), F .f32) → Prog (TpuEff nD τ sig (Elt F) Λ₀ .tc) α}
    (hk : St (XX I) K ks c ⟨⟨2, 1, 0, 0, 0, .half (XX I .acw c 0), .half (XX I .acw (backD .acw c) 0), .gone⟩, ⟨0, 0, 0, 0, 0, .gone, .full (fun _ => True), .gone⟩, ⟨2, 1, 0, 0, 0, .half (XX I .accw c 0), .half (XX I .accw (backD .accw c) 0), .gone⟩, ⟨0, 0, 0, 0, 0, .gone, .full (fun _ => True), .gone⟩⟩ Y
      ⊢ WP c (k ⟨k0_pay31 v60 v62 v235 v238 v251 v259 v260, k0_pay32 (px I .accw (org .accw (backD .accw c) 0)), k0_pay33 (pr I .accw (org .accw (backD .accw c) 0)), k0_pay34 v60 v62 (px I .accw (org .accw (backD .accw c) 0)) (pr I .accw (org .accw (backD .accw c) 0)), (Scalar.ofBits .f32 0x3F800000#32)⟩) Q) :
    St (XX I) K ks c ⟨⟨2, 1, 0, 0, 0, .half (XX I .acw c 0), .half (XX I .acw (backD .acw c) 0), .gone⟩, ⟨0, 0, 0, 0, 0, .gone, .full (fun _ => True), .gone⟩, ⟨2, 1, 0, 0, 0, .half (XX I .accw c 0), .half (XX I .accw (backD .accw c) 0), .gone⟩, ⟨0, 0, 0, 0, 0, .gone, .full (fun _ => True), .gone⟩⟩ Y
      ⊢ WP c (k0_part8 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v235 v238 v251 v259 v260 >>= k) Q := by
  rw [k0_part8_eq_skeleton]
  unfold k0_part8_skel
  refine ld_accw (XX I) K ks c 1 (by exact .inr rfl) embX (hrX 1 _) (by exact fun _ h => pktX h) ?_
  refine ld_accw (XX I) K ks c 1 (by exact .inr rfl) embR (hrR 1 _) (by exact fun _ h => pktR h) ?_
  exact hk

theorem part9 {Y : sProp 𝕄} {α : Type} {Q : α → sProp 𝕄} (v5 : BitVec 32) (v60 : FVec F S4x256x512 .bf16) (v62 : F .f32) (v289 : FVec F S256x256 .bf16) (v292 : FVec F S256x1 .f32) (v305 : FVec F S256x512 .f32) (cst_149 : F .f32)
    {k : (Σ' (v341 : FVec F S256x512 .f32), BitVec 32) → Prog (TpuEff nD τ sig (Elt F) Λ₀ .tc) α}
    (hk : St (XX I) K ks c ⟨⟨2, 1, 1, 0, 0, .full (XX I .acw c 0), .half (XX I .acw (backD .acw c) 0), .gone⟩, ⟨0, 0, 0, 0, 0, .gone, .full (fun _ => True), .gone⟩, ⟨2, 1, 0, 0, 0, .half (XX I .accw c 0), .half (XX I .accw (backD .accw c) 0), .gone⟩, ⟨0, 0, 0, 0, 0, .gone, .full (fun _ => True), .gone⟩⟩ Y
      ⊢ WP c (k ⟨k0_pay35 v60 v62 v289 v292 v305 cst_149, (Scalar.muli v5 1#32)⟩) Q) :
    St (XX I) K ks c ⟨⟨2, 1, 0, 0, 0, .half (XX I .acw c 0), .half (XX I .acw (backD .acw c) 0), .gone⟩, ⟨0, 0, 0, 0, 0, .gone, .full (fun _ => True), .gone⟩, ⟨2, 1, 0, 0, 0, .half (XX I .accw c 0), .half (XX I .accw (backD .accw c) 0), .gone⟩, ⟨0, 0, 0, 0, 0, .gone, .full (fun _ => True), .gone⟩⟩ Y
      ⊢ WP c (k0_part9 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v5 v60 v62 v289 v292 v305 cst_149 >>= k) Q := by
  rw [k0_part9_eq_skeleton]
  unfold k0_part9_skel
  refine op_send (XX I) K ks c .acw 0 (by rfl) (by decide) (by show 0 < 2; decide) (by rfl) (by exact above_of rfl) (i' := 0) ?_
  exact hk

theorem part10 {Y : sProp 𝕄} {α : Type} {Q : α → sProp 𝕄} (v7 : BitVec 32) (v287 : FVec F S256x512 .f32) (v341 : FVec F S256x512 .f32) (v348 : BitVec 32)
    (hw0 : (k0_pay36 v287) = Bv I .bcw c 0)
    {k : (FVec F S256x512 .bf16) → Prog (TpuEff nD τ sig (Elt F) Λ₀ .tc) α}
    (hk : St (XX I) K ks c ⟨⟨2, 1, 1, 1, 0, .gone, .half (XX I .acw (backD .acw c) 0), .gone⟩, ⟨1, 0, 0, 0, 0, .gone, .half (XX I .bcw c 0), .gone⟩, ⟨2, 1, 1, 1, 0, .gone, .half (XX I .accw (backD .accw c) 0), .gone⟩, ⟨0, 0, 0, 0, 0, .gone, .full (fun _ => True), .gone⟩⟩ Y
      ⊢ WP c (k (k0_pay37 v341)) Q) :
    St (XX I) K ks c ⟨⟨2, 1, 1, 0, 0, .full (XX I .acw c 0), .half (XX I .acw (backD .acw c) 0), .gone⟩, ⟨0, 0, 0, 0, 0, .gone, .full (fun _ => True), .gone⟩, ⟨2, 1, 0, 0, 0, .half (XX I .accw c 0), .half (XX I .accw (backD .accw c) 0), .gone⟩, ⟨0, 0, 0, 0, 0, .gone, .full (fun _ => True), .gone⟩⟩ Y
      ⊢ WP c (k0_part10 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v7 v287 v341 v348 >>= k) Q := by
  rw [k0_part10_eq_skeleton]
  unfold k0_part10_skel
  refine op_give (XX I) K ks c .acw 0 (by exact to_prv (k0_dev7_eq c)) (by rfl) (by decide) (by show 0 ≤ 1 ∧ 1 ≤ 0 + 2; decide) (by rfl) ?_
  refine op_send (XX I) K ks c .accw 0 (by rfl) (by decide) (by show 0 < 2; decide) (by rfl) (by exact above_of rfl) (i' := 0) ?_
  refine op_give (XX I) K ks c .accw 0 (by exact to_nxt (k0_dev8_eq c)) (by rfl) (by decide) (by show 0 ≤ 1 ∧ 1 ≤ 0 + 2; decide) (by rfl) ?_
  refine ldx_bcw (XX I) K ks c 1 (by rfl) (fun v359 => ?_)
  refine st_bcw (XX I) K ks c 1 (by rfl) (XX I .bcw c 0) hw0 ?_
  refine op_start (XX I) K ks c .bcw 0 (by exact to_nxt (k0_dev9_eq c)) (by rfl) (by decide) (by show 0 < 0 + 2; decide) (by show 0 ≤ 0 ∧ 0 ≤ 0 + 2; decide) (by rfl) (by exact fun _ h => h) ?_
  refine ldx_bccw (XX I) K ks c 1 (by rfl) (fun v373 => ?_)
  exact hk

theorem part11 {Y : sProp 𝕄} {α : Type} {Q : α → sProp 𝕄} (v5 : BitVec 32) (v7 : BitVec 32) (v372 : FVec F S256x512 .bf16)
    (hw0 : (k0_pay38 v372) = Bv I .bccw c 0)
    {k : (PUnit) → Prog (TpuEff nD τ sig (Elt F) Λ₀ .tc) α}
    (hk : St (XX I) K ks c ⟨⟨2, 2, 1, 1, 1, .gone, .half (XX I .acw (backD .acw c) 0), .full (XX I .acw (backD .acw c) 1)⟩, ⟨1, 0, 0, 0, 0, .gone, .half (XX I .bcw c 0), .gone⟩, ⟨2, 1, 1, 1, 0, .gone, .half (XX I .accw (backD .accw c) 0), .gone⟩, ⟨1, 0, 0, 0, 0, .gone, .half (XX I .bccw c 0), .gone⟩⟩ Y
      ⊢ WP c (k ⟨⟩) Q) :
    St (XX I) K ks c ⟨⟨2, 1, 1, 1, 0, .gone, .half (XX I .acw (backD .acw c) 0), .gone⟩, ⟨1, 0, 0, 0, 0, .gone, .half (XX I .bcw c 0), .gone⟩, ⟨2, 1, 1, 1, 0, .gone, .half (XX I .accw (backD .accw c) 0), .gone⟩, ⟨0, 0, 0, 0, 0, .gone, .full (fun _ => True), .gone⟩⟩ Y
      ⊢ WP c (k0_part11 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v372 >>= k) Q := by
  rw [k0_part11_eq_skeleton]
  unfold k0_part11_skel
  refine st_bccw (XX I) K ks c 1 (by rfl) (XX I .bccw c 0) hw0 ?_
  refine op_start (XX I) K ks c .bccw 0 (by exact to_prv (k0_dev10_eq c)) (by rfl) (by decide) (by show 0 < 0 + 2; decide) (by show 0 ≤ 0 ∧ 0 ≤ 0 + 2; decide) (by rfl) (by exact fun _ h => h) ?_
  refine op_recv (XX I) K ks c .acw 1 (by rfl) (by decide) (by rfl) (by exact above_of rfl) (i' := 2) ?_
  refine op_have (XX I) K ks c .acw 0 (by rfl) (by decide) (by exact above_of rfl) ?_
  exact hk

theorem part12 {Y : sProp 𝕄} {α : Type} {Q : α → sProp 𝕄} (v5 : BitVec 32)
    {k : (Σ' (v423 : FVec F S256x256 .bf16), FVec F S256x1 .f32) → Prog (TpuEff nD τ sig (Elt F) Λ₀ .tc) α}
    (hk : St (XX I) K ks c ⟨⟨3, 2, 1, 1, 1, .gone, .half (XX I .acw (backD .acw c) 0), .half (XX I .acw (backD .acw c) 1)⟩, ⟨1, 0, 0, 0, 0, .gone, .half (XX I .bcw c 0), .gone⟩, ⟨3, 2, 1, 1, 1, .gone, .half (XX I .accw (backD .accw c) 0), .half (XX I .accw (backD .accw c) 1)⟩, ⟨1, 0, 0, 0, 0, .gone, .half (XX I .bccw c 0), .gone⟩⟩ Y
      ⊢ WP c (k ⟨k0_pay39 (px I .acw (org .acw (backD .acw c) 1)), k0_pay40 (pr I .acw (org .acw (backD .acw c) 1))⟩) Q) :
    St (XX I) K ks c ⟨⟨2, 2, 1, 1, 1, .gone, .half (XX I .acw (backD .acw c) 0), .full (XX I .acw (backD .acw c) 1)⟩, ⟨1, 0, 0, 0, 0, .gone, .half (XX I .bcw c 0), .gone⟩, ⟨2, 1, 1, 1, 0, .gone, .half (XX I .accw (backD .accw c) 0), .gone⟩, ⟨1, 0, 0, 0, 0, .gone, .half (XX I .bccw c 0), .gone⟩⟩ Y
      ⊢ WP c (k0_part12 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 >>= k) Q := by
  rw [k0_part12_eq_skeleton]
  unfold k0_part12_skel
  refine op_start (XX I) K ks c .acw 2 (by exact to_nxt (k0_dev11_eq c)) (by rfl) (by decide) (by show 2 < 1 + 2; decide) (by show 1 ≤ 2 ∧ 2 ≤ 1 + 2; decide) (by rfl) (by exact fun _ h => pass_acw I c 1 h) ?_
  refine op_recv (XX I) K ks c .accw 1 (by rfl) (by decide) (by rfl) (by exact above_of rfl) (i' := 2) ?_
  refine op_have (XX I) K ks c .accw 0 (by rfl) (by decide) (by exact above_of rfl) ?_
  refine op_start (XX I) K ks c .accw 2 (by exact to_prv (k0_dev12_eq c)) (by rfl) (by decide) (by show 2 < 1 + 2; decide) (by show 1 ≤ 2 ∧ 2 ≤ 1 + 2; decide) (by rfl) (by exact fun _ h => pass_accw I c 1 h) ?_
  refine ld_acw (XX I) K ks c 2 (by exact .inr rfl) embX (hrX 2 _) (by exact fun _ h => pktX h) ?_
  refine ld_acw (XX I) K ks c 2 (by exact .inr rfl) embR (hrR 2 _) (by exact fun _ h => pktR h) ?_
  exact hk

theorem part13 {Y : sProp 𝕄} {α : Type} {Q : α → sProp 𝕄} (v60 : FVec F S4x256x512 .bf16) (v62 : F .f32) (v423 : FVec F S256x256 .bf16) (v426 : FVec F S256x1 .f32)
    {k : (FVec F S256x512 .f32) → Prog (TpuEff nD τ sig (Elt F) Λ₀ .tc) α}
    (hk : St (XX I) K ks c ⟨⟨3, 2, 1, 1, 1, .gone, .half (XX I .acw (backD .acw c) 0), .half (XX I .acw (backD .acw c) 1)⟩, ⟨1, 0, 0, 0, 0, .gone, .half (XX I .bcw c 0), .gone⟩, ⟨3, 2, 1, 1, 1, .gone, .half (XX I .accw (backD .accw c) 0), .half (XX I .accw (backD .accw c) 1)⟩, ⟨1, 0, 0, 0, 0, .gone, .half (XX I .bccw c 0), .gone⟩⟩ Y
      ⊢ WP c (k (k0_pay41 v60 v62 v423 v426)) Q) :
    St (XX I) K ks c ⟨⟨3, 2, 1, 1, 1, .gone, .half (XX I .acw (backD .acw c) 0), .half (XX I .acw (backD .acw c) 1)⟩, ⟨1, 0, 0, 0, 0, .gone, .half (XX I .bcw c 0), .gone⟩, ⟨3, 2, 1, 1, 1, .gone, .half (XX I .accw (backD .accw c) 0), .half (XX I .accw (backD .accw c) 1)⟩, ⟨1, 0, 0, 0, 0, .gone, .half (XX I .bccw c 0), .gone⟩⟩ Y
      ⊢ WP c (k0_part13 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v423 v426 >>= k) Q := by
  rw [k0_part13_eq_skeleton]
  unfold k0_part13_skel
  exact hk

theorem part14 {Y : sProp 𝕄} {α : Type} {Q : α → sProp 𝕄} (v60 : FVec F S4x256x512 .bf16) (v62 : F .f32)
    {k : (Σ' (v477 : FVec F S256x256 .bf16) (v517 : FVec F S256x512 .f32), FVec F S256x1 .bf16) → Prog (TpuEff nD τ sig (Elt F) Λ₀ .tc) α}
    (hk : St (XX I) K ks c ⟨⟨3, 2, 1, 1, 1, .gone, .half (XX I .acw (backD .acw c) 0), .half (XX I .acw (backD .acw c) 1)⟩, ⟨1, 0, 0, 0, 0, .gone, .half (XX I .bcw c 0), .gone⟩, ⟨3, 2, 1, 1, 1, .gone, .half (XX I .accw (backD .accw c) 0), .half (XX I .accw (backD .accw c) 1)⟩, ⟨1, 0, 0, 0, 0, .gone, .half (XX I .bccw c 0), .gone⟩⟩ Y
      ⊢ WP c (k ⟨k0_pay42 (px I .accw (org .accw (backD .accw c) 1)), k0_pay44 v60 v62 (px I .accw (org .accw (backD .accw c) 1)) (pr I .accw (org .accw (backD .accw c) 1)), k0_pay45 v62 (pr I .accw (org .accw (backD .accw c) 1))⟩) Q) :
    St (XX I) K ks c ⟨⟨3, 2, 1, 1, 1, .gone, .half (XX I .acw (backD .acw c) 0), .half (XX I .acw (backD .acw c) 1)⟩, ⟨1, 0, 0, 0, 0, .gone, .half (XX I .bcw c 0), .gone⟩, ⟨3, 2, 1, 1, 1, .gone, .half (XX I .accw (backD .accw c) 0), .half (XX I .accw (backD .accw c) 1)⟩, ⟨1, 0, 0, 0, 0, .gone, .half (XX I .bccw c 0), .gone⟩⟩ Y
      ⊢ WP c (k0_part14 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 >>= k) Q := by
  rw [k0_part14_eq_skeleton]
  unfold k0_part14_skel
  refine ld_accw (XX I) K ks c 2 (by exact .inr rfl) embX (hrX 2 _) (by exact fun _ h => pktX h) ?_
  refine ld_accw (XX I) K ks c 2 (by exact .inr rfl) embR (hrR 2 _) (by exact fun _ h => pktR h) ?_
  exact hk

theorem part15 {Y : sProp 𝕄} {α : Type} {Q : α → sProp 𝕄} (v5 : BitVec 32) (v7 : BitVec 32) (v60 : FVec F S4x256x512 .bf16) (v477 : FVec F S256x256 .bf16) (v517 : FVec F S256x512 .f32) (v523 : FVec F S256x1 .bf16)
    {k : (FVec F S256x512 .f32) → Prog (TpuEff nD τ sig (Elt F) Λ₀ .tc) α}
    (hk : St (XX I) K ks c ⟨⟨3, 2, 2, 2, 1, .gone, .gone, .half (XX I .acw (backD .acw c) 1)⟩, ⟨1, 0, 0, 0, 0, .gone, .half (XX I .bcw c 0), .gone⟩, ⟨3, 2, 2, 2, 1, .gone, .gone, .half (XX I .accw (backD .accw c) 1)⟩, ⟨1, 0, 0, 0, 0, .gone, .half (XX I .bccw c 0), .gone⟩⟩ Y
      ⊢ WP c (k (k0_pay46 v60 v477 v517 v523)) Q) :
    St (XX I) K ks c ⟨⟨3, 2, 1, 1, 1, .gone, .half (XX I .acw (backD .acw c) 0), .half (XX I .acw (backD .acw c) 1)⟩, ⟨1, 0, 0, 0, 0, .gone, .half (XX I .bcw c 0), .gone⟩, ⟨3, 2, 1, 1, 1, .gone, .half (XX I .accw (backD .accw c) 0), .half (XX I .accw (backD .accw c) 1)⟩, ⟨1, 0, 0, 0, 0, .gone, .half (XX I .bccw c 0), .gone⟩⟩ Y
      ⊢ WP c (k0_part15 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v60 v477 v517 v523 >>= k) Q := by
  rw [k0_part15_eq_skeleton]
  unfold k0_part15_skel
  refine op_send (XX I) K ks c .acw 1 (by rfl) (by decide) (by show 1 < 3; decide) (by rfl) (by exact above_of rfl) (i' := 1) ?_
  refine op_give (XX I) K ks c .acw 1 (by exact to_prv (k0_dev13_eq c)) (by rfl) (by decide) (by show 1 ≤ 2 ∧ 2 ≤ 1 + 2; decide) (by rfl) ?_
  refine op_send (XX I) K ks c .accw 1 (by rfl) (by decide) (by show 1 < 3; decide) (by rfl) (by exact above_of rfl) (i' := 1) ?_
  refine op_give (XX I) K ks c .accw 1 (by exact to_nxt (k0_dev14_eq c)) (by rfl) (by decide) (by show 1 ≤ 2 ∧ 2 ≤ 1 + 2; decide) (by rfl) ?_
  exact hk

theorem part16 {Y : sProp 𝕄} {α : Type} {Q : α → sProp 𝕄} (v5 : BitVec 32) (v7 : BitVec 32) (v475 : FVec F S256x512 .f32)
    (hw0 : (k0_pay47 v475 (Bv I .bcw (backD .bcw c) 0)) = Bv I .bcw c 1)
    {k : (PUnit) → Prog (TpuEff nD τ sig (Elt F) Λ₀ .tc) α}
    (hk : St (XX I) K ks c ⟨⟨3, 2, 2, 2, 1, .gone, .gone, .half (XX I .acw (backD .acw c) 1)⟩, ⟨1, 1, 1, 1, 0, .gone, .gone, .full (XX I .bcw c 1)⟩, ⟨3, 2, 2, 2, 1, .gone, .gone, .half (XX I .accw (backD .accw c) 1)⟩, ⟨1, 0, 0, 0, 0, .gone, .half (XX I .bccw c 0), .gone⟩⟩ Y
      ⊢ WP c (k ⟨⟩) Q) :
    St (XX I) K ks c ⟨⟨3, 2, 2, 2, 1, .gone, .gone, .half (XX I .acw (backD .acw c) 1)⟩, ⟨1, 0, 0, 0, 0, .gone, .half (XX I .bcw c 0), .gone⟩, ⟨3, 2, 2, 2, 1, .gone, .gone, .half (XX I .accw (backD .accw c) 1)⟩, ⟨1, 0, 0, 0, 0, .gone, .half (XX I .bccw c 0), .gone⟩⟩ Y
      ⊢ WP c (k0_part16 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v475 >>= k) Q := by
  rw [k0_part16_eq_skeleton]
  unfold k0_part16_skel
  refine op_send (XX I) K ks c .bcw 0 (by rfl) (by decide) (by show 0 < 1; decide) (by rfl) (by exact above_of rfl) (i' := 1) ?_
  refine op_give (XX I) K ks c .bcw 0 (by exact to_prv (k0_dev15_eq c)) (by rfl) (by decide) (by show 0 ≤ 0 ∧ 0 ≤ 0 + 2; decide) (by rfl) ?_
  refine op_recv (XX I) K ks c .bcw 0 (by rfl) (by decide) (by rfl) (by exact above_of rfl) (i' := 2) ?_
  refine ld_bcw (XX I) K ks c 2 (by rfl) (by exact fun _ h => h) ?_
  refine ld_bcw (XX I) K ks c 2 (by rfl) (by exact fun _ h => h) ?_
  refine st_bcw (XX I) K ks c 2 (by rfl) (XX I .bcw c 1) hw0 ?_
  exact hk

end Cert.MoE
-- ==== Proof.Parts2.lean ====
/-
The run of the kernel's parts 17 to 30: what each does to the state.
-/
module

public import proofs.«01_k».proof.Proof.Names

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

theorem part17 {Y : sProp 𝕄} {α : Type} {Q : α → sProp 𝕄} (v5 : BitVec 32) (v7 : BitVec 32) (v529 : FVec F S256x512 .f32)
    {k : (FVec F S256x512 .bf16) → Prog (TpuEff nD τ sig (Elt F) Λ₀ .tc) α}
    (hk : St (XX I) K ks c ⟨⟨3, 2, 2, 2, 1, .gone, .gone, .half (XX I .acw (backD .acw c) 1)⟩, ⟨2, 1, 1, 1, 0, .gone, .gone, .half (XX I .bcw c 1)⟩, ⟨3, 2, 2, 2, 1, .gone, .gone, .half (XX I .accw (backD .accw c) 1)⟩, ⟨1, 1, 1, 1, 0, .gone, .gone, .full (XX I .bccw (backD .bccw c) 0)⟩⟩ Y
      ⊢ WP c (k (k0_pay48 v529 (Bv I .bccw (backD .bccw c) 0))) Q) :
    St (XX I) K ks c ⟨⟨3, 2, 2, 2, 1, .gone, .gone, .half (XX I .acw (backD .acw c) 1)⟩, ⟨1, 1, 1, 1, 0, .gone, .gone, .full (XX I .bcw c 1)⟩, ⟨3, 2, 2, 2, 1, .gone, .gone, .half (XX I .accw (backD .accw c) 1)⟩, ⟨1, 0, 0, 0, 0, .gone, .half (XX I .bccw c 0), .gone⟩⟩ Y
      ⊢ WP c (k0_part17 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v529 >>= k) Q := by
  rw [k0_part17_eq_skeleton]
  unfold k0_part17_skel
  refine op_start (XX I) K ks c .bcw 1 (by exact to_nxt (k0_dev16_eq c)) (by rfl) (by decide) (by show 1 < 0 + 2; decide) (by show 1 ≤ 1 ∧ 1 ≤ 1 + 2; decide) (by rfl) (by exact fun _ h => h) ?_
  refine op_send (XX I) K ks c .bccw 0 (by rfl) (by decide) (by show 0 < 1; decide) (by rfl) (by exact above_of rfl) (i' := 1) ?_
  refine op_give (XX I) K ks c .bccw 0 (by exact to_nxt (k0_dev17_eq c)) (by rfl) (by decide) (by show 0 ≤ 0 ∧ 0 ≤ 0 + 2; decide) (by rfl) ?_
  refine op_recv (XX I) K ks c .bccw 0 (by rfl) (by decide) (by rfl) (by exact above_of rfl) (i' := 2) ?_
  refine ld_bccw (XX I) K ks c 2 (by rfl) (by exact fun _ h => h) ?_
  exact hk

theorem part18 {Y : sProp 𝕄} {α : Type} {Q : α → sProp 𝕄} (v5 : BitVec 32) (v7 : BitVec 32) (v600 : FVec F S256x512 .bf16)
    (hw0 : (k0_pay49 v600) = Bv I .bccw c 1)
    {k : (PUnit) → Prog (TpuEff nD τ sig (Elt F) Λ₀ .tc) α}
    (hk : St (XX I) K ks c ⟨⟨3, 3, 2, 2, 2, .full (XX I .acw (backD .acw c) 2), .gone, .half (XX I .acw (backD .acw c) 1)⟩, ⟨2, 1, 1, 1, 0, .gone, .gone, .half (XX I .bcw c 1)⟩, ⟨3, 2, 2, 2, 1, .gone, .gone, .half (XX I .accw (backD .accw c) 1)⟩, ⟨2, 1, 1, 1, 0, .gone, .gone, .half (XX I .bccw c 1)⟩⟩ Y
      ⊢ WP c (k ⟨⟩) Q) :
    St (XX I) K ks c ⟨⟨3, 2, 2, 2, 1, .gone, .gone, .half (XX I .acw (backD .acw c) 1)⟩, ⟨2, 1, 1, 1, 0, .gone, .gone, .half (XX I .bcw c 1)⟩, ⟨3, 2, 2, 2, 1, .gone, .gone, .half (XX I .accw (backD .accw c) 1)⟩, ⟨1, 1, 1, 1, 0, .gone, .gone, .full (XX I .bccw (backD .bccw c) 0)⟩⟩ Y
      ⊢ WP c (k0_part18 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v600 >>= k) Q := by
  rw [k0_part18_eq_skeleton]
  unfold k0_part18_skel
  refine ld_bccw (XX I) K ks c 2 (by rfl) (by exact fun _ h => h) ?_
  refine st_bccw (XX I) K ks c 2 (by rfl) (XX I .bccw c 1) hw0 ?_
  refine op_start (XX I) K ks c .bccw 1 (by exact to_prv (k0_dev18_eq c)) (by rfl) (by decide) (by show 1 < 0 + 2; decide) (by show 1 ≤ 1 ∧ 1 ≤ 1 + 2; decide) (by rfl) (by exact fun _ h => h) ?_
  refine op_recv (XX I) K ks c .acw 2 (by rfl) (by decide) (by rfl) (by exact above_of rfl) (i' := 0) ?_
  refine op_have (XX I) K ks c .acw 1 (by rfl) (by decide) (by exact above_of rfl) ?_
  exact hk

theorem part19 {Y : sProp 𝕄} {α : Type} {Q : α → sProp 𝕄} (v5 : BitVec 32)
    {k : (Σ' (v651 : FVec F S256x256 .bf16), Vec F S1x256x1 .bf16) → Prog (TpuEff nD τ sig (Elt F) Λ₀ .tc) α}
    (hk : St (XX I) K ks c ⟨⟨4, 3, 2, 2, 2, .half (XX I .acw (backD .acw c) 2), .gone, .half (XX I .acw (backD .acw c) 1)⟩, ⟨2, 1, 1, 1, 0, .gone, .gone, .half (XX I .bcw c 1)⟩, ⟨4, 3, 2, 2, 2, .half (XX I .accw (backD .accw c) 2), .gone, .half (XX I .accw (backD .accw c) 1)⟩, ⟨2, 1, 1, 1, 0, .gone, .gone, .half (XX I .bccw c 1)⟩⟩ Y
      ⊢ WP c (k ⟨k0_pay50 (px I .acw (org .acw (backD .acw c) 2)), (pr I .acw (org .acw (backD .acw c) 2))⟩) Q) :
    St (XX I) K ks c ⟨⟨3, 3, 2, 2, 2, .full (XX I .acw (backD .acw c) 2), .gone, .half (XX I .acw (backD .acw c) 1)⟩, ⟨2, 1, 1, 1, 0, .gone, .gone, .half (XX I .bcw c 1)⟩, ⟨3, 2, 2, 2, 1, .gone, .gone, .half (XX I .accw (backD .accw c) 1)⟩, ⟨2, 1, 1, 1, 0, .gone, .gone, .half (XX I .bccw c 1)⟩⟩ Y
      ⊢ WP c (k0_part19 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 >>= k) Q := by
  rw [k0_part19_eq_skeleton]
  unfold k0_part19_skel
  refine op_start (XX I) K ks c .acw 3 (by exact to_nxt (k0_dev19_eq c)) (by rfl) (by decide) (by show 3 < 2 + 2; decide) (by show 2 ≤ 3 ∧ 3 ≤ 2 + 2; decide) (by rfl) (by exact fun _ h => pass_acw I c 2 h) ?_
  refine op_recv (XX I) K ks c .accw 2 (by rfl) (by decide) (by rfl) (by exact above_of rfl) (i' := 0) ?_
  refine op_have (XX I) K ks c .accw 1 (by rfl) (by decide) (by exact above_of rfl) ?_
  refine op_start (XX I) K ks c .accw 3 (by exact to_prv (k0_dev20_eq c)) (by rfl) (by decide) (by show 3 < 2 + 2; decide) (by show 2 ≤ 3 ∧ 3 ≤ 2 + 2; decide) (by rfl) (by exact fun _ h => pass_accw I c 2 h) ?_
  refine ld_acw (XX I) K ks c 0 (by exact .inr rfl) embX (hrX 0 _) (by exact fun _ h => pktX h) ?_
  refine ld_acw (XX I) K ks c 0 (by exact .inr rfl) embR (hrR 0 _) (by exact fun _ h => pktR h) ?_
  exact hk

theorem part20 {Y : sProp 𝕄} {α : Type} {Q : α → sProp 𝕄} (v60 : FVec F S4x256x512 .bf16) (v62 : F .f32) (v651 : FVec F S256x256 .bf16) (v652 : Vec F S1x256x1 .bf16)
    {k : (FVec F S256x512 .f32) → Prog (TpuEff nD τ sig (Elt F) Λ₀ .tc) α}
    (hk : St (XX I) K ks c ⟨⟨4, 3, 2, 2, 2, .half (XX I .acw (backD .acw c) 2), .gone, .half (XX I .acw (backD .acw c) 1)⟩, ⟨2, 1, 1, 1, 0, .gone, .gone, .half (XX I .bcw c 1)⟩, ⟨4, 3, 2, 2, 2, .half (XX I .accw (backD .accw c) 2), .gone, .half (XX I .accw (backD .accw c) 1)⟩, ⟨2, 1, 1, 1, 0, .gone, .gone, .half (XX I .bccw c 1)⟩⟩ Y
      ⊢ WP c (k (k0_pay51 v60 v62 v651 v652)) Q) :
    St (XX I) K ks c ⟨⟨4, 3, 2, 2, 2, .half (XX I .acw (backD .acw c) 2), .gone, .half (XX I .acw (backD .acw c) 1)⟩, ⟨2, 1, 1, 1, 0, .gone, .gone, .half (XX I .bcw c 1)⟩, ⟨4, 3, 2, 2, 2, .half (XX I .accw (backD .accw c) 2), .gone, .half (XX I .accw (backD .accw c) 1)⟩, ⟨2, 1, 1, 1, 0, .gone, .gone, .half (XX I .bccw c 1)⟩⟩ Y
      ⊢ WP c (k0_part20 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v651 v652 >>= k) Q := by
  rw [k0_part20_eq_skeleton]
  unfold k0_part20_skel
  exact hk

theorem part21 {Y : sProp 𝕄} {α : Type} {Q : α → sProp 𝕄} (v60 : FVec F S4x256x512 .bf16) (v62 : F .f32)
    {k : (Σ' (v705 : FVec F S256x256 .bf16) (v745 : FVec F S256x512 .f32), IVec S256x1 32) → Prog (TpuEff nD τ sig (Elt F) Λ₀ .tc) α}
    (hk : St (XX I) K ks c ⟨⟨4, 3, 2, 2, 2, .half (XX I .acw (backD .acw c) 2), .gone, .half (XX I .acw (backD .acw c) 1)⟩, ⟨2, 1, 1, 1, 0, .gone, .gone, .half (XX I .bcw c 1)⟩, ⟨4, 3, 2, 2, 2, .half (XX I .accw (backD .accw c) 2), .gone, .half (XX I .accw (backD .accw c) 1)⟩, ⟨2, 1, 1, 1, 0, .gone, .gone, .half (XX I .bccw c 1)⟩⟩ Y
      ⊢ WP c (k ⟨k0_pay52 (px I .accw (org .accw (backD .accw c) 2)), k0_pay54 v60 v62 (px I .accw (org .accw (backD .accw c) 2)) (pr I .accw (org .accw (backD .accw c) 2)), k0_pay55 v62 (pr I .accw (org .accw (backD .accw c) 2))⟩) Q) :
    St (XX I) K ks c ⟨⟨4, 3, 2, 2, 2, .half (XX I .acw (backD .acw c) 2), .gone, .half (XX I .acw (backD .acw c) 1)⟩, ⟨2, 1, 1, 1, 0, .gone, .gone, .half (XX I .bcw c 1)⟩, ⟨4, 3, 2, 2, 2, .half (XX I .accw (backD .accw c) 2), .gone, .half (XX I .accw (backD .accw c) 1)⟩, ⟨2, 1, 1, 1, 0, .gone, .gone, .half (XX I .bccw c 1)⟩⟩ Y
      ⊢ WP c (k0_part21 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 >>= k) Q := by
  rw [k0_part21_eq_skeleton]
  unfold k0_part21_skel
  refine ld_accw (XX I) K ks c 0 (by exact .inr rfl) embX (hrX 0 _) (by exact fun _ h => pktX h) ?_
  refine ld_accw (XX I) K ks c 0 (by exact .inr rfl) embR (hrR 0 _) (by exact fun _ h => pktR h) ?_
  exact hk

theorem part22 {Y : sProp 𝕄} {α : Type} {Q : α → sProp 𝕄} (v5 : BitVec 32) (v7 : BitVec 32) (v60 : FVec F S4x256x512 .bf16) (v705 : FVec F S256x256 .bf16) (v745 : FVec F S256x512 .f32) (v749 : IVec S256x1 32)
    {k : (FVec F S256x512 .f32) → Prog (TpuEff nD τ sig (Elt F) Λ₀ .tc) α}
    (hk : St (XX I) K ks c ⟨⟨4, 3, 3, 3, 2, .half (XX I .acw (backD .acw c) 2), .gone, .gone⟩, ⟨2, 1, 1, 1, 0, .gone, .gone, .half (XX I .bcw c 1)⟩, ⟨4, 3, 3, 3, 2, .half (XX I .accw (backD .accw c) 2), .gone, .gone⟩, ⟨2, 1, 1, 1, 0, .gone, .gone, .half (XX I .bccw c 1)⟩⟩ Y
      ⊢ WP c (k (k0_pay56 v60 v705 v745 v749)) Q) :
    St (XX I) K ks c ⟨⟨4, 3, 2, 2, 2, .half (XX I .acw (backD .acw c) 2), .gone, .half (XX I .acw (backD .acw c) 1)⟩, ⟨2, 1, 1, 1, 0, .gone, .gone, .half (XX I .bcw c 1)⟩, ⟨4, 3, 2, 2, 2, .half (XX I .accw (backD .accw c) 2), .gone, .half (XX I .accw (backD .accw c) 1)⟩, ⟨2, 1, 1, 1, 0, .gone, .gone, .half (XX I .bccw c 1)⟩⟩ Y
      ⊢ WP c (k0_part22 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v60 v705 v745 v749 >>= k) Q := by
  rw [k0_part22_eq_skeleton]
  unfold k0_part22_skel
  refine op_send (XX I) K ks c .acw 2 (by rfl) (by decide) (by show 2 < 4; decide) (by rfl) (by exact above_of rfl) (i' := 2) ?_
  refine op_give (XX I) K ks c .acw 2 (by exact to_prv (k0_dev21_eq c)) (by rfl) (by decide) (by show 2 ≤ 3 ∧ 3 ≤ 2 + 2; decide) (by rfl) ?_
  refine op_send (XX I) K ks c .accw 2 (by rfl) (by decide) (by show 2 < 4; decide) (by rfl) (by exact above_of rfl) (i' := 2) ?_
  refine op_give (XX I) K ks c .accw 2 (by exact to_nxt (k0_dev22_eq c)) (by rfl) (by decide) (by show 2 ≤ 3 ∧ 3 ≤ 2 + 2; decide) (by rfl) ?_
  exact hk

theorem part23 {Y : sProp 𝕄} {α : Type} {Q : α → sProp 𝕄} (v5 : BitVec 32) (v7 : BitVec 32) (v703 : FVec F S256x512 .f32)
    (hw0 : (k0_pay57 v703 (Bv I .bcw (backD .bcw c) 1)) = Bv I .bcw c 2)
    {k : (PUnit) → Prog (TpuEff nD τ sig (Elt F) Λ₀ .tc) α}
    (hk : St (XX I) K ks c ⟨⟨4, 3, 3, 3, 2, .half (XX I .acw (backD .acw c) 2), .gone, .gone⟩, ⟨2, 2, 2, 2, 1, .full (XX I .bcw c 2), .gone, .gone⟩, ⟨4, 3, 3, 3, 2, .half (XX I .accw (backD .accw c) 2), .gone, .gone⟩, ⟨2, 1, 1, 1, 0, .gone, .gone, .half (XX I .bccw c 1)⟩⟩ Y
      ⊢ WP c (k ⟨⟩) Q) :
    St (XX I) K ks c ⟨⟨4, 3, 3, 3, 2, .half (XX I .acw (backD .acw c) 2), .gone, .gone⟩, ⟨2, 1, 1, 1, 0, .gone, .gone, .half (XX I .bcw c 1)⟩, ⟨4, 3, 3, 3, 2, .half (XX I .accw (backD .accw c) 2), .gone, .gone⟩, ⟨2, 1, 1, 1, 0, .gone, .gone, .half (XX I .bccw c 1)⟩⟩ Y
      ⊢ WP c (k0_part23 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v703 >>= k) Q := by
  rw [k0_part23_eq_skeleton]
  unfold k0_part23_skel
  refine op_send (XX I) K ks c .bcw 1 (by rfl) (by decide) (by show 1 < 2; decide) (by rfl) (by exact above_of rfl) (i' := 2) ?_
  refine op_give (XX I) K ks c .bcw 1 (by exact to_prv (k0_dev23_eq c)) (by rfl) (by decide) (by show 1 ≤ 1 ∧ 1 ≤ 1 + 2; decide) (by rfl) ?_
  refine op_recv (XX I) K ks c .bcw 1 (by rfl) (by decide) (by rfl) (by exact above_of rfl) (i' := 0) ?_
  refine ld_bcw (XX I) K ks c 0 (by rfl) (by exact fun _ h => h) ?_
  refine ld_bcw (XX I) K ks c 0 (by rfl) (by exact fun _ h => h) ?_
  refine st_bcw (XX I) K ks c 0 (by rfl) (XX I .bcw c 2) hw0 ?_
  refine op_have (XX I) K ks c .bcw 0 (by rfl) (by decide) (by exact above_of rfl) ?_
  exact hk

theorem part24 {Y : sProp 𝕄} {α : Type} {Q : α → sProp 𝕄} (v5 : BitVec 32) (v7 : BitVec 32)
    {k : (FVec F S256x512 .f32) → Prog (TpuEff nD τ sig (Elt F) Λ₀ .tc) α}
    (hk : St (XX I) K ks c ⟨⟨4, 3, 3, 3, 2, .half (XX I .acw (backD .acw c) 2), .gone, .gone⟩, ⟨3, 2, 2, 2, 1, .half (XX I .bcw c 2), .gone, .gone⟩, ⟨4, 3, 3, 3, 2, .half (XX I .accw (backD .accw c) 2), .gone, .gone⟩, ⟨2, 2, 2, 2, 0, .full (XX I .bccw (backD .bccw c) 1), .gone, .gone⟩⟩ Y
      ⊢ WP c (k (k0_pay58 (Bv I .bccw (backD .bccw c) 1))) Q) :
    St (XX I) K ks c ⟨⟨4, 3, 3, 3, 2, .half (XX I .acw (backD .acw c) 2), .gone, .gone⟩, ⟨2, 2, 2, 2, 1, .full (XX I .bcw c 2), .gone, .gone⟩, ⟨4, 3, 3, 3, 2, .half (XX I .accw (backD .accw c) 2), .gone, .gone⟩, ⟨2, 1, 1, 1, 0, .gone, .gone, .half (XX I .bccw c 1)⟩⟩ Y
      ⊢ WP c (k0_part24 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part24_eq_skeleton]
  unfold k0_part24_skel
  refine op_start (XX I) K ks c .bcw 2 (by exact to_nxt (k0_dev24_eq c)) (by rfl) (by decide) (by show 2 < 1 + 2; decide) (by show 2 ≤ 2 ∧ 2 ≤ 2 + 2; decide) (by rfl) (by exact fun _ h => h) ?_
  refine op_send (XX I) K ks c .bccw 1 (by rfl) (by decide) (by show 1 < 2; decide) (by rfl) (by exact above_of rfl) (i' := 2) ?_
  refine op_give (XX I) K ks c .bccw 1 (by exact to_nxt (k0_dev25_eq c)) (by rfl) (by decide) (by show 1 ≤ 1 ∧ 1 ≤ 1 + 2; decide) (by rfl) ?_
  refine op_recv (XX I) K ks c .bccw 1 (by rfl) (by decide) (by rfl) (by exact above_of rfl) (i' := 0) ?_
  refine ld_bccw (XX I) K ks c 0 (by rfl) (by exact fun _ h => h) ?_
  exact hk

theorem part25 {Y : sProp 𝕄} {α : Type} {Q : α → sProp 𝕄} (v5 : BitVec 32) (v7 : BitVec 32) (v757 : FVec F S256x512 .f32) (v826 : FVec F S256x512 .f32)
    (hw0 : (k0_pay59 v757 v826) = Bv I .bccw c 2)
    {k : (BitVec 32) → Prog (TpuEff nD τ sig (Elt F) Λ₀ .tc) α}
    (hk : St (XX I) K ks c ⟨⟨4, 4, 3, 3, 3, .half (XX I .acw (backD .acw c) 2), .full (XX I .acw (backD .acw c) 3), .gone⟩, ⟨3, 2, 2, 2, 1, .half (XX I .bcw c 2), .gone, .gone⟩, ⟨4, 3, 3, 3, 2, .half (XX I .accw (backD .accw c) 2), .gone, .gone⟩, ⟨3, 2, 2, 2, 1, .half (XX I .bccw c 2), .gone, .gone⟩⟩ Y
      ⊢ WP c (k (1#32)) Q) :
    St (XX I) K ks c ⟨⟨4, 3, 3, 3, 2, .half (XX I .acw (backD .acw c) 2), .gone, .gone⟩, ⟨3, 2, 2, 2, 1, .half (XX I .bcw c 2), .gone, .gone⟩, ⟨4, 3, 3, 3, 2, .half (XX I .accw (backD .accw c) 2), .gone, .gone⟩, ⟨2, 2, 2, 2, 0, .full (XX I .bccw (backD .bccw c) 1), .gone, .gone⟩⟩ Y
      ⊢ WP c (k0_part25 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v757 v826 >>= k) Q := by
  rw [k0_part25_eq_skeleton]
  unfold k0_part25_skel
  refine ld_bccw (XX I) K ks c 0 (by rfl) (by exact fun _ h => h) ?_
  refine st_bccw (XX I) K ks c 0 (by rfl) (XX I .bccw c 2) hw0 ?_
  refine op_have (XX I) K ks c .bccw 0 (by rfl) (by decide) (by exact above_of rfl) ?_
  refine op_start (XX I) K ks c .bccw 2 (by exact to_prv (k0_dev26_eq c)) (by rfl) (by decide) (by show 2 < 1 + 2; decide) (by show 2 ≤ 2 ∧ 2 ≤ 2 + 2; decide) (by rfl) (by exact fun _ h => h) ?_
  refine op_recv (XX I) K ks c .acw 3 (by rfl) (by decide) (by rfl) (by exact above_of rfl) (i' := 1) ?_
  refine op_have (XX I) K ks c .acw 2 (by rfl) (by decide) (by exact above_of rfl) ?_
  exact hk

theorem part26 {Y : sProp 𝕄} {α : Type} {Q : α → sProp 𝕄} (v5 : BitVec 32) (v7 : BitVec 32) (c1_i32_572 : BitVec 32)
    {k : (PUnit) → Prog (TpuEff nD τ sig (Elt F) Λ₀ .tc) α}
    (hk : St (XX I) K ks c ⟨⟨5, 4, 3, 3, 3, .half (XX I .acw (backD .acw c) 2), .half (XX I .acw (backD .acw c) 3), .gone⟩, ⟨3, 2, 2, 2, 1, .half (XX I .bcw c 2), .gone, .gone⟩, ⟨5, 4, 3, 3, 3, .half (XX I .accw (backD .accw c) 2), .half (XX I .accw (backD .accw c) 3), .gone⟩, ⟨3, 2, 2, 2, 1, .half (XX I .bccw c 2), .gone, .gone⟩⟩ Y
      ⊢ WP c (k ⟨⟩) Q) :
    St (XX I) K ks c ⟨⟨4, 4, 3, 3, 3, .half (XX I .acw (backD .acw c) 2), .full (XX I .acw (backD .acw c) 3), .gone⟩, ⟨3, 2, 2, 2, 1, .half (XX I .bcw c 2), .gone, .gone⟩, ⟨4, 3, 3, 3, 2, .half (XX I .accw (backD .accw c) 2), .gone, .gone⟩, ⟨3, 2, 2, 2, 1, .half (XX I .bccw c 2), .gone, .gone⟩⟩ Y
      ⊢ WP c (k0_part26 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 c1_i32_572 >>= k) Q := by
  rw [k0_part26_eq_skeleton]
  unfold k0_part26_skel
  refine op_start (XX I) K ks c .acw 4 (by exact to_nxt (k0_dev27_eq c)) (by rfl) (by decide) (by show 4 < 3 + 2; decide) (by show 3 ≤ 4 ∧ 4 ≤ 3 + 2; decide) (by rfl) (by exact fun _ h => pass_acw I c 3 h) ?_
  refine op_recv (XX I) K ks c .accw 3 (by rfl) (by decide) (by rfl) (by exact above_of rfl) (i' := 1) ?_
  refine op_have (XX I) K ks c .accw 2 (by rfl) (by decide) (by exact above_of rfl) ?_
  refine op_start (XX I) K ks c .accw 4 (by exact to_prv (k0_dev28_eq c)) (by rfl) (by decide) (by show 4 < 3 + 2; decide) (by show 3 ≤ 4 ∧ 4 ≤ 3 + 2; decide) (by rfl) (by exact fun _ h => pass_accw I c 3 h) ?_
  exact hk

theorem part27 {Y : sProp 𝕄} {α : Type} {Q : α → sProp 𝕄} (v60 : FVec F S4x256x512 .bf16) (v62 : F .f32)
    {k : (Σ' (v879 : FVec F S256x256 .bf16) (v919 : FVec F S256x512 .f32), FVec F S256x1 .f32) → Prog (TpuEff nD τ sig (Elt F) Λ₀ .tc) α}
    (hk : St (XX I) K ks c ⟨⟨5, 4, 3, 3, 3, .half (XX I .acw (backD .acw c) 2), .half (XX I .acw (backD .acw c) 3), .gone⟩, ⟨3, 2, 2, 2, 1, .half (XX I .bcw c 2), .gone, .gone⟩, ⟨5, 4, 3, 3, 3, .half (XX I .accw (backD .accw c) 2), .half (XX I .accw (backD .accw c) 3), .gone⟩, ⟨3, 2, 2, 2, 1, .half (XX I .bccw c 2), .gone, .gone⟩⟩ Y
      ⊢ WP c (k ⟨k0_pay60 (px I .acw (org .acw (backD .acw c) 3)), k0_pay62 v60 v62 (px I .acw (org .acw (backD .acw c) 3)) (pr I .acw (org .acw (backD .acw c) 3)), k0_pay63 v62 (pr I .acw (org .acw (backD .acw c) 3))⟩) Q) :
    St (XX I) K ks c ⟨⟨5, 4, 3, 3, 3, .half (XX I .acw (backD .acw c) 2), .half (XX I .acw (backD .acw c) 3), .gone⟩, ⟨3, 2, 2, 2, 1, .half (XX I .bcw c 2), .gone, .gone⟩, ⟨5, 4, 3, 3, 3, .half (XX I .accw (backD .accw c) 2), .half (XX I .accw (backD .accw c) 3), .gone⟩, ⟨3, 2, 2, 2, 1, .half (XX I .bccw c 2), .gone, .gone⟩⟩ Y
      ⊢ WP c (k0_part27 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 >>= k) Q := by
  rw [k0_part27_eq_skeleton]
  unfold k0_part27_skel
  refine ld_acw (XX I) K ks c 1 (by exact .inr rfl) embX (hrX 1 _) (by exact fun _ h => pktX h) ?_
  refine ld_acw (XX I) K ks c 1 (by exact .inr rfl) embR (hrR 1 _) (by exact fun _ h => pktR h) ?_
  exact hk

theorem part28 {Y : sProp 𝕄} {α : Type} {Q : α → sProp 𝕄} (v60 : FVec F S4x256x512 .bf16) (v62 : F .f32) (v879 : FVec F S256x256 .bf16) (v919 : FVec F S256x512 .f32) (v924 : FVec F S256x1 .f32)
    {k : (Σ' (v931 : FVec F S256x512 .f32) (v933 : FVec F S256x256 .bf16) (v936 : FVec F S256x1 .f32) (v961 : FVec F S256x512 .f32) (v969 : FVec F S256x256 .bf16), FVec F S256x512 .bf16) → Prog (TpuEff nD τ sig (Elt F) Λ₀ .tc) α}
    (hk : St (XX I) K ks c ⟨⟨5, 4, 3, 3, 3, .half (XX I .acw (backD .acw c) 2), .half (XX I .acw (backD .acw c) 3), .gone⟩, ⟨3, 2, 2, 2, 1, .half (XX I .bcw c 2), .gone, .gone⟩, ⟨5, 4, 3, 3, 3, .half (XX I .accw (backD .accw c) 2), .half (XX I .accw (backD .accw c) 3), .gone⟩, ⟨3, 2, 2, 2, 1, .half (XX I .bccw c 2), .gone, .gone⟩⟩ Y
      ⊢ WP c (k ⟨k0_pay64 v60 v879 v919 v924, k0_pay65 (px I .accw (org .accw (backD .accw c) 3)), k0_pay66 (pr I .accw (org .accw (backD .accw c) 3)), k0_pay67 v60 v62 (px I .accw (org .accw (backD .accw c) 3)) (pr I .accw (org .accw (backD .accw c) 3)), k0_pay68 v62 (px I .accw (org .accw (backD .accw c) 3)) (pr I .accw (org .accw (backD .accw c) 3)), k0_pay69 v60⟩) Q) :
    St (XX I) K ks c ⟨⟨5, 4, 3, 3, 3, .half (XX I .acw (backD .acw c) 2), .half (XX I .acw (backD .acw c) 3), .gone⟩, ⟨3, 2, 2, 2, 1, .half (XX I .bcw c 2), .gone, .gone⟩, ⟨5, 4, 3, 3, 3, .half (XX I .accw (backD .accw c) 2), .half (XX I .accw (backD .accw c) 3), .gone⟩, ⟨3, 2, 2, 2, 1, .half (XX I .bccw c 2), .gone, .gone⟩⟩ Y
      ⊢ WP c (k0_part28 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v879 v919 v924 >>= k) Q := by
  rw [k0_part28_eq_skeleton]
  unfold k0_part28_skel
  refine ld_accw (XX I) K ks c 1 (by exact .inr rfl) embX (hrX 1 _) (by exact fun _ h => pktX h) ?_
  refine ld_accw (XX I) K ks c 1 (by exact .inr rfl) embR (hrR 1 _) (by exact fun _ h => pktR h) ?_
  exact hk

theorem part29 {Y : sProp 𝕄} {α : Type} {Q : α → sProp 𝕄} (v5 : BitVec 32) (v7 : BitVec 32) (v60 : FVec F S4x256x512 .bf16) (v62 : F .f32) (v933 : FVec F S256x256 .bf16) (v936 : FVec F S256x1 .f32) (v961 : FVec F S256x512 .f32) (v969 : FVec F S256x256 .bf16) (v971 : FVec F S256x512 .bf16)
    {k : (FVec F S256x512 .f32) → Prog (TpuEff nD τ sig (Elt F) Λ₀ .tc) α}
    (hk : St (XX I) K ks c ⟨⟨5, 4, 4, 4, 3, .gone, .half (XX I .acw (backD .acw c) 3), .gone⟩, ⟨3, 2, 2, 2, 1, .half (XX I .bcw c 2), .gone, .gone⟩, ⟨5, 4, 4, 3, 3, .full (XX I .accw (backD .accw c) 2), .half (XX I .accw (backD .accw c) 3), .gone⟩, ⟨3, 2, 2, 2, 1, .half (XX I .bccw c 2), .gone, .gone⟩⟩ Y
      ⊢ WP c (k (k0_pay70 v60 v62 v933 v936 v961 v969 v971)) Q) :
    St (XX I) K ks c ⟨⟨5, 4, 3, 3, 3, .half (XX I .acw (backD .acw c) 2), .half (XX I .acw (backD .acw c) 3), .gone⟩, ⟨3, 2, 2, 2, 1, .half (XX I .bcw c 2), .gone, .gone⟩, ⟨5, 4, 3, 3, 3, .half (XX I .accw (backD .accw c) 2), .half (XX I .accw (backD .accw c) 3), .gone⟩, ⟨3, 2, 2, 2, 1, .half (XX I .bccw c 2), .gone, .gone⟩⟩ Y
      ⊢ WP c (k0_part29 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v60 v62 v933 v936 v961 v969 v971 >>= k) Q := by
  rw [k0_part29_eq_skeleton]
  unfold k0_part29_skel
  refine op_send (XX I) K ks c .acw 3 (by rfl) (by decide) (by show 3 < 5; decide) (by rfl) (by exact above_of rfl) (i' := 0) ?_
  refine op_give (XX I) K ks c .acw 3 (by exact to_prv (k0_dev29_eq c)) (by rfl) (by decide) (by show 3 ≤ 4 ∧ 4 ≤ 3 + 2; decide) (by rfl) ?_
  refine op_send (XX I) K ks c .accw 3 (by rfl) (by decide) (by show 3 < 5; decide) (by rfl) (by exact above_of rfl) (i' := 0) ?_
  exact hk

theorem part30 {Y : sProp 𝕄} {α : Type} {Q : α → sProp 𝕄} (v5 : BitVec 32) (v7 : BitVec 32) (v931 : FVec F S256x512 .f32)
    (hw0 : (k0_pay71 v931 (Bv I .bcw (backD .bcw c) 2)) = Bv I .bcw c 3)
    {k : (PUnit) → Prog (TpuEff nD τ sig (Elt F) Λ₀ .tc) α}
    (hk : St (XX I) K ks c ⟨⟨5, 4, 4, 4, 3, .gone, .half (XX I .acw (backD .acw c) 3), .gone⟩, ⟨3, 3, 3, 3, 2, .gone, .full (XX I .bcw c 3), .gone⟩, ⟨5, 4, 4, 4, 3, .gone, .half (XX I .accw (backD .accw c) 3), .gone⟩, ⟨3, 2, 2, 2, 1, .half (XX I .bccw c 2), .gone, .gone⟩⟩ Y
      ⊢ WP c (k ⟨⟩) Q) :
    St (XX I) K ks c ⟨⟨5, 4, 4, 4, 3, .gone, .half (XX I .acw (backD .acw c) 3), .gone⟩, ⟨3, 2, 2, 2, 1, .half (XX I .bcw c 2), .gone, .gone⟩, ⟨5, 4, 4, 3, 3, .full (XX I .accw (backD .accw c) 2), .half (XX I .accw (backD .accw c) 3), .gone⟩, ⟨3, 2, 2, 2, 1, .half (XX I .bccw c 2), .gone, .gone⟩⟩ Y
      ⊢ WP c (k0_part30 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v931 >>= k) Q := by
  rw [k0_part30_eq_skeleton]
  unfold k0_part30_skel
  refine op_give (XX I) K ks c .accw 3 (by exact to_nxt (k0_dev30_eq c)) (by rfl) (by decide) (by show 3 ≤ 4 ∧ 4 ≤ 3 + 2; decide) (by rfl) ?_
  refine op_send (XX I) K ks c .bcw 2 (by rfl) (by decide) (by show 2 < 3; decide) (by rfl) (by exact above_of rfl) (i' := 0) ?_
  refine op_give (XX I) K ks c .bcw 2 (by exact to_prv (k0_dev31_eq c)) (by rfl) (by decide) (by show 2 ≤ 2 ∧ 2 ≤ 2 + 2; decide) (by rfl) ?_
  refine op_recv (XX I) K ks c .bcw 2 (by rfl) (by decide) (by rfl) (by exact above_of rfl) (i' := 1) ?_
  refine ld_bcw (XX I) K ks c 1 (by rfl) (by exact fun _ h => h) ?_
  refine ld_bcw (XX I) K ks c 1 (by rfl) (by exact fun _ h => h) ?_
  refine st_bcw (XX I) K ks c 1 (by rfl) (XX I .bcw c 3) hw0 ?_
  refine op_have (XX I) K ks c .bcw 1 (by rfl) (by decide) (by exact above_of rfl) ?_
  exact hk

end Cert.MoE
-- ==== Proof.Parts3.lean ====
/-
The run of the kernel's parts 31 to 44: what each does to the state.
-/
module

public import proofs.«01_k».proof.Proof.Names

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

theorem part31 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨5, 4, 4, 4, 3, .gone, .half (XX I .acw (backD .acw c) 3), .gone⟩, ⟨4, 3, 3, 3, 2, .gone, .half (XX I .bcw c 3), .gone⟩, ⟨5, 4, 4, 4, 3, .gone, .half (XX I .accw (backD .accw c) 3), .gone⟩, ⟨3, 2, 3, 3, 1, .gone, .gone, .gone⟩⟩ Y
      ⊢ WP c (k ⟨⟩) Q) :
    St (XX I) K ks c ⟨⟨5, 4, 4, 4, 3, .gone, .half (XX I .acw (backD .acw c) 3), .gone⟩, ⟨3, 3, 3, 3, 2, .gone, .full (XX I .bcw c 3), .gone⟩, ⟨5, 4, 4, 4, 3, .gone, .half (XX I .accw (backD .accw c) 3), .gone⟩, ⟨3, 2, 2, 2, 1, .half (XX I .bccw c 2), .gone, .gone⟩⟩ Y
      ⊢ WP c (k0_part31 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part31_eq_skeleton]
  unfold k0_part31_skel
  refine op_start (XX I) K ks c .bcw 3 (by exact to_nxt (k0_dev32_eq c)) (by rfl) (by decide) (by show 3 < 2 + 2; decide) (by show 3 ≤ 3 ∧ 3 ≤ 3 + 2; decide) (by rfl) (by exact fun _ h => h) ?_
  refine op_send (XX I) K ks c .bccw 2 (by rfl) (by decide) (by show 2 < 3; decide) (by rfl) (by exact above_of rfl) (i' := 0) ?_
  refine op_give (XX I) K ks c .bccw 2 (by exact to_nxt (k0_dev33_eq c)) (by rfl) (by decide) (by show 2 ≤ 2 ∧ 2 ≤ 2 + 2; decide) (by rfl) ?_
  exact hk

theorem part32 {Y : sProp 𝕄} {α : Type} {Q : α → sProp 𝕄} (v5 : BitVec 32) (v7 : BitVec 32) (v985 : FVec F S256x512 .f32)
    (hw0 : (k0_pay72 v985 (Bv I .bccw (backD .bccw c) 2)) = Bv I .bccw c 3)
    {k : (PUnit) → Prog (TpuEff nD τ sig (Elt F) Λ₀ .tc) α}
    (hk : St (XX I) K ks c ⟨⟨5, 5, 4, 4, 3, .gone, .half (XX I .acw (backD .acw c) 3), .full (XX I .acw (backD .acw c) 4)⟩, ⟨4, 3, 3, 3, 2, .gone, .half (XX I .bcw c 3), .gone⟩, ⟨5, 4, 4, 4, 3, .gone, .half (XX I .accw (backD .accw c) 3), .gone⟩, ⟨4, 3, 3, 3, 2, .gone, .half (XX I .bccw c 3), .gone⟩⟩ Y
      ⊢ WP c (k ⟨⟩) Q) :
    St (XX I) K ks c ⟨⟨5, 4, 4, 4, 3, .gone, .half (XX I .acw (backD .acw c) 3), .gone⟩, ⟨4, 3, 3, 3, 2, .gone, .half (XX I .bcw c 3), .gone⟩, ⟨5, 4, 4, 4, 3, .gone, .half (XX I .accw (backD .accw c) 3), .gone⟩, ⟨3, 2, 3, 3, 1, .gone, .gone, .gone⟩⟩ Y
      ⊢ WP c (k0_part32 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v985 >>= k) Q := by
  rw [k0_part32_eq_skeleton]
  unfold k0_part32_skel
  refine op_recv (XX I) K ks c .bccw 2 (by rfl) (by decide) (by rfl) (by exact above_of rfl) (i' := 1) ?_
  refine ld_bccw (XX I) K ks c 1 (by rfl) (by exact fun _ h => h) ?_
  refine ld_bccw (XX I) K ks c 1 (by rfl) (by exact fun _ h => h) ?_
  refine st_bccw (XX I) K ks c 1 (by rfl) (XX I .bccw c 3) hw0 ?_
  refine op_have (XX I) K ks c .bccw 1 (by rfl) (by decide) (by exact above_of rfl) ?_
  refine op_start (XX I) K ks c .bccw 3 (by exact to_prv (k0_dev34_eq c)) (by rfl) (by decide) (by show 3 < 2 + 2; decide) (by show 3 ≤ 3 ∧ 3 ≤ 3 + 2; decide) (by rfl) (by exact fun _ h => h) ?_
  refine op_recv (XX I) K ks c .acw 4 (by rfl) (by decide) (by rfl) (by exact above_of rfl) (i' := 2) ?_
  exact hk

theorem part33 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨6, 5, 4, 4, 4, .gone, .half (XX I .acw (backD .acw c) 3), .half (XX I .acw (backD .acw c) 4)⟩, ⟨4, 3, 3, 3, 2, .gone, .half (XX I .bcw c 3), .gone⟩, ⟨5, 5, 4, 4, 4, .gone, .half (XX I .accw (backD .accw c) 3), .full (XX I .accw (backD .accw c) 4)⟩, ⟨4, 3, 3, 3, 2, .gone, .half (XX I .bccw c 3), .gone⟩⟩ Y
      ⊢ WP c (k ⟨⟩) Q) :
    St (XX I) K ks c ⟨⟨5, 5, 4, 4, 3, .gone, .half (XX I .acw (backD .acw c) 3), .full (XX I .acw (backD .acw c) 4)⟩, ⟨4, 3, 3, 3, 2, .gone, .half (XX I .bcw c 3), .gone⟩, ⟨5, 4, 4, 4, 3, .gone, .half (XX I .accw (backD .accw c) 3), .gone⟩, ⟨4, 3, 3, 3, 2, .gone, .half (XX I .bccw c 3), .gone⟩⟩ Y
      ⊢ WP c (k0_part33 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part33_eq_skeleton]
  unfold k0_part33_skel
  refine op_have (XX I) K ks c .acw 3 (by rfl) (by decide) (by exact above_of rfl) ?_
  refine op_start (XX I) K ks c .acw 5 (by exact to_nxt (k0_dev35_eq c)) (by rfl) (by decide) (by show 5 < 4 + 2; decide) (by show 4 ≤ 5 ∧ 5 ≤ 4 + 2; decide) (by rfl) (by exact fun _ h => pass_acw I c 4 h) ?_
  refine op_recv (XX I) K ks c .accw 4 (by rfl) (by decide) (by rfl) (by exact above_of rfl) (i' := 2) ?_
  refine op_have (XX I) K ks c .accw 3 (by rfl) (by decide) (by exact above_of rfl) ?_
  exact hk

theorem part34 {Y : sProp 𝕄} {α : Type} {Q : α → sProp 𝕄} (v60 : FVec F S4x256x512 .bf16) (v62 : F .f32)
    {k : (Σ' (v1107 : FVec F S256x256 .bf16) (v1110 : FVec F S256x1 .f32) (v1135 : FVec F S256x512 .f32) (v1143 : FVec F S256x256 .bf16) (v1145 : FVec F S256x512 .bf16), FVec F S256x512 .f32) → Prog (TpuEff nD τ sig (Elt F) Λ₀ .tc) α}
    (hk : St (XX I) K ks c ⟨⟨6, 5, 4, 4, 4, .gone, .half (XX I .acw (backD .acw c) 3), .half (XX I .acw (backD .acw c) 4)⟩, ⟨4, 3, 3, 3, 2, .gone, .half (XX I .bcw c 3), .gone⟩, ⟨6, 5, 4, 4, 4, .gone, .half (XX I .accw (backD .accw c) 3), .half (XX I .accw (backD .accw c) 4)⟩, ⟨4, 3, 3, 3, 2, .gone, .half (XX I .bccw c 3), .gone⟩⟩ Y
      ⊢ WP c (k ⟨k0_pay73 (px I .acw (org .acw (backD .acw c) 4)), k0_pay74 (pr I .acw (org .acw (backD .acw c) 4)), k0_pay75 v60 v62 (px I .acw (org .acw (backD .acw c) 4)) (pr I .acw (org .acw (backD .acw c) 4)), k0_pay76 v62 (px I .acw (org .acw (backD .acw c) 4)) (pr I .acw (org .acw (backD .acw c) 4)), k0_pay77 v60, (constant S256x512 .f32 0x00000000#32)⟩) Q) :
    St (XX I) K ks c ⟨⟨6, 5, 4, 4, 4, .gone, .half (XX I .acw (backD .acw c) 3), .half (XX I .acw (backD .acw c) 4)⟩, ⟨4, 3, 3, 3, 2, .gone, .half (XX I .bcw c 3), .gone⟩, ⟨5, 5, 4, 4, 4, .gone, .half (XX I .accw (backD .accw c) 3), .full (XX I .accw (backD .accw c) 4)⟩, ⟨4, 3, 3, 3, 2, .gone, .half (XX I .bccw c 3), .gone⟩⟩ Y
      ⊢ WP c (k0_part34 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v60 v62 >>= k) Q := by
  rw [k0_part34_eq_skeleton]
  unfold k0_part34_skel
  refine op_start (XX I) K ks c .accw 5 (by exact to_prv (k0_dev36_eq c)) (by rfl) (by decide) (by show 5 < 4 + 2; decide) (by show 4 ≤ 5 ∧ 5 ≤ 4 + 2; decide) (by rfl) (by exact fun _ h => pass_accw I c 4 h) ?_
  refine ld_acw (XX I) K ks c 2 (by exact .inr rfl) embX (hrX 2 _) (by exact fun _ h => pktX h) ?_
  refine ld_acw (XX I) K ks c 2 (by exact .inr rfl) embR (hrR 2 _) (by exact fun _ h => pktR h) ?_
  exact hk

theorem part35 {Y : sProp 𝕄} {α : Type} {Q : α → sProp 𝕄} (v60 : FVec F S4x256x512 .bf16) (v62 : F .f32) (v1107 : FVec F S256x256 .bf16) (v1110 : FVec F S256x1 .f32) (v1135 : FVec F S256x512 .f32) (v1143 : FVec F S256x256 .bf16) (v1145 : FVec F S256x512 .bf16) (cst_790 : FVec F S256x512 .f32)
    {k : (Σ' (v1159 : FVec F S256x512 .f32) (v1161 : FVec F S256x256 .bf16) (v1164 : FVec F S256x1 .f32) (v1189 : FVec F S256x512 .f32), FVec F S256x1 .f32) → Prog (TpuEff nD τ sig (Elt F) Λ₀ .tc) α}
    (hk : St (XX I) K ks c ⟨⟨6, 5, 4, 4, 4, .gone, .half (XX I .acw (backD .acw c) 3), .half (XX I .acw (backD .acw c) 4)⟩, ⟨4, 3, 3, 3, 2, .gone, .half (XX I .bcw c 3), .gone⟩, ⟨6, 5, 4, 4, 4, .gone, .half (XX I .accw (backD .accw c) 3), .half (XX I .accw (backD .accw c) 4)⟩, ⟨4, 3, 3, 3, 2, .gone, .half (XX I .bccw c 3), .gone⟩⟩ Y
      ⊢ WP c (k ⟨k0_pay78 v60 v62 v1107 v1110 v1135 v1143 v1145 cst_790, k0_pay79 (px I .accw (org .accw (backD .accw c) 4)), k0_pay80 (pr I .accw (org .accw (backD .accw c) 4)), k0_pay81 v60 v62 (px I .accw (org .accw (backD .accw c) 4)) (pr I .accw (org .accw (backD .accw c) 4)), k0_pay82 v62⟩) Q) :
    St (XX I) K ks c ⟨⟨6, 5, 4, 4, 4, .gone, .half (XX I .acw (backD .acw c) 3), .half (XX I .acw (backD .acw c) 4)⟩, ⟨4, 3, 3, 3, 2, .gone, .half (XX I .bcw c 3), .gone⟩, ⟨6, 5, 4, 4, 4, .gone, .half (XX I .accw (backD .accw c) 3), .half (XX I .accw (backD .accw c) 4)⟩, ⟨4, 3, 3, 3, 2, .gone, .half (XX I .bccw c 3), .gone⟩⟩ Y
      ⊢ WP c (k0_part35 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v1107 v1110 v1135 v1143 v1145 cst_790 >>= k) Q := by
  rw [k0_part35_eq_skeleton]
  unfold k0_part35_skel
  refine ld_accw (XX I) K ks c 2 (by exact .inr rfl) embX (hrX 2 _) (by exact fun _ h => pktX h) ?_
  refine ld_accw (XX I) K ks c 2 (by exact .inr rfl) embR (hrR 2 _) (by exact fun _ h => pktR h) ?_
  exact hk

theorem part36 {Y : sProp 𝕄} {α : Type} {Q : α → sProp 𝕄} (v5 : BitVec 32) (v60 : FVec F S4x256x512 .bf16) (v62 : F .f32) (v1161 : FVec F S256x256 .bf16) (v1164 : FVec F S256x1 .f32) (v1189 : FVec F S256x512 .f32) (v1191 : FVec F S256x1 .f32)
    {k : (FVec F S256x512 .f32) → Prog (TpuEff nD τ sig (Elt F) Λ₀ .tc) α}
    (hk : St (XX I) K ks c ⟨⟨6, 5, 5, 5, 4, .gone, .gone, .half (XX I .acw (backD .acw c) 4)⟩, ⟨4, 3, 3, 3, 2, .gone, .half (XX I .bcw c 3), .gone⟩, ⟨6, 5, 4, 4, 4, .gone, .half (XX I .accw (backD .accw c) 3), .half (XX I .accw (backD .accw c) 4)⟩, ⟨4, 3, 3, 3, 2, .gone, .half (XX I .bccw c 3), .gone⟩⟩ Y
      ⊢ WP c (k (k0_pay83 v60 v62 v1161 v1164 v1189 v1191)) Q) :
    St (XX I) K ks c ⟨⟨6, 5, 4, 4, 4, .gone, .half (XX I .acw (backD .acw c) 3), .half (XX I .acw (backD .acw c) 4)⟩, ⟨4, 3, 3, 3, 2, .gone, .half (XX I .bcw c 3), .gone⟩, ⟨6, 5, 4, 4, 4, .gone, .half (XX I .accw (backD .accw c) 3), .half (XX I .accw (backD .accw c) 4)⟩, ⟨4, 3, 3, 3, 2, .gone, .half (XX I .bccw c 3), .gone⟩⟩ Y
      ⊢ WP c (k0_part36 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v60 v62 v1161 v1164 v1189 v1191 >>= k) Q := by
  rw [k0_part36_eq_skeleton]
  unfold k0_part36_skel
  refine op_send (XX I) K ks c .acw 4 (by rfl) (by decide) (by show 4 < 6; decide) (by rfl) (by exact above_of rfl) (i' := 1) ?_
  refine op_give (XX I) K ks c .acw 4 (by exact to_prv (k0_dev37_eq c)) (by rfl) (by decide) (by show 4 ≤ 5 ∧ 5 ≤ 4 + 2; decide) (by rfl) ?_
  exact hk

theorem part37 {Y : sProp 𝕄} {α : Type} {Q : α → sProp 𝕄} (v5 : BitVec 32) (v7 : BitVec 32) (v1159 : FVec F S256x512 .f32)
    {k : (FVec F S256x512 .bf16) → Prog (TpuEff nD τ sig (Elt F) Λ₀ .tc) α}
    (hk : St (XX I) K ks c ⟨⟨6, 5, 5, 5, 4, .gone, .gone, .half (XX I .acw (backD .acw c) 4)⟩, ⟨4, 4, 4, 4, 2, .gone, .gone, .full (XX I .bcw (backD .bcw c) 3)⟩, ⟨6, 5, 5, 5, 4, .gone, .gone, .half (XX I .accw (backD .accw c) 4)⟩, ⟨4, 3, 3, 3, 2, .gone, .half (XX I .bccw c 3), .gone⟩⟩ Y
      ⊢ WP c (k (k0_pay84 v1159 (Bv I .bcw (backD .bcw c) 3))) Q) :
    St (XX I) K ks c ⟨⟨6, 5, 5, 5, 4, .gone, .gone, .half (XX I .acw (backD .acw c) 4)⟩, ⟨4, 3, 3, 3, 2, .gone, .half (XX I .bcw c 3), .gone⟩, ⟨6, 5, 4, 4, 4, .gone, .half (XX I .accw (backD .accw c) 3), .half (XX I .accw (backD .accw c) 4)⟩, ⟨4, 3, 3, 3, 2, .gone, .half (XX I .bccw c 3), .gone⟩⟩ Y
      ⊢ WP c (k0_part37 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v1159 >>= k) Q := by
  rw [k0_part37_eq_skeleton]
  unfold k0_part37_skel
  refine op_send (XX I) K ks c .accw 4 (by rfl) (by decide) (by show 4 < 6; decide) (by rfl) (by exact above_of rfl) (i' := 1) ?_
  refine op_give (XX I) K ks c .accw 4 (by exact to_nxt (k0_dev38_eq c)) (by rfl) (by decide) (by show 4 ≤ 5 ∧ 5 ≤ 4 + 2; decide) (by rfl) ?_
  refine op_send (XX I) K ks c .bcw 3 (by rfl) (by decide) (by show 3 < 4; decide) (by rfl) (by exact above_of rfl) (i' := 1) ?_
  refine op_give (XX I) K ks c .bcw 3 (by exact to_prv (k0_dev39_eq c)) (by rfl) (by decide) (by show 3 ≤ 3 ∧ 3 ≤ 3 + 2; decide) (by rfl) ?_
  refine op_recv (XX I) K ks c .bcw 3 (by rfl) (by decide) (by rfl) (by exact above_of rfl) (i' := 2) ?_
  refine ld_bcw (XX I) K ks c 2 (by rfl) (by exact fun _ h => h) ?_
  exact hk

theorem part38 {Y : sProp 𝕄} {α : Type} {Q : α → sProp 𝕄} (v5 : BitVec 32) (v7 : BitVec 32) (v1250 : FVec F S256x512 .bf16)
    (hw0 : (k0_pay85 v1250) = Bv I .bcw c 4)
    {k : (PUnit) → Prog (TpuEff nD τ sig (Elt F) Λ₀ .tc) α}
    (hk : St (XX I) K ks c ⟨⟨6, 5, 5, 5, 4, .gone, .gone, .half (XX I .acw (backD .acw c) 4)⟩, ⟨5, 4, 4, 4, 3, .gone, .gone, .half (XX I .bcw c 4)⟩, ⟨6, 5, 5, 5, 4, .gone, .gone, .half (XX I .accw (backD .accw c) 4)⟩, ⟨4, 3, 4, 4, 2, .gone, .gone, .gone⟩⟩ Y
      ⊢ WP c (k ⟨⟩) Q) :
    St (XX I) K ks c ⟨⟨6, 5, 5, 5, 4, .gone, .gone, .half (XX I .acw (backD .acw c) 4)⟩, ⟨4, 4, 4, 4, 2, .gone, .gone, .full (XX I .bcw (backD .bcw c) 3)⟩, ⟨6, 5, 5, 5, 4, .gone, .gone, .half (XX I .accw (backD .accw c) 4)⟩, ⟨4, 3, 3, 3, 2, .gone, .half (XX I .bccw c 3), .gone⟩⟩ Y
      ⊢ WP c (k0_part38 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v1250 >>= k) Q := by
  rw [k0_part38_eq_skeleton]
  unfold k0_part38_skel
  refine ld_bcw (XX I) K ks c 2 (by rfl) (by exact fun _ h => h) ?_
  refine st_bcw (XX I) K ks c 2 (by rfl) (XX I .bcw c 4) hw0 ?_
  refine op_have (XX I) K ks c .bcw 2 (by rfl) (by decide) (by exact above_of rfl) ?_
  refine op_start (XX I) K ks c .bcw 4 (by exact to_nxt (k0_dev40_eq c)) (by rfl) (by decide) (by show 4 < 3 + 2; decide) (by show 4 ≤ 4 ∧ 4 ≤ 4 + 2; decide) (by rfl) (by exact fun _ h => h) ?_
  refine op_send (XX I) K ks c .bccw 3 (by rfl) (by decide) (by show 3 < 4; decide) (by rfl) (by exact above_of rfl) (i' := 1) ?_
  refine op_give (XX I) K ks c .bccw 3 (by exact to_nxt (k0_dev41_eq c)) (by rfl) (by decide) (by show 3 ≤ 3 ∧ 3 ≤ 3 + 2; decide) (by rfl) ?_
  exact hk

theorem part39 {Y : sProp 𝕄} {α : Type} {Q : α → sProp 𝕄} (v5 : BitVec 32) (v7 : BitVec 32) (v1213 : FVec F S256x512 .f32)
    (hw0 : (k0_pay86 v1213 (Bv I .bccw (backD .bccw c) 3)) = Bv I .bccw c 4)
    {k : (PUnit) → Prog (TpuEff nD τ sig (Elt F) Λ₀ .tc) α}
    (hk : St (XX I) K ks c ⟨⟨6, 5, 5, 5, 4, .gone, .gone, .half (XX I .acw (backD .acw c) 4)⟩, ⟨5, 4, 4, 4, 3, .gone, .gone, .half (XX I .bcw c 4)⟩, ⟨6, 5, 5, 5, 4, .gone, .gone, .half (XX I .accw (backD .accw c) 4)⟩, ⟨5, 4, 4, 4, 3, .gone, .gone, .half (XX I .bccw c 4)⟩⟩ Y
      ⊢ WP c (k ⟨⟩) Q) :
    St (XX I) K ks c ⟨⟨6, 5, 5, 5, 4, .gone, .gone, .half (XX I .acw (backD .acw c) 4)⟩, ⟨5, 4, 4, 4, 3, .gone, .gone, .half (XX I .bcw c 4)⟩, ⟨6, 5, 5, 5, 4, .gone, .gone, .half (XX I .accw (backD .accw c) 4)⟩, ⟨4, 3, 4, 4, 2, .gone, .gone, .gone⟩⟩ Y
      ⊢ WP c (k0_part39 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v1213 >>= k) Q := by
  rw [k0_part39_eq_skeleton]
  unfold k0_part39_skel
  refine op_recv (XX I) K ks c .bccw 3 (by rfl) (by decide) (by rfl) (by exact above_of rfl) (i' := 2) ?_
  refine ld_bccw (XX I) K ks c 2 (by rfl) (by exact fun _ h => h) ?_
  refine ld_bccw (XX I) K ks c 2 (by rfl) (by exact fun _ h => h) ?_
  refine st_bccw (XX I) K ks c 2 (by rfl) (XX I .bccw c 4) hw0 ?_
  refine op_have (XX I) K ks c .bccw 2 (by rfl) (by decide) (by exact above_of rfl) ?_
  refine op_start (XX I) K ks c .bccw 4 (by exact to_prv (k0_dev42_eq c)) (by rfl) (by decide) (by show 4 < 3 + 2; decide) (by show 4 ≤ 4 ∧ 4 ≤ 4 + 2; decide) (by rfl) (by exact fun _ h => h) ?_
  exact hk

theorem part40 {Y : sProp 𝕄} {α : Type} {Q : α → sProp 𝕄} (v5 : BitVec 32) (v7 : BitVec 32)
    {k : (BitVec 32) → Prog (TpuEff nD τ sig (Elt F) Λ₀ .tc) α}
    (hk : St (XX I) K ks c ⟨⟨7, 6, 5, 5, 5, .half (XX I .acw (backD .acw c) 5), .gone, .half (XX I .acw (backD .acw c) 4)⟩, ⟨5, 4, 4, 4, 3, .gone, .gone, .half (XX I .bcw c 4)⟩, ⟨6, 6, 5, 5, 5, .full (XX I .accw (backD .accw c) 5), .gone, .half (XX I .accw (backD .accw c) 4)⟩, ⟨5, 4, 4, 4, 3, .gone, .gone, .half (XX I .bccw c 4)⟩⟩ Y
      ⊢ WP c (k (Scalar.muli v5 1#32)) Q) :
    St (XX I) K ks c ⟨⟨6, 5, 5, 5, 4, .gone, .gone, .half (XX I .acw (backD .acw c) 4)⟩, ⟨5, 4, 4, 4, 3, .gone, .gone, .half (XX I .bcw c 4)⟩, ⟨6, 5, 5, 5, 4, .gone, .gone, .half (XX I .accw (backD .accw c) 4)⟩, ⟨5, 4, 4, 4, 3, .gone, .gone, .half (XX I .bccw c 4)⟩⟩ Y
      ⊢ WP c (k0_part40 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part40_eq_skeleton]
  unfold k0_part40_skel
  refine op_recv (XX I) K ks c .acw 5 (by rfl) (by decide) (by rfl) (by exact above_of rfl) (i' := 0) ?_
  refine op_have (XX I) K ks c .acw 4 (by rfl) (by decide) (by exact above_of rfl) ?_
  refine op_start (XX I) K ks c .acw 6 (by exact to_nxt (k0_dev43_eq c)) (by rfl) (by decide) (by show 6 < 5 + 2; decide) (by show 5 ≤ 6 ∧ 6 ≤ 5 + 2; decide) (by rfl) (by exact fun _ h => pass_acw I c 5 h) ?_
  refine op_recv (XX I) K ks c .accw 5 (by rfl) (by decide) (by rfl) (by exact above_of rfl) (i' := 0) ?_
  refine op_have (XX I) K ks c .accw 4 (by rfl) (by decide) (by exact above_of rfl) ?_
  exact hk

theorem part41 {Y : sProp 𝕄} {α : Type} {Q : α → sProp 𝕄} (v60 : FVec F S4x256x512 .bf16) (v62 : F .f32) (v1324 : BitVec 32)
    {k : (Σ' (v1335 : FVec F S256x256 .bf16) (v1338 : FVec F S256x1 .f32) (v1363 : FVec F S256x512 .f32), IVec S256x1 1) → Prog (TpuEff nD τ sig (Elt F) Λ₀ .tc) α}
    (hk : St (XX I) K ks c ⟨⟨7, 6, 5, 5, 5, .half (XX I .acw (backD .acw c) 5), .gone, .half (XX I .acw (backD .acw c) 4)⟩, ⟨5, 4, 4, 4, 3, .gone, .gone, .half (XX I .bcw c 4)⟩, ⟨7, 6, 5, 5, 5, .half (XX I .accw (backD .accw c) 5), .gone, .half (XX I .accw (backD .accw c) 4)⟩, ⟨5, 4, 4, 4, 3, .gone, .gone, .half (XX I .bccw c 4)⟩⟩ Y
      ⊢ WP c (k ⟨k0_pay87 (px I .acw (org .acw (backD .acw c) 5)), k0_pay88 (pr I .acw (org .acw (backD .acw c) 5)), k0_pay89 v60 v62 (px I .acw (org .acw (backD .acw c) 5)) (pr I .acw (org .acw (backD .acw c) 5)), k0_pay90 v62 (pr I .acw (org .acw (backD .acw c) 5))⟩) Q) :
    St (XX I) K ks c ⟨⟨7, 6, 5, 5, 5, .half (XX I .acw (backD .acw c) 5), .gone, .half (XX I .acw (backD .acw c) 4)⟩, ⟨5, 4, 4, 4, 3, .gone, .gone, .half (XX I .bcw c 4)⟩, ⟨6, 6, 5, 5, 5, .full (XX I .accw (backD .accw c) 5), .gone, .half (XX I .accw (backD .accw c) 4)⟩, ⟨5, 4, 4, 4, 3, .gone, .gone, .half (XX I .bccw c 4)⟩⟩ Y
      ⊢ WP c (k0_part41 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v60 v62 v1324 >>= k) Q := by
  rw [k0_part41_eq_skeleton]
  unfold k0_part41_skel
  refine op_start (XX I) K ks c .accw 6 (by exact to_prv (k0_dev44_eq c)) (by rfl) (by decide) (by show 6 < 5 + 2; decide) (by show 5 ≤ 6 ∧ 6 ≤ 5 + 2; decide) (by rfl) (by exact fun _ h => pass_accw I c 5 h) ?_
  refine ld_acw (XX I) K ks c 0 (by exact .inr rfl) embX (hrX 0 _) (by exact fun _ h => pktX h) ?_
  refine ld_acw (XX I) K ks c 0 (by exact .inr rfl) embR (hrR 0 _) (by exact fun _ h => pktR h) ?_
  exact hk

theorem part42 {Y : sProp 𝕄} {α : Type} {Q : α → sProp 𝕄} (v60 : FVec F S4x256x512 .bf16) (v62 : F .f32) (v1335 : FVec F S256x256 .bf16) (v1338 : FVec F S256x1 .f32) (v1363 : FVec F S256x512 .f32) (v1366 : IVec S256x1 1)
    {k : (Σ' (v1387 : FVec F S256x512 .f32) (v1389 : FVec F S256x256 .bf16) (v1392 : FVec F S256x1 .f32) (v1405 : FVec F S256x512 .f32), FVec F S256x256 .bf16) → Prog (TpuEff nD τ sig (Elt F) Λ₀ .tc) α}
    (hk : St (XX I) K ks c ⟨⟨7, 6, 5, 5, 5, .half (XX I .acw (backD .acw c) 5), .gone, .half (XX I .acw (backD .acw c) 4)⟩, ⟨5, 4, 4, 4, 3, .gone, .gone, .half (XX I .bcw c 4)⟩, ⟨7, 6, 5, 5, 5, .half (XX I .accw (backD .accw c) 5), .gone, .half (XX I .accw (backD .accw c) 4)⟩, ⟨5, 4, 4, 4, 3, .gone, .gone, .half (XX I .bccw c 4)⟩⟩ Y
      ⊢ WP c (k ⟨k0_pay91 v60 v62 v1335 v1338 v1363 v1366, k0_pay92 (px I .accw (org .accw (backD .accw c) 5)), k0_pay93 (pr I .accw (org .accw (backD .accw c) 5)), k0_pay94 v60 v62 (px I .accw (org .accw (backD .accw c) 5)) (pr I .accw (org .accw (backD .accw c) 5)), k0_pay95 v62 (px I .accw (org .accw (backD .accw c) 5)) (pr I .accw (org .accw (backD .accw c) 5))⟩) Q) :
    St (XX I) K ks c ⟨⟨7, 6, 5, 5, 5, .half (XX I .acw (backD .acw c) 5), .gone, .half (XX I .acw (backD .acw c) 4)⟩, ⟨5, 4, 4, 4, 3, .gone, .gone, .half (XX I .bcw c 4)⟩, ⟨7, 6, 5, 5, 5, .half (XX I .accw (backD .accw c) 5), .gone, .half (XX I .accw (backD .accw c) 4)⟩, ⟨5, 4, 4, 4, 3, .gone, .gone, .half (XX I .bccw c 4)⟩⟩ Y
      ⊢ WP c (k0_part42 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v1335 v1338 v1363 v1366 >>= k) Q := by
  rw [k0_part42_eq_skeleton]
  unfold k0_part42_skel
  refine ld_accw (XX I) K ks c 0 (by exact .inr rfl) embX (hrX 0 _) (by exact fun _ h => pktX h) ?_
  refine ld_accw (XX I) K ks c 0 (by exact .inr rfl) embR (hrR 0 _) (by exact fun _ h => pktR h) ?_
  exact hk

theorem part43 {Y : sProp 𝕄} {α : Type} {Q : α → sProp 𝕄} (v5 : BitVec 32) (v60 : FVec F S4x256x512 .bf16) (v62 : F .f32) (v1389 : FVec F S256x256 .bf16) (v1392 : FVec F S256x1 .f32) (v1405 : FVec F S256x512 .f32) (v1413 : FVec F S256x256 .bf16)
    {k : (FVec F S256x512 .f32) → Prog (TpuEff nD τ sig (Elt F) Λ₀ .tc) α}
    (hk : St (XX I) K ks c ⟨⟨7, 6, 6, 6, 5, .half (XX I .acw (backD .acw c) 5), .gone, .gone⟩, ⟨5, 4, 4, 4, 3, .gone, .gone, .half (XX I .bcw c 4)⟩, ⟨7, 6, 5, 5, 5, .half (XX I .accw (backD .accw c) 5), .gone, .half (XX I .accw (backD .accw c) 4)⟩, ⟨5, 4, 4, 4, 3, .gone, .gone, .half (XX I .bccw c 4)⟩⟩ Y
      ⊢ WP c (k (k0_pay96 v60 v62 v1389 v1392 v1405 v1413)) Q) :
    St (XX I) K ks c ⟨⟨7, 6, 5, 5, 5, .half (XX I .acw (backD .acw c) 5), .gone, .half (XX I .acw (backD .acw c) 4)⟩, ⟨5, 4, 4, 4, 3, .gone, .gone, .half (XX I .bcw c 4)⟩, ⟨7, 6, 5, 5, 5, .half (XX I .accw (backD .accw c) 5), .gone, .half (XX I .accw (backD .accw c) 4)⟩, ⟨5, 4, 4, 4, 3, .gone, .gone, .half (XX I .bccw c 4)⟩⟩ Y
      ⊢ WP c (k0_part43 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v60 v62 v1389 v1392 v1405 v1413 >>= k) Q := by
  rw [k0_part43_eq_skeleton]
  unfold k0_part43_skel
  refine op_send (XX I) K ks c .acw 5 (by rfl) (by decide) (by show 5 < 7; decide) (by rfl) (by exact above_of rfl) (i' := 2) ?_
  refine op_give (XX I) K ks c .acw 5 (by exact to_prv (k0_dev45_eq c)) (by rfl) (by decide) (by show 5 ≤ 6 ∧ 6 ≤ 5 + 2; decide) (by rfl) ?_
  exact hk

theorem part44 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨7, 6, 6, 6, 5, .half (XX I .acw (backD .acw c) 5), .gone, .gone⟩, ⟨5, 5, 5, 5, 3, .full (XX I .bcw (backD .bcw c) 4), .gone, .gone⟩, ⟨7, 6, 6, 6, 5, .half (XX I .accw (backD .accw c) 5), .gone, .gone⟩, ⟨5, 4, 4, 4, 3, .gone, .gone, .half (XX I .bccw c 4)⟩⟩ Y
      ⊢ WP c (k ⟨⟩) Q) :
    St (XX I) K ks c ⟨⟨7, 6, 6, 6, 5, .half (XX I .acw (backD .acw c) 5), .gone, .gone⟩, ⟨5, 4, 4, 4, 3, .gone, .gone, .half (XX I .bcw c 4)⟩, ⟨7, 6, 5, 5, 5, .half (XX I .accw (backD .accw c) 5), .gone, .half (XX I .accw (backD .accw c) 4)⟩, ⟨5, 4, 4, 4, 3, .gone, .gone, .half (XX I .bccw c 4)⟩⟩ Y
      ⊢ WP c (k0_part44 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part44_eq_skeleton]
  unfold k0_part44_skel
  refine op_send (XX I) K ks c .accw 5 (by rfl) (by decide) (by show 5 < 7; decide) (by rfl) (by exact above_of rfl) (i' := 2) ?_
  refine op_give (XX I) K ks c .accw 5 (by exact to_nxt (k0_dev46_eq c)) (by rfl) (by decide) (by show 5 ≤ 6 ∧ 6 ≤ 5 + 2; decide) (by rfl) ?_
  refine op_send (XX I) K ks c .bcw 4 (by rfl) (by decide) (by show 4 < 5; decide) (by rfl) (by exact above_of rfl) (i' := 2) ?_
  refine op_give (XX I) K ks c .bcw 4 (by exact to_prv (k0_dev47_eq c)) (by rfl) (by decide) (by show 4 ≤ 4 ∧ 4 ≤ 4 + 2; decide) (by rfl) ?_
  refine op_recv (XX I) K ks c .bcw 4 (by rfl) (by decide) (by rfl) (by exact above_of rfl) (i' := 0) ?_
  exact hk

end Cert.MoE
-- ==== Proof.Parts4.lean ====
/-
The run of the kernel's parts 45 to 58: what each does to the state.
-/
module

public import proofs.«01_k».proof.Proof.Names

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

theorem part45 {Y : sProp 𝕄} {α : Type} {Q : α → sProp 𝕄} (v7 : BitVec 32) (v1387 : FVec F S256x512 .f32)
    (hw0 : (k0_pay97 v1387 (Bv I .bcw (backD .bcw c) 4)) = Bv I .bcw c 5)
    {k : (PUnit) → Prog (TpuEff nD τ sig (Elt F) Λ₀ .tc) α}
    (hk : St (XX I) K ks c ⟨⟨7, 6, 6, 6, 5, .half (XX I .acw (backD .acw c) 5), .gone, .gone⟩, ⟨6, 5, 5, 5, 4, .half (XX I .bcw c 5), .gone, .gone⟩, ⟨7, 6, 6, 6, 5, .half (XX I .accw (backD .accw c) 5), .gone, .gone⟩, ⟨5, 4, 5, 5, 3, .gone, .gone, .gone⟩⟩ Y
      ⊢ WP c (k ⟨⟩) Q) :
    St (XX I) K ks c ⟨⟨7, 6, 6, 6, 5, .half (XX I .acw (backD .acw c) 5), .gone, .gone⟩, ⟨5, 5, 5, 5, 3, .full (XX I .bcw (backD .bcw c) 4), .gone, .gone⟩, ⟨7, 6, 6, 6, 5, .half (XX I .accw (backD .accw c) 5), .gone, .gone⟩, ⟨5, 4, 4, 4, 3, .gone, .gone, .half (XX I .bccw c 4)⟩⟩ Y
      ⊢ WP c (k0_part45 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v7 v1387 >>= k) Q := by
  rw [k0_part45_eq_skeleton]
  unfold k0_part45_skel
  refine ld_bcw (XX I) K ks c 0 (by rfl) (by exact fun _ h => h) ?_
  refine ld_bcw (XX I) K ks c 0 (by rfl) (by exact fun _ h => h) ?_
  refine st_bcw (XX I) K ks c 0 (by rfl) (XX I .bcw c 5) hw0 ?_
  refine op_have (XX I) K ks c .bcw 3 (by rfl) (by decide) (by exact above_of rfl) ?_
  refine op_start (XX I) K ks c .bcw 5 (by exact to_nxt (k0_dev48_eq c)) (by rfl) (by decide) (by show 5 < 4 + 2; decide) (by show 5 ≤ 5 ∧ 5 ≤ 5 + 2; decide) (by rfl) (by exact fun _ h => h) ?_
  refine op_send (XX I) K ks c .bccw 4 (by rfl) (by decide) (by show 4 < 5; decide) (by rfl) (by exact above_of rfl) (i' := 2) ?_
  refine op_give (XX I) K ks c .bccw 4 (by exact to_nxt (k0_dev49_eq c)) (by rfl) (by decide) (by show 4 ≤ 4 ∧ 4 ≤ 4 + 2; decide) (by rfl) ?_
  exact hk

theorem part46 {Y : sProp 𝕄} {α : Type} {Q : α → sProp 𝕄} (v5 : BitVec 32) (v1441 : FVec F S256x512 .f32)
    (hw0 : (k0_pay98 v1441 (Bv I .bccw (backD .bccw c) 4)) = Bv I .bccw c 5)
    {k : (PUnit) → Prog (TpuEff nD τ sig (Elt F) Λ₀ .tc) α}
    (hk : St (XX I) K ks c ⟨⟨7, 6, 6, 6, 5, .half (XX I .acw (backD .acw c) 5), .gone, .gone⟩, ⟨6, 5, 5, 5, 4, .half (XX I .bcw c 5), .gone, .gone⟩, ⟨7, 6, 6, 6, 5, .half (XX I .accw (backD .accw c) 5), .gone, .gone⟩, ⟨6, 5, 5, 5, 4, .half (XX I .bccw c 5), .gone, .gone⟩⟩ Y
      ⊢ WP c (k ⟨⟩) Q) :
    St (XX I) K ks c ⟨⟨7, 6, 6, 6, 5, .half (XX I .acw (backD .acw c) 5), .gone, .gone⟩, ⟨6, 5, 5, 5, 4, .half (XX I .bcw c 5), .gone, .gone⟩, ⟨7, 6, 6, 6, 5, .half (XX I .accw (backD .accw c) 5), .gone, .gone⟩, ⟨5, 4, 5, 5, 3, .gone, .gone, .gone⟩⟩ Y
      ⊢ WP c (k0_part46 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v1441 >>= k) Q := by
  rw [k0_part46_eq_skeleton]
  unfold k0_part46_skel
  refine op_recv (XX I) K ks c .bccw 4 (by rfl) (by decide) (by rfl) (by exact above_of rfl) (i' := 0) ?_
  refine ld_bccw (XX I) K ks c 0 (by rfl) (by exact fun _ h => h) ?_
  refine ld_bccw (XX I) K ks c 0 (by rfl) (by exact fun _ h => h) ?_
  refine st_bccw (XX I) K ks c 0 (by rfl) (XX I .bccw c 5) hw0 ?_
  refine op_have (XX I) K ks c .bccw 3 (by rfl) (by decide) (by exact above_of rfl) ?_
  refine op_start (XX I) K ks c .bccw 5 (by exact to_prv (k0_dev50_eq c)) (by rfl) (by decide) (by show 5 < 4 + 2; decide) (by show 5 ≤ 5 ∧ 5 ≤ 5 + 2; decide) (by rfl) (by exact fun _ h => h) ?_
  exact hk

theorem part47 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨8, 7, 6, 6, 6, .half (XX I .acw (backD .acw c) 5), .half (XX I .acw (backD .acw c) 6), .gone⟩, ⟨6, 5, 5, 5, 4, .half (XX I .bcw c 5), .gone, .gone⟩, ⟨7, 7, 6, 6, 5, .half (XX I .accw (backD .accw c) 5), .full (XX I .accw (backD .accw c) 6), .gone⟩, ⟨6, 5, 5, 5, 4, .half (XX I .bccw c 5), .gone, .gone⟩⟩ Y
      ⊢ WP c (k ⟨⟩) Q) :
    St (XX I) K ks c ⟨⟨7, 6, 6, 6, 5, .half (XX I .acw (backD .acw c) 5), .gone, .gone⟩, ⟨6, 5, 5, 5, 4, .half (XX I .bcw c 5), .gone, .gone⟩, ⟨7, 6, 6, 6, 5, .half (XX I .accw (backD .accw c) 5), .gone, .gone⟩, ⟨6, 5, 5, 5, 4, .half (XX I .bccw c 5), .gone, .gone⟩⟩ Y
      ⊢ WP c (k0_part47 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part47_eq_skeleton]
  unfold k0_part47_skel
  refine op_recv (XX I) K ks c .acw 6 (by rfl) (by decide) (by rfl) (by exact above_of rfl) (i' := 1) ?_
  refine op_have (XX I) K ks c .acw 5 (by rfl) (by decide) (by exact above_of rfl) ?_
  refine op_start (XX I) K ks c .acw 7 (by exact to_nxt (k0_dev51_eq c)) (by rfl) (by decide) (by show 7 < 6 + 2; decide) (by show 6 ≤ 7 ∧ 7 ≤ 6 + 2; decide) (by rfl) (by exact fun _ h => pass_acw I c 6 h) ?_
  refine op_recv (XX I) K ks c .accw 6 (by rfl) (by decide) (by rfl) (by exact above_of rfl) (i' := 1) ?_
  exact hk

theorem part48 {Y : sProp 𝕄} {α : Type} {Q : α → sProp 𝕄} (v5 : BitVec 32) (v60 : FVec F S4x256x512 .bf16) (v62 : F .f32)
    {k : (Σ' (v1563 : FVec F S256x256 .bf16) (v1566 : FVec F S256x1 .f32) (v1579 : FVec F S256x512 .f32) (v1587 : FVec F S256x256 .bf16), FVec F S1x256x512 .bf16) → Prog (TpuEff nD τ sig (Elt F) Λ₀ .tc) α}
    (hk : St (XX I) K ks c ⟨⟨8, 7, 6, 6, 6, .half (XX I .acw (backD .acw c) 5), .half (XX I .acw (backD .acw c) 6), .gone⟩, ⟨6, 5, 5, 5, 4, .half (XX I .bcw c 5), .gone, .gone⟩, ⟨8, 7, 6, 6, 6, .half (XX I .accw (backD .accw c) 5), .half (XX I .accw (backD .accw c) 6), .gone⟩, ⟨6, 5, 5, 5, 4, .half (XX I .bccw c 5), .gone, .gone⟩⟩ Y
      ⊢ WP c (k ⟨k0_pay99 (px I .acw (org .acw (backD .acw c) 6)), k0_pay100 (pr I .acw (org .acw (backD .acw c) 6)), k0_pay101 v60 v62 (px I .acw (org .acw (backD .acw c) 6)) (pr I .acw (org .acw (backD .acw c) 6)), k0_pay102 v62 (px I .acw (org .acw (backD .acw c) 6)) (pr I .acw (org .acw (backD .acw c) 6)), k0_pay103 v60⟩) Q) :
    St (XX I) K ks c ⟨⟨8, 7, 6, 6, 6, .half (XX I .acw (backD .acw c) 5), .half (XX I .acw (backD .acw c) 6), .gone⟩, ⟨6, 5, 5, 5, 4, .half (XX I .bcw c 5), .gone, .gone⟩, ⟨7, 7, 6, 6, 5, .half (XX I .accw (backD .accw c) 5), .full (XX I .accw (backD .accw c) 6), .gone⟩, ⟨6, 5, 5, 5, 4, .half (XX I .bccw c 5), .gone, .gone⟩⟩ Y
      ⊢ WP c (k0_part48 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v60 v62 >>= k) Q := by
  rw [k0_part48_eq_skeleton]
  unfold k0_part48_skel
  refine op_have (XX I) K ks c .accw 5 (by rfl) (by decide) (by exact above_of rfl) ?_
  refine op_start (XX I) K ks c .accw 7 (by exact to_prv (k0_dev52_eq c)) (by rfl) (by decide) (by show 7 < 6 + 2; decide) (by show 6 ≤ 7 ∧ 7 ≤ 6 + 2; decide) (by rfl) (by exact fun _ h => pass_accw I c 6 h) ?_
  refine ld_acw (XX I) K ks c 1 (by exact .inr rfl) embX (hrX 1 _) (by exact fun _ h => pktX h) ?_
  refine ld_acw (XX I) K ks c 1 (by exact .inr rfl) embR (hrR 1 _) (by exact fun _ h => pktR h) ?_
  exact hk

theorem part49 {Y : sProp 𝕄} {α : Type} {Q : α → sProp 𝕄} (v60 : FVec F S4x256x512 .bf16) (v62 : F .f32) (v1563 : FVec F S256x256 .bf16) (v1566 : FVec F S256x1 .f32) (v1579 : FVec F S256x512 .f32) (v1587 : FVec F S256x256 .bf16) (v1588 : FVec F S1x256x512 .bf16)
    {k : (Σ' (v1615 : FVec F S256x512 .f32) (v1617 : FVec F S256x256 .bf16) (v1620 : FVec F S256x1 .f32) (v1633 : FVec F S256x512 .f32), F .f32) → Prog (TpuEff nD τ sig (Elt F) Λ₀ .tc) α}
    (hk : St (XX I) K ks c ⟨⟨8, 7, 6, 6, 6, .half (XX I .acw (backD .acw c) 5), .half (XX I .acw (backD .acw c) 6), .gone⟩, ⟨6, 5, 5, 5, 4, .half (XX I .bcw c 5), .gone, .gone⟩, ⟨8, 7, 6, 6, 6, .half (XX I .accw (backD .accw c) 5), .half (XX I .accw (backD .accw c) 6), .gone⟩, ⟨6, 5, 5, 5, 4, .half (XX I .bccw c 5), .gone, .gone⟩⟩ Y
      ⊢ WP c (k ⟨k0_pay104 v60 v62 v1563 v1566 v1579 v1587 v1588, k0_pay105 (px I .accw (org .accw (backD .accw c) 6)), k0_pay106 (pr I .accw (org .accw (backD .accw c) 6)), k0_pay107 v60 v62 (px I .accw (org .accw (backD .accw c) 6)) (pr I .accw (org .accw (backD .accw c) 6)), (Scalar.ofBits .f32 0x3F800000#32)⟩) Q) :
    St (XX I) K ks c ⟨⟨8, 7, 6, 6, 6, .half (XX I .acw (backD .acw c) 5), .half (XX I .acw (backD .acw c) 6), .gone⟩, ⟨6, 5, 5, 5, 4, .half (XX I .bcw c 5), .gone, .gone⟩, ⟨8, 7, 6, 6, 6, .half (XX I .accw (backD .accw c) 5), .half (XX I .accw (backD .accw c) 6), .gone⟩, ⟨6, 5, 5, 5, 4, .half (XX I .bccw c 5), .gone, .gone⟩⟩ Y
      ⊢ WP c (k0_part49 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v1563 v1566 v1579 v1587 v1588 >>= k) Q := by
  rw [k0_part49_eq_skeleton]
  unfold k0_part49_skel
  refine ld_accw (XX I) K ks c 1 (by exact .inr rfl) embX (hrX 1 _) (by exact fun _ h => pktX h) ?_
  refine ld_accw (XX I) K ks c 1 (by exact .inr rfl) embR (hrR 1 _) (by exact fun _ h => pktR h) ?_
  exact hk

theorem part50 {Y : sProp 𝕄} {α : Type} {Q : α → sProp 𝕄} (v5 : BitVec 32) (v60 : FVec F S4x256x512 .bf16) (v62 : F .f32) (v1617 : FVec F S256x256 .bf16) (v1620 : FVec F S256x1 .f32) (v1633 : FVec F S256x512 .f32) (cst_1158 : F .f32)
    {k : (Σ' (v1669 : FVec F S256x512 .f32), BitVec 32) → Prog (TpuEff nD τ sig (Elt F) Λ₀ .tc) α}
    (hk : St (XX I) K ks c ⟨⟨8, 7, 7, 6, 6, .full (XX I .acw (backD .acw c) 5), .half (XX I .acw (backD .acw c) 6), .gone⟩, ⟨6, 5, 5, 5, 4, .half (XX I .bcw c 5), .gone, .gone⟩, ⟨8, 7, 6, 6, 6, .half (XX I .accw (backD .accw c) 5), .half (XX I .accw (backD .accw c) 6), .gone⟩, ⟨6, 5, 5, 5, 4, .half (XX I .bccw c 5), .gone, .gone⟩⟩ Y
      ⊢ WP c (k ⟨k0_pay108 v60 v62 v1617 v1620 v1633 cst_1158, (Scalar.muli v5 1#32)⟩) Q) :
    St (XX I) K ks c ⟨⟨8, 7, 6, 6, 6, .half (XX I .acw (backD .acw c) 5), .half (XX I .acw (backD .acw c) 6), .gone⟩, ⟨6, 5, 5, 5, 4, .half (XX I .bcw c 5), .gone, .gone⟩, ⟨8, 7, 6, 6, 6, .half (XX I .accw (backD .accw c) 5), .half (XX I .accw (backD .accw c) 6), .gone⟩, ⟨6, 5, 5, 5, 4, .half (XX I .bccw c 5), .gone, .gone⟩⟩ Y
      ⊢ WP c (k0_part50 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v5 v60 v62 v1617 v1620 v1633 cst_1158 >>= k) Q := by
  rw [k0_part50_eq_skeleton]
  unfold k0_part50_skel
  refine op_send (XX I) K ks c .acw 6 (by rfl) (by decide) (by show 6 < 8; decide) (by rfl) (by exact above_of rfl) (i' := 0) ?_
  exact hk

theorem part51 {Y : sProp 𝕄} {α : Type} {Q : α → sProp 𝕄} (v5 : BitVec 32) (v7 : BitVec 32) (v1676 : BitVec 32)
    {k : (PUnit) → Prog (TpuEff nD τ sig (Elt F) Λ₀ .tc) α}
    (hk : St (XX I) K ks c ⟨⟨8, 7, 7, 7, 6, .gone, .half (XX I .acw (backD .acw c) 6), .gone⟩, ⟨6, 5, 6, 6, 4, .gone, .gone, .gone⟩, ⟨8, 7, 7, 7, 6, .gone, .half (XX I .accw (backD .accw c) 6), .gone⟩, ⟨6, 5, 5, 5, 4, .half (XX I .bccw c 5), .gone, .gone⟩⟩ Y
      ⊢ WP c (k ⟨⟩) Q) :
    St (XX I) K ks c ⟨⟨8, 7, 7, 6, 6, .full (XX I .acw (backD .acw c) 5), .half (XX I .acw (backD .acw c) 6), .gone⟩, ⟨6, 5, 5, 5, 4, .half (XX I .bcw c 5), .gone, .gone⟩, ⟨8, 7, 6, 6, 6, .half (XX I .accw (backD .accw c) 5), .half (XX I .accw (backD .accw c) 6), .gone⟩, ⟨6, 5, 5, 5, 4, .half (XX I .bccw c 5), .gone, .gone⟩⟩ Y
      ⊢ WP c (k0_part51 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v1676 >>= k) Q := by
  rw [k0_part51_eq_skeleton]
  unfold k0_part51_skel
  refine op_give (XX I) K ks c .acw 6 (by exact to_prv (k0_dev53_eq c)) (by rfl) (by decide) (by show 6 ≤ 7 ∧ 7 ≤ 6 + 2; decide) (by rfl) ?_
  refine op_send (XX I) K ks c .accw 6 (by rfl) (by decide) (by show 6 < 8; decide) (by rfl) (by exact above_of rfl) (i' := 0) ?_
  refine op_give (XX I) K ks c .accw 6 (by exact to_nxt (k0_dev54_eq c)) (by rfl) (by decide) (by show 6 ≤ 7 ∧ 7 ≤ 6 + 2; decide) (by rfl) ?_
  refine op_send (XX I) K ks c .bcw 5 (by rfl) (by decide) (by show 5 < 6; decide) (by rfl) (by exact above_of rfl) (i' := 0) ?_
  refine op_give (XX I) K ks c .bcw 5 (by exact to_prv (k0_dev55_eq c)) (by rfl) (by decide) (by show 5 ≤ 5 ∧ 5 ≤ 5 + 2; decide) (by rfl) ?_
  exact hk

theorem part52 {Y : sProp 𝕄} {α : Type} {Q : α → sProp 𝕄} (v7 : BitVec 32) (v1615 : FVec F S256x512 .f32)
    (hw0 : (k0_pay109 v1615 (Bv I .bcw (backD .bcw c) 5)) = Bv I .bcw c 6)
    {k : (PUnit) → Prog (TpuEff nD τ sig (Elt F) Λ₀ .tc) α}
    (hk : St (XX I) K ks c ⟨⟨8, 7, 7, 7, 6, .gone, .half (XX I .acw (backD .acw c) 6), .gone⟩, ⟨7, 6, 6, 6, 5, .gone, .half (XX I .bcw c 6), .gone⟩, ⟨8, 7, 7, 7, 6, .gone, .half (XX I .accw (backD .accw c) 6), .gone⟩, ⟨6, 5, 5, 5, 4, .half (XX I .bccw c 5), .gone, .gone⟩⟩ Y
      ⊢ WP c (k ⟨⟩) Q) :
    St (XX I) K ks c ⟨⟨8, 7, 7, 7, 6, .gone, .half (XX I .acw (backD .acw c) 6), .gone⟩, ⟨6, 5, 6, 6, 4, .gone, .gone, .gone⟩, ⟨8, 7, 7, 7, 6, .gone, .half (XX I .accw (backD .accw c) 6), .gone⟩, ⟨6, 5, 5, 5, 4, .half (XX I .bccw c 5), .gone, .gone⟩⟩ Y
      ⊢ WP c (k0_part52 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v7 v1615 >>= k) Q := by
  rw [k0_part52_eq_skeleton]
  unfold k0_part52_skel
  refine op_recv (XX I) K ks c .bcw 5 (by rfl) (by decide) (by rfl) (by exact above_of rfl) (i' := 1) ?_
  refine ld_bcw (XX I) K ks c 1 (by rfl) (by exact fun _ h => h) ?_
  refine ld_bcw (XX I) K ks c 1 (by rfl) (by exact fun _ h => h) ?_
  refine st_bcw (XX I) K ks c 1 (by rfl) (XX I .bcw c 6) hw0 ?_
  refine op_have (XX I) K ks c .bcw 4 (by rfl) (by decide) (by exact above_of rfl) ?_
  refine op_start (XX I) K ks c .bcw 6 (by exact to_nxt (k0_dev56_eq c)) (by rfl) (by decide) (by show 6 < 5 + 2; decide) (by show 6 ≤ 6 ∧ 6 ≤ 6 + 2; decide) (by rfl) (by exact fun _ h => h) ?_
  exact hk

theorem part53 {Y : sProp 𝕄} {α : Type} {Q : α → sProp 𝕄} (v5 : BitVec 32) (v7 : BitVec 32) (v1669 : FVec F S256x512 .f32)
    (hw0 : (k0_pay110 v1669 (Bv I .bccw (backD .bccw c) 5)) = Bv I .bccw c 6)
    {k : (PUnit) → Prog (TpuEff nD τ sig (Elt F) Λ₀ .tc) α}
    (hk : St (XX I) K ks c ⟨⟨8, 7, 7, 7, 6, .gone, .half (XX I .acw (backD .acw c) 6), .gone⟩, ⟨7, 6, 6, 6, 5, .gone, .half (XX I .bcw c 6), .gone⟩, ⟨8, 7, 7, 7, 6, .gone, .half (XX I .accw (backD .accw c) 6), .gone⟩, ⟨6, 6, 6, 6, 5, .gone, .full (XX I .bccw c 6), .gone⟩⟩ Y
      ⊢ WP c (k ⟨⟩) Q) :
    St (XX I) K ks c ⟨⟨8, 7, 7, 7, 6, .gone, .half (XX I .acw (backD .acw c) 6), .gone⟩, ⟨7, 6, 6, 6, 5, .gone, .half (XX I .bcw c 6), .gone⟩, ⟨8, 7, 7, 7, 6, .gone, .half (XX I .accw (backD .accw c) 6), .gone⟩, ⟨6, 5, 5, 5, 4, .half (XX I .bccw c 5), .gone, .gone⟩⟩ Y
      ⊢ WP c (k0_part53 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v1669 >>= k) Q := by
  rw [k0_part53_eq_skeleton]
  unfold k0_part53_skel
  refine op_send (XX I) K ks c .bccw 5 (by rfl) (by decide) (by show 5 < 6; decide) (by rfl) (by exact above_of rfl) (i' := 0) ?_
  refine op_give (XX I) K ks c .bccw 5 (by exact to_nxt (k0_dev57_eq c)) (by rfl) (by decide) (by show 5 ≤ 5 ∧ 5 ≤ 5 + 2; decide) (by rfl) ?_
  refine op_recv (XX I) K ks c .bccw 5 (by rfl) (by decide) (by rfl) (by exact above_of rfl) (i' := 1) ?_
  refine ld_bccw (XX I) K ks c 1 (by rfl) (by exact fun _ h => h) ?_
  refine ld_bccw (XX I) K ks c 1 (by rfl) (by exact fun _ h => h) ?_
  refine st_bccw (XX I) K ks c 1 (by rfl) (XX I .bccw c 6) hw0 ?_
  refine op_have (XX I) K ks c .bccw 4 (by rfl) (by decide) (by exact above_of rfl) ?_
  exact hk

theorem part54 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨9, 8, 7, 7, 7, .gone, .half (XX I .acw (backD .acw c) 6), .half (XX I .acw (backD .acw c) 7)⟩, ⟨7, 6, 6, 6, 5, .gone, .half (XX I .bcw c 6), .gone⟩, ⟨8, 7, 7, 7, 6, .gone, .half (XX I .accw (backD .accw c) 6), .gone⟩, ⟨7, 6, 6, 6, 5, .gone, .half (XX I .bccw c 6), .gone⟩⟩ Y
      ⊢ WP c (k ⟨⟩) Q) :
    St (XX I) K ks c ⟨⟨8, 7, 7, 7, 6, .gone, .half (XX I .acw (backD .acw c) 6), .gone⟩, ⟨7, 6, 6, 6, 5, .gone, .half (XX I .bcw c 6), .gone⟩, ⟨8, 7, 7, 7, 6, .gone, .half (XX I .accw (backD .accw c) 6), .gone⟩, ⟨6, 6, 6, 6, 5, .gone, .full (XX I .bccw c 6), .gone⟩⟩ Y
      ⊢ WP c (k0_part54 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part54_eq_skeleton]
  unfold k0_part54_skel
  refine op_start (XX I) K ks c .bccw 6 (by exact to_prv (k0_dev58_eq c)) (by rfl) (by decide) (by show 6 < 5 + 2; decide) (by show 6 ≤ 6 ∧ 6 ≤ 6 + 2; decide) (by rfl) (by exact fun _ h => h) ?_
  refine op_recv (XX I) K ks c .acw 7 (by rfl) (by decide) (by rfl) (by exact above_of rfl) (i' := 2) ?_
  refine op_have (XX I) K ks c .acw 6 (by rfl) (by decide) (by exact above_of rfl) ?_
  refine op_start (XX I) K ks c .acw 8 (by exact to_nxt (k0_dev59_eq c)) (by rfl) (by decide) (by show 8 < 7 + 2; decide) (by show 7 ≤ 8 ∧ 8 ≤ 7 + 2; decide) (by rfl) (by exact fun _ h => pass_acw I c 7 h) ?_
  exact hk

theorem part55 {Y : sProp 𝕄} {α : Type} {Q : α → sProp 𝕄} (v5 : BitVec 32) (v60 : FVec F S4x256x512 .bf16) (v62 : F .f32)
    {k : (Σ' (v1791 : FVec F S256x256 .bf16) (v1794 : FVec F S256x1 .f32) (v1807 : FVec F S256x512 .f32), F .f32) → Prog (TpuEff nD τ sig (Elt F) Λ₀ .tc) α}
    (hk : St (XX I) K ks c ⟨⟨9, 8, 7, 7, 7, .gone, .half (XX I .acw (backD .acw c) 6), .half (XX I .acw (backD .acw c) 7)⟩, ⟨7, 6, 6, 6, 5, .gone, .half (XX I .bcw c 6), .gone⟩, ⟨9, 8, 7, 7, 7, .gone, .half (XX I .accw (backD .accw c) 6), .half (XX I .accw (backD .accw c) 7)⟩, ⟨7, 6, 6, 6, 5, .gone, .half (XX I .bccw c 6), .gone⟩⟩ Y
      ⊢ WP c (k ⟨k0_pay111 (px I .acw (org .acw (backD .acw c) 7)), k0_pay112 (pr I .acw (org .acw (backD .acw c) 7)), k0_pay113 v60 v62 (px I .acw (org .acw (backD .acw c) 7)) (pr I .acw (org .acw (backD .acw c) 7)), k0_pay114 v62⟩) Q) :
    St (XX I) K ks c ⟨⟨9, 8, 7, 7, 7, .gone, .half (XX I .acw (backD .acw c) 6), .half (XX I .acw (backD .acw c) 7)⟩, ⟨7, 6, 6, 6, 5, .gone, .half (XX I .bcw c 6), .gone⟩, ⟨8, 7, 7, 7, 6, .gone, .half (XX I .accw (backD .accw c) 6), .gone⟩, ⟨7, 6, 6, 6, 5, .gone, .half (XX I .bccw c 6), .gone⟩⟩ Y
      ⊢ WP c (k0_part55 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v60 v62 >>= k) Q := by
  rw [k0_part55_eq_skeleton]
  unfold k0_part55_skel
  refine op_recv (XX I) K ks c .accw 7 (by rfl) (by decide) (by rfl) (by exact above_of rfl) (i' := 2) ?_
  refine op_have (XX I) K ks c .accw 6 (by rfl) (by decide) (by exact above_of rfl) ?_
  refine op_start (XX I) K ks c .accw 8 (by exact to_prv (k0_dev60_eq c)) (by rfl) (by decide) (by show 8 < 7 + 2; decide) (by show 7 ≤ 8 ∧ 8 ≤ 7 + 2; decide) (by rfl) (by exact fun _ h => pass_accw I c 7 h) ?_
  refine ld_acw (XX I) K ks c 2 (by exact .inr rfl) embX (hrX 2 _) (by exact fun _ h => pktX h) ?_
  refine ld_acw (XX I) K ks c 2 (by exact .inr rfl) embR (hrR 2 _) (by exact fun _ h => pktR h) ?_
  exact hk

theorem part56 {Y : sProp 𝕄} {α : Type} {Q : α → sProp 𝕄} (v60 : FVec F S4x256x512 .bf16) (v62 : F .f32) (v1791 : FVec F S256x256 .bf16) (v1794 : FVec F S256x1 .f32) (v1807 : FVec F S256x512 .f32) (v1808 : F .f32)
    {k : (Σ' (v1843 : FVec F S256x512 .f32) (v1845 : FVec F S256x256 .bf16) (v1848 : FVec F S256x1 .f32) (v1849 : FVec F S256x512 .f32), FVec F S256x1 .bf16) → Prog (TpuEff nD τ sig (Elt F) Λ₀ .tc) α}
    (hk : St (XX I) K ks c ⟨⟨9, 8, 7, 7, 7, .gone, .half (XX I .acw (backD .acw c) 6), .half (XX I .acw (backD .acw c) 7)⟩, ⟨7, 6, 6, 6, 5, .gone, .half (XX I .bcw c 6), .gone⟩, ⟨9, 8, 7, 7, 7, .gone, .half (XX I .accw (backD .accw c) 6), .half (XX I .accw (backD .accw c) 7)⟩, ⟨7, 6, 6, 6, 5, .gone, .half (XX I .bccw c 6), .gone⟩⟩ Y
      ⊢ WP c (k ⟨k0_pay115 v60 v62 v1791 v1794 v1807 v1808, k0_pay116 (px I .accw (org .accw (backD .accw c) 7)), k0_pay117 (pr I .accw (org .accw (backD .accw c) 7)), k0_pay118 (F := F), k0_pay119 v62 (pr I .accw (org .accw (backD .accw c) 7))⟩) Q) :
    St (XX I) K ks c ⟨⟨9, 8, 7, 7, 7, .gone, .half (XX I .acw (backD .acw c) 6), .half (XX I .acw (backD .acw c) 7)⟩, ⟨7, 6, 6, 6, 5, .gone, .half (XX I .bcw c 6), .gone⟩, ⟨9, 8, 7, 7, 7, .gone, .half (XX I .accw (backD .accw c) 6), .half (XX I .accw (backD .accw c) 7)⟩, ⟨7, 6, 6, 6, 5, .gone, .half (XX I .bccw c 6), .gone⟩⟩ Y
      ⊢ WP c (k0_part56 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v1791 v1794 v1807 v1808 >>= k) Q := by
  rw [k0_part56_eq_skeleton]
  unfold k0_part56_skel
  refine ld_accw (XX I) K ks c 2 (by exact .inr rfl) embX (hrX 2 _) (by exact fun _ h => pktX h) ?_
  refine ld_accw (XX I) K ks c 2 (by exact .inr rfl) embR (hrR 2 _) (by exact fun _ h => pktR h) ?_
  exact hk

theorem part57 {Y : sProp 𝕄} {α : Type} {Q : α → sProp 𝕄} (v60 : FVec F S4x256x512 .bf16) (v62 : F .f32) (v1845 : FVec F S256x256 .bf16) (v1848 : FVec F S256x1 .f32) (v1849 : FVec F S256x512 .f32) (v1855 : FVec F S256x1 .bf16)
    {k : (FVec F S256x512 .f32) → Prog (TpuEff nD τ sig (Elt F) Λ₀ .tc) α}
    (hk : St (XX I) K ks c ⟨⟨9, 8, 7, 7, 7, .gone, .half (XX I .acw (backD .acw c) 6), .half (XX I .acw (backD .acw c) 7)⟩, ⟨7, 6, 6, 6, 5, .gone, .half (XX I .bcw c 6), .gone⟩, ⟨9, 8, 7, 7, 7, .gone, .half (XX I .accw (backD .accw c) 6), .half (XX I .accw (backD .accw c) 7)⟩, ⟨7, 6, 6, 6, 5, .gone, .half (XX I .bccw c 6), .gone⟩⟩ Y
      ⊢ WP c (k (k0_pay120 v60 v62 v1845 v1848 v1849 v1855)) Q) :
    St (XX I) K ks c ⟨⟨9, 8, 7, 7, 7, .gone, .half (XX I .acw (backD .acw c) 6), .half (XX I .acw (backD .acw c) 7)⟩, ⟨7, 6, 6, 6, 5, .gone, .half (XX I .bcw c 6), .gone⟩, ⟨9, 8, 7, 7, 7, .gone, .half (XX I .accw (backD .accw c) 6), .half (XX I .accw (backD .accw c) 7)⟩, ⟨7, 6, 6, 6, 5, .gone, .half (XX I .bccw c 6), .gone⟩⟩ Y
      ⊢ WP c (k0_part57 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v1845 v1848 v1849 v1855 >>= k) Q := by
  rw [k0_part57_eq_skeleton]
  unfold k0_part57_skel
  exact hk

theorem part58 {Y : sProp 𝕄} {α : Type} {Q : α → sProp 𝕄} (v5 : BitVec 32) (v7 : BitVec 32)
    {k : (BitVec 32) → Prog (TpuEff nD τ sig (Elt F) Λ₀ .tc) α}
    (hk : St (XX I) K ks c ⟨⟨9, 8, 8, 8, 7, .gone, .gone, .half (XX I .acw (backD .acw c) 7)⟩, ⟨7, 6, 7, 7, 5, .gone, .gone, .gone⟩, ⟨9, 8, 8, 8, 7, .gone, .gone, .half (XX I .accw (backD .accw c) 7)⟩, ⟨7, 6, 6, 6, 5, .gone, .half (XX I .bccw c 6), .gone⟩⟩ Y
      ⊢ WP c (k (1#32)) Q) :
    St (XX I) K ks c ⟨⟨9, 8, 7, 7, 7, .gone, .half (XX I .acw (backD .acw c) 6), .half (XX I .acw (backD .acw c) 7)⟩, ⟨7, 6, 6, 6, 5, .gone, .half (XX I .bcw c 6), .gone⟩, ⟨9, 8, 7, 7, 7, .gone, .half (XX I .accw (backD .accw c) 6), .half (XX I .accw (backD .accw c) 7)⟩, ⟨7, 6, 6, 6, 5, .gone, .half (XX I .bccw c 6), .gone⟩⟩ Y
      ⊢ WP c (k0_part58 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part58_eq_skeleton]
  unfold k0_part58_skel
  refine op_send (XX I) K ks c .acw 7 (by rfl) (by decide) (by show 7 < 9; decide) (by rfl) (by exact above_of rfl) (i' := 1) ?_
  refine op_give (XX I) K ks c .acw 7 (by exact to_prv (k0_dev61_eq c)) (by rfl) (by decide) (by show 7 ≤ 8 ∧ 8 ≤ 7 + 2; decide) (by rfl) ?_
  refine op_send (XX I) K ks c .accw 7 (by rfl) (by decide) (by show 7 < 9; decide) (by rfl) (by exact above_of rfl) (i' := 1) ?_
  refine op_give (XX I) K ks c .accw 7 (by exact to_nxt (k0_dev62_eq c)) (by rfl) (by decide) (by show 7 ≤ 8 ∧ 8 ≤ 7 + 2; decide) (by rfl) ?_
  refine op_send (XX I) K ks c .bcw 6 (by rfl) (by decide) (by show 6 < 7; decide) (by rfl) (by exact above_of rfl) (i' := 1) ?_
  refine op_give (XX I) K ks c .bcw 6 (by exact to_prv (k0_dev63_eq c)) (by rfl) (by decide) (by show 6 ≤ 6 ∧ 6 ≤ 6 + 2; decide) (by rfl) ?_
  exact hk

end Cert.MoE
-- ==== Proof.Parts5.lean ====
/-
The run of the kernel's parts 59 to 72: what each does to the state.
-/
module

public import proofs.«01_k».proof.Proof.Names

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

theorem part59 {Y : sProp 𝕄} {α : Type} {Q : α → sProp 𝕄} (v7 : BitVec 32) (v1843 : FVec F S256x512 .f32) (c1_i32_1382 : BitVec 32)
    (hw0 : (k0_pay121 v1843 (Bv I .bcw (backD .bcw c) 6)) = Bv I .bcw c 7)
    {k : (PUnit) → Prog (TpuEff nD τ sig (Elt F) Λ₀ .tc) α}
    (hk : St (XX I) K ks c ⟨⟨9, 8, 8, 8, 7, .gone, .gone, .half (XX I .acw (backD .acw c) 7)⟩, ⟨8, 7, 7, 7, 6, .gone, .gone, .half (XX I .bcw c 7)⟩, ⟨9, 8, 8, 8, 7, .gone, .gone, .half (XX I .accw (backD .accw c) 7)⟩, ⟨7, 6, 6, 6, 5, .gone, .half (XX I .bccw c 6), .gone⟩⟩ Y
      ⊢ WP c (k ⟨⟩) Q) :
    St (XX I) K ks c ⟨⟨9, 8, 8, 8, 7, .gone, .gone, .half (XX I .acw (backD .acw c) 7)⟩, ⟨7, 6, 7, 7, 5, .gone, .gone, .gone⟩, ⟨9, 8, 8, 8, 7, .gone, .gone, .half (XX I .accw (backD .accw c) 7)⟩, ⟨7, 6, 6, 6, 5, .gone, .half (XX I .bccw c 6), .gone⟩⟩ Y
      ⊢ WP c (k0_part59 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v7 v1843 c1_i32_1382 >>= k) Q := by
  rw [k0_part59_eq_skeleton]
  unfold k0_part59_skel
  refine op_recv (XX I) K ks c .bcw 6 (by rfl) (by decide) (by rfl) (by exact above_of rfl) (i' := 2) ?_
  refine ld_bcw (XX I) K ks c 2 (by rfl) (by exact fun _ h => h) ?_
  refine ld_bcw (XX I) K ks c 2 (by rfl) (by exact fun _ h => h) ?_
  refine st_bcw (XX I) K ks c 2 (by rfl) (XX I .bcw c 7) hw0 ?_
  refine op_have (XX I) K ks c .bcw 5 (by rfl) (by decide) (by exact above_of rfl) ?_
  refine op_start (XX I) K ks c .bcw 7 (by exact to_nxt (k0_dev64_eq c)) (by rfl) (by decide) (by show 7 < 6 + 2; decide) (by show 7 ≤ 7 ∧ 7 ≤ 7 + 2; decide) (by rfl) (by exact fun _ h => h) ?_
  exact hk

theorem part60 {Y : sProp 𝕄} {α : Type} {Q : α → sProp 𝕄} (v5 : BitVec 32) (v7 : BitVec 32) (v1897 : FVec F S256x512 .f32)
    (hw0 : (k0_pay122 v1897 (Bv I .bccw (backD .bccw c) 6)) = Bv I .bccw c 7)
    {k : (PUnit) → Prog (TpuEff nD τ sig (Elt F) Λ₀ .tc) α}
    (hk : St (XX I) K ks c ⟨⟨9, 8, 8, 8, 7, .gone, .gone, .half (XX I .acw (backD .acw c) 7)⟩, ⟨8, 7, 7, 7, 6, .gone, .gone, .half (XX I .bcw c 7)⟩, ⟨9, 8, 8, 8, 7, .gone, .gone, .half (XX I .accw (backD .accw c) 7)⟩, ⟨7, 7, 7, 7, 6, .gone, .gone, .full (XX I .bccw c 7)⟩⟩ Y
      ⊢ WP c (k ⟨⟩) Q) :
    St (XX I) K ks c ⟨⟨9, 8, 8, 8, 7, .gone, .gone, .half (XX I .acw (backD .acw c) 7)⟩, ⟨8, 7, 7, 7, 6, .gone, .gone, .half (XX I .bcw c 7)⟩, ⟨9, 8, 8, 8, 7, .gone, .gone, .half (XX I .accw (backD .accw c) 7)⟩, ⟨7, 6, 6, 6, 5, .gone, .half (XX I .bccw c 6), .gone⟩⟩ Y
      ⊢ WP c (k0_part60 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v1897 >>= k) Q := by
  rw [k0_part60_eq_skeleton]
  unfold k0_part60_skel
  refine op_send (XX I) K ks c .bccw 6 (by rfl) (by decide) (by show 6 < 7; decide) (by rfl) (by exact above_of rfl) (i' := 1) ?_
  refine op_give (XX I) K ks c .bccw 6 (by exact to_nxt (k0_dev65_eq c)) (by rfl) (by decide) (by show 6 ≤ 6 ∧ 6 ≤ 6 + 2; decide) (by rfl) ?_
  refine op_recv (XX I) K ks c .bccw 6 (by rfl) (by decide) (by rfl) (by exact above_of rfl) (i' := 2) ?_
  refine ld_bccw (XX I) K ks c 2 (by rfl) (by exact fun _ h => h) ?_
  refine ld_bccw (XX I) K ks c 2 (by rfl) (by exact fun _ h => h) ?_
  refine st_bccw (XX I) K ks c 2 (by rfl) (XX I .bccw c 7) hw0 ?_
  refine op_have (XX I) K ks c .bccw 5 (by rfl) (by decide) (by exact above_of rfl) ?_
  exact hk

theorem part61 {Y : sProp 𝕄} {α : Type} {Q : α → sProp 𝕄} (v7 : BitVec 32)
    {k : (PUnit) → Prog (TpuEff nD τ sig (Elt F) Λ₀ .tc) α}
    (hk : St (XX I) K ks c ⟨⟨10, 9, 8, 8, 8, .half (XX I .acw (backD .acw c) 8), .gone, .half (XX I .acw (backD .acw c) 7)⟩, ⟨8, 7, 7, 7, 6, .gone, .gone, .half (XX I .bcw c 7)⟩, ⟨9, 8, 8, 8, 7, .gone, .gone, .half (XX I .accw (backD .accw c) 7)⟩, ⟨8, 7, 7, 7, 6, .gone, .gone, .half (XX I .bccw c 7)⟩⟩ Y
      ⊢ WP c (k ⟨⟩) Q) :
    St (XX I) K ks c ⟨⟨9, 8, 8, 8, 7, .gone, .gone, .half (XX I .acw (backD .acw c) 7)⟩, ⟨8, 7, 7, 7, 6, .gone, .gone, .half (XX I .bcw c 7)⟩, ⟨9, 8, 8, 8, 7, .gone, .gone, .half (XX I .accw (backD .accw c) 7)⟩, ⟨7, 7, 7, 7, 6, .gone, .gone, .full (XX I .bccw c 7)⟩⟩ Y
      ⊢ WP c (k0_part61 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v7 >>= k) Q := by
  rw [k0_part61_eq_skeleton]
  unfold k0_part61_skel
  refine op_start (XX I) K ks c .bccw 7 (by exact to_prv (k0_dev66_eq c)) (by rfl) (by decide) (by show 7 < 6 + 2; decide) (by show 7 ≤ 7 ∧ 7 ≤ 7 + 2; decide) (by rfl) (by exact fun _ h => h) ?_
  refine op_recv (XX I) K ks c .acw 8 (by rfl) (by decide) (by rfl) (by exact above_of rfl) (i' := 0) ?_
  refine op_have (XX I) K ks c .acw 7 (by rfl) (by decide) (by exact above_of rfl) ?_
  refine op_start (XX I) K ks c .acw 9 (by exact to_nxt (k0_dev67_eq c)) (by rfl) (by decide) (by show 9 < 8 + 2; decide) (by show 8 ≤ 9 ∧ 9 ≤ 8 + 2; decide) (by rfl) (by exact fun _ h => pass_acw I c 8 h) ?_
  exact hk

theorem part62 {Y : sProp 𝕄} {α : Type} {Q : α → sProp 𝕄} (v5 : BitVec 32) (v62 : F .f32)
    {k : (Σ' (v2019 : FVec F S256x256 .bf16) (v2022 : FVec F S256x1 .f32) (v2023 : FVec F S256x512 .f32), FVec F S256x256 .bf16) → Prog (TpuEff nD τ sig (Elt F) Λ₀ .tc) α}
    (hk : St (XX I) K ks c ⟨⟨10, 9, 8, 8, 8, .half (XX I .acw (backD .acw c) 8), .gone, .half (XX I .acw (backD .acw c) 7)⟩, ⟨8, 7, 7, 7, 6, .gone, .gone, .half (XX I .bcw c 7)⟩, ⟨10, 9, 8, 8, 8, .half (XX I .accw (backD .accw c) 8), .gone, .half (XX I .accw (backD .accw c) 7)⟩, ⟨8, 7, 7, 7, 6, .gone, .gone, .half (XX I .bccw c 7)⟩⟩ Y
      ⊢ WP c (k ⟨k0_pay123 (px I .acw (org .acw (backD .acw c) 8)), k0_pay124 (pr I .acw (org .acw (backD .acw c) 8)), k0_pay125 (F := F), k0_pay126 v62 (pr I .acw (org .acw (backD .acw c) 8))⟩) Q) :
    St (XX I) K ks c ⟨⟨10, 9, 8, 8, 8, .half (XX I .acw (backD .acw c) 8), .gone, .half (XX I .acw (backD .acw c) 7)⟩, ⟨8, 7, 7, 7, 6, .gone, .gone, .half (XX I .bcw c 7)⟩, ⟨9, 8, 8, 8, 7, .gone, .gone, .half (XX I .accw (backD .accw c) 7)⟩, ⟨8, 7, 7, 7, 6, .gone, .gone, .half (XX I .bccw c 7)⟩⟩ Y
      ⊢ WP c (k0_part62 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v62 >>= k) Q := by
  rw [k0_part62_eq_skeleton]
  unfold k0_part62_skel
  refine op_recv (XX I) K ks c .accw 8 (by rfl) (by decide) (by rfl) (by exact above_of rfl) (i' := 0) ?_
  refine op_have (XX I) K ks c .accw 7 (by rfl) (by decide) (by exact above_of rfl) ?_
  refine op_start (XX I) K ks c .accw 9 (by exact to_prv (k0_dev68_eq c)) (by rfl) (by decide) (by show 9 < 8 + 2; decide) (by show 8 ≤ 9 ∧ 9 ≤ 8 + 2; decide) (by rfl) (by exact fun _ h => pass_accw I c 8 h) ?_
  refine ld_acw (XX I) K ks c 0 (by exact .inr rfl) embX (hrX 0 _) (by exact fun _ h => pktX h) ?_
  refine ld_acw (XX I) K ks c 0 (by exact .inr rfl) embR (hrR 0 _) (by exact fun _ h => pktR h) ?_
  exact hk

theorem part63 {Y : sProp 𝕄} {α : Type} {Q : α → sProp 𝕄} (v60 : FVec F S4x256x512 .bf16) (v62 : F .f32) (v2019 : FVec F S256x256 .bf16) (v2022 : FVec F S256x1 .f32) (v2023 : FVec F S256x512 .f32) (v2030 : FVec F S256x256 .bf16)
    {k : (Σ' (v2071 : FVec F S256x512 .f32) (v2073 : FVec F S256x256 .bf16) (v2076 : FVec F S256x1 .f32), F .f32) → Prog (TpuEff nD τ sig (Elt F) Λ₀ .tc) α}
    (hk : St (XX I) K ks c ⟨⟨10, 9, 8, 8, 8, .half (XX I .acw (backD .acw c) 8), .gone, .half (XX I .acw (backD .acw c) 7)⟩, ⟨8, 7, 7, 7, 6, .gone, .gone, .half (XX I .bcw c 7)⟩, ⟨10, 9, 8, 8, 8, .half (XX I .accw (backD .accw c) 8), .gone, .half (XX I .accw (backD .accw c) 7)⟩, ⟨8, 7, 7, 7, 6, .gone, .gone, .half (XX I .bccw c 7)⟩⟩ Y
      ⊢ WP c (k ⟨k0_pay127 v60 v62 v2019 v2022 v2023 v2030, k0_pay128 (px I .accw (org .accw (backD .accw c) 8)), k0_pay129 (pr I .accw (org .accw (backD .accw c) 8)), (Scalar.ofBits .f32 0x00000000#32)⟩) Q) :
    St (XX I) K ks c ⟨⟨10, 9, 8, 8, 8, .half (XX I .acw (backD .acw c) 8), .gone, .half (XX I .acw (backD .acw c) 7)⟩, ⟨8, 7, 7, 7, 6, .gone, .gone, .half (XX I .bcw c 7)⟩, ⟨10, 9, 8, 8, 8, .half (XX I .accw (backD .accw c) 8), .gone, .half (XX I .accw (backD .accw c) 7)⟩, ⟨8, 7, 7, 7, 6, .gone, .gone, .half (XX I .bccw c 7)⟩⟩ Y
      ⊢ WP c (k0_part63 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v2019 v2022 v2023 v2030 >>= k) Q := by
  rw [k0_part63_eq_skeleton]
  unfold k0_part63_skel
  refine ld_accw (XX I) K ks c 0 (by exact .inr rfl) embX (hrX 0 _) (by exact fun _ h => pktX h) ?_
  refine ld_accw (XX I) K ks c 0 (by exact .inr rfl) embR (hrR 0 _) (by exact fun _ h => pktR h) ?_
  exact hk

theorem part64 {Y : sProp 𝕄} {α : Type} {Q : α → sProp 𝕄} (v60 : FVec F S4x256x512 .bf16) (v62 : F .f32) (v2073 : FVec F S256x256 .bf16) (v2076 : FVec F S256x1 .f32) (cst_1511 : F .f32)
    {k : (FVec F S256x512 .f32) → Prog (TpuEff nD τ sig (Elt F) Λ₀ .tc) α}
    (hk : St (XX I) K ks c ⟨⟨10, 9, 8, 8, 8, .half (XX I .acw (backD .acw c) 8), .gone, .half (XX I .acw (backD .acw c) 7)⟩, ⟨8, 7, 7, 7, 6, .gone, .gone, .half (XX I .bcw c 7)⟩, ⟨10, 9, 8, 8, 8, .half (XX I .accw (backD .accw c) 8), .gone, .half (XX I .accw (backD .accw c) 7)⟩, ⟨8, 7, 7, 7, 6, .gone, .gone, .half (XX I .bccw c 7)⟩⟩ Y
      ⊢ WP c (k (k0_pay130 v60 v62 v2073 v2076 cst_1511)) Q) :
    St (XX I) K ks c ⟨⟨10, 9, 8, 8, 8, .half (XX I .acw (backD .acw c) 8), .gone, .half (XX I .acw (backD .acw c) 7)⟩, ⟨8, 7, 7, 7, 6, .gone, .gone, .half (XX I .bcw c 7)⟩, ⟨10, 9, 8, 8, 8, .half (XX I .accw (backD .accw c) 8), .gone, .half (XX I .accw (backD .accw c) 7)⟩, ⟨8, 7, 7, 7, 6, .gone, .gone, .half (XX I .bccw c 7)⟩⟩ Y
      ⊢ WP c (k0_part64 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v2073 v2076 cst_1511 >>= k) Q := by
  rw [k0_part64_eq_skeleton]
  unfold k0_part64_skel
  exact hk

theorem part65 {Y : sProp 𝕄} {α : Type} {Q : α → sProp 𝕄} (v5 : BitVec 32) (v7 : BitVec 32)
    {k : (BitVec 32) → Prog (TpuEff nD τ sig (Elt F) Λ₀ .tc) α}
    (hk : St (XX I) K ks c ⟨⟨10, 9, 9, 9, 8, .half (XX I .acw (backD .acw c) 8), .gone, .gone⟩, ⟨8, 7, 8, 7, 6, .gone, .gone, .full (XX I .bcw c 7)⟩, ⟨10, 9, 9, 9, 8, .half (XX I .accw (backD .accw c) 8), .gone, .gone⟩, ⟨8, 7, 7, 7, 6, .gone, .gone, .half (XX I .bccw c 7)⟩⟩ Y
      ⊢ WP c (k (Scalar.muli v5 1#32)) Q) :
    St (XX I) K ks c ⟨⟨10, 9, 8, 8, 8, .half (XX I .acw (backD .acw c) 8), .gone, .half (XX I .acw (backD .acw c) 7)⟩, ⟨8, 7, 7, 7, 6, .gone, .gone, .half (XX I .bcw c 7)⟩, ⟨10, 9, 8, 8, 8, .half (XX I .accw (backD .accw c) 8), .gone, .half (XX I .accw (backD .accw c) 7)⟩, ⟨8, 7, 7, 7, 6, .gone, .gone, .half (XX I .bccw c 7)⟩⟩ Y
      ⊢ WP c (k0_part65 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part65_eq_skeleton]
  unfold k0_part65_skel
  refine op_send (XX I) K ks c .acw 8 (by rfl) (by decide) (by show 8 < 10; decide) (by rfl) (by exact above_of rfl) (i' := 2) ?_
  refine op_give (XX I) K ks c .acw 8 (by exact to_prv (k0_dev69_eq c)) (by rfl) (by decide) (by show 8 ≤ 9 ∧ 9 ≤ 8 + 2; decide) (by rfl) ?_
  refine op_send (XX I) K ks c .accw 8 (by rfl) (by decide) (by show 8 < 10; decide) (by rfl) (by exact above_of rfl) (i' := 2) ?_
  refine op_give (XX I) K ks c .accw 8 (by exact to_nxt (k0_dev70_eq c)) (by rfl) (by decide) (by show 8 ≤ 9 ∧ 9 ≤ 8 + 2; decide) (by rfl) ?_
  refine op_send (XX I) K ks c .bcw 7 (by rfl) (by decide) (by show 7 < 8; decide) (by rfl) (by exact above_of rfl) (i' := 2) ?_
  exact hk

theorem part66 {Y : sProp 𝕄} {α : Type} {Q : α → sProp 𝕄} (v7 : BitVec 32) (v2071 : FVec F S256x512 .f32) (v2148 : BitVec 32)
    (hw0 : (k0_pay131 v2071 (Bv I .bcw (backD .bcw c) 7)) = Bv I .bcw c 8)
    {k : (PUnit) → Prog (TpuEff nD τ sig (Elt F) Λ₀ .tc) α}
    (hk : St (XX I) K ks c ⟨⟨10, 9, 9, 9, 8, .half (XX I .acw (backD .acw c) 8), .gone, .gone⟩, ⟨8, 8, 8, 8, 7, .full (XX I .bcw c 8), .gone, .gone⟩, ⟨10, 9, 9, 9, 8, .half (XX I .accw (backD .accw c) 8), .gone, .gone⟩, ⟨8, 7, 7, 7, 6, .gone, .gone, .half (XX I .bccw c 7)⟩⟩ Y
      ⊢ WP c (k ⟨⟩) Q) :
    St (XX I) K ks c ⟨⟨10, 9, 9, 9, 8, .half (XX I .acw (backD .acw c) 8), .gone, .gone⟩, ⟨8, 7, 8, 7, 6, .gone, .gone, .full (XX I .bcw c 7)⟩, ⟨10, 9, 9, 9, 8, .half (XX I .accw (backD .accw c) 8), .gone, .gone⟩, ⟨8, 7, 7, 7, 6, .gone, .gone, .half (XX I .bccw c 7)⟩⟩ Y
      ⊢ WP c (k0_part66 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v7 v2071 v2148 >>= k) Q := by
  rw [k0_part66_eq_skeleton]
  unfold k0_part66_skel
  refine op_give (XX I) K ks c .bcw 7 (by exact to_prv (k0_dev71_eq c)) (by rfl) (by decide) (by show 7 ≤ 7 ∧ 7 ≤ 7 + 2; decide) (by rfl) ?_
  refine op_recv (XX I) K ks c .bcw 7 (by rfl) (by decide) (by rfl) (by exact above_of rfl) (i' := 0) ?_
  refine ld_bcw (XX I) K ks c 0 (by rfl) (by exact fun _ h => h) ?_
  refine ld_bcw (XX I) K ks c 0 (by rfl) (by exact fun _ h => h) ?_
  refine st_bcw (XX I) K ks c 0 (by rfl) (XX I .bcw c 8) hw0 ?_
  refine op_have (XX I) K ks c .bcw 6 (by rfl) (by decide) (by exact above_of rfl) ?_
  exact hk

theorem part67 {Y : sProp 𝕄} {α : Type} {Q : α → sProp 𝕄} (v5 : BitVec 32) (v7 : BitVec 32) (v2125 : FVec F S256x512 .f32)
    (hw0 : (k0_pay132 v2125 (Bv I .bccw (backD .bccw c) 7)) = Bv I .bccw c 8)
    {k : (PUnit) → Prog (TpuEff nD τ sig (Elt F) Λ₀ .tc) α}
    (hk : St (XX I) K ks c ⟨⟨10, 9, 9, 9, 8, .half (XX I .acw (backD .acw c) 8), .gone, .gone⟩, ⟨9, 8, 8, 8, 7, .half (XX I .bcw c 8), .gone, .gone⟩, ⟨10, 9, 9, 9, 8, .half (XX I .accw (backD .accw c) 8), .gone, .gone⟩, ⟨8, 8, 8, 8, 7, .full (XX I .bccw c 8), .gone, .gone⟩⟩ Y
      ⊢ WP c (k ⟨⟩) Q) :
    St (XX I) K ks c ⟨⟨10, 9, 9, 9, 8, .half (XX I .acw (backD .acw c) 8), .gone, .gone⟩, ⟨8, 8, 8, 8, 7, .full (XX I .bcw c 8), .gone, .gone⟩, ⟨10, 9, 9, 9, 8, .half (XX I .accw (backD .accw c) 8), .gone, .gone⟩, ⟨8, 7, 7, 7, 6, .gone, .gone, .half (XX I .bccw c 7)⟩⟩ Y
      ⊢ WP c (k0_part67 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v2125 >>= k) Q := by
  rw [k0_part67_eq_skeleton]
  unfold k0_part67_skel
  refine op_start (XX I) K ks c .bcw 8 (by exact to_nxt (k0_dev72_eq c)) (by rfl) (by decide) (by show 8 < 7 + 2; decide) (by show 8 ≤ 8 ∧ 8 ≤ 8 + 2; decide) (by rfl) (by exact fun _ h => h) ?_
  refine op_send (XX I) K ks c .bccw 7 (by rfl) (by decide) (by show 7 < 8; decide) (by rfl) (by exact above_of rfl) (i' := 2) ?_
  refine op_give (XX I) K ks c .bccw 7 (by exact to_nxt (k0_dev73_eq c)) (by rfl) (by decide) (by show 7 ≤ 7 ∧ 7 ≤ 7 + 2; decide) (by rfl) ?_
  refine op_recv (XX I) K ks c .bccw 7 (by rfl) (by decide) (by rfl) (by exact above_of rfl) (i' := 0) ?_
  refine ld_bccw (XX I) K ks c 0 (by rfl) (by exact fun _ h => h) ?_
  refine ld_bccw (XX I) K ks c 0 (by rfl) (by exact fun _ h => h) ?_
  refine st_bccw (XX I) K ks c 0 (by rfl) (XX I .bccw c 8) hw0 ?_
  refine op_have (XX I) K ks c .bccw 6 (by rfl) (by decide) (by exact above_of rfl) ?_
  exact hk

theorem part68 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨10, 10, 9, 9, 9, .half (XX I .acw (backD .acw c) 8), .full (XX I .acw (backD .acw c) 9), .gone⟩, ⟨9, 8, 8, 8, 7, .half (XX I .bcw c 8), .gone, .gone⟩, ⟨10, 9, 9, 9, 8, .half (XX I .accw (backD .accw c) 8), .gone, .gone⟩, ⟨9, 8, 8, 8, 7, .half (XX I .bccw c 8), .gone, .gone⟩⟩ Y
      ⊢ WP c (k ⟨⟩) Q) :
    St (XX I) K ks c ⟨⟨10, 9, 9, 9, 8, .half (XX I .acw (backD .acw c) 8), .gone, .gone⟩, ⟨9, 8, 8, 8, 7, .half (XX I .bcw c 8), .gone, .gone⟩, ⟨10, 9, 9, 9, 8, .half (XX I .accw (backD .accw c) 8), .gone, .gone⟩, ⟨8, 8, 8, 8, 7, .full (XX I .bccw c 8), .gone, .gone⟩⟩ Y
      ⊢ WP c (k0_part68 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part68_eq_skeleton]
  unfold k0_part68_skel
  refine op_start (XX I) K ks c .bccw 8 (by exact to_prv (k0_dev74_eq c)) (by rfl) (by decide) (by show 8 < 7 + 2; decide) (by show 8 ≤ 8 ∧ 8 ≤ 8 + 2; decide) (by rfl) (by exact fun _ h => h) ?_
  refine op_recv (XX I) K ks c .acw 9 (by rfl) (by decide) (by rfl) (by exact above_of rfl) (i' := 1) ?_
  refine op_have (XX I) K ks c .acw 8 (by rfl) (by decide) (by exact above_of rfl) ?_
  exact hk

theorem part69 {Y : sProp 𝕄} {α : Type} {Q : α → sProp 𝕄} (v5 : BitVec 32)
    {k : (Σ' (v2247 : FVec F S256x256 .bf16) (v2250 : FVec F S256x1 .f32), FVec F S256x512 .f32) → Prog (TpuEff nD τ sig (Elt F) Λ₀ .tc) α}
    (hk : St (XX I) K ks c ⟨⟨11, 10, 9, 9, 9, .half (XX I .acw (backD .acw c) 8), .half (XX I .acw (backD .acw c) 9), .gone⟩, ⟨9, 8, 8, 8, 7, .half (XX I .bcw c 8), .gone, .gone⟩, ⟨11, 10, 9, 9, 9, .half (XX I .accw (backD .accw c) 8), .half (XX I .accw (backD .accw c) 9), .gone⟩, ⟨9, 8, 8, 8, 7, .half (XX I .bccw c 8), .gone, .gone⟩⟩ Y
      ⊢ WP c (k ⟨k0_pay133 (px I .acw (org .acw (backD .acw c) 9)), k0_pay134 (pr I .acw (org .acw (backD .acw c) 9)), k0_pay135 (F := F)⟩) Q) :
    St (XX I) K ks c ⟨⟨10, 10, 9, 9, 9, .half (XX I .acw (backD .acw c) 8), .full (XX I .acw (backD .acw c) 9), .gone⟩, ⟨9, 8, 8, 8, 7, .half (XX I .bcw c 8), .gone, .gone⟩, ⟨10, 9, 9, 9, 8, .half (XX I .accw (backD .accw c) 8), .gone, .gone⟩, ⟨9, 8, 8, 8, 7, .half (XX I .bccw c 8), .gone, .gone⟩⟩ Y
      ⊢ WP c (k0_part69 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 >>= k) Q := by
  rw [k0_part69_eq_skeleton]
  unfold k0_part69_skel
  refine op_start (XX I) K ks c .acw 10 (by exact to_nxt (k0_dev75_eq c)) (by rfl) (by decide) (by show 10 < 9 + 2; decide) (by show 9 ≤ 10 ∧ 10 ≤ 9 + 2; decide) (by rfl) (by exact fun _ h => pass_acw I c 9 h) ?_
  refine op_recv (XX I) K ks c .accw 9 (by rfl) (by decide) (by rfl) (by exact above_of rfl) (i' := 1) ?_
  refine op_have (XX I) K ks c .accw 8 (by rfl) (by decide) (by exact above_of rfl) ?_
  refine op_start (XX I) K ks c .accw 10 (by exact to_prv (k0_dev76_eq c)) (by rfl) (by decide) (by show 10 < 9 + 2; decide) (by show 9 ≤ 10 ∧ 10 ≤ 9 + 2; decide) (by rfl) (by exact fun _ h => pass_accw I c 9 h) ?_
  refine ld_acw (XX I) K ks c 1 (by exact .inr rfl) embX (hrX 1 _) (by exact fun _ h => pktX h) ?_
  refine ld_acw (XX I) K ks c 1 (by exact .inr rfl) embR (hrR 1 _) (by exact fun _ h => pktR h) ?_
  exact hk

theorem part70 {Y : sProp 𝕄} {α : Type} {Q : α → sProp 𝕄} (v60 : FVec F S4x256x512 .bf16) (v62 : F .f32) (v2247 : FVec F S256x256 .bf16) (v2250 : FVec F S256x1 .f32) (v2251 : FVec F S256x512 .f32)
    {k : (Σ' (v2299 : FVec F S256x512 .f32), Vec F S1x256x256 .bf16) → Prog (TpuEff nD τ sig (Elt F) Λ₀ .tc) α}
    (hk : St (XX I) K ks c ⟨⟨11, 10, 9, 9, 9, .half (XX I .acw (backD .acw c) 8), .half (XX I .acw (backD .acw c) 9), .gone⟩, ⟨9, 8, 8, 8, 7, .half (XX I .bcw c 8), .gone, .gone⟩, ⟨11, 10, 9, 9, 9, .half (XX I .accw (backD .accw c) 8), .half (XX I .accw (backD .accw c) 9), .gone⟩, ⟨9, 8, 8, 8, 7, .half (XX I .bccw c 8), .gone, .gone⟩⟩ Y
      ⊢ WP c (k ⟨k0_pay136 v60 v62 v2247 v2250 v2251, (px I .accw (org .accw (backD .accw c) 9))⟩) Q) :
    St (XX I) K ks c ⟨⟨11, 10, 9, 9, 9, .half (XX I .acw (backD .acw c) 8), .half (XX I .acw (backD .acw c) 9), .gone⟩, ⟨9, 8, 8, 8, 7, .half (XX I .bcw c 8), .gone, .gone⟩, ⟨11, 10, 9, 9, 9, .half (XX I .accw (backD .accw c) 8), .half (XX I .accw (backD .accw c) 9), .gone⟩, ⟨9, 8, 8, 8, 7, .half (XX I .bccw c 8), .gone, .gone⟩⟩ Y
      ⊢ WP c (k0_part70 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v2247 v2250 v2251 >>= k) Q := by
  rw [k0_part70_eq_skeleton]
  unfold k0_part70_skel
  refine ld_accw (XX I) K ks c 1 (by exact .inr rfl) embX (hrX 1 _) (by exact fun _ h => pktX h) ?_
  exact hk

theorem part71 {Y : sProp 𝕄} {α : Type} {Q : α → sProp 𝕄} (v60 : FVec F S4x256x512 .bf16) (v62 : F .f32) (v2300 : Vec F S1x256x256 .bf16)
    {k : (Σ' (v2341 : FVec F S256x512 .f32), FVec F S256x256 .bf16) → Prog (TpuEff nD τ sig (Elt F) Λ₀ .tc) α}
    (hk : St (XX I) K ks c ⟨⟨11, 10, 9, 9, 9, .half (XX I .acw (backD .acw c) 8), .half (XX I .acw (backD .acw c) 9), .gone⟩, ⟨9, 8, 8, 8, 7, .half (XX I .bcw c 8), .gone, .gone⟩, ⟨11, 10, 9, 9, 9, .half (XX I .accw (backD .accw c) 8), .half (XX I .accw (backD .accw c) 9), .gone⟩, ⟨9, 8, 8, 8, 7, .half (XX I .bccw c 8), .gone, .gone⟩⟩ Y
      ⊢ WP c (k ⟨k0_pay139 v60 v62 v2300 (pr I .accw (org .accw (backD .accw c) 9)), k0_pay140 v62 v2300 (pr I .accw (org .accw (backD .accw c) 9))⟩) Q) :
    St (XX I) K ks c ⟨⟨11, 10, 9, 9, 9, .half (XX I .acw (backD .acw c) 8), .half (XX I .acw (backD .acw c) 9), .gone⟩, ⟨9, 8, 8, 8, 7, .half (XX I .bcw c 8), .gone, .gone⟩, ⟨11, 10, 9, 9, 9, .half (XX I .accw (backD .accw c) 8), .half (XX I .accw (backD .accw c) 9), .gone⟩, ⟨9, 8, 8, 8, 7, .half (XX I .bccw c 8), .gone, .gone⟩⟩ Y
      ⊢ WP c (k0_part71 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v2300 >>= k) Q := by
  rw [k0_part71_eq_skeleton]
  unfold k0_part71_skel
  refine ld_accw (XX I) K ks c 1 (by exact .inr rfl) embR (hrR 1 _) (by exact fun _ h => pktR h) ?_
  exact hk

theorem part72 {Y : sProp 𝕄} {α : Type} {Q : α → sProp 𝕄} (v5 : BitVec 32) (v7 : BitVec 32) (v60 : FVec F S4x256x512 .bf16) (v2341 : FVec F S256x512 .f32) (v2349 : FVec F S256x256 .bf16)
    {k : (FVec F S256x512 .f32) → Prog (TpuEff nD τ sig (Elt F) Λ₀ .tc) α}
    (hk : St (XX I) K ks c ⟨⟨11, 10, 10, 10, 9, .gone, .half (XX I .acw (backD .acw c) 9), .gone⟩, ⟨9, 8, 8, 8, 7, .half (XX I .bcw c 8), .gone, .gone⟩, ⟨11, 10, 10, 10, 9, .gone, .half (XX I .accw (backD .accw c) 9), .gone⟩, ⟨9, 8, 8, 8, 7, .half (XX I .bccw c 8), .gone, .gone⟩⟩ Y
      ⊢ WP c (k (k0_pay141 v60 v2341 v2349)) Q) :
    St (XX I) K ks c ⟨⟨11, 10, 9, 9, 9, .half (XX I .acw (backD .acw c) 8), .half (XX I .acw (backD .acw c) 9), .gone⟩, ⟨9, 8, 8, 8, 7, .half (XX I .bcw c 8), .gone, .gone⟩, ⟨11, 10, 9, 9, 9, .half (XX I .accw (backD .accw c) 8), .half (XX I .accw (backD .accw c) 9), .gone⟩, ⟨9, 8, 8, 8, 7, .half (XX I .bccw c 8), .gone, .gone⟩⟩ Y
      ⊢ WP c (k0_part72 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v60 v2341 v2349 >>= k) Q := by
  rw [k0_part72_eq_skeleton]
  unfold k0_part72_skel
  refine op_send (XX I) K ks c .acw 9 (by rfl) (by decide) (by show 9 < 11; decide) (by rfl) (by exact above_of rfl) (i' := 0) ?_
  refine op_give (XX I) K ks c .acw 9 (by exact to_prv (k0_dev77_eq c)) (by rfl) (by decide) (by show 9 ≤ 10 ∧ 10 ≤ 9 + 2; decide) (by rfl) ?_
  refine op_send (XX I) K ks c .accw 9 (by rfl) (by decide) (by show 9 < 11; decide) (by rfl) (by exact above_of rfl) (i' := 0) ?_
  refine op_give (XX I) K ks c .accw 9 (by exact to_nxt (k0_dev78_eq c)) (by rfl) (by decide) (by show 9 ≤ 10 ∧ 10 ≤ 9 + 2; decide) (by rfl) ?_
  exact hk

end Cert.MoE
-- ==== Proof.Chain1.lean ====
/-
The first sixty parts of a device's program, one after another: through the barrier, to the middle of the ring.
-/
module

public import proofs.«01_k».proof.Proof.Ends
public import proofs.«01_k».proof.Proof.Parts1
public import proofs.«01_k».proof.Proof.Parts2
public import proofs.«01_k».proof.Proof.Parts3
public import proofs.«01_k».proof.Proof.Parts4
public import proofs.«01_k».proof.Proof.Parts5

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

set_option maxRecDepth 100000 in
theorem part111 {o : Vec F S512x512 .f32 → Prop} {Z : sProp 𝕄}
    {Q : (Σ' (d0 : Dev nD) (v5 : BitVec 32) (v7 : BitVec 32) (v60 : FVec F S4x256x512 .bf16) (v62 : F .f32) (v121 : FVec F S256x512 .f32), FVec F S256x512 .f32) → sProp 𝕄}
    (hk : ∀ v5 v7, St (XX I) K ks c ⟨⟨9, 8, 8, 8, 7, .gone, .gone, .half (XX I .acw (backD .acw c) 7)⟩, ⟨8, 7, 7, 7, 6, .gone, .gone, .half (XX I .bcw c 7)⟩, ⟨9, 8, 8, 8, 7, .gone, .gone, .half (XX I .accw (backD .accw c) 7)⟩, ⟨7, 7, 7, 7, 6, .gone, .gone, .full (XX I .bccw c 7)⟩⟩ (Beside I c o (iprop(atPos ER (barCell c) 1 ∅ 0 ∗ Z)))
      ⊢ Q ⟨c, v5, v7, k0_pay11 (I.e c), k0_pay12 (F := F) (pos c), homeCw I c, homeCcw I c⟩) :
    Pre (XX I) K ks c (Beside I c o Z)
      ⊢ WP c (k0_part111 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15) Q := by
  rw [k0_part111_eq_skeleton]
  unfold k0_part111_skel
  refine part1 I K ks c (fun v5 v7 => ?_)
  refine part2 I K ks c _ ?_
  refine part3 I K ks c _ _ ?_
  refine part4 I K ks c _ _ _ _ _ _ _ ?_
  refine part5 I K ks c _ _ _ _ _ _ _ _ _ ?_
  refine part6 I K ks c _ _ ?_
  refine part7 I K ks c _ _ _ ?_
  refine part8 I K ks c _ _ _ _ _ _ _ ?_
  refine part9 I K ks c _ _ _ _ _ _ _ ?_
  refine part10 I K ks c _ _ _ _ ?_ ?_
  · rfl
  refine part11 I K ks c _ _ _ ?_ ?_
  · rfl
  refine part12 I K ks c _ ?_
  refine part13 I K ks c _ _ _ _ ?_
  refine part14 I K ks c _ _ ?_
  refine part15 I K ks c _ _ _ _ _ _ ?_
  refine part16 I K ks c _ _ _ ?_ ?_
  · rfl
  refine part17 I K ks c _ _ _ ?_
  refine part18 I K ks c _ _ _ ?_ ?_
  · rfl
  refine part19 I K ks c _ ?_
  refine part20 I K ks c _ _ _ _ ?_
  refine part21 I K ks c _ _ ?_
  refine part22 I K ks c _ _ _ _ _ _ ?_
  refine part23 I K ks c _ _ _ ?_ ?_
  · rfl
  refine part24 I K ks c _ _ ?_
  refine part25 I K ks c _ _ _ _ ?_ ?_
  · rfl
  refine part26 I K ks c _ _ _ ?_
  refine part27 I K ks c _ _ ?_
  refine part28 I K ks c _ _ _ _ _ ?_
  refine part29 I K ks c _ _ _ _ _ _ _ _ _ ?_
  refine part30 I K ks c _ _ _ ?_ ?_
  · rfl
  refine part31 I K ks c _ _ ?_
  refine part32 I K ks c _ _ _ ?_ ?_
  · rfl
  refine part33 I K ks c _ _ ?_
  refine part34 I K ks c _ _ ?_
  refine part35 I K ks c _ _ _ _ _ _ _ _ ?_
  refine part36 I K ks c _ _ _ _ _ _ _ ?_
  refine part37 I K ks c _ _ _ ?_
  refine part38 I K ks c _ _ _ ?_ ?_
  · rfl
  refine part39 I K ks c _ _ _ ?_ ?_
  · rfl
  refine part40 I K ks c _ _ ?_
  refine part41 I K ks c _ _ _ ?_
  refine part42 I K ks c _ _ _ _ _ _ ?_
  refine part43 I K ks c _ _ _ _ _ _ _ ?_
  refine part44 I K ks c _ _ ?_
  refine part45 I K ks c _ _ ?_ ?_
  · rfl
  refine part46 I K ks c _ _ ?_ ?_
  · rfl
  refine part47 I K ks c _ _ ?_
  refine part48 I K ks c _ _ _ ?_
  refine part49 I K ks c _ _ _ _ _ _ _ ?_
  refine part50 I K ks c _ _ _ _ _ _ _ ?_
  refine part51 I K ks c _ _ _ ?_
  refine part52 I K ks c _ _ ?_ ?_
  · rfl
  refine part53 I K ks c _ _ _ ?_ ?_
  · rfl
  refine part54 I K ks c _ _ ?_
  refine part55 I K ks c _ _ _ ?_
  refine part56 I K ks c _ _ _ _ _ _ ?_
  refine part57 I K ks c _ _ _ _ _ _ ?_
  refine part58 I K ks c _ _ ?_
  refine part59 I K ks c _ _ _ ?_ ?_
  · rfl
  refine part60 I K ks c _ _ _ ?_ ?_
  · rfl
  exact (hk v5 v7).trans fupd_intro

end Cert.MoE
-- ==== Proof.Parts6.lean ====
/-
The run of the kernel's parts 73 to 86: what each does to the state.
-/
module

public import proofs.«01_k».proof.Proof.Names

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

theorem part73 {Y : sProp 𝕄} {α : Type} {Q : α → sProp 𝕄} (v5 : BitVec 32) (v7 : BitVec 32) (v2299 : FVec F S256x512 .f32)
    (hw0 : (k0_pay142 v2299 (Bv I .bcw (backD .bcw c) 8)) = Bv I .bcw c 9)
    {k : (PUnit) → Prog (TpuEff nD τ sig (Elt F) Λ₀ .tc) α}
    (hk : St (XX I) K ks c ⟨⟨11, 10, 10, 10, 9, .gone, .half (XX I .acw (backD .acw c) 9), .gone⟩, ⟨9, 9, 9, 9, 8, .gone, .full (XX I .bcw c 9), .gone⟩, ⟨11, 10, 10, 10, 9, .gone, .half (XX I .accw (backD .accw c) 9), .gone⟩, ⟨9, 8, 8, 8, 7, .half (XX I .bccw c 8), .gone, .gone⟩⟩ Y
      ⊢ WP c (k ⟨⟩) Q) :
    St (XX I) K ks c ⟨⟨11, 10, 10, 10, 9, .gone, .half (XX I .acw (backD .acw c) 9), .gone⟩, ⟨9, 8, 8, 8, 7, .half (XX I .bcw c 8), .gone, .gone⟩, ⟨11, 10, 10, 10, 9, .gone, .half (XX I .accw (backD .accw c) 9), .gone⟩, ⟨9, 8, 8, 8, 7, .half (XX I .bccw c 8), .gone, .gone⟩⟩ Y
      ⊢ WP c (k0_part73 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v2299 >>= k) Q := by
  rw [k0_part73_eq_skeleton]
  unfold k0_part73_skel
  refine op_send (XX I) K ks c .bcw 8 (by rfl) (by decide) (by show 8 < 9; decide) (by rfl) (by exact above_of rfl) (i' := 0) ?_
  refine op_give (XX I) K ks c .bcw 8 (by exact to_prv (k0_dev79_eq c)) (by rfl) (by decide) (by show 8 ≤ 8 ∧ 8 ≤ 8 + 2; decide) (by rfl) ?_
  refine op_recv (XX I) K ks c .bcw 8 (by rfl) (by decide) (by rfl) (by exact above_of rfl) (i' := 1) ?_
  refine ld_bcw (XX I) K ks c 1 (by rfl) (by exact fun _ h => h) ?_
  refine ld_bcw (XX I) K ks c 1 (by rfl) (by exact fun _ h => h) ?_
  refine st_bcw (XX I) K ks c 1 (by rfl) (XX I .bcw c 9) hw0 ?_
  refine op_have (XX I) K ks c .bcw 7 (by rfl) (by decide) (by exact above_of rfl) ?_
  exact hk

theorem part74 {Y : sProp 𝕄} {α : Type} {Q : α → sProp 𝕄} (v5 : BitVec 32) (v7 : BitVec 32) (v2353 : FVec F S256x512 .f32)
    {k : (FVec F S256x512 .bf16) → Prog (TpuEff nD τ sig (Elt F) Λ₀ .tc) α}
    (hk : St (XX I) K ks c ⟨⟨11, 10, 10, 10, 9, .gone, .half (XX I .acw (backD .acw c) 9), .gone⟩, ⟨10, 9, 9, 9, 8, .gone, .half (XX I .bcw c 9), .gone⟩, ⟨11, 10, 10, 10, 9, .gone, .half (XX I .accw (backD .accw c) 9), .gone⟩, ⟨9, 9, 9, 9, 7, .gone, .full (XX I .bccw (backD .bccw c) 8), .gone⟩⟩ Y
      ⊢ WP c (k (k0_pay143 v2353 (Bv I .bccw (backD .bccw c) 8))) Q) :
    St (XX I) K ks c ⟨⟨11, 10, 10, 10, 9, .gone, .half (XX I .acw (backD .acw c) 9), .gone⟩, ⟨9, 9, 9, 9, 8, .gone, .full (XX I .bcw c 9), .gone⟩, ⟨11, 10, 10, 10, 9, .gone, .half (XX I .accw (backD .accw c) 9), .gone⟩, ⟨9, 8, 8, 8, 7, .half (XX I .bccw c 8), .gone, .gone⟩⟩ Y
      ⊢ WP c (k0_part74 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v2353 >>= k) Q := by
  rw [k0_part74_eq_skeleton]
  unfold k0_part74_skel
  refine op_start (XX I) K ks c .bcw 9 (by exact to_nxt (k0_dev80_eq c)) (by rfl) (by decide) (by show 9 < 8 + 2; decide) (by show 9 ≤ 9 ∧ 9 ≤ 9 + 2; decide) (by rfl) (by exact fun _ h => h) ?_
  refine op_send (XX I) K ks c .bccw 8 (by rfl) (by decide) (by show 8 < 9; decide) (by rfl) (by exact above_of rfl) (i' := 0) ?_
  refine op_give (XX I) K ks c .bccw 8 (by exact to_nxt (k0_dev81_eq c)) (by rfl) (by decide) (by show 8 ≤ 8 ∧ 8 ≤ 8 + 2; decide) (by rfl) ?_
  refine op_recv (XX I) K ks c .bccw 8 (by rfl) (by decide) (by rfl) (by exact above_of rfl) (i' := 1) ?_
  refine ld_bccw (XX I) K ks c 1 (by rfl) (by exact fun _ h => h) ?_
  exact hk

theorem part75 {Y : sProp 𝕄} {α : Type} {Q : α → sProp 𝕄} (v5 : BitVec 32) (v7 : BitVec 32) (v2424 : FVec F S256x512 .bf16)
    (hw0 : (k0_pay144 v2424) = Bv I .bccw c 9)
    {k : (PUnit) → Prog (TpuEff nD τ sig (Elt F) Λ₀ .tc) α}
    (hk : St (XX I) K ks c ⟨⟨11, 11, 10, 10, 10, .gone, .half (XX I .acw (backD .acw c) 9), .full (XX I .acw (backD .acw c) 10)⟩, ⟨10, 9, 9, 9, 8, .gone, .half (XX I .bcw c 9), .gone⟩, ⟨11, 10, 10, 10, 9, .gone, .half (XX I .accw (backD .accw c) 9), .gone⟩, ⟨10, 9, 9, 9, 8, .gone, .half (XX I .bccw c 9), .gone⟩⟩ Y
      ⊢ WP c (k ⟨⟩) Q) :
    St (XX I) K ks c ⟨⟨11, 10, 10, 10, 9, .gone, .half (XX I .acw (backD .acw c) 9), .gone⟩, ⟨10, 9, 9, 9, 8, .gone, .half (XX I .bcw c 9), .gone⟩, ⟨11, 10, 10, 10, 9, .gone, .half (XX I .accw (backD .accw c) 9), .gone⟩, ⟨9, 9, 9, 9, 7, .gone, .full (XX I .bccw (backD .bccw c) 8), .gone⟩⟩ Y
      ⊢ WP c (k0_part75 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v2424 >>= k) Q := by
  rw [k0_part75_eq_skeleton]
  unfold k0_part75_skel
  refine ld_bccw (XX I) K ks c 1 (by rfl) (by exact fun _ h => h) ?_
  refine st_bccw (XX I) K ks c 1 (by rfl) (XX I .bccw c 9) hw0 ?_
  refine op_have (XX I) K ks c .bccw 7 (by rfl) (by decide) (by exact above_of rfl) ?_
  refine op_start (XX I) K ks c .bccw 9 (by exact to_prv (k0_dev82_eq c)) (by rfl) (by decide) (by show 9 < 8 + 2; decide) (by show 9 ≤ 9 ∧ 9 ≤ 9 + 2; decide) (by rfl) (by exact fun _ h => h) ?_
  refine op_recv (XX I) K ks c .acw 10 (by rfl) (by decide) (by rfl) (by exact above_of rfl) (i' := 2) ?_
  refine op_have (XX I) K ks c .acw 9 (by rfl) (by decide) (by exact above_of rfl) ?_
  exact hk

theorem part76 {Y : sProp 𝕄} {α : Type} {Q : α → sProp 𝕄} (v5 : BitVec 32)
    {k : (FVec F S256x256 .bf16) → Prog (TpuEff nD τ sig (Elt F) Λ₀ .tc) α}
    (hk : St (XX I) K ks c ⟨⟨12, 11, 10, 10, 10, .gone, .half (XX I .acw (backD .acw c) 9), .half (XX I .acw (backD .acw c) 10)⟩, ⟨10, 9, 9, 9, 8, .gone, .half (XX I .bcw c 9), .gone⟩, ⟨12, 11, 10, 10, 10, .gone, .half (XX I .accw (backD .accw c) 9), .half (XX I .accw (backD .accw c) 10)⟩, ⟨10, 9, 9, 9, 8, .gone, .half (XX I .bccw c 9), .gone⟩⟩ Y
      ⊢ WP c (k (k0_pay145 (px I .acw (org .acw (backD .acw c) 10)))) Q) :
    St (XX I) K ks c ⟨⟨11, 11, 10, 10, 10, .gone, .half (XX I .acw (backD .acw c) 9), .full (XX I .acw (backD .acw c) 10)⟩, ⟨10, 9, 9, 9, 8, .gone, .half (XX I .bcw c 9), .gone⟩, ⟨11, 10, 10, 10, 9, .gone, .half (XX I .accw (backD .accw c) 9), .gone⟩, ⟨10, 9, 9, 9, 8, .gone, .half (XX I .bccw c 9), .gone⟩⟩ Y
      ⊢ WP c (k0_part76 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 >>= k) Q := by
  rw [k0_part76_eq_skeleton]
  unfold k0_part76_skel
  refine op_start (XX I) K ks c .acw 11 (by exact to_nxt (k0_dev83_eq c)) (by rfl) (by decide) (by show 11 < 10 + 2; decide) (by show 10 ≤ 11 ∧ 11 ≤ 10 + 2; decide) (by rfl) (by exact fun _ h => pass_acw I c 10 h) ?_
  refine op_recv (XX I) K ks c .accw 10 (by rfl) (by decide) (by rfl) (by exact above_of rfl) (i' := 2) ?_
  refine op_have (XX I) K ks c .accw 9 (by rfl) (by decide) (by exact above_of rfl) ?_
  refine op_start (XX I) K ks c .accw 11 (by exact to_prv (k0_dev84_eq c)) (by rfl) (by decide) (by show 11 < 10 + 2; decide) (by show 10 ≤ 11 ∧ 11 ≤ 10 + 2; decide) (by rfl) (by exact fun _ h => pass_accw I c 10 h) ?_
  refine ld_acw (XX I) K ks c 2 (by exact .inr rfl) embX (hrX 2 _) (by exact fun _ h => pktX h) ?_
  exact hk

theorem part77 {Y : sProp 𝕄} {α : Type} {Q : α → sProp 𝕄} (v60 : FVec F S4x256x512 .bf16) (v62 : F .f32) (v2475 : FVec F S256x256 .bf16)
    {k : (Σ' (v2515 : FVec F S256x512 .f32) (v2523 : FVec F S256x256 .bf16), FVec F S1x256x512 .bf16) → Prog (TpuEff nD τ sig (Elt F) Λ₀ .tc) α}
    (hk : St (XX I) K ks c ⟨⟨12, 11, 10, 10, 10, .gone, .half (XX I .acw (backD .acw c) 9), .half (XX I .acw (backD .acw c) 10)⟩, ⟨10, 9, 9, 9, 8, .gone, .half (XX I .bcw c 9), .gone⟩, ⟨12, 11, 10, 10, 10, .gone, .half (XX I .accw (backD .accw c) 9), .half (XX I .accw (backD .accw c) 10)⟩, ⟨10, 9, 9, 9, 8, .gone, .half (XX I .bccw c 9), .gone⟩⟩ Y
      ⊢ WP c (k ⟨k0_pay147 v60 v62 v2475 (pr I .acw (org .acw (backD .acw c) 10)), k0_pay148 v62 v2475 (pr I .acw (org .acw (backD .acw c) 10)), k0_pay149 v60⟩) Q) :
    St (XX I) K ks c ⟨⟨12, 11, 10, 10, 10, .gone, .half (XX I .acw (backD .acw c) 9), .half (XX I .acw (backD .acw c) 10)⟩, ⟨10, 9, 9, 9, 8, .gone, .half (XX I .bcw c 9), .gone⟩, ⟨12, 11, 10, 10, 10, .gone, .half (XX I .accw (backD .accw c) 9), .half (XX I .accw (backD .accw c) 10)⟩, ⟨10, 9, 9, 9, 8, .gone, .half (XX I .bccw c 9), .gone⟩⟩ Y
      ⊢ WP c (k0_part77 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v2475 >>= k) Q := by
  rw [k0_part77_eq_skeleton]
  unfold k0_part77_skel
  refine ld_acw (XX I) K ks c 2 (by exact .inr rfl) embR (hrR 2 _) (by exact fun _ h => pktR h) ?_
  exact hk

theorem part78 {Y : sProp 𝕄} {α : Type} {Q : α → sProp 𝕄} (v60 : FVec F S4x256x512 .bf16) (v62 : F .f32) (v2515 : FVec F S256x512 .f32) (v2523 : FVec F S256x256 .bf16) (v2524 : FVec F S1x256x512 .bf16)
    {k : (Σ' (v2527 : FVec F S256x512 .f32) (v2529 : FVec F S256x256 .bf16) (v2532 : FVec F S256x1 .f32) (v2569 : FVec F S256x512 .f32), F .f32) → Prog (TpuEff nD τ sig (Elt F) Λ₀ .tc) α}
    (hk : St (XX I) K ks c ⟨⟨12, 11, 10, 10, 10, .gone, .half (XX I .acw (backD .acw c) 9), .half (XX I .acw (backD .acw c) 10)⟩, ⟨10, 9, 9, 9, 8, .gone, .half (XX I .bcw c 9), .gone⟩, ⟨12, 11, 10, 10, 10, .gone, .half (XX I .accw (backD .accw c) 9), .half (XX I .accw (backD .accw c) 10)⟩, ⟨10, 9, 9, 9, 8, .gone, .half (XX I .bccw c 9), .gone⟩⟩ Y
      ⊢ WP c (k ⟨k0_pay150 v2515 v2523 v2524, k0_pay151 (px I .accw (org .accw (backD .accw c) 10)), k0_pay152 (pr I .accw (org .accw (backD .accw c) 10)), k0_pay153 v60 v62 (px I .accw (org .accw (backD .accw c) 10)) (pr I .accw (org .accw (backD .accw c) 10)), (Scalar.ofBits .f32 0x40400000#32)⟩) Q) :
    St (XX I) K ks c ⟨⟨12, 11, 10, 10, 10, .gone, .half (XX I .acw (backD .acw c) 9), .half (XX I .acw (backD .acw c) 10)⟩, ⟨10, 9, 9, 9, 8, .gone, .half (XX I .bcw c 9), .gone⟩, ⟨12, 11, 10, 10, 10, .gone, .half (XX I .accw (backD .accw c) 9), .half (XX I .accw (backD .accw c) 10)⟩, ⟨10, 9, 9, 9, 8, .gone, .half (XX I .bccw c 9), .gone⟩⟩ Y
      ⊢ WP c (k0_part78 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v2515 v2523 v2524 >>= k) Q := by
  rw [k0_part78_eq_skeleton]
  unfold k0_part78_skel
  refine ld_accw (XX I) K ks c 2 (by exact .inr rfl) embX (hrX 2 _) (by exact fun _ h => pktX h) ?_
  refine ld_accw (XX I) K ks c 2 (by exact .inr rfl) embR (hrR 2 _) (by exact fun _ h => pktR h) ?_
  exact hk

theorem part79 {Y : sProp 𝕄} {α : Type} {Q : α → sProp 𝕄} (v5 : BitVec 32) (v7 : BitVec 32) (v60 : FVec F S4x256x512 .bf16) (v62 : F .f32) (v2529 : FVec F S256x256 .bf16) (v2532 : FVec F S256x1 .f32) (v2569 : FVec F S256x512 .f32) (cst_1874 : F .f32)
    {k : (FVec F S256x512 .f32) → Prog (TpuEff nD τ sig (Elt F) Λ₀ .tc) α}
    (hk : St (XX I) K ks c ⟨⟨12, 11, 11, 11, 10, .gone, .gone, .half (XX I .acw (backD .acw c) 10)⟩, ⟨10, 9, 9, 9, 8, .gone, .half (XX I .bcw c 9), .gone⟩, ⟨12, 11, 11, 11, 10, .gone, .gone, .half (XX I .accw (backD .accw c) 10)⟩, ⟨10, 9, 9, 9, 8, .gone, .half (XX I .bccw c 9), .gone⟩⟩ Y
      ⊢ WP c (k (k0_pay154 v60 v62 v2529 v2532 v2569 cst_1874)) Q) :
    St (XX I) K ks c ⟨⟨12, 11, 10, 10, 10, .gone, .half (XX I .acw (backD .acw c) 9), .half (XX I .acw (backD .acw c) 10)⟩, ⟨10, 9, 9, 9, 8, .gone, .half (XX I .bcw c 9), .gone⟩, ⟨12, 11, 10, 10, 10, .gone, .half (XX I .accw (backD .accw c) 9), .half (XX I .accw (backD .accw c) 10)⟩, ⟨10, 9, 9, 9, 8, .gone, .half (XX I .bccw c 9), .gone⟩⟩ Y
      ⊢ WP c (k0_part79 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v60 v62 v2529 v2532 v2569 cst_1874 >>= k) Q := by
  rw [k0_part79_eq_skeleton]
  unfold k0_part79_skel
  refine op_send (XX I) K ks c .acw 10 (by rfl) (by decide) (by show 10 < 12; decide) (by rfl) (by exact above_of rfl) (i' := 1) ?_
  refine op_give (XX I) K ks c .acw 10 (by exact to_prv (k0_dev85_eq c)) (by rfl) (by decide) (by show 10 ≤ 11 ∧ 11 ≤ 10 + 2; decide) (by rfl) ?_
  refine op_send (XX I) K ks c .accw 10 (by rfl) (by decide) (by show 10 < 12; decide) (by rfl) (by exact above_of rfl) (i' := 1) ?_
  refine op_give (XX I) K ks c .accw 10 (by exact to_nxt (k0_dev86_eq c)) (by rfl) (by decide) (by show 10 ≤ 11 ∧ 11 ≤ 10 + 2; decide) (by rfl) ?_
  exact hk

theorem part80 {Y : sProp 𝕄} {α : Type} {Q : α → sProp 𝕄} (v5 : BitVec 32) (v7 : BitVec 32) (v2527 : FVec F S256x512 .f32)
    (hw0 : (k0_pay155 v2527 (Bv I .bcw (backD .bcw c) 9)) = Bv I .bcw c 10)
    {k : (PUnit) → Prog (TpuEff nD τ sig (Elt F) Λ₀ .tc) α}
    (hk : St (XX I) K ks c ⟨⟨12, 11, 11, 11, 10, .gone, .gone, .half (XX I .acw (backD .acw c) 10)⟩, ⟨10, 10, 10, 10, 9, .gone, .gone, .full (XX I .bcw c 10)⟩, ⟨12, 11, 11, 11, 10, .gone, .gone, .half (XX I .accw (backD .accw c) 10)⟩, ⟨10, 9, 9, 9, 8, .gone, .half (XX I .bccw c 9), .gone⟩⟩ Y
      ⊢ WP c (k ⟨⟩) Q) :
    St (XX I) K ks c ⟨⟨12, 11, 11, 11, 10, .gone, .gone, .half (XX I .acw (backD .acw c) 10)⟩, ⟨10, 9, 9, 9, 8, .gone, .half (XX I .bcw c 9), .gone⟩, ⟨12, 11, 11, 11, 10, .gone, .gone, .half (XX I .accw (backD .accw c) 10)⟩, ⟨10, 9, 9, 9, 8, .gone, .half (XX I .bccw c 9), .gone⟩⟩ Y
      ⊢ WP c (k0_part80 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v2527 >>= k) Q := by
  rw [k0_part80_eq_skeleton]
  unfold k0_part80_skel
  refine op_send (XX I) K ks c .bcw 9 (by rfl) (by decide) (by show 9 < 10; decide) (by rfl) (by exact above_of rfl) (i' := 1) ?_
  refine op_give (XX I) K ks c .bcw 9 (by exact to_prv (k0_dev87_eq c)) (by rfl) (by decide) (by show 9 ≤ 9 ∧ 9 ≤ 9 + 2; decide) (by rfl) ?_
  refine op_recv (XX I) K ks c .bcw 9 (by rfl) (by decide) (by rfl) (by exact above_of rfl) (i' := 2) ?_
  refine ld_bcw (XX I) K ks c 2 (by rfl) (by exact fun _ h => h) ?_
  refine ld_bcw (XX I) K ks c 2 (by rfl) (by exact fun _ h => h) ?_
  refine st_bcw (XX I) K ks c 2 (by rfl) (XX I .bcw c 10) hw0 ?_
  refine op_have (XX I) K ks c .bcw 8 (by rfl) (by decide) (by exact above_of rfl) ?_
  exact hk

theorem part81 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨12, 11, 11, 11, 10, .gone, .gone, .half (XX I .acw (backD .acw c) 10)⟩, ⟨11, 10, 10, 10, 9, .gone, .gone, .half (XX I .bcw c 10)⟩, ⟨12, 11, 11, 11, 10, .gone, .gone, .half (XX I .accw (backD .accw c) 10)⟩, ⟨10, 10, 10, 10, 8, .gone, .gone, .full (XX I .bccw (backD .bccw c) 9)⟩⟩ Y
      ⊢ WP c (k ⟨⟩) Q) :
    St (XX I) K ks c ⟨⟨12, 11, 11, 11, 10, .gone, .gone, .half (XX I .acw (backD .acw c) 10)⟩, ⟨10, 10, 10, 10, 9, .gone, .gone, .full (XX I .bcw c 10)⟩, ⟨12, 11, 11, 11, 10, .gone, .gone, .half (XX I .accw (backD .accw c) 10)⟩, ⟨10, 9, 9, 9, 8, .gone, .half (XX I .bccw c 9), .gone⟩⟩ Y
      ⊢ WP c (k0_part81 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part81_eq_skeleton]
  unfold k0_part81_skel
  refine op_start (XX I) K ks c .bcw 10 (by exact to_nxt (k0_dev88_eq c)) (by rfl) (by decide) (by show 10 < 9 + 2; decide) (by show 10 ≤ 10 ∧ 10 ≤ 10 + 2; decide) (by rfl) (by exact fun _ h => h) ?_
  refine op_send (XX I) K ks c .bccw 9 (by rfl) (by decide) (by show 9 < 10; decide) (by rfl) (by exact above_of rfl) (i' := 1) ?_
  refine op_give (XX I) K ks c .bccw 9 (by exact to_nxt (k0_dev89_eq c)) (by rfl) (by decide) (by show 9 ≤ 9 ∧ 9 ≤ 9 + 2; decide) (by rfl) ?_
  refine op_recv (XX I) K ks c .bccw 9 (by rfl) (by decide) (by rfl) (by exact above_of rfl) (i' := 2) ?_
  exact hk

theorem part82 {Y : sProp 𝕄} {α : Type} {Q : α → sProp 𝕄} (v5 : BitVec 32) (v7 : BitVec 32) (v2581 : FVec F S256x512 .f32)
    (hw0 : (k0_pay156 v2581 (Bv I .bccw (backD .bccw c) 9)) = Bv I .bccw c 10)
    {k : (PUnit) → Prog (TpuEff nD τ sig (Elt F) Λ₀ .tc) α}
    (hk : St (XX I) K ks c ⟨⟨12, 12, 11, 11, 11, .full (XX I .acw (backD .acw c) 11), .gone, .half (XX I .acw (backD .acw c) 10)⟩, ⟨11, 10, 10, 10, 9, .gone, .gone, .half (XX I .bcw c 10)⟩, ⟨12, 11, 11, 11, 10, .gone, .gone, .half (XX I .accw (backD .accw c) 10)⟩, ⟨11, 10, 10, 10, 9, .gone, .gone, .half (XX I .bccw c 10)⟩⟩ Y
      ⊢ WP c (k ⟨⟩) Q) :
    St (XX I) K ks c ⟨⟨12, 11, 11, 11, 10, .gone, .gone, .half (XX I .acw (backD .acw c) 10)⟩, ⟨11, 10, 10, 10, 9, .gone, .gone, .half (XX I .bcw c 10)⟩, ⟨12, 11, 11, 11, 10, .gone, .gone, .half (XX I .accw (backD .accw c) 10)⟩, ⟨10, 10, 10, 10, 8, .gone, .gone, .full (XX I .bccw (backD .bccw c) 9)⟩⟩ Y
      ⊢ WP c (k0_part82 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v2581 >>= k) Q := by
  rw [k0_part82_eq_skeleton]
  unfold k0_part82_skel
  refine ld_bccw (XX I) K ks c 2 (by rfl) (by exact fun _ h => h) ?_
  refine ld_bccw (XX I) K ks c 2 (by rfl) (by exact fun _ h => h) ?_
  refine st_bccw (XX I) K ks c 2 (by rfl) (XX I .bccw c 10) hw0 ?_
  refine op_have (XX I) K ks c .bccw 8 (by rfl) (by decide) (by exact above_of rfl) ?_
  refine op_start (XX I) K ks c .bccw 10 (by exact to_prv (k0_dev90_eq c)) (by rfl) (by decide) (by show 10 < 9 + 2; decide) (by show 10 ≤ 10 ∧ 10 ≤ 10 + 2; decide) (by rfl) (by exact fun _ h => h) ?_
  refine op_recv (XX I) K ks c .acw 11 (by rfl) (by decide) (by rfl) (by exact above_of rfl) (i' := 0) ?_
  refine op_have (XX I) K ks c .acw 10 (by rfl) (by decide) (by exact above_of rfl) ?_
  exact hk

theorem part83 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨13, 12, 11, 11, 11, .half (XX I .acw (backD .acw c) 11), .gone, .half (XX I .acw (backD .acw c) 10)⟩, ⟨11, 10, 10, 10, 9, .gone, .gone, .half (XX I .bcw c 10)⟩, ⟨12, 12, 11, 11, 11, .full (XX I .accw (backD .accw c) 11), .gone, .half (XX I .accw (backD .accw c) 10)⟩, ⟨11, 10, 10, 10, 9, .gone, .gone, .half (XX I .bccw c 10)⟩⟩ Y
      ⊢ WP c (k ⟨⟩) Q) :
    St (XX I) K ks c ⟨⟨12, 12, 11, 11, 11, .full (XX I .acw (backD .acw c) 11), .gone, .half (XX I .acw (backD .acw c) 10)⟩, ⟨11, 10, 10, 10, 9, .gone, .gone, .half (XX I .bcw c 10)⟩, ⟨12, 11, 11, 11, 10, .gone, .gone, .half (XX I .accw (backD .accw c) 10)⟩, ⟨11, 10, 10, 10, 9, .gone, .gone, .half (XX I .bccw c 10)⟩⟩ Y
      ⊢ WP c (k0_part83 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part83_eq_skeleton]
  unfold k0_part83_skel
  refine op_start (XX I) K ks c .acw 12 (by exact to_nxt (k0_dev91_eq c)) (by rfl) (by decide) (by show 12 < 11 + 2; decide) (by show 11 ≤ 12 ∧ 12 ≤ 11 + 2; decide) (by rfl) (by exact fun _ h => pass_acw I c 11 h) ?_
  refine op_recv (XX I) K ks c .accw 11 (by rfl) (by decide) (by rfl) (by exact above_of rfl) (i' := 0) ?_
  refine op_have (XX I) K ks c .accw 10 (by rfl) (by decide) (by exact above_of rfl) ?_
  exact hk

theorem part84 {Y : sProp 𝕄} {α : Type} {Q : α → sProp 𝕄} (v60 : FVec F S4x256x512 .bf16) (v62 : F .f32)
    {k : (Σ' (v2703 : FVec F S256x256 .bf16) (v2706 : FVec F S256x1 .f32) (v2743 : FVec F S256x512 .f32), F .f32) → Prog (TpuEff nD τ sig (Elt F) Λ₀ .tc) α}
    (hk : St (XX I) K ks c ⟨⟨13, 12, 11, 11, 11, .half (XX I .acw (backD .acw c) 11), .gone, .half (XX I .acw (backD .acw c) 10)⟩, ⟨11, 10, 10, 10, 9, .gone, .gone, .half (XX I .bcw c 10)⟩, ⟨13, 12, 11, 11, 11, .half (XX I .accw (backD .accw c) 11), .gone, .half (XX I .accw (backD .accw c) 10)⟩, ⟨11, 10, 10, 10, 9, .gone, .gone, .half (XX I .bccw c 10)⟩⟩ Y
      ⊢ WP c (k ⟨k0_pay157 (px I .acw (org .acw (backD .acw c) 11)), k0_pay158 (pr I .acw (org .acw (backD .acw c) 11)), k0_pay159 v60 v62 (px I .acw (org .acw (backD .acw c) 11)) (pr I .acw (org .acw (backD .acw c) 11)), k0_pay160 v62⟩) Q) :
    St (XX I) K ks c ⟨⟨13, 12, 11, 11, 11, .half (XX I .acw (backD .acw c) 11), .gone, .half (XX I .acw (backD .acw c) 10)⟩, ⟨11, 10, 10, 10, 9, .gone, .gone, .half (XX I .bcw c 10)⟩, ⟨12, 12, 11, 11, 11, .full (XX I .accw (backD .accw c) 11), .gone, .half (XX I .accw (backD .accw c) 10)⟩, ⟨11, 10, 10, 10, 9, .gone, .gone, .half (XX I .bccw c 10)⟩⟩ Y
      ⊢ WP c (k0_part84 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v60 v62 >>= k) Q := by
  rw [k0_part84_eq_skeleton]
  unfold k0_part84_skel
  refine op_start (XX I) K ks c .accw 12 (by exact to_prv (k0_dev92_eq c)) (by rfl) (by decide) (by show 12 < 11 + 2; decide) (by show 11 ≤ 12 ∧ 12 ≤ 11 + 2; decide) (by rfl) (by exact fun _ h => pass_accw I c 11 h) ?_
  refine ld_acw (XX I) K ks c 0 (by exact .inr rfl) embX (hrX 0 _) (by exact fun _ h => pktX h) ?_
  refine ld_acw (XX I) K ks c 0 (by exact .inr rfl) embR (hrR 0 _) (by exact fun _ h => pktR h) ?_
  exact hk

theorem part85 {Y : sProp 𝕄} {α : Type} {Q : α → sProp 𝕄} (v60 : FVec F S4x256x512 .bf16) (v62 : F .f32) (v2703 : FVec F S256x256 .bf16) (v2706 : FVec F S256x1 .f32) (v2743 : FVec F S256x512 .f32) (v2744 : F .f32)
    {k : (Σ' (v2755 : FVec F S256x512 .f32) (v2757 : FVec F S256x256 .bf16) (v2760 : FVec F S256x1 .f32) (v2785 : FVec F S256x512 .f32), FVec F S256x1 .bf16) → Prog (TpuEff nD τ sig (Elt F) Λ₀ .tc) α}
    (hk : St (XX I) K ks c ⟨⟨13, 12, 11, 11, 11, .half (XX I .acw (backD .acw c) 11), .gone, .half (XX I .acw (backD .acw c) 10)⟩, ⟨11, 10, 10, 10, 9, .gone, .gone, .half (XX I .bcw c 10)⟩, ⟨13, 12, 11, 11, 11, .half (XX I .accw (backD .accw c) 11), .gone, .half (XX I .accw (backD .accw c) 10)⟩, ⟨11, 10, 10, 10, 9, .gone, .gone, .half (XX I .bccw c 10)⟩⟩ Y
      ⊢ WP c (k ⟨k0_pay161 v60 v2703 v2706 v2743 v2744, k0_pay162 (px I .accw (org .accw (backD .accw c) 11)), k0_pay163 (pr I .accw (org .accw (backD .accw c) 11)), k0_pay164 v60 v62 (px I .accw (org .accw (backD .accw c) 11)) (pr I .accw (org .accw (backD .accw c) 11)), k0_pay165 v62 (pr I .accw (org .accw (backD .accw c) 11))⟩) Q) :
    St (XX I) K ks c ⟨⟨13, 12, 11, 11, 11, .half (XX I .acw (backD .acw c) 11), .gone, .half (XX I .acw (backD .acw c) 10)⟩, ⟨11, 10, 10, 10, 9, .gone, .gone, .half (XX I .bcw c 10)⟩, ⟨13, 12, 11, 11, 11, .half (XX I .accw (backD .accw c) 11), .gone, .half (XX I .accw (backD .accw c) 10)⟩, ⟨11, 10, 10, 10, 9, .gone, .gone, .half (XX I .bccw c 10)⟩⟩ Y
      ⊢ WP c (k0_part85 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v2703 v2706 v2743 v2744 >>= k) Q := by
  rw [k0_part85_eq_skeleton]
  unfold k0_part85_skel
  refine ld_accw (XX I) K ks c 0 (by exact .inr rfl) embX (hrX 0 _) (by exact fun _ h => pktX h) ?_
  refine ld_accw (XX I) K ks c 0 (by exact .inr rfl) embR (hrR 0 _) (by exact fun _ h => pktR h) ?_
  exact hk

theorem part86 {Y : sProp 𝕄} {α : Type} {Q : α → sProp 𝕄} (v5 : BitVec 32) (v60 : FVec F S4x256x512 .bf16) (v62 : F .f32) (v2757 : FVec F S256x256 .bf16) (v2760 : FVec F S256x1 .f32) (v2785 : FVec F S256x512 .f32) (v2791 : FVec F S256x1 .bf16)
    {k : (FVec F S256x512 .f32) → Prog (TpuEff nD τ sig (Elt F) Λ₀ .tc) α}
    (hk : St (XX I) K ks c ⟨⟨13, 12, 12, 12, 11, .half (XX I .acw (backD .acw c) 11), .gone, .gone⟩, ⟨11, 10, 10, 10, 9, .gone, .gone, .half (XX I .bcw c 10)⟩, ⟨13, 12, 12, 11, 11, .half (XX I .accw (backD .accw c) 11), .gone, .full (XX I .accw (backD .accw c) 10)⟩, ⟨11, 10, 10, 10, 9, .gone, .gone, .half (XX I .bccw c 10)⟩⟩ Y
      ⊢ WP c (k (k0_pay166 v60 v62 v2757 v2760 v2785 v2791)) Q) :
    St (XX I) K ks c ⟨⟨13, 12, 11, 11, 11, .half (XX I .acw (backD .acw c) 11), .gone, .half (XX I .acw (backD .acw c) 10)⟩, ⟨11, 10, 10, 10, 9, .gone, .gone, .half (XX I .bcw c 10)⟩, ⟨13, 12, 11, 11, 11, .half (XX I .accw (backD .accw c) 11), .gone, .half (XX I .accw (backD .accw c) 10)⟩, ⟨11, 10, 10, 10, 9, .gone, .gone, .half (XX I .bccw c 10)⟩⟩ Y
      ⊢ WP c (k0_part86 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v60 v62 v2757 v2760 v2785 v2791 >>= k) Q := by
  rw [k0_part86_eq_skeleton]
  unfold k0_part86_skel
  refine op_send (XX I) K ks c .acw 11 (by rfl) (by decide) (by show 11 < 13; decide) (by rfl) (by exact above_of rfl) (i' := 2) ?_
  refine op_give (XX I) K ks c .acw 11 (by exact to_prv (k0_dev93_eq c)) (by rfl) (by decide) (by show 11 ≤ 12 ∧ 12 ≤ 11 + 2; decide) (by rfl) ?_
  refine op_send (XX I) K ks c .accw 11 (by rfl) (by decide) (by show 11 < 13; decide) (by rfl) (by exact above_of rfl) (i' := 2) ?_
  exact hk

end Cert.MoE
-- ==== Proof.Parts7.lean ====
/-
The run of the kernel's parts 87 to 99: what each does to the state.
-/
module

public import proofs.«01_k».proof.Proof.Names

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

theorem part87 {Y : sProp 𝕄} {α : Type} {Q : α → sProp 𝕄} (v5 : BitVec 32) (v7 : BitVec 32) (v2755 : FVec F S256x512 .f32)
    {k : (FVec F S1x256x512 .bf16) → Prog (TpuEff nD τ sig (Elt F) Λ₀ .tc) α}
    (hk : St (XX I) K ks c ⟨⟨13, 12, 12, 12, 11, .half (XX I .acw (backD .acw c) 11), .gone, .gone⟩, ⟨11, 11, 11, 11, 9, .full (XX I .bcw (backD .bcw c) 10), .gone, .gone⟩, ⟨13, 12, 12, 12, 11, .half (XX I .accw (backD .accw c) 11), .gone, .gone⟩, ⟨11, 10, 10, 10, 9, .gone, .gone, .half (XX I .bccw c 10)⟩⟩ Y
      ⊢ WP c (k (k0_pay167 v2755 (Bv I .bcw (backD .bcw c) 10))) Q) :
    St (XX I) K ks c ⟨⟨13, 12, 12, 12, 11, .half (XX I .acw (backD .acw c) 11), .gone, .gone⟩, ⟨11, 10, 10, 10, 9, .gone, .gone, .half (XX I .bcw c 10)⟩, ⟨13, 12, 12, 11, 11, .half (XX I .accw (backD .accw c) 11), .gone, .full (XX I .accw (backD .accw c) 10)⟩, ⟨11, 10, 10, 10, 9, .gone, .gone, .half (XX I .bccw c 10)⟩⟩ Y
      ⊢ WP c (k0_part87 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v2755 >>= k) Q := by
  rw [k0_part87_eq_skeleton]
  unfold k0_part87_skel
  refine op_give (XX I) K ks c .accw 11 (by exact to_nxt (k0_dev94_eq c)) (by rfl) (by decide) (by show 11 ≤ 12 ∧ 12 ≤ 11 + 2; decide) (by rfl) ?_
  refine op_send (XX I) K ks c .bcw 10 (by rfl) (by decide) (by show 10 < 11; decide) (by rfl) (by exact above_of rfl) (i' := 2) ?_
  refine op_give (XX I) K ks c .bcw 10 (by exact to_prv (k0_dev95_eq c)) (by rfl) (by decide) (by show 10 ≤ 10 ∧ 10 ≤ 10 + 2; decide) (by rfl) ?_
  refine op_recv (XX I) K ks c .bcw 10 (by rfl) (by decide) (by rfl) (by exact above_of rfl) (i' := 0) ?_
  refine ld_bcw (XX I) K ks c 0 (by rfl) (by exact fun _ h => h) ?_
  refine ld_bcw (XX I) K ks c 0 (by rfl) (by exact fun _ h => h) ?_
  exact hk

theorem part88 {Y : sProp 𝕄} {α : Type} {Q : α → sProp 𝕄} (v5 : BitVec 32) (v7 : BitVec 32) (v2849 : FVec F S1x256x512 .bf16)
    (hw0 : v2849 = Bv I .bcw c 11)
    {k : (PUnit) → Prog (TpuEff nD τ sig (Elt F) Λ₀ .tc) α}
    (hk : St (XX I) K ks c ⟨⟨13, 12, 12, 12, 11, .half (XX I .acw (backD .acw c) 11), .gone, .gone⟩, ⟨12, 11, 11, 11, 10, .half (XX I .bcw c 11), .gone, .gone⟩, ⟨13, 12, 12, 12, 11, .half (XX I .accw (backD .accw c) 11), .gone, .gone⟩, ⟨11, 10, 11, 11, 9, .gone, .gone, .gone⟩⟩ Y
      ⊢ WP c (k ⟨⟩) Q) :
    St (XX I) K ks c ⟨⟨13, 12, 12, 12, 11, .half (XX I .acw (backD .acw c) 11), .gone, .gone⟩, ⟨11, 11, 11, 11, 9, .full (XX I .bcw (backD .bcw c) 10), .gone, .gone⟩, ⟨13, 12, 12, 12, 11, .half (XX I .accw (backD .accw c) 11), .gone, .gone⟩, ⟨11, 10, 10, 10, 9, .gone, .gone, .half (XX I .bccw c 10)⟩⟩ Y
      ⊢ WP c (k0_part88 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v2849 >>= k) Q := by
  rw [k0_part88_eq_skeleton]
  unfold k0_part88_skel
  refine st_bcw (XX I) K ks c 0 (by rfl) (XX I .bcw c 11) hw0 ?_
  refine op_have (XX I) K ks c .bcw 9 (by rfl) (by decide) (by exact above_of rfl) ?_
  refine op_start (XX I) K ks c .bcw 11 (by exact to_nxt (k0_dev96_eq c)) (by rfl) (by decide) (by show 11 < 10 + 2; decide) (by show 11 ≤ 11 ∧ 11 ≤ 11 + 2; decide) (by rfl) (by exact fun _ h => h) ?_
  refine op_send (XX I) K ks c .bccw 10 (by rfl) (by decide) (by show 10 < 11; decide) (by rfl) (by exact above_of rfl) (i' := 2) ?_
  refine op_give (XX I) K ks c .bccw 10 (by exact to_nxt (k0_dev97_eq c)) (by rfl) (by decide) (by show 10 ≤ 10 ∧ 10 ≤ 10 + 2; decide) (by rfl) ?_
  exact hk

theorem part89 {Y : sProp 𝕄} {α : Type} {Q : α → sProp 𝕄} (v5 : BitVec 32) (v7 : BitVec 32) (v2809 : FVec F S256x512 .f32)
    (hw0 : (k0_pay168 v2809 (Bv I .bccw (backD .bccw c) 10)) = Bv I .bccw c 11)
    {k : (PUnit) → Prog (TpuEff nD τ sig (Elt F) Λ₀ .tc) α}
    (hk : St (XX I) K ks c ⟨⟨13, 12, 12, 12, 11, .half (XX I .acw (backD .acw c) 11), .gone, .gone⟩, ⟨12, 11, 11, 11, 10, .half (XX I .bcw c 11), .gone, .gone⟩, ⟨13, 12, 12, 12, 11, .half (XX I .accw (backD .accw c) 11), .gone, .gone⟩, ⟨12, 11, 11, 11, 10, .half (XX I .bccw c 11), .gone, .gone⟩⟩ Y
      ⊢ WP c (k ⟨⟩) Q) :
    St (XX I) K ks c ⟨⟨13, 12, 12, 12, 11, .half (XX I .acw (backD .acw c) 11), .gone, .gone⟩, ⟨12, 11, 11, 11, 10, .half (XX I .bcw c 11), .gone, .gone⟩, ⟨13, 12, 12, 12, 11, .half (XX I .accw (backD .accw c) 11), .gone, .gone⟩, ⟨11, 10, 11, 11, 9, .gone, .gone, .gone⟩⟩ Y
      ⊢ WP c (k0_part89 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v2809 >>= k) Q := by
  rw [k0_part89_eq_skeleton]
  unfold k0_part89_skel
  refine op_recv (XX I) K ks c .bccw 10 (by rfl) (by decide) (by rfl) (by exact above_of rfl) (i' := 0) ?_
  refine ld_bccw (XX I) K ks c 0 (by rfl) (by exact fun _ h => h) ?_
  refine ld_bccw (XX I) K ks c 0 (by rfl) (by exact fun _ h => h) ?_
  refine st_bccw (XX I) K ks c 0 (by rfl) (XX I .bccw c 11) hw0 ?_
  refine op_have (XX I) K ks c .bccw 9 (by rfl) (by decide) (by exact above_of rfl) ?_
  refine op_start (XX I) K ks c .bccw 11 (by exact to_prv (k0_dev98_eq c)) (by rfl) (by decide) (by show 11 < 10 + 2; decide) (by show 11 ≤ 11 ∧ 11 ≤ 11 + 2; decide) (by rfl) (by exact fun _ h => h) ?_
  exact hk

theorem part90 {Y : sProp 𝕄} {α : Type} {Q : α → sProp 𝕄} (v5 : BitVec 32) (v7 : BitVec 32)
    {k : (PUnit) → Prog (TpuEff nD τ sig (Elt F) Λ₀ .tc) α}
    (hk : St (XX I) K ks c ⟨⟨14, 13, 12, 12, 12, .half (XX I .acw (backD .acw c) 11), .half (XX I .acw (backD .acw c) 12), .gone⟩, ⟨12, 11, 11, 11, 10, .half (XX I .bcw c 11), .gone, .gone⟩, ⟨13, 13, 12, 12, 12, .half (XX I .accw (backD .accw c) 11), .full (XX I .accw (backD .accw c) 12), .gone⟩, ⟨12, 11, 11, 11, 10, .half (XX I .bccw c 11), .gone, .gone⟩⟩ Y
      ⊢ WP c (k ⟨⟩) Q) :
    St (XX I) K ks c ⟨⟨13, 12, 12, 12, 11, .half (XX I .acw (backD .acw c) 11), .gone, .gone⟩, ⟨12, 11, 11, 11, 10, .half (XX I .bcw c 11), .gone, .gone⟩, ⟨13, 12, 12, 12, 11, .half (XX I .accw (backD .accw c) 11), .gone, .gone⟩, ⟨12, 11, 11, 11, 10, .half (XX I .bccw c 11), .gone, .gone⟩⟩ Y
      ⊢ WP c (k0_part90 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part90_eq_skeleton]
  unfold k0_part90_skel
  refine op_recv (XX I) K ks c .acw 12 (by rfl) (by decide) (by rfl) (by exact above_of rfl) (i' := 1) ?_
  refine op_have (XX I) K ks c .acw 11 (by rfl) (by decide) (by exact above_of rfl) ?_
  refine op_start (XX I) K ks c .acw 13 (by exact to_nxt (k0_dev99_eq c)) (by rfl) (by decide) (by show 13 < 12 + 2; decide) (by show 12 ≤ 13 ∧ 13 ≤ 12 + 2; decide) (by rfl) (by exact fun _ h => pass_acw I c 12 h) ?_
  refine op_recv (XX I) K ks c .accw 12 (by rfl) (by decide) (by rfl) (by exact above_of rfl) (i' := 1) ?_
  refine op_have (XX I) K ks c .accw 11 (by rfl) (by decide) (by exact above_of rfl) ?_
  exact hk

theorem part91 {Y : sProp 𝕄} {α : Type} {Q : α → sProp 𝕄} (v60 : FVec F S4x256x512 .bf16) (v62 : F .f32)
    {k : (Σ' (v2931 : FVec F S256x256 .bf16) (v2934 : FVec F S256x1 .f32) (v2959 : FVec F S256x512 .f32), FVec F S256x256 .bf16) → Prog (TpuEff nD τ sig (Elt F) Λ₀ .tc) α}
    (hk : St (XX I) K ks c ⟨⟨14, 13, 12, 12, 12, .half (XX I .acw (backD .acw c) 11), .half (XX I .acw (backD .acw c) 12), .gone⟩, ⟨12, 11, 11, 11, 10, .half (XX I .bcw c 11), .gone, .gone⟩, ⟨14, 13, 12, 12, 12, .half (XX I .accw (backD .accw c) 11), .half (XX I .accw (backD .accw c) 12), .gone⟩, ⟨12, 11, 11, 11, 10, .half (XX I .bccw c 11), .gone, .gone⟩⟩ Y
      ⊢ WP c (k ⟨k0_pay169 (px I .acw (org .acw (backD .acw c) 12)), k0_pay170 (pr I .acw (org .acw (backD .acw c) 12)), k0_pay171 v60 v62 (px I .acw (org .acw (backD .acw c) 12)) (pr I .acw (org .acw (backD .acw c) 12)), k0_pay172 v62 (pr I .acw (org .acw (backD .acw c) 12))⟩) Q) :
    St (XX I) K ks c ⟨⟨14, 13, 12, 12, 12, .half (XX I .acw (backD .acw c) 11), .half (XX I .acw (backD .acw c) 12), .gone⟩, ⟨12, 11, 11, 11, 10, .half (XX I .bcw c 11), .gone, .gone⟩, ⟨13, 13, 12, 12, 12, .half (XX I .accw (backD .accw c) 11), .full (XX I .accw (backD .accw c) 12), .gone⟩, ⟨12, 11, 11, 11, 10, .half (XX I .bccw c 11), .gone, .gone⟩⟩ Y
      ⊢ WP c (k0_part91 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v60 v62 >>= k) Q := by
  rw [k0_part91_eq_skeleton]
  unfold k0_part91_skel
  refine op_start (XX I) K ks c .accw 13 (by exact to_prv (k0_dev100_eq c)) (by rfl) (by decide) (by show 13 < 12 + 2; decide) (by show 12 ≤ 13 ∧ 13 ≤ 12 + 2; decide) (by rfl) (by exact fun _ h => pass_accw I c 12 h) ?_
  refine ld_acw (XX I) K ks c 1 (by exact .inr rfl) embX (hrX 1 _) (by exact fun _ h => pktX h) ?_
  refine ld_acw (XX I) K ks c 1 (by exact .inr rfl) embR (hrR 1 _) (by exact fun _ h => pktR h) ?_
  exact hk

theorem part92 {Y : sProp 𝕄} {α : Type} {Q : α → sProp 𝕄} (v60 : FVec F S4x256x512 .bf16) (v62 : F .f32) (v2931 : FVec F S256x256 .bf16) (v2934 : FVec F S256x1 .f32) (v2959 : FVec F S256x512 .f32) (v2966 : FVec F S256x256 .bf16)
    {k : (Σ' (v2983 : FVec F S256x512 .f32) (v2985 : FVec F S256x256 .bf16) (v2988 : FVec F S256x1 .f32) (v3001 : FVec F S256x512 .f32), FVec F S256x512 .f32) → Prog (TpuEff nD τ sig (Elt F) Λ₀ .tc) α}
    (hk : St (XX I) K ks c ⟨⟨14, 13, 12, 12, 12, .half (XX I .acw (backD .acw c) 11), .half (XX I .acw (backD .acw c) 12), .gone⟩, ⟨12, 11, 11, 11, 10, .half (XX I .bcw c 11), .gone, .gone⟩, ⟨14, 13, 12, 12, 12, .half (XX I .accw (backD .accw c) 11), .half (XX I .accw (backD .accw c) 12), .gone⟩, ⟨12, 11, 11, 11, 10, .half (XX I .bccw c 11), .gone, .gone⟩⟩ Y
      ⊢ WP c (k ⟨k0_pay173 v60 v62 v2931 v2934 v2959 v2966, k0_pay174 (px I .accw (org .accw (backD .accw c) 12)), k0_pay175 (pr I .accw (org .accw (backD .accw c) 12)), k0_pay176 v60 v62 (px I .accw (org .accw (backD .accw c) 12)) (pr I .accw (org .accw (backD .accw c) 12)), k0_pay177 v60 v62 (px I .accw (org .accw (backD .accw c) 12)) (pr I .accw (org .accw (backD .accw c) 12))⟩) Q) :
    St (XX I) K ks c ⟨⟨14, 13, 12, 12, 12, .half (XX I .acw (backD .acw c) 11), .half (XX I .acw (backD .acw c) 12), .gone⟩, ⟨12, 11, 11, 11, 10, .half (XX I .bcw c 11), .gone, .gone⟩, ⟨14, 13, 12, 12, 12, .half (XX I .accw (backD .accw c) 11), .half (XX I .accw (backD .accw c) 12), .gone⟩, ⟨12, 11, 11, 11, 10, .half (XX I .bccw c 11), .gone, .gone⟩⟩ Y
      ⊢ WP c (k0_part92 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v2931 v2934 v2959 v2966 >>= k) Q := by
  rw [k0_part92_eq_skeleton]
  unfold k0_part92_skel
  refine ld_accw (XX I) K ks c 1 (by exact .inr rfl) embX (hrX 1 _) (by exact fun _ h => pktX h) ?_
  refine ld_accw (XX I) K ks c 1 (by exact .inr rfl) embR (hrR 1 _) (by exact fun _ h => pktR h) ?_
  exact hk

theorem part93 {Y : sProp 𝕄} {α : Type} {Q : α → sProp 𝕄} (v5 : BitVec 32) (v60 : FVec F S4x256x512 .bf16) (v62 : F .f32) (v2985 : FVec F S256x256 .bf16) (v2988 : FVec F S256x1 .f32) (v3001 : FVec F S256x512 .f32) (v3012 : FVec F S256x512 .f32)
    {k : (FVec F S256x512 .f32) → Prog (TpuEff nD τ sig (Elt F) Λ₀ .tc) α}
    (hk : St (XX I) K ks c ⟨⟨14, 13, 13, 13, 12, .gone, .half (XX I .acw (backD .acw c) 12), .gone⟩, ⟨12, 11, 11, 11, 10, .half (XX I .bcw c 11), .gone, .gone⟩, ⟨14, 13, 12, 12, 12, .half (XX I .accw (backD .accw c) 11), .half (XX I .accw (backD .accw c) 12), .gone⟩, ⟨12, 11, 11, 11, 10, .half (XX I .bccw c 11), .gone, .gone⟩⟩ Y
      ⊢ WP c (k (k0_pay178 v60 v62 v2985 v2988 v3001 v3012)) Q) :
    St (XX I) K ks c ⟨⟨14, 13, 12, 12, 12, .half (XX I .acw (backD .acw c) 11), .half (XX I .acw (backD .acw c) 12), .gone⟩, ⟨12, 11, 11, 11, 10, .half (XX I .bcw c 11), .gone, .gone⟩, ⟨14, 13, 12, 12, 12, .half (XX I .accw (backD .accw c) 11), .half (XX I .accw (backD .accw c) 12), .gone⟩, ⟨12, 11, 11, 11, 10, .half (XX I .bccw c 11), .gone, .gone⟩⟩ Y
      ⊢ WP c (k0_part93 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v60 v62 v2985 v2988 v3001 v3012 >>= k) Q := by
  rw [k0_part93_eq_skeleton]
  unfold k0_part93_skel
  refine op_send (XX I) K ks c .acw 12 (by rfl) (by decide) (by show 12 < 14; decide) (by rfl) (by exact above_of rfl) (i' := 0) ?_
  refine op_give (XX I) K ks c .acw 12 (by exact to_prv (k0_dev101_eq c)) (by rfl) (by decide) (by show 12 ≤ 13 ∧ 13 ≤ 12 + 2; decide) (by rfl) ?_
  exact hk

theorem part94 {Y : sProp 𝕄} {α : Type} {Q : α → sProp 𝕄} (v5 : BitVec 32) (v7 : BitVec 32)
    {k : (FVec F S256x512 .f32) → Prog (TpuEff nD τ sig (Elt F) Λ₀ .tc) α}
    (hk : St (XX I) K ks c ⟨⟨14, 13, 13, 13, 12, .gone, .half (XX I .acw (backD .acw c) 12), .gone⟩, ⟨12, 12, 12, 12, 10, .gone, .full (XX I .bcw (backD .bcw c) 11), .gone⟩, ⟨14, 13, 13, 13, 12, .gone, .half (XX I .accw (backD .accw c) 12), .gone⟩, ⟨12, 11, 11, 11, 10, .half (XX I .bccw c 11), .gone, .gone⟩⟩ Y
      ⊢ WP c (k (k0_pay179 (Bv I .bcw (backD .bcw c) 11))) Q) :
    St (XX I) K ks c ⟨⟨14, 13, 13, 13, 12, .gone, .half (XX I .acw (backD .acw c) 12), .gone⟩, ⟨12, 11, 11, 11, 10, .half (XX I .bcw c 11), .gone, .gone⟩, ⟨14, 13, 12, 12, 12, .half (XX I .accw (backD .accw c) 11), .half (XX I .accw (backD .accw c) 12), .gone⟩, ⟨12, 11, 11, 11, 10, .half (XX I .bccw c 11), .gone, .gone⟩⟩ Y
      ⊢ WP c (k0_part94 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 >>= k) Q := by
  rw [k0_part94_eq_skeleton]
  unfold k0_part94_skel
  refine op_send (XX I) K ks c .accw 12 (by rfl) (by decide) (by show 12 < 14; decide) (by rfl) (by exact above_of rfl) (i' := 0) ?_
  refine op_give (XX I) K ks c .accw 12 (by exact to_nxt (k0_dev102_eq c)) (by rfl) (by decide) (by show 12 ≤ 13 ∧ 13 ≤ 12 + 2; decide) (by rfl) ?_
  refine op_send (XX I) K ks c .bcw 11 (by rfl) (by decide) (by show 11 < 12; decide) (by rfl) (by exact above_of rfl) (i' := 0) ?_
  refine op_give (XX I) K ks c .bcw 11 (by exact to_prv (k0_dev103_eq c)) (by rfl) (by decide) (by show 11 ≤ 11 ∧ 11 ≤ 11 + 2; decide) (by rfl) ?_
  refine op_recv (XX I) K ks c .bcw 11 (by rfl) (by decide) (by rfl) (by exact above_of rfl) (i' := 1) ?_
  refine ld_bcw (XX I) K ks c 1 (by rfl) (by exact fun _ h => h) ?_
  exact hk

theorem part95 {Y : sProp 𝕄} {α : Type} {Q : α → sProp 𝕄} (v7 : BitVec 32) (v2983 : FVec F S256x512 .f32) (v3072 : FVec F S256x512 .f32)
    (hw0 : (k0_pay180 v2983 v3072) = Bv I .bcw c 12)
    {k : (BitVec 32) → Prog (TpuEff nD τ sig (Elt F) Λ₀ .tc) α}
    (hk : St (XX I) K ks c ⟨⟨14, 13, 13, 13, 12, .gone, .half (XX I .acw (backD .acw c) 12), .gone⟩, ⟨13, 12, 12, 12, 11, .gone, .half (XX I .bcw c 12), .gone⟩, ⟨14, 13, 13, 13, 12, .gone, .half (XX I .accw (backD .accw c) 12), .gone⟩, ⟨12, 11, 12, 12, 10, .gone, .gone, .gone⟩⟩ Y
      ⊢ WP c (k (1#32)) Q) :
    St (XX I) K ks c ⟨⟨14, 13, 13, 13, 12, .gone, .half (XX I .acw (backD .acw c) 12), .gone⟩, ⟨12, 12, 12, 12, 10, .gone, .full (XX I .bcw (backD .bcw c) 11), .gone⟩, ⟨14, 13, 13, 13, 12, .gone, .half (XX I .accw (backD .accw c) 12), .gone⟩, ⟨12, 11, 11, 11, 10, .half (XX I .bccw c 11), .gone, .gone⟩⟩ Y
      ⊢ WP c (k0_part95 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v7 v2983 v3072 >>= k) Q := by
  rw [k0_part95_eq_skeleton]
  unfold k0_part95_skel
  refine ld_bcw (XX I) K ks c 1 (by rfl) (by exact fun _ h => h) ?_
  refine st_bcw (XX I) K ks c 1 (by rfl) (XX I .bcw c 12) hw0 ?_
  refine op_have (XX I) K ks c .bcw 10 (by rfl) (by decide) (by exact above_of rfl) ?_
  refine op_start (XX I) K ks c .bcw 12 (by exact to_nxt (k0_dev104_eq c)) (by rfl) (by decide) (by show 12 < 11 + 2; decide) (by show 12 ≤ 12 ∧ 12 ≤ 12 + 2; decide) (by rfl) (by exact fun _ h => h) ?_
  refine op_send (XX I) K ks c .bccw 11 (by rfl) (by decide) (by show 11 < 12; decide) (by rfl) (by exact above_of rfl) (i' := 0) ?_
  refine op_give (XX I) K ks c .bccw 11 (by exact to_nxt (k0_dev105_eq c)) (by rfl) (by decide) (by show 11 ≤ 11 ∧ 11 ≤ 11 + 2; decide) (by rfl) ?_
  exact hk

theorem part96 {Y : sProp 𝕄} {α : Type} {Q : α → sProp 𝕄} (v5 : BitVec 32) (v7 : BitVec 32) (v3037 : FVec F S256x512 .f32) (c1_i32_2312 : BitVec 32)
    (hw0 : (k0_pay181 v3037 (Bv I .bccw (backD .bccw c) 11)) = Bv I .bccw c 12)
    {k : (Σ' (v3122 : BitVec 32), BitVec 32) → Prog (TpuEff nD τ sig (Elt F) Λ₀ .tc) α}
    (hk : St (XX I) K ks c ⟨⟨14, 13, 13, 13, 12, .gone, .half (XX I .acw (backD .acw c) 12), .gone⟩, ⟨13, 12, 12, 12, 11, .gone, .half (XX I .bcw c 12), .gone⟩, ⟨14, 13, 13, 13, 12, .gone, .half (XX I .accw (backD .accw c) 12), .gone⟩, ⟨13, 12, 12, 12, 11, .gone, .half (XX I .bccw c 12), .gone⟩⟩ Y
      ⊢ WP c (k ⟨(Scalar.muli v7 1#32), 0#32⟩) Q) :
    St (XX I) K ks c ⟨⟨14, 13, 13, 13, 12, .gone, .half (XX I .acw (backD .acw c) 12), .gone⟩, ⟨13, 12, 12, 12, 11, .gone, .half (XX I .bcw c 12), .gone⟩, ⟨14, 13, 13, 13, 12, .gone, .half (XX I .accw (backD .accw c) 12), .gone⟩, ⟨12, 11, 12, 12, 10, .gone, .gone, .gone⟩⟩ Y
      ⊢ WP c (k0_part96 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v3037 c1_i32_2312 >>= k) Q := by
  rw [k0_part96_eq_skeleton]
  unfold k0_part96_skel
  refine op_recv (XX I) K ks c .bccw 11 (by rfl) (by decide) (by rfl) (by exact above_of rfl) (i' := 1) ?_
  refine ld_bccw (XX I) K ks c 1 (by rfl) (by exact fun _ h => h) ?_
  refine ld_bccw (XX I) K ks c 1 (by rfl) (by exact fun _ h => h) ?_
  refine st_bccw (XX I) K ks c 1 (by rfl) (XX I .bccw c 12) hw0 ?_
  refine op_have (XX I) K ks c .bccw 10 (by rfl) (by decide) (by exact above_of rfl) ?_
  refine op_start (XX I) K ks c .bccw 12 (by exact to_prv (k0_dev106_eq c)) (by rfl) (by decide) (by show 12 < 11 + 2; decide) (by show 12 ≤ 12 ∧ 12 ≤ 12 + 2; decide) (by rfl) (by exact fun _ h => h) ?_
  exact hk

theorem part97 {Y : sProp 𝕄} {α : Type} {Q : α → sProp 𝕄} (v5 : BitVec 32) (v7 : BitVec 32) (v3122 : BitVec 32) (c0_i32_2341 : BitVec 32)
    {k : (PUnit) → Prog (TpuEff nD τ sig (Elt F) Λ₀ .tc) α}
    (hk : St (XX I) K ks c ⟨⟨15, 14, 13, 13, 13, .gone, .half (XX I .acw (backD .acw c) 12), .half (XX I .acw (backD .acw c) 13)⟩, ⟨13, 12, 12, 12, 11, .gone, .half (XX I .bcw c 12), .gone⟩, ⟨14, 14, 13, 13, 13, .gone, .half (XX I .accw (backD .accw c) 12), .full (XX I .accw (backD .accw c) 13)⟩, ⟨13, 12, 12, 12, 11, .gone, .half (XX I .bccw c 12), .gone⟩⟩ Y
      ⊢ WP c (k ⟨⟩) Q) :
    St (XX I) K ks c ⟨⟨14, 13, 13, 13, 12, .gone, .half (XX I .acw (backD .acw c) 12), .gone⟩, ⟨13, 12, 12, 12, 11, .gone, .half (XX I .bcw c 12), .gone⟩, ⟨14, 13, 13, 13, 12, .gone, .half (XX I .accw (backD .accw c) 12), .gone⟩, ⟨13, 12, 12, 12, 11, .gone, .half (XX I .bccw c 12), .gone⟩⟩ Y
      ⊢ WP c (k0_part97 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v3122 c0_i32_2341 >>= k) Q := by
  rw [k0_part97_eq_skeleton]
  unfold k0_part97_skel
  refine op_recv (XX I) K ks c .acw 13 (by rfl) (by decide) (by rfl) (by exact above_of rfl) (i' := 2) ?_
  refine op_have (XX I) K ks c .acw 12 (by rfl) (by decide) (by exact above_of rfl) ?_
  refine op_start (XX I) K ks c .acw 14 (by exact to_nxt (k0_dev107_eq c)) (by rfl) (by decide) (by show 14 < 13 + 2; decide) (by show 13 ≤ 14 ∧ 14 ≤ 13 + 2; decide) (by rfl) (by exact fun _ h => pass_acw I c 13 h) ?_
  refine op_recv (XX I) K ks c .accw 13 (by rfl) (by decide) (by rfl) (by exact above_of rfl) (i' := 2) ?_
  refine op_have (XX I) K ks c .accw 12 (by rfl) (by decide) (by exact above_of rfl) ?_
  exact hk

theorem part98 {Y : sProp 𝕄} {α : Type} {Q : α → sProp 𝕄} (v5 : BitVec 32) (v60 : FVec F S4x256x512 .bf16) (v62 : F .f32)
    {k : (Σ' (v3159 : FVec F S256x256 .bf16) (v3162 : FVec F S256x1 .f32), FVec F S256x512 .f32) → Prog (TpuEff nD τ sig (Elt F) Λ₀ .tc) α}
    (hk : St (XX I) K ks c ⟨⟨15, 14, 13, 13, 13, .gone, .half (XX I .acw (backD .acw c) 12), .half (XX I .acw (backD .acw c) 13)⟩, ⟨13, 12, 12, 12, 11, .gone, .half (XX I .bcw c 12), .gone⟩, ⟨15, 14, 13, 13, 13, .gone, .half (XX I .accw (backD .accw c) 12), .half (XX I .accw (backD .accw c) 13)⟩, ⟨13, 12, 12, 12, 11, .gone, .half (XX I .bccw c 12), .gone⟩⟩ Y
      ⊢ WP c (k ⟨k0_pay182 (px I .acw (org .acw (backD .acw c) 13)), k0_pay183 (pr I .acw (org .acw (backD .acw c) 13)), k0_pay184 v60 v62 (px I .acw (org .acw (backD .acw c) 13)) (pr I .acw (org .acw (backD .acw c) 13))⟩) Q) :
    St (XX I) K ks c ⟨⟨15, 14, 13, 13, 13, .gone, .half (XX I .acw (backD .acw c) 12), .half (XX I .acw (backD .acw c) 13)⟩, ⟨13, 12, 12, 12, 11, .gone, .half (XX I .bcw c 12), .gone⟩, ⟨14, 14, 13, 13, 13, .gone, .half (XX I .accw (backD .accw c) 12), .full (XX I .accw (backD .accw c) 13)⟩, ⟨13, 12, 12, 12, 11, .gone, .half (XX I .bccw c 12), .gone⟩⟩ Y
      ⊢ WP c (k0_part98 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v60 v62 >>= k) Q := by
  rw [k0_part98_eq_skeleton]
  unfold k0_part98_skel
  refine op_start (XX I) K ks c .accw 14 (by exact to_prv (k0_dev108_eq c)) (by rfl) (by decide) (by show 14 < 13 + 2; decide) (by show 13 ≤ 14 ∧ 14 ≤ 13 + 2; decide) (by rfl) (by exact fun _ h => pass_accw I c 13 h) ?_
  refine ld_acw (XX I) K ks c 2 (by exact .inr rfl) embX (hrX 2 _) (by exact fun _ h => pktX h) ?_
  refine ld_acw (XX I) K ks c 2 (by exact .inr rfl) embR (hrR 2 _) (by exact fun _ h => pktR h) ?_
  exact hk

theorem part99 {Y : sProp 𝕄} {α : Type} {Q : α → sProp 𝕄} (v60 : FVec F S4x256x512 .bf16) (v62 : F .f32) (v3159 : FVec F S256x256 .bf16) (v3162 : FVec F S256x1 .f32) (v3187 : FVec F S256x512 .f32)
    {k : (Σ' (v3211 : FVec F S256x512 .f32) (v3213 : FVec F S256x256 .bf16) (v3216 : FVec F S256x1 .f32) (v3229 : FVec F S256x512 .f32), IVec S256x1 32) → Prog (TpuEff nD τ sig (Elt F) Λ₀ .tc) α}
    (hk : St (XX I) K ks c ⟨⟨15, 14, 13, 13, 13, .gone, .half (XX I .acw (backD .acw c) 12), .half (XX I .acw (backD .acw c) 13)⟩, ⟨13, 12, 12, 12, 11, .gone, .half (XX I .bcw c 12), .gone⟩, ⟨15, 14, 13, 13, 13, .gone, .half (XX I .accw (backD .accw c) 12), .half (XX I .accw (backD .accw c) 13)⟩, ⟨13, 12, 12, 12, 11, .gone, .half (XX I .bccw c 12), .gone⟩⟩ Y
      ⊢ WP c (k ⟨k0_pay185 v60 v62 v3159 v3162 v3187, k0_pay186 (px I .accw (org .accw (backD .accw c) 13)), k0_pay187 (pr I .accw (org .accw (backD .accw c) 13)), k0_pay188 v60 v62 (px I .accw (org .accw (backD .accw c) 13)) (pr I .accw (org .accw (backD .accw c) 13)), k0_pay189 v62 (pr I .accw (org .accw (backD .accw c) 13))⟩) Q) :
    St (XX I) K ks c ⟨⟨15, 14, 13, 13, 13, .gone, .half (XX I .acw (backD .acw c) 12), .half (XX I .acw (backD .acw c) 13)⟩, ⟨13, 12, 12, 12, 11, .gone, .half (XX I .bcw c 12), .gone⟩, ⟨15, 14, 13, 13, 13, .gone, .half (XX I .accw (backD .accw c) 12), .half (XX I .accw (backD .accw c) 13)⟩, ⟨13, 12, 12, 12, 11, .gone, .half (XX I .bccw c 12), .gone⟩⟩ Y
      ⊢ WP c (k0_part99 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v3159 v3162 v3187 >>= k) Q := by
  rw [k0_part99_eq_skeleton]
  unfold k0_part99_skel
  refine ld_accw (XX I) K ks c 2 (by exact .inr rfl) embX (hrX 2 _) (by exact fun _ h => pktX h) ?_
  refine ld_accw (XX I) K ks c 2 (by exact .inr rfl) embR (hrR 2 _) (by exact fun _ h => pktR h) ?_
  exact hk

end Cert.MoE
-- ==== Proof.Parts8.lean ====
/-
The run of the kernel's parts 100 to 109: what each does to the state.
-/
module

public import proofs.«01_k».proof.Proof.Names

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

theorem part100 {Y : sProp 𝕄} {α : Type} {Q : α → sProp 𝕄} (v60 : FVec F S4x256x512 .bf16) (v62 : F .f32) (v3213 : FVec F S256x256 .bf16) (v3216 : FVec F S256x1 .f32) (v3229 : FVec F S256x512 .f32) (v3233 : IVec S256x1 32)
    {k : (FVec F S256x512 .f32) → Prog (TpuEff nD τ sig (Elt F) Λ₀ .tc) α}
    (hk : St (XX I) K ks c ⟨⟨15, 14, 14, 13, 13, .gone, .full (XX I .acw (backD .acw c) 12), .half (XX I .acw (backD .acw c) 13)⟩, ⟨13, 12, 12, 12, 11, .gone, .half (XX I .bcw c 12), .gone⟩, ⟨15, 14, 13, 13, 13, .gone, .half (XX I .accw (backD .accw c) 12), .half (XX I .accw (backD .accw c) 13)⟩, ⟨13, 12, 12, 12, 11, .gone, .half (XX I .bccw c 12), .gone⟩⟩ Y
      ⊢ WP c (k (k0_pay190 v60 v62 v3213 v3216 v3229 v3233)) Q) :
    St (XX I) K ks c ⟨⟨15, 14, 13, 13, 13, .gone, .half (XX I .acw (backD .acw c) 12), .half (XX I .acw (backD .acw c) 13)⟩, ⟨13, 12, 12, 12, 11, .gone, .half (XX I .bcw c 12), .gone⟩, ⟨15, 14, 13, 13, 13, .gone, .half (XX I .accw (backD .accw c) 12), .half (XX I .accw (backD .accw c) 13)⟩, ⟨13, 12, 12, 12, 11, .gone, .half (XX I .bccw c 12), .gone⟩⟩ Y
      ⊢ WP c (k0_part100 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v3213 v3216 v3229 v3233 >>= k) Q := by
  rw [k0_part100_eq_skeleton]
  unfold k0_part100_skel
  refine op_send (XX I) K ks c .acw 13 (by rfl) (by decide) (by show 13 < 15; decide) (by rfl) (by exact above_of rfl) (i' := 1) ?_
  exact hk

theorem part101 {Y : sProp 𝕄} {α : Type} {Q : α → sProp 𝕄} (v5 : BitVec 32) (v7 : BitVec 32) (v3211 : FVec F S256x512 .f32)
    {k : (FVec F S256x512 .bf16) → Prog (TpuEff nD τ sig (Elt F) Λ₀ .tc) α}
    (hk : St (XX I) K ks c ⟨⟨15, 14, 14, 13, 13, .gone, .full (XX I .acw (backD .acw c) 12), .half (XX I .acw (backD .acw c) 13)⟩, ⟨13, 13, 13, 13, 11, .gone, .gone, .full (XX I .bcw (backD .bcw c) 12)⟩, ⟨15, 14, 14, 13, 13, .gone, .full (XX I .accw (backD .accw c) 12), .half (XX I .accw (backD .accw c) 13)⟩, ⟨13, 12, 12, 12, 11, .gone, .half (XX I .bccw c 12), .gone⟩⟩ Y
      ⊢ WP c (k (k0_pay191 v3211 (Bv I .bcw (backD .bcw c) 12))) Q) :
    St (XX I) K ks c ⟨⟨15, 14, 14, 13, 13, .gone, .full (XX I .acw (backD .acw c) 12), .half (XX I .acw (backD .acw c) 13)⟩, ⟨13, 12, 12, 12, 11, .gone, .half (XX I .bcw c 12), .gone⟩, ⟨15, 14, 13, 13, 13, .gone, .half (XX I .accw (backD .accw c) 12), .half (XX I .accw (backD .accw c) 13)⟩, ⟨13, 12, 12, 12, 11, .gone, .half (XX I .bccw c 12), .gone⟩⟩ Y
      ⊢ WP c (k0_part101 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v3211 >>= k) Q := by
  rw [k0_part101_eq_skeleton]
  unfold k0_part101_skel
  refine op_send (XX I) K ks c .accw 13 (by rfl) (by decide) (by show 13 < 15; decide) (by rfl) (by exact above_of rfl) (i' := 1) ?_
  refine op_send (XX I) K ks c .bcw 12 (by rfl) (by decide) (by show 12 < 13; decide) (by rfl) (by exact above_of rfl) (i' := 1) ?_
  refine op_give (XX I) K ks c .bcw 12 (by exact to_prv (k0_dev109_eq c)) (by rfl) (by decide) (by show 12 ≤ 12 ∧ 12 ≤ 12 + 2; decide) (by rfl) ?_
  refine op_recv (XX I) K ks c .bcw 12 (by rfl) (by decide) (by rfl) (by exact above_of rfl) (i' := 2) ?_
  refine ld_bcw (XX I) K ks c 2 (by rfl) (by exact fun _ h => h) ?_
  exact hk

theorem part102 {Y : sProp 𝕄} {α : Type} {Q : α → sProp 𝕄} (v5 : BitVec 32) (v7 : BitVec 32) (v3298 : FVec F S256x512 .bf16)
    (hw0 : (k0_pay192 v3298) = Bv I .bcw c 13)
    {k : (PUnit) → Prog (TpuEff nD τ sig (Elt F) Λ₀ .tc) α}
    (hk : St (XX I) K ks c ⟨⟨15, 14, 14, 13, 13, .gone, .full (XX I .acw (backD .acw c) 12), .half (XX I .acw (backD .acw c) 13)⟩, ⟨14, 13, 13, 13, 12, .gone, .gone, .half (XX I .bcw c 13)⟩, ⟨15, 14, 14, 13, 13, .gone, .full (XX I .accw (backD .accw c) 12), .half (XX I .accw (backD .accw c) 13)⟩, ⟨13, 12, 13, 13, 11, .gone, .gone, .gone⟩⟩ Y
      ⊢ WP c (k ⟨⟩) Q) :
    St (XX I) K ks c ⟨⟨15, 14, 14, 13, 13, .gone, .full (XX I .acw (backD .acw c) 12), .half (XX I .acw (backD .acw c) 13)⟩, ⟨13, 13, 13, 13, 11, .gone, .gone, .full (XX I .bcw (backD .bcw c) 12)⟩, ⟨15, 14, 14, 13, 13, .gone, .full (XX I .accw (backD .accw c) 12), .half (XX I .accw (backD .accw c) 13)⟩, ⟨13, 12, 12, 12, 11, .gone, .half (XX I .bccw c 12), .gone⟩⟩ Y
      ⊢ WP c (k0_part102 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v3298 >>= k) Q := by
  rw [k0_part102_eq_skeleton]
  unfold k0_part102_skel
  refine ld_bcw (XX I) K ks c 2 (by rfl) (by exact fun _ h => h) ?_
  refine st_bcw (XX I) K ks c 2 (by rfl) (XX I .bcw c 13) hw0 ?_
  refine op_have (XX I) K ks c .bcw 11 (by rfl) (by decide) (by exact above_of rfl) ?_
  refine op_start (XX I) K ks c .bcw 13 (by exact to_nxt (k0_dev110_eq c)) (by rfl) (by decide) (by show 13 < 12 + 2; decide) (by show 13 ≤ 13 ∧ 13 ≤ 13 + 2; decide) (by rfl) (by exact fun _ h => h) ?_
  refine op_send (XX I) K ks c .bccw 12 (by rfl) (by decide) (by show 12 < 13; decide) (by rfl) (by exact above_of rfl) (i' := 1) ?_
  refine op_give (XX I) K ks c .bccw 12 (by exact to_nxt (k0_dev111_eq c)) (by rfl) (by decide) (by show 12 ≤ 12 ∧ 12 ≤ 12 + 2; decide) (by rfl) ?_
  exact hk

theorem part103 {Y : sProp 𝕄} {α : Type} {Q : α → sProp 𝕄} (v5 : BitVec 32) (v7 : BitVec 32) (v3265 : FVec F S256x512 .f32)
    (hw0 : (k0_pay193 v3265 (Bv I .bccw (backD .bccw c) 12)) = Bv I .bccw c 13)
    {k : (PUnit) → Prog (TpuEff nD τ sig (Elt F) Λ₀ .tc) α}
    (hk : St (XX I) K ks c ⟨⟨15, 14, 14, 13, 13, .gone, .full (XX I .acw (backD .acw c) 12), .half (XX I .acw (backD .acw c) 13)⟩, ⟨14, 13, 13, 13, 12, .gone, .gone, .half (XX I .bcw c 13)⟩, ⟨15, 14, 14, 13, 13, .gone, .full (XX I .accw (backD .accw c) 12), .half (XX I .accw (backD .accw c) 13)⟩, ⟨14, 13, 13, 13, 12, .gone, .gone, .half (XX I .bccw c 13)⟩⟩ Y
      ⊢ WP c (k ⟨⟩) Q) :
    St (XX I) K ks c ⟨⟨15, 14, 14, 13, 13, .gone, .full (XX I .acw (backD .acw c) 12), .half (XX I .acw (backD .acw c) 13)⟩, ⟨14, 13, 13, 13, 12, .gone, .gone, .half (XX I .bcw c 13)⟩, ⟨15, 14, 14, 13, 13, .gone, .full (XX I .accw (backD .accw c) 12), .half (XX I .accw (backD .accw c) 13)⟩, ⟨13, 12, 13, 13, 11, .gone, .gone, .gone⟩⟩ Y
      ⊢ WP c (k0_part103 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v3265 >>= k) Q := by
  rw [k0_part103_eq_skeleton]
  unfold k0_part103_skel
  refine op_recv (XX I) K ks c .bccw 12 (by rfl) (by decide) (by rfl) (by exact above_of rfl) (i' := 2) ?_
  refine ld_bccw (XX I) K ks c 2 (by rfl) (by exact fun _ h => h) ?_
  refine ld_bccw (XX I) K ks c 2 (by rfl) (by exact fun _ h => h) ?_
  refine st_bccw (XX I) K ks c 2 (by rfl) (XX I .bccw c 13) hw0 ?_
  refine op_have (XX I) K ks c .bccw 11 (by rfl) (by decide) (by exact above_of rfl) ?_
  refine op_start (XX I) K ks c .bccw 13 (by exact to_prv (k0_dev112_eq c)) (by rfl) (by decide) (by show 13 < 12 + 2; decide) (by show 13 ≤ 13 ∧ 13 ≤ 13 + 2; decide) (by rfl) (by exact fun _ h => h) ?_
  exact hk

theorem part104 {Y : sProp 𝕄} {α : Type} {Q : α → sProp 𝕄} (v5 : BitVec 32) (v60 : FVec F S4x256x512 .bf16) (v62 : F .f32)
    {k : (Σ' (v3363 : FVec F S256x256 .bf16) (v3366 : FVec F S256x1 .f32) (v3379 : FVec F S256x512 .f32), FVec F S256x1 .f32) → Prog (TpuEff nD τ sig (Elt F) Λ₀ .tc) α}
    (hk : St (XX I) K ks c ⟨⟨15, 15, 14, 13, 13, .full (XX I .acw (backD .acw c) 14), .full (XX I .acw (backD .acw c) 12), .half (XX I .acw (backD .acw c) 13)⟩, ⟨14, 13, 13, 13, 12, .gone, .gone, .half (XX I .bcw c 13)⟩, ⟨15, 15, 14, 13, 13, .full (XX I .accw (backD .accw c) 14), .full (XX I .accw (backD .accw c) 12), .half (XX I .accw (backD .accw c) 13)⟩, ⟨14, 13, 13, 13, 12, .gone, .gone, .half (XX I .bccw c 13)⟩⟩ Y
      ⊢ WP c (k ⟨k0_pay194 (px I .acw (org .acw (backD .acw c) 14)), k0_pay195 (pr I .acw (org .acw (backD .acw c) 14)), k0_pay196 v60 v62 (px I .acw (org .acw (backD .acw c) 14)) (pr I .acw (org .acw (backD .acw c) 14)), k0_pay197 v62 (pr I .acw (org .acw (backD .acw c) 14))⟩) Q) :
    St (XX I) K ks c ⟨⟨15, 14, 14, 13, 13, .gone, .full (XX I .acw (backD .acw c) 12), .half (XX I .acw (backD .acw c) 13)⟩, ⟨14, 13, 13, 13, 12, .gone, .gone, .half (XX I .bcw c 13)⟩, ⟨15, 14, 14, 13, 13, .gone, .full (XX I .accw (backD .accw c) 12), .half (XX I .accw (backD .accw c) 13)⟩, ⟨14, 13, 13, 13, 12, .gone, .gone, .half (XX I .bccw c 13)⟩⟩ Y
      ⊢ WP c (k0_part104 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v5 v60 v62 >>= k) Q := by
  rw [k0_part104_eq_skeleton]
  unfold k0_part104_skel
  refine op_recv (XX I) K ks c .acw 14 (by rfl) (by decide) (by rfl) (by exact above_of rfl) (i' := 0) ?_
  refine op_recv (XX I) K ks c .accw 14 (by rfl) (by decide) (by rfl) (by exact above_of rfl) (i' := 0) ?_
  refine ld_acw (XX I) K ks c 0 (by exact .inl rfl) embX (hrX 0 _) (by exact fun _ h => pktX h) ?_
  refine ld_acw (XX I) K ks c 0 (by exact .inl rfl) embR (hrR 0 _) (by exact fun _ h => pktR h) ?_
  exact hk

theorem part105 {Y : sProp 𝕄} {α : Type} {Q : α → sProp 𝕄} (v60 : FVec F S4x256x512 .bf16) (v62 : F .f32) (v3363 : FVec F S256x256 .bf16) (v3366 : FVec F S256x1 .f32) (v3379 : FVec F S256x512 .f32) (v3384 : FVec F S256x1 .f32)
    {k : (Σ' (v3415 : FVec F S256x512 .f32) (v3417 : FVec F S256x256 .bf16) (v3420 : FVec F S256x1 .f32) (v3421 : FVec F S256x512 .f32) (v3429 : FVec F S256x256 .bf16), FVec F S256x512 .bf16) → Prog (TpuEff nD τ sig (Elt F) Λ₀ .tc) α}
    (hk : St (XX I) K ks c ⟨⟨15, 15, 14, 13, 13, .full (XX I .acw (backD .acw c) 14), .full (XX I .acw (backD .acw c) 12), .half (XX I .acw (backD .acw c) 13)⟩, ⟨14, 13, 13, 13, 12, .gone, .gone, .half (XX I .bcw c 13)⟩, ⟨15, 15, 14, 13, 13, .full (XX I .accw (backD .accw c) 14), .full (XX I .accw (backD .accw c) 12), .half (XX I .accw (backD .accw c) 13)⟩, ⟨14, 13, 13, 13, 12, .gone, .gone, .half (XX I .bccw c 13)⟩⟩ Y
      ⊢ WP c (k ⟨k0_pay198 v60 v62 v3363 v3366 v3379 v3384, k0_pay199 (px I .accw (org .accw (backD .accw c) 14)), k0_pay200 (pr I .accw (org .accw (backD .accw c) 14)), k0_pay201 (F := F), k0_pay202 v62 (px I .accw (org .accw (backD .accw c) 14)) (pr I .accw (org .accw (backD .accw c) 14)), k0_pay203 v60⟩) Q) :
    St (XX I) K ks c ⟨⟨15, 15, 14, 13, 13, .full (XX I .acw (backD .acw c) 14), .full (XX I .acw (backD .acw c) 12), .half (XX I .acw (backD .acw c) 13)⟩, ⟨14, 13, 13, 13, 12, .gone, .gone, .half (XX I .bcw c 13)⟩, ⟨15, 15, 14, 13, 13, .full (XX I .accw (backD .accw c) 14), .full (XX I .accw (backD .accw c) 12), .half (XX I .accw (backD .accw c) 13)⟩, ⟨14, 13, 13, 13, 12, .gone, .gone, .half (XX I .bccw c 13)⟩⟩ Y
      ⊢ WP c (k0_part105 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v3363 v3366 v3379 v3384 >>= k) Q := by
  rw [k0_part105_eq_skeleton]
  unfold k0_part105_skel
  refine ld_accw (XX I) K ks c 0 (by exact .inl rfl) embX (hrX 0 _) (by exact fun _ h => pktX h) ?_
  refine ld_accw (XX I) K ks c 0 (by exact .inl rfl) embR (hrR 0 _) (by exact fun _ h => pktR h) ?_
  exact hk

theorem part106 {Y : sProp 𝕄} {α : Type} {Q : α → sProp 𝕄} (v60 : FVec F S4x256x512 .bf16) (v62 : F .f32) (v3417 : FVec F S256x256 .bf16) (v3420 : FVec F S256x1 .f32) (v3421 : FVec F S256x512 .f32) (v3429 : FVec F S256x256 .bf16) (v3431 : FVec F S256x512 .bf16)
    {k : (FVec F S256x512 .f32) → Prog (TpuEff nD τ sig (Elt F) Λ₀ .tc) α}
    (hk : St (XX I) K ks c ⟨⟨15, 15, 14, 13, 13, .full (XX I .acw (backD .acw c) 14), .full (XX I .acw (backD .acw c) 12), .half (XX I .acw (backD .acw c) 13)⟩, ⟨14, 13, 13, 13, 12, .gone, .gone, .half (XX I .bcw c 13)⟩, ⟨15, 15, 14, 13, 13, .full (XX I .accw (backD .accw c) 14), .full (XX I .accw (backD .accw c) 12), .half (XX I .accw (backD .accw c) 13)⟩, ⟨14, 13, 13, 13, 12, .gone, .gone, .half (XX I .bccw c 13)⟩⟩ Y
      ⊢ WP c (k (k0_pay204 v60 v62 v3417 v3420 v3421 v3429 v3431)) Q) :
    St (XX I) K ks c ⟨⟨15, 15, 14, 13, 13, .full (XX I .acw (backD .acw c) 14), .full (XX I .acw (backD .acw c) 12), .half (XX I .acw (backD .acw c) 13)⟩, ⟨14, 13, 13, 13, 12, .gone, .gone, .half (XX I .bcw c 13)⟩, ⟨15, 15, 14, 13, 13, .full (XX I .accw (backD .accw c) 14), .full (XX I .accw (backD .accw c) 12), .half (XX I .accw (backD .accw c) 13)⟩, ⟨14, 13, 13, 13, 12, .gone, .gone, .half (XX I .bccw c 13)⟩⟩ Y
      ⊢ WP c (k0_part106 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v60 v62 v3417 v3420 v3421 v3429 v3431 >>= k) Q := by
  rw [k0_part106_eq_skeleton]
  unfold k0_part106_skel
  exact hk

theorem part107 {Y : sProp 𝕄} {α : Type} {Q : α → sProp 𝕄} (v7 : BitVec 32) (v3415 : FVec F S256x512 .f32)
    {k : (FVec F S256x512 .bf16) → Prog (TpuEff nD τ sig (Elt F) Λ₀ .tc) α}
    (hk : St (XX I) K ks c ⟨⟨15, 15, 15, 13, 13, .full (XX I .acw (backD .acw c) 14), .full (XX I .acw (backD .acw c) 12), .full (XX I .acw (backD .acw c) 13)⟩, ⟨14, 14, 14, 13, 12, .full (XX I .bcw (backD .bcw c) 13), .gone, .full (XX I .bcw c 13)⟩, ⟨15, 15, 15, 13, 13, .full (XX I .accw (backD .accw c) 14), .full (XX I .accw (backD .accw c) 12), .full (XX I .accw (backD .accw c) 13)⟩, ⟨14, 13, 13, 13, 12, .gone, .gone, .half (XX I .bccw c 13)⟩⟩ Y
      ⊢ WP c (k (k0_pay205 v3415 (Bv I .bcw (backD .bcw c) 13))) Q) :
    St (XX I) K ks c ⟨⟨15, 15, 14, 13, 13, .full (XX I .acw (backD .acw c) 14), .full (XX I .acw (backD .acw c) 12), .half (XX I .acw (backD .acw c) 13)⟩, ⟨14, 13, 13, 13, 12, .gone, .gone, .half (XX I .bcw c 13)⟩, ⟨15, 15, 14, 13, 13, .full (XX I .accw (backD .accw c) 14), .full (XX I .accw (backD .accw c) 12), .half (XX I .accw (backD .accw c) 13)⟩, ⟨14, 13, 13, 13, 12, .gone, .gone, .half (XX I .bccw c 13)⟩⟩ Y
      ⊢ WP c (k0_part107 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 v7 v3415 >>= k) Q := by
  rw [k0_part107_eq_skeleton]
  unfold k0_part107_skel
  refine op_send (XX I) K ks c .acw 14 (by rfl) (by decide) (by show 14 < 15; decide) (by rfl) (by exact above_of rfl) (i' := 2) ?_
  refine op_send (XX I) K ks c .accw 14 (by rfl) (by decide) (by show 14 < 15; decide) (by rfl) (by exact above_of rfl) (i' := 2) ?_
  refine op_send (XX I) K ks c .bcw 13 (by rfl) (by decide) (by show 13 < 14; decide) (by rfl) (by exact above_of rfl) (i' := 2) ?_
  refine op_recv (XX I) K ks c .bcw 13 (by rfl) (by decide) (by rfl) (by exact above_of rfl) (i' := 0) ?_
  refine ld_bcw (XX I) K ks c 0 (by rfl) (by exact fun _ h => h) ?_
  exact hk

theorem part108 {Y : sProp 𝕄} {α : Type} {Q : α → sProp 𝕄} (v5 : BitVec 32) (v7 : BitVec 32) (v3500 : FVec F S256x512 .bf16)
    (hw0 : (k0_pay206 v3500) = Bv I .bcw c 14)
    {k : (PUnit) → Prog (TpuEff nD τ sig (Elt F) Λ₀ .tc) α}
    (hk : St (XX I) K ks c ⟨⟨15, 15, 15, 13, 13, .full (XX I .acw (backD .acw c) 14), .full (XX I .acw (backD .acw c) 12), .full (XX I .acw (backD .acw c) 13)⟩, ⟨15, 14, 14, 13, 13, .half (XX I .bcw c 14), .gone, .full (XX I .bcw c 13)⟩, ⟨15, 15, 15, 13, 13, .full (XX I .accw (backD .accw c) 14), .full (XX I .accw (backD .accw c) 12), .full (XX I .accw (backD .accw c) 13)⟩, ⟨14, 13, 14, 13, 12, .gone, .gone, .full (XX I .bccw c 13)⟩⟩ Y
      ⊢ WP c (k ⟨⟩) Q) :
    St (XX I) K ks c ⟨⟨15, 15, 15, 13, 13, .full (XX I .acw (backD .acw c) 14), .full (XX I .acw (backD .acw c) 12), .full (XX I .acw (backD .acw c) 13)⟩, ⟨14, 14, 14, 13, 12, .full (XX I .bcw (backD .bcw c) 13), .gone, .full (XX I .bcw c 13)⟩, ⟨15, 15, 15, 13, 13, .full (XX I .accw (backD .accw c) 14), .full (XX I .accw (backD .accw c) 12), .full (XX I .accw (backD .accw c) 13)⟩, ⟨14, 13, 13, 13, 12, .gone, .gone, .half (XX I .bccw c 13)⟩⟩ Y
      ⊢ WP c (k0_part108 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v3500 >>= k) Q := by
  rw [k0_part108_eq_skeleton]
  unfold k0_part108_skel
  refine ld_bcw (XX I) K ks c 0 (by rfl) (by exact fun _ h => h) ?_
  refine st_bcw (XX I) K ks c 0 (by rfl) (XX I .bcw c 14) hw0 ?_
  refine op_have (XX I) K ks c .bcw 12 (by rfl) (by decide) (by exact above_of rfl) ?_
  refine op_start (XX I) K ks c .bcw 14 (by exact to_nxt (k0_dev113_eq c)) (by rfl) (by decide) (by show 14 < 13 + 2; decide) (by show 14 ≤ 14 ∧ 14 ≤ 14 + 2; decide) (by rfl) (by exact fun _ h => h) ?_
  refine op_send (XX I) K ks c .bccw 13 (by rfl) (by decide) (by show 13 < 14; decide) (by rfl) (by exact above_of rfl) (i' := 2) ?_
  exact hk

theorem part109 {Y : sProp 𝕄} {α : Type} {Q : α → sProp 𝕄} (v5 : BitVec 32) (v7 : BitVec 32) (v3469 : FVec F S256x512 .f32)
    (hw0 : (k0_pay207 v3469 (Bv I .bccw (backD .bccw c) 13)) = Bv I .bccw c 14)
    {k : (PUnit) → Prog (TpuEff nD τ sig (Elt F) Λ₀ .tc) α}
    (hk : St (XX I) K ks c ⟨⟨15, 15, 15, 13, 13, .full (XX I .acw (backD .acw c) 14), .full (XX I .acw (backD .acw c) 12), .full (XX I .acw (backD .acw c) 13)⟩, ⟨15, 14, 14, 13, 13, .half (XX I .bcw c 14), .gone, .full (XX I .bcw c 13)⟩, ⟨15, 15, 15, 13, 13, .full (XX I .accw (backD .accw c) 14), .full (XX I .accw (backD .accw c) 12), .full (XX I .accw (backD .accw c) 13)⟩, ⟨15, 14, 14, 13, 13, .half (XX I .bccw c 14), .gone, .full (XX I .bccw c 13)⟩⟩ Y
      ⊢ WP c (k ⟨⟩) Q) :
    St (XX I) K ks c ⟨⟨15, 15, 15, 13, 13, .full (XX I .acw (backD .acw c) 14), .full (XX I .acw (backD .acw c) 12), .full (XX I .acw (backD .acw c) 13)⟩, ⟨15, 14, 14, 13, 13, .half (XX I .bcw c 14), .gone, .full (XX I .bcw c 13)⟩, ⟨15, 15, 15, 13, 13, .full (XX I .accw (backD .accw c) 14), .full (XX I .accw (backD .accw c) 12), .full (XX I .accw (backD .accw c) 13)⟩, ⟨14, 13, 14, 13, 12, .gone, .gone, .full (XX I .bccw c 13)⟩⟩ Y
      ⊢ WP c (k0_part109 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 v3469 >>= k) Q := by
  rw [k0_part109_eq_skeleton]
  unfold k0_part109_skel
  refine op_recv (XX I) K ks c .bccw 13 (by rfl) (by decide) (by rfl) (by exact above_of rfl) (i' := 0) ?_
  refine ld_bccw (XX I) K ks c 0 (by rfl) (by exact fun _ h => h) ?_
  refine ld_bccw (XX I) K ks c 0 (by rfl) (by exact fun _ h => h) ?_
  refine st_bccw (XX I) K ks c 0 (by rfl) (XX I .bccw c 14) hw0 ?_
  refine op_have (XX I) K ks c .bccw 12 (by rfl) (by decide) (by exact above_of rfl) ?_
  refine op_start (XX I) K ks c .bccw 14 (by exact to_prv (k0_dev114_eq c)) (by rfl) (by decide) (by show 14 < 13 + 2; decide) (by show 14 ≤ 14 ∧ 14 ≤ 14 + 2; decide) (by rfl) (by exact fun _ h => h) ?_
  exact hk

end Cert.MoE
-- ==== Proof.Chain2.lean ====
/-
The last fifty parts of a device's program, one after another: from the middle of the ring to the
stored result, and the two last waits. `body_run`: the whole program.
-/
module

public import proofs.«01_k».proof.Proof.Chain1
public import proofs.«01_k».proof.Proof.Parts5
public import proofs.«01_k».proof.Proof.Parts6
public import proofs.«01_k».proof.Proof.Parts7
public import proofs.«01_k».proof.Proof.Parts8

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

/-- Where a device's streams stand when its program is over. -/
def σf (I : In F) (c : Dev nD) : St4 F :=
  ⟨⟨15, 15, 15, 13, 13, .full (XX I .acw (backD .acw c) 14), .full (XX I .acw (backD .acw c) 12), .full (XX I .acw (backD .acw c) 13)⟩, ⟨15, 15, 15, 13, 13, .full (XX I .bcw c 14), .full (XX I .bcw (backD .bcw c) 14), .full (XX I .bcw c 13)⟩, ⟨15, 15, 15, 13, 13, .full (XX I .accw (backD .accw c) 14), .full (XX I .accw (backD .accw c) 12), .full (XX I .accw (backD .accw c) 13)⟩, ⟨15, 15, 15, 13, 13, .full (XX I .bccw c 14), .full (XX I .bccw (backD .bccw c) 14), .full (XX I .bccw c 13)⟩⟩

set_option maxRecDepth 100000 in
theorem part112 {o : Vec F S512x512 .f32 → Prop} {Z : sProp 𝕄} (v5 v7 : BitVec 32) {Q : PUnit → sProp 𝕄}
    (hk : St (XX I) K ks c ⟨⟨15, 15, 15, 13, 13, .full (XX I .acw (backD .acw c) 14), .full (XX I .acw (backD .acw c) 12), .full (XX I .acw (backD .acw c) 13)⟩, ⟨15, 15, 15, 13, 13, .full (XX I .bcw c 14), .full (XX I .bcw (backD .bcw c) 14), .full (XX I .bcw c 13)⟩, ⟨15, 15, 15, 13, 13, .full (XX I .accw (backD .accw c) 14), .full (XX I .accw (backD .accw c) 12), .full (XX I .accw (backD .accw c) 13)⟩, ⟨15, 15, 14, 13, 13, .half (XX I .bccw c 14), .full (XX I .bccw (backD .bccw c) 14), .full (XX I .bccw c 13)⟩⟩ (Beside I c (outIs I c) Z) ⊢ Q ⟨⟩) :
    St (XX I) K ks c ⟨⟨9, 8, 8, 8, 7, .gone, .gone, .half (XX I .acw (backD .acw c) 7)⟩, ⟨8, 7, 7, 7, 6, .gone, .gone, .half (XX I .bcw c 7)⟩, ⟨9, 8, 8, 8, 7, .gone, .gone, .half (XX I .accw (backD .accw c) 7)⟩, ⟨7, 7, 7, 7, 6, .gone, .gone, .full (XX I .bccw c 7)⟩⟩ (Beside I c o Z)
      ⊢ WP c (k0_part112 m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 c v5 v7 (k0_pay11 (I.e c)) (k0_pay12 (F := F) (pos c)) (homeCw I c) (homeCcw I c)) Q := by
  rw [k0_part112_eq_skeleton]
  unfold k0_part112_skel
  refine part61 I K ks c _ ?_
  refine part62 I K ks c _ _ ?_
  refine part63 I K ks c _ _ _ _ _ _ ?_
  refine part64 I K ks c _ _ _ _ _ ?_
  refine part65 I K ks c _ _ ?_
  refine part66 I K ks c _ _ _ ?_ ?_
  · rfl
  refine part67 I K ks c _ _ _ ?_ ?_
  · rfl
  refine part68 I K ks c _ _ ?_
  refine part69 I K ks c _ ?_
  refine part70 I K ks c _ _ _ _ _ ?_
  refine part71 I K ks c _ _ _ ?_
  refine part72 I K ks c _ _ _ _ _ ?_
  refine part73 I K ks c _ _ _ ?_ ?_
  · rfl
  refine part74 I K ks c _ _ _ ?_
  refine part75 I K ks c _ _ _ ?_ ?_
  · rfl
  refine part76 I K ks c _ ?_
  refine part77 I K ks c _ _ _ ?_
  refine part78 I K ks c _ _ _ _ _ ?_
  refine part79 I K ks c _ _ _ _ _ _ _ _ ?_
  refine part80 I K ks c _ _ _ ?_ ?_
  · rfl
  refine part81 I K ks c _ _ ?_
  refine part82 I K ks c _ _ _ ?_ ?_
  · rfl
  refine part83 I K ks c _ _ ?_
  refine part84 I K ks c _ _ ?_
  refine part85 I K ks c _ _ _ _ _ _ ?_
  refine part86 I K ks c _ _ _ _ _ _ _ ?_
  refine part87 I K ks c _ _ _ ?_
  refine part88 I K ks c _ _ _ ?_ ?_
  · rfl
  refine part89 I K ks c _ _ _ ?_ ?_
  · rfl
  refine part90 I K ks c _ _ ?_
  refine part91 I K ks c _ _ ?_
  refine part92 I K ks c _ _ _ _ _ _ ?_
  refine part93 I K ks c _ _ _ _ _ _ _ ?_
  refine part94 I K ks c _ _ ?_
  refine part95 I K ks c _ _ _ ?_ ?_
  · rfl
  refine part96 I K ks c _ _ _ _ ?_ ?_
  · rfl
  refine part97 I K ks c _ _ _ _ ?_
  refine part98 I K ks c _ _ _ ?_
  refine part99 I K ks c _ _ _ _ _ ?_
  refine part100 I K ks c _ _ _ _ _ _ ?_
  refine part101 I K ks c _ _ _ ?_
  refine part102 I K ks c _ _ _ ?_ ?_
  · rfl
  refine part103 I K ks c _ _ _ ?_ ?_
  · rfl
  refine part104 I K ks c _ _ _ ?_
  refine part105 I K ks c _ _ _ _ _ _ ?_
  refine part106 I K ks c _ _ _ _ _ _ _ ?_
  refine part107 I K ks c _ _ ?_
  refine part108 I K ks c _ _ _ ?_ ?_
  · rfl
  refine part109 I K ks c _ _ _ ?_ ?_
  · rfl
  refine part110 I K ks c _ ?_
  refine op_send (XX I) K ks c .bcw 14 (by rfl) (by decide) (by show 14 < 15; decide) (by rfl) (by exact above_of rfl) (i' := 0) ?_
  exact hk.trans fupd_intro

set_option maxRecDepth 100000 in
/-- A device's whole program, from the barrier on. -/
theorem body_run {o : Vec F S512x512 .f32 → Prop} {Z : sProp 𝕄} {Q : PUnit → sProp 𝕄}
    (hk : St (XX I) K ks c (σf I c) (Beside I c (outIs I c) (iprop(atPos ER (barCell c) 1 ∅ 0 ∗ Z))) ⊢ iprop(|={Set.univ}=> Q ⟨⟩)) :
    Pre (XX I) K ks c (Beside I c o Z) ⊢ WP c (cc0_body m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15) Q := by
  rw [cc0_body_eq_skeleton]
  unfold cc0_body_skel
  unfold WP
  rw [wp_bind]
  refine part111 I K ks c (fun v5 v7 => ?_)
  dsimp only
  rw [wp_bind]
  refine part112 I K ks c v5 v7 ?_
  refine op_send (XX I) K ks c .bccw 14 (by rfl) (by decide) (by show 14 < 15; decide) (by rfl) (by exact above_of rfl) (i' := 0) ?_
  exact hk

end Cert.MoE
-- ==== Proof.Buffers.lean ====
/-
A stream's buffer is its three slots: split into them before the run, and joined from them after it.
-/
module

public import proofs.«01_k».proof.Proof.Open
public import Idealize.ShloMosaic.Lib.Ring

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (c : Dev nD)

omit [FloatOps F] in
theorem mem_rectA (s : Fin 3) (i : S3x256x384.Idx) : i ∈ (rectA s).set ↔ (i 0).val = s.val := by
  rw [← Rect.map_emb_univ, Finset.mem_map]
  constructor
  · rintro ⟨y, -, rfl⟩
    have h : (y 0).val < 1 := (y 0).isLt
    show s.val + 1 * (y 0).val = s.val
    omega
  · intro h
    refine ⟨fun a => ⟨(i a).val - (![s.val, 0, 0] : Fin 3 → ℕ) a, ?_⟩, Finset.mem_univ _, ?_⟩
    · have ha := (i a).isLt
      fin_cases a
      · show (i 0).val - s.val < 1; omega
      · show (i 1).val - 0 < 256; exact (i 1).isLt
      · show (i 2).val - 0 < 384; exact (i 2).isLt
    · funext a; apply Fin.ext
      fin_cases a
      · show s.val + 1 * ((i 0).val - s.val) = (i 0).val; omega
      · show 0 + 1 * ((i 1).val - 0) = (i 1).val; omega
      · show 0 + 1 * ((i 2).val - 0) = (i 2).val; omega

omit [FloatOps F] in
theorem mem_rectB (s : Fin 3) (i : S3x256x512.Idx) : i ∈ (rectB s).set ↔ (i 0).val = s.val := by
  rw [← Rect.map_emb_univ, Finset.mem_map]
  constructor
  · rintro ⟨y, -, rfl⟩
    have h : (y 0).val < 1 := (y 0).isLt
    show s.val + 1 * (y 0).val = s.val
    omega
  · intro h
    refine ⟨fun a => ⟨(i a).val - (![s.val, 0, 0] : Fin 3 → ℕ) a, ?_⟩, Finset.mem_univ _, ?_⟩
    · have ha := (i a).isLt
      fin_cases a
      · show (i 0).val - s.val < 1; omega
      · show (i 1).val - 0 < 256; exact (i 1).isLt
      · show (i 2).val - 0 < 512; exact (i 2).isLt
    · funext a; apply Fin.ext
      fin_cases a
      · show s.val + 1 * ((i 0).val - s.val) = (i 0).val; omega
      · show 0 + 1 * ((i 1).val - 0) = (i 1).val; omega
      · show 0 + 1 * ((i 2).val - 0) = (i 2).val; omega

/-- The elements of a slot, within its buffer. -/
def setA (s : Fin 3) : Finset S3x256x384.Idx := (rectA s).set
omit [FloatOps F] in
theorem disjA (b b' : Fin 3) (h : b ≠ b') : Disjoint (setA b) (setA b') :=
  Finset.disjoint_left.mpr fun i h1 h2 => h (Fin.ext (((mem_rectA b i).mp h1).symm.trans ((mem_rectA b' i).mp h2)))
omit [FloatOps F] in
theorem coverA : Finset.univ.biUnion setA = Finset.univ :=
  Finset.eq_univ_of_forall fun i => Finset.mem_biUnion.mpr ⟨⟨(i 0).val, (i 0).isLt⟩, Finset.mem_univ _, (mem_rectA _ i).mpr rfl⟩

/-- The elements of a slot, within its buffer. -/
def setB (s : Fin 3) : Finset S3x256x512.Idx := (rectB s).set
omit [FloatOps F] in
theorem disjB (b b' : Fin 3) (h : b ≠ b') : Disjoint (setB b) (setB b') :=
  Finset.disjoint_left.mpr fun i h1 h2 => h (Fin.ext (((mem_rectB b i).mp h1).symm.trans ((mem_rectB b' i).mp h2)))
omit [FloatOps F] in
theorem coverB : Finset.univ.biUnion setB = Finset.univ :=
  Finset.eq_univ_of_forall fun i => Finset.mem_biUnion.mpr ⟨⟨(i 0).val, (i 0).isLt⟩, Finset.mem_univ _, (mem_rectB _ i).mpr rfl⟩

omit [FloatOps F] in
theorem set_acw (s : Fin 3) : (slotM .acw s).view.set = setA s :=
  (View.set_reshape ..).trans (View.set_slice_whole (cc0_scratch0) (rectA s))
omit [FloatOps F] in
theorem set_bcw (s : Fin 3) : (slotM .bcw s).view.set = setB s :=
  (View.set_reshape ..).trans (View.set_slice_whole (cc0_scratch1) (rectB s))
omit [FloatOps F] in
theorem set_accw (s : Fin 3) : (slotM .accw s).view.set = setA s :=
  (View.set_reshape ..).trans (View.set_slice_whole (cc0_scratch2) (rectA s))
omit [FloatOps F] in
theorem set_bccw (s : Fin 3) : (slotM .bccw s).view.set = setB s :=
  (View.set_reshape ..).trans (View.set_slice_whole (cc0_scratch3) (rectB s))

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The three slots of a stream's buffer, whatever is in them, are the buffer. -/
theorem join_buf (q : Rg) :
    iprop((∃ f, slotPts (F := F) q c 0 fullShare f) ∗ (∃ f, slotPts q c 1 fullShare f) ∗ (∃ f, slotPts q c 2 fullShare f))
      ⊢ (iprop(∃ f, ((c : Thread nD τ).loc (bufR q)) ↦{fullShare} f) : sProp 𝕄) := by
  cases q
  · refine (Entails.of_eq (bigSep_fin3 fun b => iprop(∃ f, slotPts (F := F) .acw c b fullShare f)).symm).trans ?_
    exact Ring.pointsTo_blocks_join_exists (ℓ := (c : Thread nD τ).loc cc0_scratch0) (fun b => (slotM .acw b).view.set)
      (fun b b' h => by rw [set_acw, set_acw]; exact disjA b b' h)
      ((congrArg (Finset.univ.biUnion) (funext set_acw)).trans coverA) (fun _ => default)
  · refine (Entails.of_eq (bigSep_fin3 fun b => iprop(∃ f, slotPts (F := F) .bcw c b fullShare f)).symm).trans ?_
    exact Ring.pointsTo_blocks_join_exists (ℓ := (c : Thread nD τ).loc cc0_scratch1) (fun b => (slotM .bcw b).view.set)
      (fun b b' h => by rw [set_bcw, set_bcw]; exact disjB b b' h)
      ((congrArg (Finset.univ.biUnion) (funext set_bcw)).trans coverB) (fun _ => default)
  · refine (Entails.of_eq (bigSep_fin3 fun b => iprop(∃ f, slotPts (F := F) .accw c b fullShare f)).symm).trans ?_
    exact Ring.pointsTo_blocks_join_exists (ℓ := (c : Thread nD τ).loc cc0_scratch2) (fun b => (slotM .accw b).view.set)
      (fun b b' h => by rw [set_accw, set_accw]; exact disjA b b' h)
      ((congrArg (Finset.univ.biUnion) (funext set_accw)).trans coverA) (fun _ => default)
  · refine (Entails.of_eq (bigSep_fin3 fun b => iprop(∃ f, slotPts (F := F) .bccw c b fullShare f)).symm).trans ?_
    exact Ring.pointsTo_blocks_join_exists (ℓ := (c : Thread nD τ).loc cc0_scratch3) (fun b => (slotM .bccw b).view.set)
      (fun b b' h => by rw [set_bccw, set_bccw]; exact disjB b b' h)
      ((congrArg (Finset.univ.biUnion) (funext set_bccw)).trans coverB) (fun _ => default)

/-- The buffer is its three slots. -/
theorem split_buf (q : Rg) :
    (iprop(∃ f, ((c : Thread nD τ).loc (bufR q)) ↦{fullShare} f) : sProp 𝕄)
      ⊢ iprop((∃ f, slotPts (F := F) q c 0 fullShare f) ∗ (∃ f, slotPts q c 1 fullShare f) ∗ (∃ f, slotPts q c 2 fullShare f)) := by
  cases q
  · have h : ∀ f, (((c : Thread nD τ).loc cc0_scratch0) ↦{fullShare} f : sProp 𝕄)
        ⊢ iprop(slotPts (F := F) .acw c 0 fullShare f ∗ slotPts .acw c 1 fullShare f ∗ slotPts .acw c 2 fullShare f) := fun f =>
      Entails.of_eq ((Ring.pointsTo_blocks (ℓ := (c : Thread nD τ).loc cc0_scratch0) (fun b => (slotM .acw b).view.set)
        (fun b b' h => by rw [set_acw, set_acw]; exact disjA b b' h)
        ((congrArg (Finset.univ.biUnion) (funext set_acw)).trans coverA) (q := fullShare) f).trans (bigSep_fin3 _))
    refine (show (iprop(∃ f, ((c : Thread nD τ).loc cc0_scratch0) ↦{fullShare} f) : sProp 𝕄) ⊢ _ from ?_)
    iintro ⟨%f, H⟩
    ihave H := (h f) $$ H
    icases H with ⟨H0, H1, H2⟩
    isplitl [H0]; · iexists f; iexact H0
    isplitl [H1]; · iexists f; iexact H1
    iexists f; iexact H2
  · have h : ∀ f, (((c : Thread nD τ).loc cc0_scratch1) ↦{fullShare} f : sProp 𝕄)
        ⊢ iprop(slotPts (F := F) .bcw c 0 fullShare f ∗ slotPts .bcw c 1 fullShare f ∗ slotPts .bcw c 2 fullShare f) := fun f =>
      Entails.of_eq ((Ring.pointsTo_blocks (ℓ := (c : Thread nD τ).loc cc0_scratch1) (fun b => (slotM .bcw b).view.set)
        (fun b b' h => by rw [set_bcw, set_bcw]; exact disjB b b' h)
        ((congrArg (Finset.univ.biUnion) (funext set_bcw)).trans coverB) (q := fullShare) f).trans (bigSep_fin3 _))
    refine (show (iprop(∃ f, ((c : Thread nD τ).loc cc0_scratch1) ↦{fullShare} f) : sProp 𝕄) ⊢ _ from ?_)
    iintro ⟨%f, H⟩
    ihave H := (h f) $$ H
    icases H with ⟨H0, H1, H2⟩
    isplitl [H0]; · iexists f; iexact H0
    isplitl [H1]; · iexists f; iexact H1
    iexists f; iexact H2
  · have h : ∀ f, (((c : Thread nD τ).loc cc0_scratch2) ↦{fullShare} f : sProp 𝕄)
        ⊢ iprop(slotPts (F := F) .accw c 0 fullShare f ∗ slotPts .accw c 1 fullShare f ∗ slotPts .accw c 2 fullShare f) := fun f =>
      Entails.of_eq ((Ring.pointsTo_blocks (ℓ := (c : Thread nD τ).loc cc0_scratch2) (fun b => (slotM .accw b).view.set)
        (fun b b' h => by rw [set_accw, set_accw]; exact disjA b b' h)
        ((congrArg (Finset.univ.biUnion) (funext set_accw)).trans coverA) (q := fullShare) f).trans (bigSep_fin3 _))
    refine (show (iprop(∃ f, ((c : Thread nD τ).loc cc0_scratch2) ↦{fullShare} f) : sProp 𝕄) ⊢ _ from ?_)
    iintro ⟨%f, H⟩
    ihave H := (h f) $$ H
    icases H with ⟨H0, H1, H2⟩
    isplitl [H0]; · iexists f; iexact H0
    isplitl [H1]; · iexists f; iexact H1
    iexists f; iexact H2
  · have h : ∀ f, (((c : Thread nD τ).loc cc0_scratch3) ↦{fullShare} f : sProp 𝕄)
        ⊢ iprop(slotPts (F := F) .bccw c 0 fullShare f ∗ slotPts .bccw c 1 fullShare f ∗ slotPts .bccw c 2 fullShare f) := fun f =>
      Entails.of_eq ((Ring.pointsTo_blocks (ℓ := (c : Thread nD τ).loc cc0_scratch3) (fun b => (slotM .bccw b).view.set)
        (fun b b' h => by rw [set_bccw, set_bccw]; exact disjB b b' h)
        ((congrArg (Finset.univ.biUnion) (funext set_bccw)).trans coverB) (q := fullShare) f).trans (bigSep_fin3 _))
    refine (show (iprop(∃ f, ((c : Thread nD τ).loc cc0_scratch3) ↦{fullShare} f) : sProp 𝕄) ⊢ _ from ?_)
    iintro ⟨%f, H⟩
    ihave H := (h f) $$ H
    icases H with ⟨H0, H1, H2⟩
    isplitl [H0]; · iexists f; iexact H0
    isplitl [H1]; · iexists f; iexact H1
    iexists f; iexact H2

theorem split_any (q : Rg) :
    (iprop(∃ f, ((c : Thread nD τ).loc (bufR q)) ↦{fullShare} f) : sProp 𝕄)
      ⊢ iprop(slotAny (F := F) (q, c, cls 0) ∗ slotAny (q, c, cls 1) ∗ slotAny (q, c, cls 2)) := by
  refine (split_buf c q).trans ?_
  rw [slotAny_eq, slotAny_eq, slotAny_eq]
  iintro ⟨H0, H1, H2⟩
  cases q
  · isplitl [H1]; · iexact H1
    isplitl [H2]; · iexact H2
    iexact H0
  · isplitl [H2]; · iexact H2
    isplitl [H0]; · iexact H0
    iexact H1
  · isplitl [H1]; · iexact H1
    isplitl [H2]; · iexact H2
    iexact H0
  · isplitl [H2]; · iexact H2
    isplitl [H0]; · iexact H0
    iexact H1

end Cert.MoE
-- ==== Proof.Close.lean ====
/-
The end of a device's run: every cell it waited at has been through all its rounds and is closed
at zero, and every stream's buffer is whole again.
-/
module

public import proofs.«01_k».proof.Proof.Chain2
public import proofs.«01_k».proof.Proof.Buffers

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (I : In F) (K : GSem nD τ sig → ℕ) (ks : Key → ℕ) (c : Dev nD)

/-- The semaphores the kernel allocates for itself: a stream's send and receive semaphores, class by class, and its
    credit semaphore. -/
abbrev Own : Type := (Rg × Fin 3) ⊕ ((Rg × Fin 3) ⊕ Rg)
def osem : Own → SemLoc sig
  | .inl x => .dma (sendS x.1 (srcS x.1 x.2))
  | .inr (.inl x) => .dma (recvS x.1 (dstS x.1 x.2))
  | .inr (.inr q) => .reg (credS q)

/-- What is left of a stream when its copies are over. -/
def Left (q : Rg) (c : Dev nD) : sProp 𝕄 :=
  iprop((bigSep Finset.univ fun e : Fin 3 => semVal (sendCell q c e) 0) ∗ (bigSep Finset.univ fun e : Fin 3 => semVal (recvCell q c e) 0)
    ∗ semVal (credCell q c) 0 ∗ ∃ f, ((c : Thread nD τ).loc (bufR q)) ↦{fullShare} f)

theorem bigSep_range3 (Φ : ℕ → sProp 𝕄) : bigSep (Finset.range 3) Φ = bigSep Finset.univ fun e : Fin 3 => Φ e := by
  rw [show Finset.range 3 = (Finset.univ : Finset (Fin 3)).map Fin.valEmbedding from by decide, bigSep_map]; rfl

theorem close_sends (q : Rg) : iprop(Inv (XX I) K ks ∗ atSend (F := F) q c 15)
    ⊢ (iprop(|={Set.univ}=> bigSep Finset.univ fun e : Fin 3 => semVal (sendCell q c e) 0) : sProp 𝕄) := by
  unfold atSend
  rw [bigSep_range3]
  refine (show _ ⊢ bigSep Finset.univ fun e : Fin 3 => iprop(|={Set.univ}=> semVal (sendCell q c e) 0) from ?_).trans (bigSep_fupd _ _)
  refine (sep_mono_left (BI.bigSep_of_persistent (Finset.univ : Finset (Fin 3)) (Inv (XX I) K ks))).trans ?_
  rw [← bigSep_sep']
  refine bigSep_mono fun e _ => ?_
  have he := e.isLt
  rw [show cnt e 15 = 5 by unfold cnt; omega]
  refine (show iprop(Inv (XX I) K ks ∗ atPos ER (sendCell q c e) 5 ∅ 0 ∗ reached ER (sendCell q c e) 5) ⊢ iprop(|={Set.univ}=> semVal (sendCell q c e) 0) from ?_)
  iintro ⟨#HI, H, -⟩
  ihave #Hc := (Inv_send (XX I) K ks q c e) $$ HI
  iapply (Rounds.cell_close ER (Rd (XX I)) (Set.mem_univ (K (sendCell q c e))) (fun h => h) (R := 5) (fun r hr => duties_late (XX I) _ r hr))
  isplitr; · iexact Hc
  iexact H

theorem close_recvs (q : Rg) : iprop(Inv (XX I) K ks ∗ atRecv (F := F) q c 15)
    ⊢ (iprop(|={Set.univ}=> bigSep Finset.univ fun e : Fin 3 => semVal (recvCell q c e) 0) : sProp 𝕄) := by
  unfold atRecv
  rw [bigSep_range3]
  refine (show _ ⊢ bigSep Finset.univ fun e : Fin 3 => iprop(|={Set.univ}=> semVal (recvCell q c e) 0) from ?_).trans (bigSep_fupd _ _)
  refine (sep_mono_left (BI.bigSep_of_persistent (Finset.univ : Finset (Fin 3)) (Inv (XX I) K ks))).trans ?_
  rw [← bigSep_sep']
  refine bigSep_mono fun e _ => ?_
  have he := e.isLt
  rw [show cnt e 15 = 5 by unfold cnt; omega]
  refine (show iprop(Inv (XX I) K ks ∗ atPos ER (recvCell q c e) 5 ∅ 0 ∗ reached ER (recvCell q c e) 5) ⊢ iprop(|={Set.univ}=> semVal (recvCell q c e) 0) from ?_)
  iintro ⟨#HI, H, -⟩
  ihave #Hc := (Inv_recv (XX I) K ks q c e) $$ HI
  iapply (Rounds.cell_close ER (Rd (XX I)) (Set.mem_univ (K (recvCell q c e))) (fun h => h) (R := 5) (fun r hr => duties_late (XX I) _ r hr))
  isplitr; · iexact Hc
  iexact H

theorem close_cred (q : Rg) : iprop(Inv (XX I) K ks ∗ atCred (F := F) q c 13)
    ⊢ (iprop(|={Set.univ}=> semVal (credCell q c) 0) : sProp 𝕄) := by
  unfold atCred
  iintro ⟨#HI, %T, %hT, H, -⟩
  have hT' : T = Finset.range 13 := Finset.eq_of_subset_of_card_le hT.1 (by rw [Finset.card_range]; exact hT.2)
  ihave #Hc := (Inv_cred (XX I) K ks q c) $$ HI
  icases Hc with ⟨#Hc, -⟩
  imod (Rounds.fupd_skip ER (Rd (XX I)) (g := credCell q c) (κ := K (credCell q c)) (R := 0) (m := 13) (T := T)
    (by rw [duties_cred, hT']) (by rw [expect_cred]) (Set.mem_univ _)) $$ [H] with ⟨H, -⟩
  · isplitr; · iexact Hc
    iexact H
  iapply (Rounds.cell_close ER (Rd (XX I)) (Set.mem_univ (K (credCell q c))) (fun h => h) (R := 1) (fun r hr => duties_cred_late (XX I) _ (credS q) rfl r hr))
  isplitr; · iexact Hc
  iexact H

theorem close_bar : iprop(Inv (XX I) K ks ∗ atPos ER (barCell c) 1 ∅ 0)
    ⊢ (iprop(|={Set.univ}=> semVal (barCell c) 0) : sProp 𝕄) := by
  iintro ⟨#HI, H⟩
  ihave #Hc := (Inv_bar (XX I) K ks c) $$ HI
  icases Hc with ⟨#Hc, -⟩
  iapply (Rounds.cell_close ER (Rd (XX I)) (Set.mem_univ (K (barCell c))) (fun h => h) (R := 1) (fun r hr => duties_cred_late (XX I) _ barrier0 rfl r hr))
  isplitr; · iexact Hc
  iexact H

/-- A stream whose copies are over. -/
theorem close_stream (q : Rg) (P0 P1 P2 : Says F q) :
    iprop(Inv (XX I) K ks ∗ Gh q c ⟨15, 15, 15, 13, 13, .full P0, .full P1, .full P2⟩) ⊢ (iprop(|={Set.univ}=> Left (F := F) q c) : sProp 𝕄) := by
  unfold Gh Left slotSt slotIs
  iintro ⟨#HI, -, -, -, HS, HR, -, -, HC, -, -, -, ⟨%f0, -, H0⟩, ⟨%f1, -, H1⟩, ⟨%f2, -, H2⟩⟩
  imod (close_sends I K ks c q) $$ [HS] with HS
  · isplitr; · iexact HI
    iexact HS
  imod (close_recvs I K ks c q) $$ [HR] with HR
  · isplitr; · iexact HI
    iexact HR
  imod (close_cred I K ks c q) $$ [HC] with HC
  · isplitr; · iexact HI
    iexact HC
  imodintro
  isplitl [HS]; · iexact HS
  isplitl [HR]; · iexact HR
  isplitl [HC]; · iexact HC
  iapply (join_buf c q)
  isplitl [H0]; · iexists f0; iexact H0
  isplitl [H1]; · iexists f1; iexact H1
  iexists f2; iexact H2

theorem owed_end : owed c (σf I c) = 0 := by
  unfold owed
  refine Finset.sum_eq_zero fun q _ => ?_
  unfold owedR
  have h : ((σf I c).get q).s = 15 ∧ ((σf I c).get q).g = 13 := by cases q <;> exact ⟨rfl, rfl⟩
  rw [h.1, h.2, Finset.Ico_self, Finset.Ico_self, Finset.sum_empty, Finset.sum_empty, add_zero]

theorem Left_split : bigSep Finset.univ (fun q : Rg => Left (F := F) q c)
    ⊢ (iprop(Pipeline.ownSems0 osem c
      ∗ (∃ f, ((c : Thread nD τ).loc cc0_scratch0) ↦{fullShare} f) ∗ (∃ f, ((c : Thread nD τ).loc cc0_scratch1) ↦{fullShare} f)
      ∗ (∃ f, ((c : Thread nD τ).loc cc0_scratch2) ↦{fullShare} f) ∗ (∃ f, ((c : Thread nD τ).loc cc0_scratch3) ↦{fullShare} f)) : sProp 𝕄) := by
  have h0 : (Pipeline.ownSems0 osem c : sProp 𝕄) = iprop((bigSep (Finset.univ : Finset (Rg × Fin 3)) fun x => semVal (sendCell x.1 c x.2) 0)
      ∗ (bigSep (Finset.univ : Finset (Rg × Fin 3)) fun x => semVal (recvCell x.1 c x.2) 0) ∗ (bigSep (Finset.univ : Finset Rg) fun q => semVal (credCell q c) 0)) := by
    unfold Pipeline.ownSems0
    rw [bigSep_univ_sum, bigSep_univ_sum]; rfl
  rw [h0, bigSep_univ_prod, bigSep_univ_prod]
  unfold Left
  rw [bigSep_sep', bigSep_sep', bigSep_sep', bigSep_Rg (fun q => (iprop(∃ f, ((c : Thread nD τ).loc (bufR q)) ↦{fullShare} f) : sProp 𝕄))]
  iintro ⟨H1, H2, H3, H⟩
  isplitr [H]
  · isplitl [H1]; · iexact H1
    isplitl [H2]; · iexact H2
    iexact H3
  · iexact H

/-- The end of the run: nothing owed, every semaphore at zero, every buffer whole. -/
theorem close_all (Y : sProp 𝕄) :
    St (XX I) K ks c (σf I c) (iprop(atPos ER (barCell c) 1 ∅ 0 ∗ Y))
      ⊢ (iprop(|={Set.univ}=> ((∃ W, owes (c : Thread nD τ) 0 W) ∗ semVal (barCell c) 0 ∗ Pipeline.ownSems0 osem c
        ∗ Pipeline.scopedRest spec0 c ∗ Y)) : sProp 𝕄) := by
  unfold St
  rw [owed_end, scopedRest0_eq]
  iintro ⟨#HI, HO, HG, HB, HY⟩
  ihave HG := (Entails.of_eq (bigSep_Rg fun q => Gh (F := F) q c ((σf I c).get q))) $$ HG
  icases HG with ⟨G0, G1, G2, G3⟩
  imod (close_stream I K ks c .acw _ _ _) $$ [G0] with G0
  · isplitr; · iexact HI
    iexact G0
  imod (close_stream I K ks c .bcw _ _ _) $$ [G1] with G1
  · isplitr; · iexact HI
    iexact G1
  imod (close_stream I K ks c .accw _ _ _) $$ [G2] with G2
  · isplitr; · iexact HI
    iexact G2
  imod (close_stream I K ks c .bccw _ _ _) $$ [G3] with G3
  · isplitr; · iexact HI
    iexact G3
  imod (close_bar I K ks c) $$ [HB] with HB
  · isplitr; · iexact HI
    iexact HB
  ihave HL := (Entails.of_eq (bigSep_Rg fun q => Left (F := F) q c).symm) $$ [G0 G1 G2 G3]
  · isplitl [G0]; · iexact G0
    isplitl [G1]; · iexact G1
    isplitl [G2]; · iexact G2
    iexact G3
  ihave HL := (Left_split c) $$ HL
  icases HL with ⟨Hs, Hb⟩
  imodintro
  isplitl [HO]; · iexact HO
  isplitl [HB]; · iexact HB
  isplitl [Hs]; · iexact Hs
  isplitl [Hb]; · iexact Hb
  iexact HY

end Cert.MoE
-- ==== Proof.Fund.lean ====
/-
What the launch deals: the rounds of every cell, the duties of every message and the slots of
every buffer, each handed to the device that will use it.
-/
module

public import proofs.«01_k».proof.Proof.Close

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : (q : Rg) → Dev nD → ℕ → Says F q)

/-! ## The cells and the duties, listed -/

/-- A device's cells: the kernel's own, and the barrier's. -/
abbrev Ck : Type := Own ⊕ Unit
def csem : Ck → SemLoc sig
  | .inl o => osem o
  | .inr _ => .reg barrier0
def kcell (x : Dev nD × Ck) : GSem nD τ sig := ((x.1 : Thread nD τ), csem x.2)

set_option maxRecDepth 20000 in
omit [FloatOps F] in
theorem csem_injective : Function.Injective csem := by decide

omit [FloatOps F] in
theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]

/-- The duties at a device's cells: fifteen departures, fifteen landings and thirteen credits of each stream, and two
    signals of the barrier. -/
abbrev Tk : Type := (Rg × (Fin 15 ⊕ (Fin 15 ⊕ Fin 13))) ⊕ Fin 2
def tokL : Tk → SemLoc sig × ℕ × ℕ
  | .inl (q, .inl j) => (.dma (sendS q (srcS q j)), (j : ℕ) / 3, 0)
  | .inl (q, .inr (.inl j)) => (.dma (recvS q (dstS q j)), (j : ℕ) / 3, 0)
  | .inl (q, .inr (.inr i)) => (.reg (credS q), 0, i)
  | .inr n => (.reg barrier0, 0, n)
/-- A duty, told from where it is. -/
def tokR : SemLoc sig × ℕ × ℕ → Tk
  | (.dma n, r, _) =>
    if (n.val - 6) % 6 < 3 then .inl (ringOf ((n.val - 6) / 6), .inl (Fin.ofNat 15 (3 * r + (n.val % 3 + 3 - k0 (ringOf ((n.val - 6) / 6))) % 3)))
    else .inl (ringOf ((n.val - 6) / 6), .inr (.inl (Fin.ofNat 15 (3 * r + (n.val % 3 + 5 - k0 (ringOf ((n.val - 6) / 6))) % 3))))
  | (.reg n, _, i) => if n.val = 4 then .inr (Fin.ofNat 2 i) else .inl (ringOf n.val, .inr (.inr (Fin.ofNat 13 i)))

omit [FloatOps F] in
theorem tokR_tokL (x : Tk) : tokR (tokL x) = x := by
  rcases x with ⟨q, j | j | i⟩ | n
  · cases q <;> revert j <;> decide
  · cases q <;> revert j <;> decide
  · cases q <;> revert i <;> decide
  · revert n; decide

def tokG (x : Dev nD × Tk) : GSem nD τ sig × ℕ × ℕ := (((x.1 : Thread nD τ), (tokL x.2).1), (tokL x.2).2)

omit [FloatOps F] in
theorem tokG_injective : Function.Injective tokG := by
  rintro ⟨c, k⟩ ⟨c', k'⟩ h
  have h1 : c = c' := congrArg (fun g : GSem nD τ sig × ℕ × ℕ => g.1.1.1) h
  have h2 : tokL k = tokL k' := Prod.ext (congrArg (fun g : GSem nD τ sig × ℕ × ℕ => g.1.2) h) (congrArg (fun g : GSem nD τ sig × ℕ × ℕ => g.2) h)
  have h3 : k = k' := by rw [← tokR_tokL k, h2, tokR_tokL]
  rw [h1, h3]

def cellsS : Finset (GSem nD τ sig) := Finset.univ.map ⟨kcell, kcell_injective⟩
def toksT : Finset (GSem nD τ sig × ℕ × ℕ) := Finset.univ.map ⟨tokG, tokG_injective⟩

abbrev duty (x : GSem nD τ sig × ℕ × ℕ) : sProp 𝕄 := dutyTok ER x.1 x.2.1 x.2.2

/-! ## What each device is dealt at first -/

/-- The slots' beginning, kept with device 0. -/
def slotsOf (c : Dev nD) : sProp 𝕄 := if c = 0 then BI.own (ES (initSlots (Finset.univ : Finset Key) 5)) else iprop(emp)

def G (c : Dev nD) : sProp 𝕄 :=
  iprop((bigSep Finset.univ fun k : Ck => roundState ER (Rd X) (kcell (c, k)) 0) ∗ (bigSep Finset.univ fun k : Ck => reached ER (kcell (c, k)) 0)
    ∗ (bigSep Finset.univ fun k : Ck => atPos ER (kcell (c, k)) 0 ∅ 0) ∗ (bigSep Finset.univ fun x : Tk => duty (tokG (c, x))) ∗ slotsOf c)

omit [FloatOps F] in
theorem over_cells (Φ : GSem nD τ sig → sProp 𝕄) :
    bigSep cellsS Φ = bigSep Finset.univ fun c : Dev nD => bigSep Finset.univ fun k : Ck => Φ (kcell (c, k)) := by
  unfold cellsS; rw [bigSep_map, bigSep_univ_prod]; rfl
omit [FloatOps F] in
theorem over_toks (Φ : GSem nD τ sig × ℕ × ℕ → sProp 𝕄) :
    bigSep toksT Φ = bigSep Finset.univ fun c : Dev nD => bigSep Finset.univ fun x : Tk => Φ (tokG (c, x)) := by
  unfold toksT; rw [bigSep_map, bigSep_univ_prod]; rfl

omit [FloatOps F] in
theorem slots_in : (BI.own (ES (initSlots (Finset.univ : Finset Key) 5)) : sProp 𝕄) ⊢ bigSep Finset.univ (slotsOf (F := F)) := by
  rw [bigSep_univ_at _ (0 : Dev nD)]
  have h : (iprop(emp) : sProp 𝕄) ⊢ bigSep (Finset.univ.erase (0 : Dev nD)) (slotsOf (F := F)) :=
    (BI.bigSep_of_persistent (Finset.univ.erase (0 : Dev nD)) (iprop(emp) : sProp 𝕄)).trans
      (bigSep_mono fun c hc => show _ ⊢ slotsOf (F := F) c from Entails.of_eq (by unfold slotsOf; rw [if_neg (Finset.ne_of_mem_erase hc)]))
  refine (show _ ⊢ iprop(slotsOf (F := F) 0 ∗ bigSep (Finset.univ.erase (0 : Dev nD)) (slotsOf (F := F))) from ?_)
  iintro H
  isplitl [H]
  · unfold slotsOf; rw [if_pos rfl]; iexact H
  · iapply h; iempintro

omit [FloatOps F] in
theorem slots_out : bigSep Finset.univ (slotsOf (F := F)) ⊢ (BI.own (ES (initSlots (Finset.univ : Finset Key) 5)) : sProp 𝕄) :=
  (bigSep_elim (Finset.mem_univ (0 : Dev nD))).trans (show slotsOf (F := F) 0 ⊢ _ from Entails.of_eq (by unfold slotsOf; rw [if_pos rfl]))

omit [FloatOps F] in
theorem fund_all : BI.own ((Idealize.ShloMosaic.embR : Emb (UB × USlots Key) 𝕄) (initOf cellsS toksT, initSlots (Finset.univ : Finset Key) 5)) ⊢ (|==> bigSep Finset.univ (G X) : sProp 𝕄) := by
  iintro H
  ihave H := (own_pair_emb (Idealize.ShloMosaic.embR : Emb (UB × USlots Key) 𝕄) (initOf cellsS toksT) (initSlots (Finset.univ : Finset Key) 5)) $$ H
  icases H with ⟨HX, HS⟩
  imod (Rounds.fund ER (Rd X) cellsS toksT) $$ HX with ⟨Hst, Hr, Hat, Htok⟩
  imodintro
  ihave HS := (slots_in (F := F)) $$ HS
  ihave Hst := (Entails.of_eq (over_cells fun g => roundState ER (Rd X) g 0)) $$ Hst
  ihave Hr := (Entails.of_eq (over_cells fun g => (reached ER g 0 : sProp 𝕄))) $$ Hr
  ihave Hat := (Entails.of_eq (over_cells fun g => (atPos ER g 0 ∅ 0 : sProp 𝕄))) $$ Hat
  ihave Htok := (Entails.of_eq (over_toks (F := F) duty)) $$ Htok
  unfold G; simp only [bigSep_sep']
  isplitl [Hst]; · iexact Hst
  isplitl [Hr]; · iexact Hr
  isplitl [Hat]; · iexact Hat
  isplitl [Htok]; · iexact Htok
  iexact HS

end Cert.MoE
-- ==== Proof.Deal.lean ====
/-
The launch's ghosts dealt out: every duty goes to the device that pays it, every position to the
device that waits there, and every slot's leave to the device that copies into it.
-/
module

public import proofs.«01_k».proof.Proof.Fund

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : (q : Rg) → Dev nD → ℕ → Says F q)

/-! ## Sums over the devices and the streams, rearranged -/

/-- A stream's direction as a permutation of the devices. -/
def along (q : Rg) : Dev nD ≃ Dev nD := ⟨dstD q, backD q, back_dst q, dst_back q⟩

omit [FloatOps F] in
/-- Two sums change places. -/
theorem sum_swap {A B : Type} [Fintype A] [Fintype B] (Φ : A → B → sProp 𝕄) :
    (bigSep Finset.univ fun a => bigSep Finset.univ fun b => Φ a b) = bigSep Finset.univ fun b => bigSep Finset.univ fun a => Φ a b :=
  (bigSep_univ_prod (fun x : A × B => Φ x.1 x.2)).symm.trans
    ((bigSep_univ_equiv (Equiv.prodComm B A) (fun x : A × B => Φ x.1 x.2)).trans (bigSep_univ_prod (fun x : B × A => Φ x.2 x.1)))

omit [FloatOps F] in
theorem shift (e : Rg → Dev nD ≃ Dev nD) (Φ : Rg → Dev nD → sProp 𝕄) :
    (bigSep Finset.univ fun d : Dev nD => bigSep Finset.univ fun q : Rg => Φ q d)
      = bigSep Finset.univ fun d : Dev nD => bigSep Finset.univ fun q : Rg => Φ q (e q d) := by
  rw [sum_swap (fun (d : Dev nD) (q : Rg) => Φ q d), sum_swap (fun d q => Φ q (e q d))]
  exact bigSep_congr fun q _ => bigSep_univ_equiv (e q) (Φ q)

omit [FloatOps F] in
theorem bigSep_Ico (n : ℕ) (Φ : ℕ → sProp 𝕄) : bigSep (Finset.Ico 0 n) Φ = bigSep Finset.univ fun j : Fin n => Φ j := by
  rw [show Finset.Ico 0 n = (Finset.univ : Finset (Fin n)).map Fin.valEmbedding from by
    ext x; simp only [Finset.mem_Ico, Finset.mem_map, Finset.mem_univ, true_and, Fin.valEmbedding_apply]
    exact ⟨fun h => ⟨⟨x, h.2⟩, rfl⟩, fun ⟨y, hy⟩ => hy ▸ ⟨Nat.zero_le _, y.isLt⟩⟩, bigSep_map]
  rfl

omit [FloatOps F] in
theorem bigSep_unit (Φ : Unit → sProp 𝕄) : bigSep Finset.univ Φ = Φ () := bigSep_singleton

set_option backward.proofsInPublic true in
/-- Copy `j` is copy `j / 3` of its class. -/
def copyE : Fin 15 ≃ Fin 3 × Fin 5 where
  toFun j := (cls j, Fin.ofNat 5 (j / 3))
  invFun x := Fin.ofNat 15 (3 * x.2 + x.1)
  left_inv := by decide
  right_inv := by decide

def keyRounds : Key × Fin 5 ↪ Key × ℕ := ⟨fun x => (x.1, x.2.val), fun a b h => Prod.ext (congrArg (fun y : Key × ℕ => y.1) h) (Fin.ext (congrArg (fun y : Key × ℕ => y.2) h))⟩

omit [FloatOps F] in
theorem leaves (Φ : Key → ℕ → sProp 𝕄) :
    bigSep ((Finset.univ : Finset Key) ×ˢ Finset.range 5) (fun x => Φ x.1 x.2)
      = bigSep Finset.univ fun d : Dev nD => bigSep Finset.univ fun q : Rg => bigSep Finset.univ fun j : Fin 15 => Φ (q, d, cls j) (j / 3) := by
  rw [show (Finset.univ : Finset Key) ×ˢ Finset.range 5 = (Finset.univ : Finset (Key × Fin 5)).map keyRounds from by
    ext x; simp only [Finset.mem_product, Finset.mem_univ, true_and, Finset.mem_range, Finset.mem_map]
    exact ⟨fun h => ⟨(x.1, ⟨x.2, h⟩), rfl⟩, fun ⟨y, hy⟩ => hy ▸ y.2.isLt⟩, bigSep_map, bigSep_univ_prod]
  rw [bigSep_univ_prod (α := Rg) (β := Dev nD × Fin 3), sum_swap (fun (d : Dev nD) (q : Rg) => bigSep Finset.univ fun j : Fin 15 => Φ (q, d, cls j) (j / 3))]
  refine bigSep_congr fun q _ => ?_
  rw [bigSep_univ_prod (α := Dev nD) (β := Fin 3)]
  refine bigSep_congr fun d _ => ?_
  refine (bigSep_univ_prod (fun x : Fin 3 × Fin 5 => Φ (q, d, x.1) x.2.val)).symm.trans ?_
  rw [bigSep_univ_equiv copyE]
  refine bigSep_congr fun j _ => ?_
  have hj := j.isLt
  show Φ (q, d, cls j) ((j : ℕ) / 3 % 5) = _
  rw [Nat.mod_eq_of_lt (by omega)]

omit [FloatOps F] in
theorem readersOf (Φ : Key → sProp 𝕄) :
    bigSep Finset.univ Φ = bigSep Finset.univ fun d : Dev nD => bigSep Finset.univ fun q : Rg => iprop(Φ (q, d, cls 0) ∗ Φ (q, d, cls 1) ∗ Φ (q, d, cls 2)) := by
  rw [bigSep_univ_prod (α := Rg) (β := Dev nD × Fin 3), sum_swap (fun (d : Dev nD) (q : Rg) => iprop(Φ (q, d, cls 0) ∗ Φ (q, d, cls 1) ∗ Φ (q, d, cls 2)))]
  refine bigSep_congr fun q _ => ?_
  rw [bigSep_univ_prod (α := Dev nD) (β := Fin 3)]
  exact bigSep_congr fun d _ => bigSep_fin3 _

/-- A device's cells, by streams. -/
theorem cells_split (Φ : SemLoc sig → sProp 𝕄) :
    (bigSep Finset.univ fun k : Ck => Φ (csem k))
      = iprop((bigSep Finset.univ fun q : Rg => iprop((bigSep Finset.univ fun e : Fin 3 => Φ (.dma (sendS q (srcS q e))))
          ∗ (bigSep Finset.univ fun e : Fin 3 => Φ (.dma (recvS q (dstS q e)))) ∗ Φ (.reg (credS q)))) ∗ Φ (.reg barrier0)) := by
  rw [bigSep_univ_sum, bigSep_univ_sum, bigSep_univ_sum, bigSep_univ_prod, bigSep_univ_prod, bigSep_unit, bigSep_sep', bigSep_sep']
  rfl

theorem sep_five (A B C D E : sProp 𝕄) : iprop((A ∗ B ∗ C) ∗ D ∗ E) = iprop(A ∗ B ∗ C ∗ D ∗ E) := by
  have h1 : iprop((A ∗ B ∗ C) ∗ D ∗ E) ⊢ iprop(A ∗ B ∗ C ∗ D ∗ E) := by
    iintro ⟨⟨H1, H2, H3⟩, H4⟩
    isplitl [H1]; · iexact H1
    isplitl [H2]; · iexact H2
    isplitl [H3]; · iexact H3
    iexact H4
  have h2 : iprop(A ∗ B ∗ C ∗ D ∗ E) ⊢ iprop((A ∗ B ∗ C) ∗ D ∗ E) := by
    iintro ⟨H1, H2, H3, H4⟩
    isplitr [H4]
    · isplitl [H1]; · iexact H1
      isplitl [H2]; · iexact H2
      iexact H3
    iexact H4
  exact BI.equiv_iff.mp ⟨h1, h2⟩

/-- A device's duties, by streams. -/
theorem toks_split (d : Dev nD) :
    (bigSep Finset.univ fun x : Tk => (duty (tokG (d, x)) : sProp 𝕄))
      = iprop((bigSep Finset.univ fun q : Rg => bigSep Finset.univ fun j : Fin 15 => dutyTok ER (sendCell q d j) (j / 3) 0)
        ∗ (bigSep Finset.univ fun q : Rg => bigSep Finset.univ fun j : Fin 15 => dutyTok ER (recvCell q d j) (j / 3) 0)
        ∗ (bigSep Finset.univ fun q : Rg => bigSep Finset.univ fun i : Fin 13 => dutyTok ER (credCell q d) 0 i)
        ∗ dutyTok ER (barCell d) 0 0 ∗ dutyTok ER (barCell d) 0 1) := by
  have h1 : (bigSep Finset.univ fun x : Tk => (duty (tokG (d, x)) : sProp 𝕄))
      = iprop((bigSep Finset.univ fun q : Rg => iprop((bigSep Finset.univ fun j : Fin 15 => dutyTok ER (sendCell q d j) (j / 3) 0)
        ∗ (bigSep Finset.univ fun j : Fin 15 => dutyTok ER (recvCell q d j) (j / 3) 0)
        ∗ (bigSep Finset.univ fun i : Fin 13 => dutyTok ER (credCell q d) 0 i)))
        ∗ dutyTok ER (barCell d) 0 0 ∗ dutyTok ER (barCell d) 0 1) := by
    rw [bigSep_univ_sum, bigSep_univ_prod]
    refine congrArg₂ _ (bigSep_congr fun q _ => ?_) (bigSep_univ_eq_bigSepL [0, 1] (by decide) (by decide) _)
    rw [bigSep_univ_sum, bigSep_univ_sum]; rfl
  rw [h1, bigSep_sep', bigSep_sep']
  exact sep_five _ _ _ _ _

/-! ## What each device gets -/

/-- Of a stream: the duties it pays, where it waits, its slots' releases. -/
def Share (q : Rg) (c : Dev nD) : sProp 𝕄 :=
  iprop(toSend q c 0 ∗ (bigSep Finset.univ fun e : Fin 3 => atPos ER (sendCell q c e) 0 ∅ 0) ∗ (bigSep Finset.univ fun e : Fin 3 => atPos ER (recvCell q c e) 0 ∅ 0)
    ∗ toGive q c 0 ∗ atPos ER (credCell q c) 0 ∅ 0
    ∗ (readerAt ES (q, c, cls 0) 0 ∗ readerAt ES (q, c, cls 1) 0 ∗ readerAt ES (q, c, cls 2) 0))
/-- Of the barrier. -/
def ShareBar (c : Dev nD) : sProp 𝕄 :=
  iprop(atPos ER (barCell c) 0 ∅ 0 ∗ dutyTok ER (barCell (prv c)) 0 0 ∗ dutyTok ER (barCell (nxt c)) 0 1)

theorem toSend_eq (q : Rg) (c : Dev nD) :
    toSend (F := F) q c 0 = iprop((bigSep Finset.univ fun j : Fin 15 => dutyTok ER (sendCell q c j) (j / 3) 0)
      ∗ (bigSep Finset.univ fun j : Fin 15 => dutyTok ER (recvCell q (along q c) j) (j / 3) 0)
      ∗ (bigSep Finset.univ fun j : Fin 15 => writeTok ES (q, along q c, cls j) (j / 3 + 1))) := by
  unfold toSend
  rw [bigSep_Ico, bigSep_sep', bigSep_sep']; rfl
theorem toGive_eq (q : Rg) (c : Dev nD) :
    toGive (F := F) q c 0 = bigSep Finset.univ fun i : Fin 13 => dutyTok ER (credCell q ((along q).symm c)) 0 i := by
  unfold toGive
  rw [bigSep_Ico]; rfl

/-- The positions, the duties and the slots' leaves of all devices, dealt out. -/
theorem deal :
    iprop((bigSep Finset.univ fun c : Dev nD => bigSep Finset.univ fun k : Ck => atPos ER (kcell (c, k)) 0 ∅ 0)
      ∗ (bigSep Finset.univ fun c : Dev nD => bigSep Finset.univ fun x : Tk => duty (tokG (c, x)))
      ∗ bigSep (Finset.univ : Finset Key) (fun k => readerAt ES k 0)
      ∗ bigSep ((Finset.univ : Finset Key) ×ˢ Finset.range 5) (fun x => writeTok ES x.1 (x.2 + 1)))
    ⊢ (bigSep Finset.univ fun c : Dev nD => iprop(ShareBar (F := F) c ∗ bigSep Finset.univ fun q : Rg => Share q c) : sProp 𝕄) := by
  have e1 : (bigSep Finset.univ fun c : Dev nD => bigSep Finset.univ fun k : Ck => (atPos ER (kcell (c, k)) 0 ∅ 0 : sProp 𝕄))
      = bigSep Finset.univ fun c : Dev nD => iprop((bigSep Finset.univ fun q : Rg => iprop((bigSep Finset.univ fun e : Fin 3 => atPos ER (sendCell q c e) 0 ∅ 0)
          ∗ (bigSep Finset.univ fun e : Fin 3 => atPos ER (recvCell q c e) 0 ∅ 0) ∗ atPos ER (credCell q c) 0 ∅ 0)) ∗ atPos ER (barCell c) 0 ∅ 0) :=
    bigSep_congr fun c _ => cells_split fun sm => (atPos ER ((c : Thread nD τ), sm) 0 ∅ 0 : sProp 𝕄)
  rw [e1, bigSep_congr (s := Finset.univ) (fun (c : Dev nD) _ => toks_split c), leaves (F := F) fun k r => writeTok ES k (r + 1), readersOf (F := F) fun k => readerAt ES k 0]
  unfold ShareBar Share
  simp only [toSend_eq, toGive_eq, bigSep_sep']
  rw [shift along (fun q d => (bigSep Finset.univ fun j : Fin 15 => dutyTok ER (recvCell q d j) (j / 3) 0 : sProp 𝕄)),
    shift (fun q => (along q).symm) (fun q d => (bigSep Finset.univ fun i : Fin 13 => dutyTok ER (credCell q d) 0 i : sProp 𝕄)),
    shift along (fun q d => (bigSep Finset.univ fun j : Fin 15 => writeTok ES (q, d, cls j) (j / 3 + 1) : sProp 𝕄)),
    bigSep_univ_equiv ring.symm (fun d : Dev nD => (dutyTok ER (barCell d) 0 0 : sProp 𝕄)),
    bigSep_univ_equiv ring (fun d : Dev nD => (dutyTok ER (barCell d) 0 1 : sProp 𝕄))]
  iintro ⟨⟨⟨HaS, HaR, HaC⟩, HaB⟩, ⟨Hs, Hr, Hc, Hb0, Hb1⟩, ⟨Hq0, Hq1, Hq2⟩, Hw⟩
  isplitl [HaB Hb0 Hb1]
  · isplitl [HaB]; · iexact HaB
    isplitl [Hb0]; · iexact Hb0
    iexact Hb1
  isplitl [Hs Hr Hw]
  · isplitl [Hs]; · iexact Hs
    isplitl [Hr]; · iexact Hr
    iexact Hw
  isplitl [HaS]; · iexact HaS
  isplitl [HaR]; · iexact HaR
  isplitl [Hc]; · iexact Hc
  isplitl [HaC]; · iexact HaC
  isplitl [Hq0]; · iexact Hq0
  isplitl [Hq1]; · iexact Hq1
  iexact Hq2

end Cert.MoE
-- ==== Proof.Glob.lean ====
/-
The launch: from the semaphores at zero and what the launch deals, every cell's invariant and every
slot's, and each device's share; and the units the devices owe each other, as each device's credit.
-/
module

public import proofs.«01_k».proof.Proof.Deal

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : (q : Rg) → Dev nD → ℕ → Says F q)

/-! ## The invariants -/

def AllCells (K : GSem nD τ sig → ℕ) : sProp 𝕄 := bigSep cellsS fun g => cellInv ER (Rd X) (K g) g
def AllSlots (ks : Key → ℕ) : sProp 𝕄 := bigSep (Finset.univ : Finset Key) fun k => slotInv ES (ks k) k (slotAny k)
def AllReached : sProp 𝕄 := bigSep cellsS fun g => reached ER g 0

instance (K : GSem nD τ sig → ℕ) : BI.Persistent (AllCells X K) := by unfold AllCells; infer_instance
instance (ks : Key → ℕ) : BI.Persistent (AllSlots (F := F) ks) := by unfold AllSlots; infer_instance
instance : BI.Persistent (AllReached (F := F)) := by unfold AllReached; infer_instance

omit [FloatOps F] in
theorem mem_cells (x : Dev nD × Ck) : kcell x ∈ cellsS := Finset.mem_map.mpr ⟨x, Finset.mem_univ _, rfl⟩
omit [FloatOps F] in
theorem mem_send (q : Rg) (c : Dev nD) (e : Fin 3) : sendCell q c e ∈ cellsS := mem_cells (c, .inl (.inl (q, e)))
omit [FloatOps F] in
theorem mem_recv (q : Rg) (c : Dev nD) (e : Fin 3) : recvCell q c e ∈ cellsS := mem_cells (c, .inl (.inr (.inl (q, e))))
omit [FloatOps F] in
theorem mem_cred (q : Rg) (c : Dev nD) : credCell q c ∈ cellsS := mem_cells (c, .inl (.inr (.inr q)))
omit [FloatOps F] in
theorem mem_bar (c : Dev nD) : barCell c ∈ cellsS := mem_cells (c, .inr ())

/-- A fact that can be had again and again holds for each of a family. -/
theorem each {A : Type} [Fintype A] [DecidableEq A] {R : sProp 𝕄} [BI.Persistent R] {Φ : A → sProp 𝕄} (h : ∀ a, R ⊢ Φ a) : R ⊢ bigSep Finset.univ Φ :=
  (BI.bigSep_of_persistent Finset.univ R).trans (bigSep_mono fun a _ => h a)

theorem Inv_make (K : GSem nD τ sig → ℕ) (ks : Key → ℕ) : iprop(AllCells X K ∗ AllSlots ks ∗ AllReached ∗ Lev (F := F)) ⊢ Inv X K ks := by
  have hc : ∀ g ∈ cellsS, AllCells X K ⊢ cellInv ER (Rd X) (K g) g := fun g hg => by unfold AllCells; exact bigSep_elim hg
  have hr : ∀ g ∈ cellsS, (AllReached (F := F)) ⊢ reached ER g 0 := fun g hg => by unfold AllReached; exact bigSep_elim hg
  have hcr : ∀ g ∈ cellsS, iprop(AllCells X K ∗ AllReached (F := F)) ⊢ iprop(cellInv ER (Rd X) (K g) g ∗ reached ER g 0) := fun g hg => BIClass.sep_mono (hc g hg) (hr g hg)
  unfold Inv
  iintro ⟨#HC, #HS, #HR, #HL⟩
  isplitr
  · iapply (each fun x : Rg × Dev nD × Fin 3 => hc _ (mem_send x.1 x.2.1 x.2.2)); iexact HC
  isplitr
  · iapply (each fun x : Rg × Dev nD × Fin 3 => hc _ (mem_recv x.1 x.2.1 x.2.2)); iexact HC
  isplitr
  · iapply (each fun x : Rg × Dev nD => hcr _ (mem_cred x.1 x.2))
    isplitr; · iexact HC
    iexact HR
  isplitr
  · iapply (each fun d : Dev nD => hcr _ (mem_bar d))
    isplitr; · iexact HC
    iexact HR
  isplitr
  · unfold AllSlots; iexact HS
  iexact HL

/-- What a device holds when its program starts, save for its credit. -/
def G' (c : Dev nD) : sProp 𝕄 :=
  iprop(∃ K ks, AllCells X K ∗ AllSlots ks ∗ AllReached (F := F) ∗ ShareBar c ∗ bigSep Finset.univ fun q : Rg => Share q c)

omit [FloatOps F] in
theorem unscopedSems0_eq (c : Dev nD) : (unscopedSems0 c : sProp 𝕄) = semVal (barCell c) 0 := by
  unfold unscopedSems0; rw [bigSep_eq_bigSepL_of_eq [SemLoc.reg barrier0] (by decide) (by decide)]; rfl

theorem sems_all (c : Dev nD) :
    iprop(Pipeline.ownSems0 osem c ∗ unscopedSems0 c) ⊢ (bigSep Finset.univ fun k : Ck => semVal (kcell (c, k)) 0 : sProp 𝕄) := by
  rw [unscopedSems0_eq, bigSep_univ_sum, bigSep_unit]
  exact BI.Entails.refl _

theorem alloc_all (c : Dev nD) :
    iprop((bigSep Finset.univ fun k : Ck => semVal (kcell (c, k)) 0) ∗ (bigSep Finset.univ fun k : Ck => roundState ER (Rd X) (kcell (c, k)) 0))
      ⊢ (|={Set.univ}=> bigSep Finset.univ fun k : Ck => iprop(∃ κ : ℕ, cellInv ER (Rd X) κ (kcell (c, k))) : sProp 𝕄) := by
  rw [← bigSep_sep']
  exact (bigSep_mono fun k _ => (Rounds.body_intro ER (Rd X) (kcell (c, k))).trans inv_alloc).trans (bigSep_fupd _ _)

theorem core_alloc (c : Dev nD) :
    iprop(Pipeline.ownSems0 osem c ∗ unscopedSems0 c ∗ G X c)
      ⊢ |={Set.univ}=> iprop((bigSep Finset.univ fun k : Ck => iprop(∃ κ : ℕ, cellInv ER (Rd X) κ (kcell (c, k))))
          ∗ (bigSep Finset.univ fun k : Ck => reached ER (kcell (c, k)) 0)
          ∗ (bigSep Finset.univ fun k : Ck => atPos ER (kcell (c, k)) 0 ∅ 0) ∗ (bigSep Finset.univ fun x : Tk => duty (tokG (c, x))) ∗ slotsOf c) := by
  unfold G
  iintro ⟨Hos, Hus, Hst, Hrest⟩
  ihave Hv := (sems_all (F := F) c) $$ [Hos Hus]
  · isplitl [Hos]; · iexact Hos
    iexact Hus
  imod (alloc_all X c) $$ [Hv Hst] with Hinv
  · isplitl [Hv]; · iexact Hv
    iexact Hst
  imodintro
  isplitl [Hinv]; · iexact Hinv
  iexact Hrest

theorem regroup :
    (bigSep Finset.univ fun c : Dev nD => iprop((bigSep Finset.univ fun k : Ck => iprop(∃ κ : ℕ, cellInv ER (Rd X) κ (kcell (c, k))))
          ∗ (bigSep Finset.univ fun k : Ck => reached ER (kcell (c, k)) 0)
          ∗ (bigSep Finset.univ fun k : Ck => atPos ER (kcell (c, k)) 0 ∅ 0) ∗ (bigSep Finset.univ fun x : Tk => duty (tokG (c, x))) ∗ slotsOf c) : sProp 𝕄)
      ⊢ |={Set.univ}=> bigSep Finset.univ (G' X) := by
  rw [bigSep_sep', bigSep_sep', bigSep_sep', bigSep_sep', ← over_cells (F := F) fun g => iprop(∃ κ : ℕ, cellInv ER (Rd X) κ g),
    ← over_cells (F := F) fun g => reached ER g 0]
  iintro ⟨HI, #HR, Hat, Htok, HS⟩
  ihave HK := (BI.bigSep_exists_pi cellsS (fun (g : GSem nD τ sig) (κ : ℕ) => (cellInv ER (Rd X) κ g : sProp 𝕄))) $$ HI
  icases HK with ⟨%K, #HI⟩
  ihave HS := (slots_out (F := F)) $$ HS
  imod (slots_init (Es := Set.univ) (ES (F := F)) (Finset.univ : Finset Key) 5 slotAny) $$ HS with ⟨%ks, -, #HSl, Hrd, Hwr⟩
  imodintro
  ihave HD := (deal (F := F)) $$ [Hat Htok Hrd Hwr]
  · isplitl [Hat]; · iexact Hat
    isplitl [Htok]; · iexact Htok
    isplitl [Hrd]; · iexact Hrd
    iexact Hwr
  have hone : ∀ c ∈ (Finset.univ : Finset (Dev nD)), iprop(iprop(AllCells X K ∗ AllSlots ks ∗ AllReached (F := F)) ∗ (ShareBar c ∗ bigSep Finset.univ fun q : Rg => Share q c)) ⊢ G' X c := fun c _ => by
    unfold G'
    iintro ⟨⟨H1, H2, H3⟩, H4⟩
    iexists K; iexists ks
    isplitl [H1]; · iexact H1
    isplitl [H2]; · iexact H2
    isplitl [H3]; · iexact H3
    iexact H4
  iapply (show iprop(iprop(AllCells X K ∗ AllSlots ks ∗ AllReached (F := F)) ∗ bigSep Finset.univ fun c : Dev nD => iprop(ShareBar (F := F) c ∗ bigSep Finset.univ fun q : Rg => Share q c)) ⊢ bigSep Finset.univ (G' X) from
    (sep_mono_left (BI.bigSep_of_persistent (Finset.univ : Finset (Dev nD)) _)).trans (by rw [← bigSep_sep']; exact bigSep_mono hone))
  isplitr
  · unfold AllCells AllSlots AllReached
    isplitr; · iexact HI
    isplitr; · iexact HSl
    iexact HR
  iexact HD

/-- The launch's step over all devices at once. -/
theorem glob : (bigSep Finset.univ fun c => iprop(Pipeline.ownSems0 osem c ∗ unscopedSems0 c ∗ G X c) : sProp 𝕄)
    ⊢ |={Set.univ}=> bigSep Finset.univ (G' X) := by
  refine ((bigSep_mono fun c _ => core_alloc X c).trans (bigSep_fupd _ _)).trans ?_
  refine (fupd_mono (regroup X)).trans ?_
  exact fupd_trans

/-! ## The credit -/

/-- What a device owes at first. -/
def O₀ (c : Dev nD) : CellTallies nD τ sig ℕ := owed c (σi (F := F)) + owedBar c

/-- One unit of tally from each device to another, all along one permutation. -/
theorem launch_one (e : Dev nD ≃ Dev nD) (sm : SemLoc sig) (ι n : ℕ) (c : Dev nD) :
    (Pipeline.launchCred (fun d => tallyAt (((e d : Dev nD) : Thread nD τ), sm) ι n) c : sProp 𝕄) ⊢ cred (tallyAt ((c : Thread nD τ), sm) ι n) := by
  refine (Pipeline.launchCred_elim _ c sm).trans (Entails.of_eq (congrArg cred ?_))
  unfold tallyAt
  refine congrArg _ (Finsupp.ext fun u => ?_)
  rw [Pipeline.launchCredit_owing]
  have h : ∀ d : Dev nD, (tallyAt (((e d : Dev nD) : Thread nD τ), sm) ι n : CellTallies nD τ sig ℕ) ((c : Thread nD τ), sm) u
      = if d = e.symm c then (if u = ι then n else 0) else 0 := fun d => by
    rw [tallyAt_apply]
    by_cases hd : d = e.symm c
    · subst hd
      rw [Equiv.apply_symm_apply, if_pos rfl]
      exact if_congr (and_iff_right rfl) rfl rfl
    · rw [if_neg hd, if_neg]
      rintro ⟨he, -⟩
      refine hd ?_
      have hc : c = e d := congrArg (fun g : GSem nD τ sig => g.1.1) he
      exact ((Equiv.symm_apply_eq e).mpr hc).symm
  refine (Finset.sum_congr rfl fun d _ => h d).trans ?_
  rw [Finset.sum_ite_eq' Finset.univ (e.symm c) fun _ => (if u = ι then n else 0), if_pos (Finset.mem_univ _),
    Finsupp.single_apply]
  exact if_congr eq_comm rfl rfl

theorem creds (c : Dev nD) :
    (Pipeline.launchCred (O₀ (F := F)) c : sProp 𝕄) ⊢ iprop(cred (tallyAt (barCell c) 1 2) ∗ bigSep Finset.univ fun q : Rg => iprop(toLand q c 0 ∗ toHave q c 0)) := by
  have h0 : (O₀ (F := F)) = fun d => (∑ q ∈ (Finset.univ : Finset Rg), ((∑ j ∈ Finset.Ico 0 15, dueS q d j) + ∑ i ∈ Finset.Ico 0 13, dueC q d i)) + (tallyAt (barCell (nxt d)) 1 1 + tallyAt (barCell (prv d)) 1 1) := by
    funext d
    unfold O₀ owed owedR owedBar
    refine congrArg (· + _) (Finset.sum_congr rfl fun q _ => ?_)
    have h : ((σi (F := F)).get q).s = 0 ∧ ((σi (F := F)).get q).g = 0 := by cases q <;> exact ⟨rfl, rfl⟩
    rw [h.1, h.2]
  rw [h0, Pipeline.launchCred_add (fun d => ∑ q ∈ (Finset.univ : Finset Rg), ((∑ j ∈ Finset.Ico 0 15, dueS q d j) + ∑ i ∈ Finset.Ico 0 13, dueC q d i)) (fun d => tallyAt (barCell (nxt d)) 1 1 + tallyAt (barCell (prv d)) 1 1) c,
    Pipeline.launchCred_add (fun d => tallyAt (barCell (nxt d)) 1 1) (fun d => tallyAt (barCell (prv d)) 1 1) c,
    Pipeline.launchCred_sum Finset.univ (fun (q : Rg) d => (∑ j ∈ Finset.Ico 0 15, dueS q d j) + ∑ i ∈ Finset.Ico 0 13, dueC q d i) c]
  have hq : ∀ q ∈ (Finset.univ : Finset Rg), (Pipeline.launchCred (fun d => (∑ j ∈ Finset.Ico 0 15, dueS q d j) + ∑ i ∈ Finset.Ico 0 13, dueC q d i) c : sProp 𝕄)
      ⊢ iprop(toLand q c 0 ∗ toHave q c 0) := fun q _ => by
    rw [Pipeline.launchCred_add (fun d => ∑ j ∈ Finset.Ico 0 15, dueS q d j) (fun d => ∑ i ∈ Finset.Ico 0 13, dueC q d i) c,
      Pipeline.launchCred_sum (Finset.Ico 0 15) (fun j d => dueS q d j) c, Pipeline.launchCred_sum (Finset.Ico 0 13) (fun i d => dueC q d i) c]
    unfold toLand toHave
    exact BIClass.sep_mono (bigSep_mono fun j _ => launch_one (along q) _ _ _ c) (bigSep_mono fun i _ => launch_one (along q).symm _ _ _ c)
  have hb : (iprop(Pipeline.launchCred (fun d => tallyAt (barCell (nxt d)) 1 1) c ∗ Pipeline.launchCred (fun d => tallyAt (barCell (prv d)) 1 1) c) : sProp 𝕄) ⊢ cred (tallyAt (barCell c) 1 2) := by
    refine (BIClass.sep_mono (launch_one ring (.reg barrier0) 1 1 c) (launch_one ring.symm (.reg barrier0) 1 1 c)).trans ?_
    refine ((cred_add _ _).2).trans (Entails.of_eq (congrArg cred ?_))
    exact tallyAt_add _ 1 1 1
  exact (BIClass.sep_mono (bigSep_mono hq) hb).trans BIClass.sep_symm

end Cert.MoE
-- ==== Proof.Go.lean ====
/-
The whole launch: every device's program run from any memory, to the end, with what each device's
result then is.
-/
module

public import proofs.«01_k».proof.Proof.Glob
public import Idealize.ShloMosaic.Lib.Pipeline.CollectiveSegs

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What the devices are given, and what they make -/

/-- What each device finds in its six windows' buffers: its blocks of the five arguments. -/
def II : In F where
  x c := (win0_0.blk (0 : Fin 1)).view.read (Elt F) (m ((c : Thread nD τ).loc main_arg0))
  w c := (win0_1.blk (0 : Fin 1)).view.read (Elt F) (m ((c : Thread nD τ).loc main_arg1))
  r c := (win0_2.blk (0 : Fin 1)).view.read (Elt F) (m ((c : Thread nD τ).loc main_arg2))
  e c := (win0_3.blk (0 : Fin 1)).view.read (Elt F) (m ((c : Thread nD τ).loc main_arg3))
  s c := (win0_4.blk (0 : Fin 1)).view.read (Elt F) (m ((c : Thread nD τ).loc main_arg4))

/-- A device's result, its two halves put together. -/
def outW (I : In F) (c : Dev nD) : Vec F S512x512 .f32 := fun i =>
  if h : (i 0).val < 256 then outCw I c (fun a => match a with | 0 => ⟨(i 0).val, h⟩ | 1 => i 1)
  else outCcw I c (fun a => match a with | 0 => ⟨(i 0).val - 256, by have : (i 0).val < 512 := (i 0).isLt; show _ < 256; omega⟩ | 1 => i 1)

theorem outW_of (I : In F) (c : Dev nD) {f : Vec F S512x512 .f32} (h : outIs I c f) : f = outW I c := by
  funext i
  unfold outW
  have hi : (i 0).val < 512 := (i 0).isLt
  split
  · next hlt =>
    rw [← h.1]
    refine congrArg f (funext fun a => Fin.ext ?_)
    fin_cases a
    · show (i 0).val = 0 + 1 * (i 0).val; omega
    · show (i 1).val = 0 + 1 * (i 1).val; omega
  · next hlt =>
    rw [← h.2]
    refine congrArg f (funext fun a => Fin.ext ?_)
    fin_cases a
    · show (i 0).val = 256 + 1 * ((i 0).val - 256); omega
    · show (i 1).val = 0 + 1 * (i 1).val; omega

/-! ## From the device's share to the start of its program -/

theorem reach (g : GSem nD τ sig) (hg : g ∈ cellsS) : AllReached ⊢ (reached ER g 0 : sProp 𝕄) := by unfold AllReached; exact bigSep_elim hg

theorem at_make (cell : Fin 3 → GSem nD τ sig) (h : ∀ e, cell e ∈ cellsS) :
    iprop(AllReached ∗ bigSep (Finset.univ : Finset (Fin 3)) fun e => atPos ER (cell e) 0 ∅ 0)
      ⊢ (bigSep (Finset.univ : Finset (Fin 3)) fun e => iprop(atPos ER (cell e) (cnt e.val 0) ∅ 0 ∗ reached ER (cell e) (cnt e.val 0)) : sProp 𝕄) := by
  refine (sep_mono_left (BI.bigSep_of_persistent (Finset.univ : Finset (Fin 3)) _)).trans ?_
  rw [← bigSep_sep']
  refine bigSep_mono fun e _ => ?_
  have hc : cnt e.val 0 = 0 := by have := e.isLt; unfold cnt; omega
  rw [hc]
  refine (show iprop(AllReached ∗ atPos ER (cell e) 0 ∅ 0) ⊢ iprop(atPos ER (cell e) 0 ∅ 0 ∗ reached ER (cell e) 0) from ?_)
  iintro ⟨H, Ha⟩
  isplitl [Ha]; · iexact Ha
  iapply (reach _ (h e)); iexact H

theorem stream_make (q : Rg) (c : Dev nD) :
    iprop(AllReached ∗ Share q c ∗ (toLand q c 0 ∗ toHave q c 0) ∗ (∃ f, ((c : Thread nD τ).loc (bufR q)) ↦{fullShare} f)) ⊢ (PreGh q c : sProp 𝕄) := by
  unfold Share PreGh atSend atRecv
  rw [bigSep_range3, bigSep_range3]
  iintro ⟨#HR, ⟨Hs, Has, Har, Hg, Hc, Hrd⟩, ⟨Hl, Hh⟩, Hb⟩
  ihave Hb := (split_any c q) $$ Hb
  ihave Has := (at_make (F := F) (fun e => sendCell q c e) fun e => mem_send q c e) $$ [Has]
  · isplitr; · iexact HR
    iexact Has
  ihave Har := (at_make (F := F) (fun e => recvCell q c e) fun e => mem_recv q c e) $$ [Har]
  · isplitr; · iexact HR
    iexact Har
  isplitl [Hs]; · iexact Hs
  isplitl [Hl]; · iexact Hl
  isplitl [Has]; · iexact Has
  isplitl [Har]; · iexact Har
  isplitl [Hg]; · iexact Hg
  isplitl [Hh]; · iexact Hh
  isplitl [Hc]; · iexact Hc
  isplitl [Hrd]; · iexact Hrd
  iexact Hb

/-- What a device's program starts from. -/
def start (c : Dev nD) : sProp 𝕄 :=
  iprop(G' (XX (II m)) c ∗ (cred (tallyAt (barCell c) 1 2) ∗ bigSep Finset.univ fun q : Rg => iprop(toLand q c 0 ∗ toHave q c 0)) ∗ Lev)

theorem start_open (c : Dev nD) (Y : sProp 𝕄) :
    iprop((start m c ∗ Pipeline.scopedRest spec0 c) ∗ (∃ W, owes (c : Thread nD τ) (O₀ (F := F) c) W) ∗ Y)
      ⊢ iprop(∃ K ks, Pre (XX (II m)) K ks c Y) := by
  have hm : iprop(AllReached ∗ (bigSep Finset.univ fun q : Rg => Share q c) ∗ (bigSep Finset.univ fun q : Rg => iprop(toLand q c 0 ∗ toHave q c 0))
      ∗ (bigSep Finset.univ fun q : Rg => iprop(∃ f, ((c : Thread nD τ).loc (bufR q)) ↦{fullShare} f))) ⊢ (bigSep Finset.univ fun q : Rg => PreGh q c : sProp 𝕄) := by
    refine (sep_mono_left (BI.bigSep_of_persistent (Finset.univ : Finset Rg) _)).trans ?_
    rw [← bigSep_sep', ← bigSep_sep', ← bigSep_sep']
    exact bigSep_mono fun q _ => stream_make q c
  unfold start G' Pre
  rw [scopedRest0_eq]
  iintro ⟨⟨⟨⟨%K, %ks, #HC, #HS, #HR, HB, HSh⟩, ⟨Hcb, Hcr⟩, #HL⟩, Hsc⟩, HO, HY⟩
  iexists K; iexists ks
  unfold ShareBar
  icases HB with ⟨Hb1, Hb2, Hb3⟩
  isplitr
  · iapply (Inv_make (XX (II m)) K ks)
    isplitr; · iexact HC
    isplitr; · iexact HS
    isplitr; · iexact HR
    iexact HL
  isplitl [HO]
  · unfold O₀; iexact HO
  isplitl [Hcb Hb1 Hb2 Hb3]
  · isplitl [Hb1]; · iexact Hb1
    isplitl [Hcb]; · iexact Hcb
    isplitl [Hb2]; · iexact Hb2
    iexact Hb3
  isplitr [HY]
  · iapply hm
    isplitr; · iexact HR
    isplitl [HSh]; · iexact HSh
    isplitl [Hcr]; · iexact Hcr
    iapply (Entails.of_eq (bigSep_Rg fun q => (iprop(∃ f, ((c : Thread nD τ).loc (bufR q)) ↦{fullShare} f) : sProp 𝕄)).symm)
    iexact Hsc
  · iexact HY

/-! ## The pipeline's data -/

def s₀ : MemSt nD τ sig (Elt F) := ⟨m, fun _ => 0, ρ⟩

def Φ₁ (c : Dev nD) : sProp 𝕄 := iprop(semVal (barCell c) 0 ∗ Pipeline.ownSems0 osem c ∗ Pipeline.scopedRest spec0 c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (II m).x c
    | ⟨1, _⟩ => (II m).w c
    | ⟨2, _⟩ => (II m).r c
    | ⟨3, _⟩ => (II m).e c
    | ⟨4, _⟩ => (II m).s c
    | ⟨5, _⟩ => outW (II m) c
  Φ t := match t with
    | ⟨0, _⟩ => iprop(start m c ∗ Pipeline.scopedRest spec0 c)
    | ⟨_ + 1, _⟩ => Φ₁ c
  q _ := fullShare
  owed t := match t with
    | ⟨0, _⟩ => O₀ (F := F) c
    | ⟨_ + 1, _⟩ => 0

def t₀ : Fin cfg0.N := t0_0
theorem fin_N (t : Fin cfg0.N) : t = t₀ := fin_N0 t

theorem fetched (w : Fin 6) (hw : w ≠ 5) (t : Fin cfg0.N) : (cfg0.win w).fetch t = true := by
  rw [fin_N t]; fin_cases w <;> first | rfl | exact absurd rfl hw

theorem owns_whole (c : Dev nD) (b : Ref sig .tc) (f : b.ty.Contents (Elt F)) :
    (owns (Ix := ℕ) (Name := ℕ) (U := UU) (Lvl := ℕ) (c : Thread nD τ) (Memref.whole b) fullShare f : sProp 𝕄) = stg c b f := by
  have h : (owns (Ix := ℕ) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
    unfold owns; simp only [Memref.view_whole, View.read_whole, View.set_whole]
  rw [h]
  unfold stg
  have h1 : iprop(∃ g : Buf (Elt F) ((c : Thread nD τ).loc b), ⌜g = f⌝ ∗ (((c : Thread nD τ).loc b) ↦{fullShare} g)) ⊢ (((c : Thread nD τ).loc b) ↦{fullShare} f : sProp 𝕄) := by
    iintro ⟨%g, %hg, H⟩
    rw [← hg]; iexact H
  have h2 : (((c : Thread nD τ).loc b) ↦{fullShare} f : sProp 𝕄) ⊢ iprop(∃ g : Buf (Elt F) ((c : Thread nD τ).loc b), ⌜g = f⌝ ∗ (((c : Thread nD τ).loc b) ↦{fullShare} g)) := by
    iintro H
    iexists f
    isplitr; · (ipureintro; rfl)
    iexact H
  exact BI.equiv_iff.mp ⟨h1, h2⟩

set_option maxRecDepth 4000 in
def bodyPre (c : Dev nD) : sProp 𝕄 :=
  iprop((start m c ∗ Pipeline.scopedRest spec0 c) ∗ (dats m ρ 0 c).owesAt 0 t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
set_option maxRecDepth 4000 in
def bodyPost (c : Dev nD) : sProp 𝕄 :=
  iprop(Φ₁ c ∗ (dats m ρ 0 c).owesAt 0 t₀.succ
    ∗ stg c cc0_stg0_0 ((II m).x c) ∗ stg c cc0_stg1_0 ((II m).w c) ∗ stg c cc0_stg2_0 ((II m).r c) ∗ stg c cc0_stg3_0 ((II m).e c)
    ∗ stg c cc0_stg4_0 ((II m).s c) ∗ stg c cc0_stg5_0 (outW (II m) c))

set_option maxRecDepth 4000 in
theorem body_end (c : Dev nD) (K : GSem nD τ sig → ℕ) (ks : Key → ℕ) :
    St (XX (II m)) K ks c (σf (II m) c) (Beside (II m) c (outIs (II m) c) (iprop(atPos ER (barCell c) 1 ∅ 0 ∗ emp)))
      ⊢ iprop(|={Set.univ}=> bodyPost m ρ c) := by
  refine (St_beside (XX (II m)) K ks c (Y' := iprop(atPos ER (barCell c) 1 ∅ 0 ∗ Beside (II m) c (outIs (II m) c) iprop(emp))) ?_).trans ?_
  · unfold Beside
    iintro ⟨H0, H1, H2, H3, H4, H5, Hb, HZ⟩
    isplitl [Hb]; · iexact Hb
    isplitl [H0]; · iexact H0
    isplitl [H1]; · iexact H1
    isplitl [H2]; · iexact H2
    isplitl [H3]; · iexact H3
    isplitl [H4]; · iexact H4
    isplitl [H5]; · iexact H5
    iexact HZ
  · refine (close_all (II m) K ks c (Beside (II m) c (outIs (II m) c) iprop(emp))).trans ?_
    refine fupd_mono ?_
    unfold Beside bodyPost Φ₁ Dat.owesAt Pipeline.owesWithin
    rw [show (dats m ρ 0 c).owed t₀.succ = 0 from rfl]
    iintro ⟨⟨%W, HO⟩, Hb, Hs, Hsc, H0, H1, H2, H3, H4, ⟨%f, %hf, H5⟩, -⟩
    rw [← outW_of (II m) c hf]
    isplitl [Hb Hs Hsc]
    · isplitl [Hb]; · iexact Hb
      isplitl [Hs]; · iexact Hs
      iexact Hsc
    isplitl [HO]
    · iexists W
      isplitr; · (ipureintro; exact fun _ _ => Or.inl trivial)
      iexact HO
    isplitl [H0]; · iexact H0
    isplitl [H1]; · iexact H1
    isplitl [H2]; · iexact H2
    isplitl [H3]; · iexact H3
    isplitl [H4]; · iexact H4
    iexact H5

/-- The device's program, from its share and its windows' buffers. -/
theorem body_core (c : Dev nD) (f : Vec F S512x512 .f32) :
    iprop((start m c ∗ Pipeline.scopedRest spec0 c) ∗ (∃ W, owes (c : Thread nD τ) (O₀ (F := F) c) W)
      ∗ stg c cc0_stg0_0 ((II m).x c) ∗ stg c cc0_stg1_0 ((II m).w c) ∗ stg c cc0_stg2_0 ((II m).r c) ∗ stg c cc0_stg3_0 ((II m).e c)
      ∗ stg c cc0_stg4_0 ((II m).s c) ∗ stg c cc0_stg5_0 f)
    ⊢ WP c (cc0_body m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15) (fun _ => bodyPost m ρ c) := by
  refine BIBase.Entails.trans ?_ ((start_open m c (Beside (II m) c (fun _ => True) iprop(emp))).trans (exists_elim fun K => exists_elim fun ks =>
    body_run (II m) K ks c (Q := fun _ => bodyPost m ρ c) (body_end m ρ c K ks)))
  unfold Beside
  iintro ⟨HS, HO, H0, H1, H2, H3, H4, H5⟩
  isplitl [HS]; · iexact HS
  isplitl [HO]; · iexact HO
  isplitl [H0]; · iexact H0
  isplitl [H1]; · iexact H1
  isplitl [H2]; · iexact H2
  isplitl [H3]; · iexact H3
  isplitl [H4]; · iexact H4
  isplitl [H5]
  · iexists f
    isplitr; · (ipureintro; trivial)
    iexact H5
  iempintro

theorem owes_some (c : Dev nD) : (dats m ρ 0 c).owesAt 0 t₀.castSucc ⊢ (iprop(∃ W, owes (c : Thread nD τ) (O₀ (F := F) c) W) : sProp 𝕄) := by
  unfold Dat.owesAt Pipeline.owesWithin
  iintro ⟨%W, %hW, H⟩
  iexists W; iexact H

theorem before0 (c : Dev nD) (d : (cfg0.win (0 : Fin 6)).block.Idx → Elt F (cfg0.win (0 : Fin 6)).elt) : (dats m ρ 0 c).before (0 : Fin 6) t₀ d = (II m).x c := by
  unfold Dat.before; rw [if_pos (fetched 0 (by decide) t₀)]; rfl
theorem stage0 (c : Dev nD) : iprop(∃ d, stg c cc0_stg0_0 ((dats m ρ 0 c).before (0 : Fin 6) t₀ d)) ⊢ (stg c cc0_stg0_0 ((II m).x c) : sProp 𝕄) :=
  exists_elim fun d => Entails.of_eq (congrArg (stg c cc0_stg0_0) (before0 m ρ c d))
theorem before1 (c : Dev nD) (d : (cfg0.win (1 : Fin 6)).block.Idx → Elt F (cfg0.win (1 : Fin 6)).elt) : (dats m ρ 0 c).before (1 : Fin 6) t₀ d = (II m).w c := by
  unfold Dat.before; rw [if_pos (fetched 1 (by decide) t₀)]; rfl
theorem stage1 (c : Dev nD) : iprop(∃ d, stg c cc0_stg1_0 ((dats m ρ 0 c).before (1 : Fin 6) t₀ d)) ⊢ (stg c cc0_stg1_0 ((II m).w c) : sProp 𝕄) :=
  exists_elim fun d => Entails.of_eq (congrArg (stg c cc0_stg1_0) (before1 m ρ c d))
theorem before2 (c : Dev nD) (d : (cfg0.win (2 : Fin 6)).block.Idx → Elt F (cfg0.win (2 : Fin 6)).elt) : (dats m ρ 0 c).before (2 : Fin 6) t₀ d = (II m).r c := by
  unfold Dat.before; rw [if_pos (fetched 2 (by decide) t₀)]; rfl
theorem stage2 (c : Dev nD) : iprop(∃ d, stg c cc0_stg2_0 ((dats m ρ 0 c).before (2 : Fin 6) t₀ d)) ⊢ (stg c cc0_stg2_0 ((II m).r c) : sProp 𝕄) :=
  exists_elim fun d => Entails.of_eq (congrArg (stg c cc0_stg2_0) (before2 m ρ c d))
theorem before3 (c : Dev nD) (d : (cfg0.win (3 : Fin 6)).block.Idx → Elt F (cfg0.win (3 : Fin 6)).elt) : (dats m ρ 0 c).before (3 : Fin 6) t₀ d = (II m).e c := by
  unfold Dat.before; rw [if_pos (fetched 3 (by decide) t₀)]; rfl
theorem stage3 (c : Dev nD) : iprop(∃ d, stg c cc0_stg3_0 ((dats m ρ 0 c).before (3 : Fin 6) t₀ d)) ⊢ (stg c cc0_stg3_0 ((II m).e c) : sProp 𝕄) :=
  exists_elim fun d => Entails.of_eq (congrArg (stg c cc0_stg3_0) (before3 m ρ c d))
theorem before4 (c : Dev nD) (d : (cfg0.win (4 : Fin 6)).block.Idx → Elt F (cfg0.win (4 : Fin 6)).elt) : (dats m ρ 0 c).before (4 : Fin 6) t₀ d = (II m).s c := by
  unfold Dat.before; rw [if_pos (fetched 4 (by decide) t₀)]; rfl
theorem stage4 (c : Dev nD) : iprop(∃ d, stg c cc0_stg4_0 ((dats m ρ 0 c).before (4 : Fin 6) t₀ d)) ⊢ (stg c cc0_stg4_0 ((II m).s c) : sProp 𝕄) :=
  exists_elim fun d => Entails.of_eq (congrArg (stg c cc0_stg4_0) (before4 m ρ c d))

theorem body_all (c : Dev nD) : bodyPre m ρ c ⊢ WP c (cc0_body m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15) (fun _ => bodyPost m ρ c) := by
  unfold bodyPre
  iintro ⟨HS, HO, H0, H1, H2, H3, H4, ⟨%d5, H5⟩⟩
  ihave HO := (owes_some m ρ c) $$ HO
  ihave H0 := (stage0 m ρ c) $$ H0
  ihave H1 := (stage1 m ρ c) $$ H1
  ihave H2 := (stage2 m ρ c) $$ H2
  ihave H3 := (stage3 m ρ c) $$ H3
  ihave H4 := (stage4 m ρ c) $$ H4
  iapply (body_core m ρ c ((dats m ρ 0 c).before (5 : Fin 6) t₀ d5))
  isplitl [HS]; · iexact HS
  isplitl [HO]; · iexact HO
  isplitl [H0]; · iexact H0
  isplitl [H1]; · iexact H1
  isplitl [H2]; · iexact H2
  isplitl [H3]; · iexact H3
  isplitl [H4]; · iexact H4
  iexact H5

set_option maxRecDepth 16384 in
/-- The program the launch runs at the one grid point. -/
theorem body_prog : (defs₀ (F := F) Proc.tc 0 (t₀, cfg0.slots t₀)) = cc0_body m0 h0 m1 h1 m2 h2 m3 h3 m4 h4 m5 h5 m6 h6 m7 h7 m8 h8 m9 h9 cc0_scratch4 cc0_scratch5 cc0_scratch6 cc0_scratch7 cc0_scratch8 cc0_scratch9 cc0_scratch10 cc0_scratch11 cc0_scratch12 cc0_scratch13 cc0_scratch14 cc0_scratch15 := by
  rw [show t₀ = (0 : Fin 1) from rfl]
  unfold defs₀
  rfl

set_option maxRecDepth 100000 in
/-- The library's body obligation on core `c`. -/
theorem body_obligation (c : Dev nD) : BodyObligation (dats (F := F) m ρ 0 c) (defs₀ (F := F)) 𝒱₀ 0 Set.univ := fun t => by
  rw [fin_N t]
  rw [bigSep_W0, bigSep_W0]
  simp only [owns_whole]
  rw [body_prog]
  exact body_all m ρ c

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem O₀_pos (c : Dev nD) {g : GSem nD τ sig} {ι : ℕ} (h : 0 < O₀ (F := F) c g ι) : ι ∈ L g ∧ 0 < ι := by
  unfold O₀ at h
  rw [Pi.add_apply, Finsupp.add_apply] at h
  rcases Nat.lt_or_ge 0 (owed c (σi (F := F)) g ι) with h' | h'
  · obtain ⟨q, ⟨j, h1, h2, rfl, rfl⟩ | ⟨i, h1, h2, rfl, rfl⟩⟩ := owed_pos h'
    · exact ⟨mem_L _ _ (by have := k0_le q; unfold lvS; omega), by unfold lvS; omega⟩
    · exact ⟨mem_L _ _ (by have := k0_le q; unfold lvC; omega), by unfold lvC; omega⟩
  · have h2 : 0 < owedBar c g ι := by omega
    unfold owedBar at h2
    rw [Pi.add_apply, Finsupp.add_apply, tallyAt_apply, tallyAt_apply] at h2
    by_cases ha : g = barCell (nxt c) ∧ ι = 1
    · rw [ha.1, ha.2]; exact ⟨mem_L _ _ (by decide), by decide⟩
    · by_cases hb : g = barCell (prv c) ∧ ι = 1
      · rw [hb.1, hb.2]; exact ⟨mem_L _ _ (by decide), by decide⟩
      · rw [if_neg ha, if_neg hb] at h2; exact absurd h2 (by decide)

theorem mayWait_stage (c : Dev nD) (sm : SemLoc sig) (O : CellTallies nD τ sig ℕ) (h : O = O₀ (F := F) c ∨ O = 0) :
    (levAts L lv : sProp 𝕄) ⊢ MayWait (c : Thread nD τ) sm 0 O := by
  have hO : ∀ g ι, 0 < O g ι → ι ∈ L g ∧ 0 < ι := fun g ι hp => by
    rcases h with rfl | rfl
    · exact O₀_pos c hp
    · exact absurd hp (by rw [Pi.zero_apply, Finsupp.zero_apply]; decide)
  exact MayOwe.of_cut (L := L) (lev := lv) 0 (fun p hp => by rw [Finset.mem_singleton.mp hp]; exact mem_L c sm (by show 0 < 64; decide))
    (fun g ι hg => (hO g ι hg).1)
    (fun p hp => by rw [Finset.mem_singleton.mp hp]; exact le_refl _)
    (fun g ι hg => (hO g ι hg).2)

theorem start_intro (c : Dev nD) :
    iprop(Pipeline.unscopedRestP Pipeline.Prefetch.none cfg0.spec c (fun b => m ((c : Thread nD τ).loc b)) ∗ levAts L lv
        ∗ Pipeline.launchCred (O₀ (F := F)) c ∗ prngReg c (ρ c) ∗ G' (XX (II m)) c)
      ⊢ |={Set.univ}=> iprop(start m c ∗ emp) := by
  iintro ⟨-, HL, Hc, -, HG⟩
  ihave Hc := (creds (F := F) c) $$ Hc
  imodintro
  unfold start Lev
  isplitl
  · isplitl [HG]; · iexact HG
    isplitl [Hc]; · iexact Hc
    iexact HL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ Pipeline.scopedRest spec0 c) from rfl]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  exact BI.Entails.refl _

theorem waits (c : Dev nD) : (levAts L lv : sProp 𝕄) ⊢ Pipeline.cellsWaits cfgs (dats m ρ) 0 0 c :=
  Pipeline.cellsWaits_intro cfgs (dats m ρ) 0 0 c fun w s t => mayWait_stage c _ _ (by
    rcases t with ⟨_ | _, ht⟩
    · exact Or.inl rfl
    · exact Or.inr rfl)

/-! ## The run -/

def u₀ : UU := (initOf (Pipeline.cells cfgs cellOf_inj) (Pipeline.launchToks cfgs cellOf_inj), (initOf cellsS toksT, initSlots Finset.univ 5))

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with its counters at zero, for any floats: every weakly fair execution of the sixteen devices' programs
    ends, with every device's result at the contents computed, its arguments as they were, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀ (F := F)) (howed₀ := fun _ => rfl) (howedN := fun _ => rfl)
    (L := L) (lv := lv) (hL := L_of_ne) (hwaits := waits m ρ)
    (G := G (XX (II m))) (G' := G' (XX (II m))) (u₀ := u₀)
    (hu₀ := by
      unfold u₀
      iintro Hu
      ihave H := (ownU_pair _ _) $$ Hu
      icases H with ⟨HP, HX⟩
      imod (fund_all (XX (II m))) $$ HX with HG
      imodintro
      isplitl [HP] <;> iassumption)
    (hglob := glob (XX (II m)))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The five arguments are left as they were. -/
theorem final_in (c : Dev nD) (w : Fin 6) (hw : (cfg0.win w).isOut = false) : finalA m ρ c w = m ((cfg0.win w).arr.view.loc (c : Thread nD τ)) :=
  (dats (F := F) m ρ 0 c).arrAt_in w hw _

end Cert.MoE
-- ==== Proof.Softmax.lean ====
/-
The arithmetic of the layer over the extended reals, apart from any program: a token's router
probabilities, and what a token gets from the experts. A probability of finite scores is a
nonnegative number, not infinite, so it may be taken out of a sum of products.
-/
module

public import Idealize.ShloMosaic.Lib.Pointwise

@[expose] public section

noncomputable section

namespace Cert.MoE

open Idealize.ShloMosaic

/-- A token's score for an expert, its greatest score, and its weights before they are divided by their sum. -/
def score (x : Fin 256 → EReal) (w : Fin 256 → Fin 64 → EReal) (e : Fin 64) : EReal := ∑ k, x k * w k e
def top (x : Fin 256 → EReal) (w : Fin 256 → Fin 64 → EReal) : EReal :=
  Finset.univ.fold max (Ideal.ofBits .f32 0xFF800000#32) (fun e => score x w e)
def wgt (x : Fin 256 → EReal) (w : Fin 256 → Fin 64 → EReal) (e : Fin 64) : EReal := Ideal.exp (score x w e - top x w)
/-- The router's probability of an expert. -/
def prob (x : Fin 256 → EReal) (w : Fin 256 → Fin 64 → EReal) (e : Fin 64) : EReal :=
  Ideal.div (wgt x w e) (∑ e', wgt x w e')

/-- What a token `x` of expert `e` gets: the shared expert's value, and its own expert's times its probability. -/
def token (x : Fin 256 → EReal) (w : Fin 256 → Fin 64 → EReal) (e : Fin 64) (W : Fin 256 → Fin 512 → EReal)
    (S : Fin 256 → Fin 512 → EReal) (l : Fin 512) : EReal :=
  (∑ k, x k * S k l) + prob x w e * ∑ k, x k * W k l

/-- A finite extended real: a real number. -/
def Fin' (a : EReal) : Prop := ∃ r : ℝ, a = (r : EReal)

theorem fin'_of {a : EReal} (h1 : a ≠ ⊤) (h2 : a ≠ ⊥) : Fin' a := ⟨a.toReal, (EReal.coe_toReal h1 h2).symm⟩
theorem Fin'.ne_top {a : EReal} (h : Fin' a) : a ≠ ⊤ := by obtain ⟨r, rfl⟩ := h; exact EReal.coe_ne_top r
theorem Fin'.ne_bot {a : EReal} (h : Fin' a) : a ≠ ⊥ := by obtain ⟨r, rfl⟩ := h; exact EReal.coe_ne_bot r
theorem Fin'.mul {a b : EReal} (ha : Fin' a) (hb : Fin' b) : Fin' (a * b) := by
  obtain ⟨r, rfl⟩ := ha; obtain ⟨s, rfl⟩ := hb; exact ⟨r * s, (EReal.coe_mul r s).symm⟩
theorem Fin'.add {a b : EReal} (ha : Fin' a) (hb : Fin' b) : Fin' (a + b) := by
  obtain ⟨r, rfl⟩ := ha; obtain ⟨s, rfl⟩ := hb; exact ⟨r + s, (EReal.coe_add r s).symm⟩
theorem Fin'.sub {a b : EReal} (ha : Fin' a) (hb : Fin' b) : Fin' (a - b) := by
  obtain ⟨r, rfl⟩ := ha; obtain ⟨s, rfl⟩ := hb; exact ⟨r - s, (EReal.coe_sub r s).symm⟩
theorem Fin'.sum {ι : Type} (s : Finset ι) {f : ι → EReal} (h : ∀ i, Fin' (f i)) : Fin' (∑ i ∈ s, f i) := by
  classical
  induction s using Finset.induction_on with
  | empty => exact ⟨0, by simp⟩
  | insert i s hi ih => rw [Finset.sum_insert hi]; exact (h i).add ih

theorem coe_sum' {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

variable {x : Fin 256 → EReal} {w : Fin 256 → Fin 64 → EReal}

theorem neg_inf : Ideal.ofBits .f32 0xFF800000#32 = ⊥ := by
  simp [Ideal.ofBits, Ideal.ieee]

theorem fin_score (hx : ∀ k, Fin' (x k)) (hw : ∀ k e, Fin' (w k e)) (e : Fin 64) : Fin' (score x w e) :=
  Fin'.sum _ fun k => (hx k).mul (hw k e)

theorem fin_top (hx : ∀ k, Fin' (x k)) (hw : ∀ k e, Fin' (w k e)) : Fin' (top x w) := by
  unfold top
  rw [neg_inf]
  refine fin'_of (ne_of_lt ?_) (ne_of_gt ?_)
  · rw [Finset.fold_max_lt]
    exact ⟨bot_lt_top, fun e _ => lt_top_iff_ne_top.2 (fin_score hx hw e).ne_top⟩
  · rw [Finset.lt_fold_max]
    exact Or.inr ⟨0, Finset.mem_univ _, bot_lt_iff_ne_bot.2 (fin_score hx hw 0).ne_bot⟩

theorem wgt_pos (hx : ∀ k, Fin' (x k)) (hw : ∀ k e, Fin' (w k e)) (e : Fin 64) : ∃ r : ℝ, 0 < r ∧ wgt x w e = (r : EReal) := by
  obtain ⟨r, hr⟩ := (fin_score hx hw e).sub (fin_top hx hw)
  exact ⟨Real.exp r, Real.exp_pos r, by unfold wgt; rw [hr, Ideal.exp_coe]⟩

/-- Of finite scores, a probability is a nonnegative number and not infinite. -/
theorem prob_fin (hx : ∀ k, Fin' (x k)) (hw : ∀ k e, Fin' (w k e)) (e : Fin 64) : 0 ≤ prob x w e ∧ prob x w e ≠ ⊤ := by
  choose r hr0 hr using wgt_pos hx hw
  have hs : (∑ e', wgt x w e') = ((∑ e', r e' : ℝ) : EReal) := by
    rw [coe_sum']; exact Finset.sum_congr rfl fun e' _ => hr e'
  have hpos : 0 < ∑ e', r e' := Finset.sum_pos (fun e' _ => hr0 e') Finset.univ_nonempty
  have hne : ((∑ e', r e' : ℝ) : EReal) ≠ 0 := by exact_mod_cast hpos.ne'
  have h : prob x w e = ((r e * (∑ e', r e')⁻¹ : ℝ) : EReal) := by
    unfold prob
    rw [hs, hr e, Ideal.div, if_neg hne, EReal.coe_mul, EReal.coe_inv]
  rw [h]
  exact ⟨by exact_mod_cast (mul_pos (hr0 e) (inv_pos.2 hpos)).le, EReal.coe_ne_top _⟩

/-- A nonnegative number that is not infinite comes out of a sum of products. -/
theorem sum_scaled {n : ℕ} (f g : Fin n → EReal) (p : EReal) (h0 : 0 ≤ p) (h1 : p ≠ ⊤) :
    (∑ k, f k * p * g k) = p * ∑ k, f k * g k := by
  have key : ∀ s : Finset (Fin n), (∑ k ∈ s, f k * p * g k) = p * ∑ k ∈ s, f k * g k := fun s => by
    induction s using Finset.induction_on with
    | empty => simp
    | insert i s hi ih =>
      rw [Finset.sum_insert hi, Finset.sum_insert hi, ih, EReal.left_distrib_of_nonneg_of_ne_top h0 h1]
      congr 1
      rw [mul_comm (f i) p, mul_assoc]
  exact key _

/-- A choice among the experts by comparing numbers: all terms but one are zero. -/
theorem sum_pick (e : Fin 64) (f : Fin 64 → EReal) : (∑ j, if j = e then f j else 0) = f e := by
  rw [Finset.sum_ite_eq' Finset.univ e f, if_pos (Finset.mem_univ _)]

end Cert.MoE
-- ==== Proof.Values.lean ====
/-
What the kernel's payloads are over the extended reals, element by element.
-/
module

public import proofs.«01_k».proof.Proof.Contents
public import proofs.«01_k».proof.Proof.Softmax
public import Idealize.ShloMosaic.Lib.Pointwise

@[expose] public section

noncomputable section

namespace Cert.MoE

open Cert.KernelIdeal Cert.KernelIdeal.Gen
open Idealize.ShloMosaic Idealize.ShloMosaic.TcCoe

/-! ## The numbers that experts are compared by -/

/-- An expert's number as an extended real. -/
def num (n : ℕ) : EReal := ((n : ℝ) : EReal)

theorem num_inj {a b : ℕ} : num a = num b ↔ a = b := by
  unfold num; rw [EReal.coe_eq_coe_iff, Nat.cast_inj]
theorem num_add (a b : ℕ) : num a + num b = num (a + b) := by
  unfold num; rw [← EReal.coe_add, Nat.cast_add]

theorem lit_two : Ideal.ofBits .f32 0x40000000#32 = num 2 := by
  unfold num; simp [Ideal.ofBits, Ideal.ieee]
  rw [← EReal.coe_mul]; norm_num
theorem lit_three : Ideal.ofBits .f32 0x40400000#32 = num 3 := by
  unfold num; simp [Ideal.ofBits, Ideal.ieee]
  rw [← EReal.coe_mul]; norm_num

theorem toInt_ofNat (e : Fin 64) : (BitVec.ofNat 32 e.val).toInt = (e.val : ℤ) := by revert e; decide

/-- An expert's number converted to a float is the number. -/
theorem sitofp_expert (φ : FTy) (e : Fin 64) : (FloatOps.sitofp φ (BitVec.ofNat 32 e.val) : Ideal φ) = num e.val := by
  show (((BitVec.ofNat 32 e.val).toInt : ℝ) : EReal) = _
  rw [toInt_ofNat]; unfold num; norm_cast

/-- The first of a device's four experts, as the kernel computes it. -/
theorem base_apply (d : Dev nD) : k0_pay12 (F := Ideal) (pos d) = num (4 * d.val) := by
  have h : (Scalar.muli (pos d) 4#32).toInt = ((4 * d.val : ℕ) : ℤ) := by revert d; decide
  show (((Scalar.muli (pos d) 4#32).toInt : ℝ) : EReal) = _
  rw [h]; unfold num; norm_cast

/-- A comparison's bit converted to a float: one or zero. -/
theorem sitofp_bit (p : Prop) [Decidable p] :
    (FloatOps.sitofp .f32 (BitVec.setWidth 32 (BitVec.ofBool (decide p))) : Ideal .f32) = if p then 1 else 0 := by
  by_cases h : p
  · rw [if_pos h, decide_eq_true h]
    show ((((BitVec.setWidth 32 (BitVec.ofBool true)).toInt : ℤ) : ℝ) : EReal) = 1
    rw [show (BitVec.setWidth 32 (BitVec.ofBool true)).toInt = 1 from by decide]; norm_num
  · rw [if_neg h, decide_eq_false h]
    show ((((BitVec.setWidth 32 (BitVec.ofBool false)).toInt : ℤ) : ℝ) : EReal) = 0
    rw [show (BitVec.setWidth 32 (BitVec.ofBool false)).toInt = 0 from by decide]; norm_num

/-! ## The router -/

/-- A masked sum of a row's probabilities is the probability of the row's expert. -/
theorem pick_expert (f : Fin 64 → EReal) (e : Fin 64) :
    (∑ j : Fin 64, Scalar.select (IntOp.cmpi CmpIPredicate.eq (BitVec.ofNat 32 j.val) (BitVec.ofNat 32 e.val)) (f j) (0 : EReal)) = f e := by
  rw [← sum_pick e f]
  refine Finset.sum_congr rfl fun j _ => ?_
  have h : IntOp.cmpi CmpIPredicate.eq (BitVec.ofNat 32 j.val) (BitVec.ofNat 32 e.val) = BitVec.ofBool (decide (j = e)) := by
    revert j e; decide
  rw [h]
  by_cases hj : j = e
  · rw [if_pos hj, decide_eq_true hj]; rfl
  · rw [if_neg hj, decide_eq_false hj]; rfl

/-- A token's row, scaled by its probability of its expert. -/
theorem scaled_apply (x : Vec Ideal S512x256 .f32) (w : Vec Ideal S256x64 .f32) (t : Vec Ideal S512x1 .i32) (r : Fin 512) (l : Fin 256)
    (e : Fin 64) (h : t (ix2 r 0) = BitVec.ofNat 32 e.val) :
    k0_pay5 (k0_pay1 x) (k0_pay2 x w) (k0_pay4 (F := Ideal) t) (ix2 r l)
      = x (ix2 r l) * prob (fun k => x (ix2 r k)) (fun k e => w (ix2 k e)) e := by
  rw [← pick_expert (fun e => prob (fun k => x (ix2 r k)) (fun k e => w (ix2 k e)) e) e]
  pointwise [k0_pay5, k0_pay1, k0_pay2, k0_pay4, k0_pay3, prob, wgt, top, score]
  rw [h]

/-- A token's expert, as a float. -/
theorem expert_apply (t : Vec Ideal S512x1 .i32) (r : Fin 512) (l : Fin 128) (e : Fin 64) (h : t (ix2 r 0) = BitVec.ofNat 32 e.val) :
    k0_pay6 (F := Ideal) (k0_pay3 (F := Ideal) t) (ix2 r l) = num e.val := by
  rw [← sitofp_expert .bf16 e, ← h]
  pointwise [k0_pay6, k0_pay3]

/-! ## The packets -/

/-- Which of a device's rows row `r` of a packet is. -/
def rowOf (q : Rg) (r : Fin 256) : Fin 512 :=
  match q with
  | .acw | .bcw => ⟨r.val, by omega⟩
  | .accw | .bccw => ⟨256 + r.val, by omega⟩

variable (I : In Ideal)

theorem px_apply (q : Rg) (d : Dev nD) (r l : Fin 256) (e : Fin 64) (h : I.r d (ix2 (rowOf q r) 0) = BitVec.ofNat 32 e.val) :
    px I q d (ix3 0 r l)
      = I.x d (ix2 (rowOf q r) l) * prob (fun k => I.x d (ix2 (rowOf q r) k)) (fun k e => I.w d (ix2 k e)) e := by
  rw [← scaled_apply _ _ _ _ l e h]
  cases q
  · show k0_pay7 _ _ _ _ = _; pointwise [k0_pay7, rowOf]
  · show k0_pay7 _ _ _ _ = _; pointwise [k0_pay7, rowOf]
  · show k0_pay9 _ _ _ _ = _; pointwise [k0_pay9, rowOf]
  · show k0_pay9 _ _ _ _ = _; pointwise [k0_pay9, rowOf]

theorem embC_zero (r : Fin 256) : embC (ix3 0 r 0) = ix3 0 r 0 := by
  funext a; refine Fin.ext ?_
  unfold embC
  rw [Rect.emb_apply]
  match a with
  | ⟨0, _⟩ => rfl
  | ⟨1, _⟩ => show 0 + 1 * r.val = r.val; omega
  | ⟨2, _⟩ => rfl

theorem pr_apply (q : Rg) (d : Dev nD) (r : Fin 256) (e : Fin 64) (h : I.r d (ix2 (rowOf q r) 0) = BitVec.ofNat 32 e.val) :
    pr I q d (ix3 0 r 0) = num e.val := by
  unfold pr
  rw [embC_zero, ← expert_apply _ _ 0 e h]
  cases q
  · show k0_pay8 _ _ = _; pointwise [k0_pay8, rowOf]
  · show k0_pay8 _ _ = _; pointwise [k0_pay8, rowOf]
  · show k0_pay10 _ _ = _; pointwise [k0_pay10, rowOf]
  · show k0_pay10 _ _ = _; pointwise [k0_pay10, rowOf]

/-! ## A device's contribution -/

/-- A product with a mask of one or zero. -/
theorem masked (p : Prop) [Decidable p] (f g : Fin 256 → EReal) :
    (∑ k, f k * (if p then 1 else 0) * g k) = if p then ∑ k, f k * g k else 0 := by
  by_cases h : p
  · simp only [if_pos h, mul_one]
  · simp only [if_neg h, mul_zero, zero_mul, Finset.sum_const_zero]

theorem pay41_apply (E : FVec Ideal S4x256x512 .bf16) (b : ℕ) (P : FVec Ideal S256x256 .bf16) (R : FVec Ideal S256x1 .f32)
    (r : Fin 256) (l : Fin 512) (e : ℕ) (h : R (ix2 r 0) = num e) :
    k0_pay41 E (num b) P R (ix2 r l) = ∑ j : Fin 4, if e = b + j.val then ∑ k, P (ix2 r k) * E (ix3 j k l) else 0 := by
  have h1 : (1 : EReal) = num 1 := by unfold num; norm_num
  rw [Fin.sum_univ_four]
  pointwise [k0_pay41]
  rw [h, lit_two, lit_three, sitofp_bit, sitofp_bit, sitofp_bit, sitofp_bit]
  rw [masked, masked, masked, masked, num_add, num_add]
  rw [show num b + (1 : EReal) = num (b + 1) from by rw [h1, num_add]]
  simp only [num_inj]

/-- Device `d`'s contribution to row `r` of the packet of device `o`, whose expert is `e`: what expert `e` makes of the
    scaled row if it is one of `d`'s four, and nothing otherwise. -/
theorem Cc_apply (q : Rg) (d o : Dev nD) (r : Fin 256) (l : Fin 512) (e : Fin 64)
    (h : I.r o (ix2 (rowOf q r) 0) = BitVec.ofNat 32 e.val) :
    Cc I q d o (ix2 r l) = ∑ j : Fin 4, if e.val = 4 * d.val + j.val then
      ∑ k, (I.x o (ix2 (rowOf q r) k) * prob (fun k => I.x o (ix2 (rowOf q r) k)) (fun k e => I.w o (ix2 k e)) e) * I.e d (ix3 j k l) else 0 := by
  unfold Cc
  rw [base_apply, pay41_apply _ _ _ _ r l e.val]
  · refine Finset.sum_congr rfl fun j _ => ?_
    refine congrArg (fun a => if e.val = 4 * d.val + j.val then a else 0) ?_
    refine Finset.sum_congr rfl fun k _ => ?_
    have h39 : k0_pay39 (px I q o) (ix2 r k) = px I q o (ix3 0 r k) := by pointwise [k0_pay39]
    have h11 : k0_pay11 (I.e d) (ix3 j k l) = I.e d (ix3 j k l) := by pointwise [k0_pay11]
    rw [h39, h11, px_apply I q o r k e h]
  · have h40 : k0_pay40 (pr I q o) (ix2 r 0) = pr I q o (ix3 0 r 0) := by pointwise [k0_pay40]
    rw [h40, pr_apply I q o r e h]

end Cert.MoE
-- ==== Proof.Total.lean ====
/-
The partial sums gathered round the ring, and each device's result: over the sixteen devices exactly one holds
the token's expert, so the result is `token`.
-/
module

public import proofs.«01_k».proof.Proof.Values
public import proofs.«01_k».proof.Proof.Go

@[expose] public section

noncomputable section

namespace Cert.MoE

open Cert.KernelIdeal Cert.KernelIdeal.Gen
open Idealize.ShloMosaic Idealize.ShloMosaic.TcCoe

variable (I : In Ideal)

/-- The shared expert's values, in the two halves of a device's rows. -/
theorem shared_cw (x : Vec Ideal S512x256 .f32) (s : Vec Ideal S256x512 .f32) (r : Fin 256) (l : Fin 512) :
    k0_pay14 (k0_pay1 x) s (ix2 r l) = ∑ k, x (ix2 (rowOf .bcw r) k) * s (ix2 k l) := by
  pointwise [k0_pay14, k0_pay13, k0_pay1, rowOf]
theorem shared_ccw (x : Vec Ideal S512x256 .f32) (s : Vec Ideal S256x512 .f32) (r : Fin 256) (l : Fin 512) :
    k0_pay20 (k0_pay13 (k0_pay1 x) s) (ix2 r l) = ∑ k, x (ix2 (rowOf .bccw r) k) * s (ix2 k l) := by
  pointwise [k0_pay20, k0_pay13, k0_pay1, rowOf]

theorem first_apply (x : FVec Ideal S256x512 .f32) (r : Fin 256) (l : Fin 512) : k0_pay36 x (ix3 0 r l) = x (ix2 r l) := by
  pointwise [k0_pay36]
theorem next_apply (x : FVec Ideal S256x512 .f32) (y : Vec Ideal S1x256x512 .bf16) (r : Fin 256) (l : Fin 512) :
    k0_pay47 x y (ix3 0 r l) = y (ix3 0 r l) + x (ix2 r l) := by
  pointwise [k0_pay47]

theorem last_apply1 (x : FVec Ideal S256x512 .f32) (y : Vec Ideal S1x256x512 .bf16) (r : Fin 256) (l : Fin 512) :
    k0_pay208 x y (ix2 r l) = y (ix3 0 r l) + x (ix2 r l) := by
  pointwise [k0_pay208]
theorem last_apply2 (x : FVec Ideal S256x512 .f32) (y : Vec Ideal S1x256x512 .bf16) (r : Fin 256) (l : Fin 512) :
    k0_pay209 x y (ix2 r l) = y (ix3 0 r l) + x (ix2 r l) := by
  pointwise [k0_pay209]

/-- A partial sum is the sum of the contributions of the devices it has visited, all to the one packet. -/
theorem Bv_apply (q : Rg) (r : Fin 256) (l : Fin 512) : ∀ (j : ℕ) (c : Dev nD),
    Bv I q c j (ix3 0 r l) = ∑ i ∈ Finset.range (j + 1), Cc I q (org q c i) (org q (backD q c) j) (ix2 r l)
  | 0, c => by
    rw [Finset.sum_range_one]
    exact first_apply _ r l
  | j + 1, c => by
    rw [Finset.sum_range_succ']
    exact (next_apply (Cc I q c (org q (backD q c) (j + 1))) (Bv I q (backD q c) j) r l).trans
      (congrArg (· + Cc I q c (org q (backD q c) (j + 1)) (ix2 r l)) (Bv_apply q r l j (backD q c)))

/-! ## Round the whole ring -/

/-- Sixteen steps come back to the start, and sixteen devices are met on the way. -/
theorem org_far (q : Rg) (c : Dev nD) : org q (backD q (backD q c)) 14 = c := by revert q c; decide
theorem org_inj (q : Rg) (c : Dev nD) : Function.Injective (fun i : Fin 16 => org q c i.val) := by
  revert q c; unfold Function.Injective; decide

theorem sum_ring (q : Rg) (c : Dev nD) (f : Dev nD → EReal) :
    (∑ i ∈ Finset.range 15, f (org q (backD q c) i)) + f c = ∑ d : Dev nD, f d := by
  have h : (∑ i ∈ Finset.range 16, f (org q c i)) = ∑ d : Dev nD, f d := by
    rw [Finset.sum_range]
    exact Function.Bijective.sum_comp (Finite.injective_iff_bijective.mp (org_inj q c)) f
  exact (Finset.sum_range_succ' (fun i => f (org q c i)) 15).symm.trans h

/-! ## One device holds the expert -/

set_option backward.proofsInPublic true in
/-- The device that holds an expert, and the expert's number there. -/
def owner (e : Fin 64) : Dev nD := ⟨e.val / 4, by have := e.isLt; show e.val / 4 < 16; omega⟩
set_option backward.proofsInPublic true in
def slot (e : Fin 64) : Fin 4 := ⟨e.val % 4, Nat.mod_lt _ (by decide)⟩

theorem sum_owner (e : Fin 64) (G : Dev nD → Fin 4 → EReal) :
    (∑ d : Dev nD, ∑ j : Fin 4, if e.val = 4 * d.val + j.val then G d j else 0) = G (owner e) (slot e) := by
  rw [Finset.sum_eq_single (owner e), Finset.sum_eq_single (slot e)]
  · exact if_pos (Nat.div_add_mod e.val 4).symm
  · intro j _ hj
    refine if_neg fun h => hj (Fin.ext ?_)
    show j.val = e.val % 4
    have := j.isLt; have h2 : e.val = 4 * (e.val / 4) + j.val := h
    omega
  · exact fun h => absurd (Finset.mem_univ _) h
  · intro d _ hd
    refine Finset.sum_eq_zero fun j _ => if_neg fun h => hd (Fin.ext ?_)
    show d.val = e.val / 4
    have := j.isLt
    omega
  · exact fun h => absurd (Finset.mem_univ _) h

/-- What row `i` of device `c`'s result should be, its token's expert being `e`. -/
def want (c : Dev nD) (i : Fin 512) (e : Fin 64) (l : Fin 512) : EReal :=
  token (fun k => I.x c (ix2 i k)) (fun k e => I.w c (ix2 k e)) e (fun k l => I.e (owner e) (ix3 (slot e) k l)) (fun k l => I.s c (ix2 k l)) l

variable (hx : ∀ c i, Fin' (I.x c i)) (hw : ∀ c i, Fin' (I.w c i))

include hx hw in
/-- All contributions to a row, and the shared expert's values. -/
theorem all_apply (q : Rg) (c : Dev nD) (r : Fin 256) (l : Fin 512) (e : Fin 64)
    (h : I.r c (ix2 (rowOf q r) 0) = BitVec.ofNat 32 e.val) :
    (∑ k, I.x c (ix2 (rowOf q r) k) * I.s c (ix2 k l)) + ∑ d : Dev nD, Cc I q d c (ix2 r l) = want I c (rowOf q r) e l := by
  rw [Finset.sum_congr rfl fun d _ => Cc_apply I q d c r l e h, sum_owner e (fun d j =>
    ∑ k, (I.x c (ix2 (rowOf q r) k) * prob (fun k => I.x c (ix2 (rowOf q r) k)) (fun k e => I.w c (ix2 k e)) e) * I.e d (ix3 j k l))]
  have hp := prob_fin (x := fun k => I.x c (ix2 (rowOf q r) k)) (w := fun k e => I.w c (ix2 k e)) (fun k => hx c _) (fun k e => hw c _) e
  unfold want token
  rw [sum_scaled]
  · exact hp.1
  · exact hp.2

include hx hw in
theorem outCw_apply (c : Dev nD) (r : Fin 256) (l : Fin 512) (e : Fin 64) (h : I.r c (ix2 (rowOf .bcw r) 0) = BitVec.ofNat 32 e.val) :
    outCw I c (ix2 r l) = want I c (rowOf .bcw r) e l := by
  rw [← all_apply I hx hw .bcw c r l e h, ← sum_ring .bcw c fun d => Cc I .bcw d c (ix2 r l)]
  have hB := Bv_apply I .bcw r l 14 (backD .bcw c)
  rw [org_far .bcw c] at hB
  have hH : homeCw I c (ix2 r l) = (∑ k, I.x c (ix2 (rowOf .bcw r) k) * I.s c (ix2 k l)) + Cc I .bcw c c (ix2 r l) := by
    exact congrArg (· + Cc I .bcw c c (ix2 r l)) (shared_cw (I.x c) (I.s c) r l)
  have hO : outCw I c (ix2 r l) = Bv I .bcw (backD .bcw c) 14 (ix3 0 r l) + homeCw I c (ix2 r l) := by
    exact last_apply1 _ _ r l
  rw [hO, hB, hH, add_comm, add_assoc, add_comm (Cc I .bcw c c (ix2 r l))]

include hx hw in
theorem outCcw_apply (c : Dev nD) (r : Fin 256) (l : Fin 512) (e : Fin 64) (h : I.r c (ix2 (rowOf .bccw r) 0) = BitVec.ofNat 32 e.val) :
    outCcw I c (ix2 r l) = want I c (rowOf .bccw r) e l := by
  rw [← all_apply I hx hw .bccw c r l e h, ← sum_ring .bccw c fun d => Cc I .bccw d c (ix2 r l)]
  have hB := Bv_apply I .bccw r l 14 (backD .bccw c)
  rw [org_far .bccw c] at hB
  have hH : homeCcw I c (ix2 r l) = (∑ k, I.x c (ix2 (rowOf .bccw r) k) * I.s c (ix2 k l)) + Cc I .bccw c c (ix2 r l) := by
    exact congrArg (· + Cc I .bccw c c (ix2 r l)) (shared_ccw (I.x c) (I.s c) r l)
  have hO : outCcw I c (ix2 r l) = Bv I .bccw (backD .bccw c) 14 (ix3 0 r l) + homeCcw I c (ix2 r l) := by
    exact last_apply2 _ _ r l
  rw [hO, hB, hH, add_comm, add_assoc, add_comm (Cc I .bccw c c (ix2 r l))]

include hx hw in
/-- A DEVICE'S RESULT, row by row. -/
theorem outW_apply (c : Dev nD) (i l : Fin 512) (e : Fin 64) (h : I.r c (ix2 i 0) = BitVec.ofNat 32 e.val) :
    outW I c (ix2 i l) = want I c i e l := by
  unfold outW
  by_cases hi : i.val < 256
  · rw [dif_pos (show ((ix2 i l : S512x512.Idx) 0).val < 256 from hi)]
    refine Eq.trans (congrArg (outCw I c) ?_) (outCw_apply I hx hw c ⟨i.val, hi⟩ l e h)
    funext a
    match a with
    | ⟨0, _⟩ => rfl
    | ⟨1, _⟩ => rfl
  · have hj : i.val - 256 < 256 := by have := i.isLt; omega
    have hr : rowOf .bccw ⟨i.val - 256, hj⟩ = i := Fin.ext (by show 256 + (i.val - 256) = i.val; omega)
    rw [dif_neg (show ¬((ix2 i l : S512x512.Idx) 0).val < 256 from hi)]
    refine Eq.trans (congrArg (outCcw I c) ?_) ((outCcw_apply I hx hw c ⟨i.val - 256, hj⟩ l e (by rw [hr]; exact h)).trans (by rw [hr]))
    funext a
    match a with
    | ⟨0, _⟩ => rfl
    | ⟨1, _⟩ => rfl

end Cert.MoE
-- ==== Proof.RefValue.lean ====
/-
The reference's result, element by element: for a token of expert `e`, `token` of its row, the router's
weights, the expert's weights and the shared expert's.
-/
module

public import proofs.«01_k».proof.Proof.Gen.ReferenceIdeal
public import proofs.«01_k».proof.Proof.Softmax
public import Idealize.ShloMosaic.Lib.Pointwise

@[expose] public section

noncomputable section

namespace Cert.MoE.Ref

open Cert.ReferenceIdeal Cert.ReferenceIdeal.Gen
open Idealize.ShloMosaic Idealize.ShloMosaic.TcCoe

/-- The router's scores of all tokens, and each row's scores less its greatest, exponentiated. -/
def scores (x : FVec Ideal S8192x256 .f32) (w : FVec Ideal S256x64 .f32) : FVec Ideal S8192x64 .f32 :=
  Host.dotGeneral dot_S8192x256_S256x64_S8192x64_1_0_0_1_n_n none x w
def exps (v : FVec Ideal S8192x64 .f32) : FVec Ideal S8192x64 .f32 :=
  Host.exp (subf v (broadcastInDim S8192x64 ![0, 1] bcast_S8192x1_S8192x64_0_1 (broadcastInDim S8192x1 ![0] bcast_S8192_S8192x1_0
    (Host.reduce FloatOps.maximumf v (constant S_ .f32 0xFF800000#32) reducesTo_S8192x64_S8192_d1 h_S_))))
/-- Each row divided by its sum. -/
def norms (v : FVec Ideal S8192x64 .f32) : FVec Ideal S8192x64 .f32 :=
  Host.divf v (broadcastInDim S8192x64 ![0, 1] bcast_S8192x1_S8192x64_0_1 (broadcastInDim S8192x1 ![0] bcast_S8192_S8192x1_0
    (Host.reduceAdd v (constant S_ .f32 0x00000000#32) reducesTo_S8192x64_S8192_d1 h_S_)))

/-- The experts chosen, as the two lookups read them: the first takes a negative number from the end. -/
def wraps (t : IVec S8192x1 32) : IVec S8192x1x1 32 :=
  shapeCast _ (select (cmpi .slt t (broadcastInDim S8192x1 ![] bcast_S_S8192x1 (constantI S_ 32 0#32)))
    (addi t (broadcastInDim S8192x1 ![] bcast_S_S8192x1 (constantI S_ 32 64#32))) t) shapeCasts_S8192x1_S8192x1x1
def plain (t : IVec S8192x1 32) : IVec S8192x1 32 :=
  broadcastInDim S8192x1 ![0] bcast_S8192_S8192x1_0 (shapeCast _ t shapeCasts_S8192x1_S8192)

/-- Each token's probability of its expert, and its expert's weights. -/
def coef (p : FVec Ideal S8192x64 .f32) (t : IVec S8192x1x1 32) : FVec Ideal S8192x1 .f32 :=
  Host.gather gather_S8192x64_S8192x1x1_S8192x1_n_1_0_0_1_2_11 p t
def mats (e : FVec Ideal S64x256x512 .f32) (t : IVec S8192x1 32) : FVec Ideal S8192x256x512 .f32 :=
  Host.gather gather_S64x256x512_S8192x1_S8192x256x512_12_0_n_n_0_1_1256512 e t

/-- The reference's result. -/
def out (x : FVec Ideal S8192x256 .f32) (w : FVec Ideal S256x64 .f32) (t : IVec S8192x1 32) (e : FVec Ideal S64x256x512 .f32)
    (s : FVec Ideal S256x512 .f32) : FVec Ideal S8192x512 .f32 :=
  addf (Host.dotGeneral dot_S8192x256_S256x512_S8192x512_1_0_0_1_n_n none x s)
    (mulf (broadcastInDim S8192x512 ![0, 1] bcast_S8192x1_S8192x512_0_1 (coef (norms (exps (scores x w))) (wraps t)))
      (Host.dotGeneral dot_S8192x256_S8192x256x512_S8192x512_1_1_n_2_0_0 none x (mats e (plain t))))

theorem probs_apply (x : FVec Ideal S8192x256 .f32) (w : FVec Ideal S256x64 .f32) (i : Fin 8192) (e : Fin 64) :
    norms (exps (scores x w)) (ix2 i e) = prob (fun k => x (ix2 i k)) (fun k e => w (ix2 k e)) e := by
  pointwise [norms, exps, scores, prob, wgt, top, score]

theorem plain_apply (t : IVec S8192x1 32) (i : Fin 8192) : plain t (ix2 i 0) = t (ix2 i 0) := by
  pointwise [plain]

/-- An expert's number is not negative, so it is not taken from the end. -/
theorem wrap_ofNat (e : Fin 64) :
    Scalar.select (IntOp.cmpi CmpIPredicate.slt (BitVec.ofNat 32 e.val) 0#32) (IntOp.addi (BitVec.ofNat 32 e.val) 64#32)
      (BitVec.ofNat 32 e.val) = BitVec.ofNat 32 e.val := by revert e; decide

theorem wraps_apply (t : IVec S8192x1 32) (i : Fin 8192) (e : Fin 64) (h : t (ix2 i 0) = BitVec.ofNat 32 e.val) :
    wraps t (ix3 i 0 0) = BitVec.ofNat 32 e.val := by
  pointwise [wraps]
  rw [h]
  exact wrap_ofNat e

/-- A number below 64 read signed and kept within 0 and 63 is itself. -/
theorem clamp_ofNat (e : Fin 64) : min (BitVec.ofNat 32 e.val).toInt.toNat 63 = e.val := by revert e; decide

theorem coef_apply (p : FVec Ideal S8192x64 .f32) (t : IVec S8192x1x1 32) (i : Fin 8192) (e : Fin 64)
    (h : t (ix3 i 0 0) = BitVec.ofNat 32 e.val) : coef p t (ix2 i 0) = p (ix2 i e) := by
  unfold coef Host.gather
  refine congrArg p (funext fun a => Fin.ext ?_)
  generalize hd : gather_S8192x64_S8192x1x1_S8192x1_n_1_0_0_1_2_11 = d
  show d.start (ix2 i 0) t a + d.batchCoord (ix2 i 0) a + d.offCoord (ix2 i 0) a = _
  subst hd
  fin_cases a
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (List.mem_singleton.mpr rfl)).trans rfl
  · rw [GatherDims.batchCoord_eq_zero _ _ _ (fun h => by revert h; decide),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine Eq.trans ?_ (clamp_ofNat e)
    rw [← h]
    refine congrArg (fun b => min (t b).toInt.toNat 63) (funext fun b => Fin.ext ?_)
    fin_cases b <;> rfl

theorem mats_apply (m : FVec Ideal S64x256x512 .f32) (t : IVec S8192x1 32) (i : Fin 8192) (e : Fin 64)
    (h : t (ix2 i 0) = BitVec.ofNat 32 e.val) (k : Fin 256) (l : Fin 512) : mats m t (ix3 i k l) = m (ix3 e k l) := by
  unfold mats Host.gather
  refine congrArg m (funext fun a => Fin.ext ?_)
  generalize hd : gather_S64x256x512_S8192x1_S8192x256x512_12_0_n_n_0_1_1256512 = d
  show d.start (ix3 i k l) t a + d.batchCoord (ix3 i k l) a + d.offCoord (ix3 i k l) a = _
  subst hd
  rw [GatherDims.batchCoord_eq_zero _ _ _ (by exact List.not_mem_nil)]
  fin_cases a
  · rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine Eq.trans ?_ (clamp_ofNat e)
    rw [← h]
    refine congrArg (fun b => min (t b).toInt.toNat 63) (funext fun b => Fin.ext ?_)
    fin_cases b <;> rfl
  · unfold GatherDims.start
    rw [dif_neg (by decide)]
    simp only [Nat.zero_add]
    rfl
  · unfold GatherDims.start
    rw [dif_neg (by decide)]
    simp only [Nat.zero_add]
    rfl

/-- THE REFERENCE'S RESULT at a token of expert `e`. -/
theorem out_apply (x : FVec Ideal S8192x256 .f32) (w : FVec Ideal S256x64 .f32) (t : IVec S8192x1 32) (m : FVec Ideal S64x256x512 .f32)
    (s : FVec Ideal S256x512 .f32) (i : Fin 8192) (e : Fin 64) (h : t (ix2 i 0) = BitVec.ofNat 32 e.val) (l : Fin 512) :
    out x w t m s (ix2 i l)
      = token (fun k => x (ix2 i k)) (fun k e => w (ix2 k e)) e (fun k l => m (ix3 e k l)) (fun k l => s (ix2 k l)) l := by
  pointwise [out]
  rw [coef_apply _ _ i e (wraps_apply t i e h), probs_apply]
  unfold token
  congr 2
  exact Finset.sum_congr rfl fun k _ => by rw [mats_apply m (plain t) i e ((plain_apply t i).trans h) k l]

end Cert.MoE.Ref
-- ==== Proof.Agree.lean ====
/-
The claim on values: from agreeing arguments that meet the precondition, every device's result is its block of
the reference's.
-/
module

public import proofs.«01_k».proof.Defs
public import proofs.«01_k».proof.Proof.Total
public import proofs.«01_k».proof.Proof.RefValue
public import proofs.«01_k».proof.Proof.Gen.ReferenceIdeal.Run

@[expose] public section

noncomputable section

namespace Cert.MoE

open Cert.KernelIdeal Cert.KernelIdeal.Gen
open Idealize.ShloMosaic Idealize.ShloMosaic.TcCoe Idealize.SL.Sem

/-! ## The precondition's side conditions -/

theorem preK : Cert.Pre_finite_and_routed_KernelIdeal.Facts where
  bcast_S_S512x256 := by decide
  bcast_S_S256x64 := by decide
  bcast_S_S512x1 := by decide

theorem preR : Cert.Pre_finite_and_routed_ReferenceIdeal.Facts := by
  constructor <;> decide

/-! ## The windows are the buffers themselves -/

section
variable {F : FTy → Type} [FloatOps F] (m : (ℓ : Loc nD τ sig) → Buf (Elt F) ℓ) (ρ : Dev nD → PrngReg) (c : Dev nD)

theorem II_x : (II m).x c = m ((c : Thread nD τ).loc main_arg0) := by
  have hr := fun f => Memref.read_access_unit_zero (Elt F) main_arg0
    (show (fun a => (win0_0.index (0 : Fin 1)) a * main_arg0.ty.shape.size a) = fun _ => 0 from funext fun a => by fin_cases a <;> decide)
    (fun a => by fin_cases a <;> decide) f
  exact hr _
theorem II_w : (II m).w c = m ((c : Thread nD τ).loc main_arg1) := by
  have hr := fun f => Memref.read_access_unit_zero (Elt F) main_arg1
    (show (fun a => (win0_1.index (0 : Fin 1)) a * main_arg1.ty.shape.size a) = fun _ => 0 from funext fun a => by fin_cases a <;> decide)
    (fun a => by fin_cases a <;> decide) f
  exact hr _
theorem II_r : (II m).r c = m ((c : Thread nD τ).loc main_arg2) := by
  have hr := fun f => Memref.read_access_unit_zero (Elt F) main_arg2
    (show (fun a => (win0_2.index (0 : Fin 1)) a * main_arg2.ty.shape.size a) = fun _ => 0 from funext fun a => by fin_cases a <;> decide)
    (fun a => by fin_cases a <;> decide) f
  exact hr _
theorem II_e : (II m).e c = m ((c : Thread nD τ).loc main_arg3) := by
  have hr := fun f => Memref.read_access_unit_zero (Elt F) main_arg3
    (show (fun a => (win0_3.index (0 : Fin 1)) a * main_arg3.ty.shape.size a) = fun _ => 0 from funext fun a => by fin_cases a <;> decide)
    (fun a => by fin_cases a <;> decide) f
  exact hr _
theorem II_s : (II m).s c = m ((c : Thread nD τ).loc main_arg4) := by
  have hr := fun f => Memref.read_access_unit_zero (Elt F) main_arg4
    (show (fun a => (win0_4.index (0 : Fin 1)) a * main_arg4.ty.shape.size a) = fun _ => 0 from funext fun a => by fin_cases a <;> decide)
    (fun a => by fin_cases a <;> decide) f
  exact hr _

/-- The result's buffer ends holding the device's result. -/
theorem final_out : finalA m ρ c (5 : Fin 6) = outW (II m) c := by
  have h : (win0_5.blk (0 : Fin 1)).view.read (Elt F) (finalA m ρ c (5 : Fin 6)) = outW (II m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  rw [← h]
  exact (Memref.read_access_unit_zero (Elt F) main_v1
    (show (fun a => (win0_5.index (0 : Fin 1)) a * main_v1.ty.shape.size a) = fun _ => 0 from funext fun a => by fin_cases a <;> decide)
    (fun a => by fin_cases a <;> decide) _).symm

end

/-! ## What the precondition says -/

/-- A number whose absolute value is below infinity is finite. -/
theorem fin_of_abs (a : EReal) (h : Ideal.cmp .olt (max a (-a)) (Ideal.ofBits .f32 0x7F800000#32) = 1#1) : Fin' a := by
  have ht : Ideal.ofBits .f32 0x7F800000#32 = ⊤ := by simp [Ideal.ofBits, Ideal.ieee]
  rw [ht] at h
  have hlt : max a (-a) < ⊤ := by
    by_contra hn
    have h2 : Ideal.cmp .olt (max a (-a)) ⊤ = BitVec.ofBool (decide (max a (-a) < ⊤)) := rfl
    rw [h2, decide_eq_false hn] at h
    exact absurd h (by decide)
  have h1 := (max_lt_iff.mp hlt).1
  have h2 := (max_lt_iff.mp hlt).2
  refine fin'_of h1.ne fun hb => ?_
  rw [hb, EReal.neg_bot] at h2
  exact absurd h2 (lt_irrefl _)

/-- A word that is not negative and below 64 is an expert's number. -/
theorem expert_of (b : BitVec 32) (h : IntOp.andi (IntOp.cmpi .sge b 0#32) (IntOp.cmpi .slt b 64#32) = 1#1) :
    ∃ e : Fin 64, b = BitVec.ofNat 32 e.val := by
  have hs : IntOp.cmpi .sge b 0#32 = BitVec.ofBool ((0#32).sle b) := rfl
  have hl : IntOp.cmpi .slt b 64#32 = BitVec.ofBool (b.slt 64#32) := rfl
  have ha : IntOp.andi (IntOp.cmpi .sge b 0#32) (IntOp.cmpi .slt b 64#32) = BitVec.ofBool ((0#32).sle b) &&& BitVec.ofBool (b.slt 64#32) := rfl
  rw [ha] at h
  have h1 : (0#32).sle b = true := by
    cases hc : (0#32).sle b
    · rw [hc] at h; revert h; cases b.slt 64#32 <;> decide
    · rfl
  have h2 : b.slt 64#32 = true := by
    cases hc : b.slt 64#32
    · rw [hc] at h; revert h; cases (0#32).sle b <;> decide
    · rfl
  rw [BitVec.sle_iff_toInt_le] at h1
  rw [BitVec.slt_iff_toInt_lt] at h2
  have h3 : (0#32).toInt = 0 := by decide
  have h4 : (64#32).toInt = 64 := by decide
  rw [h3] at h1; rw [h4] at h2
  have h5 : b.toNat < 64 := by
    have := BitVec.toInt_eq_toNat_cond b
    have := b.isLt
    split at * <;> omega
  exact ⟨⟨b.toNat, h5⟩, BitVec.eq_of_toNat_eq (by simp)⟩

variable (m : (ℓ : Loc nD τ sig) → Buf (Elt Ideal) ℓ)

section
attribute [local instance] preK

theorem pre_x (h : Cert.Pre_KernelIdeal_finite_and_routed_KernelIdeal m) (c : Dev nD) (i : S512x256.Idx) : Fin' ((II m).x c i) := by
  rw [II_x]
  exact fin_of_abs _ (congrFun (h c).1 i)
theorem pre_w (h : Cert.Pre_KernelIdeal_finite_and_routed_KernelIdeal m) (c : Dev nD) (i : S256x64.Idx) : Fin' ((II m).w c i) := by
  rw [II_w]
  exact fin_of_abs _ (congrFun (h c).2.1 i)
theorem pre_r (h : Cert.Pre_KernelIdeal_finite_and_routed_KernelIdeal m) (c : Dev nD) (i : S512x1.Idx) :
    ∃ e : Fin 64, (II m).r c i = BitVec.ofNat 32 e.val := by
  rw [II_r]
  exact expert_of _ (congrFun (h c).2.2 i)

/-! ## Where a device's rows lie in the whole arrays -/

set_option backward.proofsInPublic true in
def rowAt (c : Dev nD) (i : Fin 512) : Fin 8192 := ⟨c.val * 512 + i.val, by have := i.isLt; have : c.val < 16 := c.isLt; omega⟩

theorem idx_x (h : Layout.Tiles ⟨2, ![512, 256]⟩ ⟨2, ![8192, 256]⟩ 0 16) (c : Dev nD) (i : Fin 512) (k : Fin 256) :
    h.idx c (ix2 i k) = ix2 (rowAt c i) k := by
  funext a; exact Fin.ext (match a with | ⟨0, _⟩ => rfl | ⟨1, _⟩ => rfl)
theorem idx_t (h : Layout.Tiles ⟨2, ![512, 1]⟩ ⟨2, ![8192, 1]⟩ 0 16) (c : Dev nD) (i : Fin 512) (k : Fin 1) :
    h.idx c (ix2 i k) = ix2 (rowAt c i) k := by
  funext a; exact Fin.ext (match a with | ⟨0, _⟩ => rfl | ⟨1, _⟩ => rfl)
theorem idx_o (h : Layout.Tiles ⟨2, ![512, 512]⟩ ⟨2, ![8192, 512]⟩ 0 16) (c : Dev nD) (i k : Fin 512) :
    h.idx c (ix2 i k) = ix2 (rowAt c i) k := by
  funext a; exact Fin.ext (match a with | ⟨0, _⟩ => rfl | ⟨1, _⟩ => rfl)
/-- The expert at its place on the device that holds it. -/
theorem idx_e (h : Layout.Tiles ⟨3, ![4, 256, 512]⟩ ⟨3, ![64, 256, 512]⟩ 0 16) (e : Fin 64) (k : Fin 256) (l : Fin 512) :
    h.idx (owner e) (ix3 (slot e) k l) = ix3 e k l := by
  funext a; refine Fin.ext ?_
  match a with
  | ⟨0, _⟩ => show e.val / 4 * 4 + e.val % 4 = e.val; omega
  | ⟨1, _⟩ => rfl
  | ⟨2, _⟩ => rfl

/-- A device's result is its block of the reference's. -/
theorem agrees (h : Cert.Pre_KernelIdeal_finite_and_routed_KernelIdeal m)
    (x : FVec Ideal ⟨2, ![8192, 256]⟩ .f32) (w : FVec Ideal ⟨2, ![256, 64]⟩ .f32) (t : IVec ⟨2, ![8192, 1]⟩ 32)
    (e : FVec Ideal ⟨3, ![64, 256, 512]⟩ .f32) (s : FVec Ideal ⟨2, ![256, 512]⟩ .f32)
    (hag : ∀ c : Dev nD, (II m).x c = Layout.block ⟨2, ![512, 256]⟩ ⟨2, ![8192, 256]⟩ 0 16 c x ∧ (II m).w c = w
      ∧ (II m).r c = Layout.block ⟨2, ![512, 1]⟩ ⟨2, ![8192, 1]⟩ 0 16 c t
      ∧ (II m).e c = Layout.block ⟨3, ![4, 256, 512]⟩ ⟨3, ![64, 256, 512]⟩ 0 16 c e ∧ (II m).s c = s) (c : Dev nD) :
    outW (II m) c = Layout.block ⟨2, ![512, 512]⟩ ⟨2, ![8192, 512]⟩ 0 16 c (Ref.out x w t e s) := by
  have key : ∀ i l : Fin 512, outW (II m) c (ix2 i l) = (Layout.block ⟨2, ![512, 512]⟩ ⟨2, ![8192, 512]⟩ 0 16 c (Ref.out x w t e s) : FVec Ideal ⟨2, ![512, 512]⟩ .f32) (ix2 i l) := by
    intro i l
    obtain ⟨n, hn⟩ := pre_r m h c (ix2 i 0)
    have ht : t (ix2 (rowAt c i) 0) = BitVec.ofNat 32 n.val := by
      rw [← hn, (hag c).2.2.1, Layout.block_apply, idx_t]
    rw [outW_apply (II m) (pre_x m h) (pre_w m h) c i l n hn, Layout.block_apply, idx_o, Ref.out_apply x w t e s _ n ht l]
    unfold want
    rw [(hag c).1, (hag c).2.1, (hag (owner n)).2.2.2.1, (hag c).2.2.2.2]
    have h1 : ∀ k, Layout.block ⟨2, ![512, 256]⟩ ⟨2, ![8192, 256]⟩ 0 16 c x (by decide) (ix2 i k) = x (ix2 (rowAt c i) k) := fun k => by
      rw [Layout.block_apply, idx_x]
    have h2 : ∀ k l, Layout.block ⟨3, ![4, 256, 512]⟩ ⟨3, ![64, 256, 512]⟩ 0 16 (owner n) e (by decide) (ix3 (slot n) k l) = e (ix3 n k l) := fun k l => by
      rw [Layout.block_apply, idx_e]
    exact congrArg₂ (fun a b => token a (fun k e => w (ix2 k e)) n b (fun k l => s (ix2 k l)) l) (funext h1) (funext fun k => funext fun l => h2 k l)
  funext i
  have hi : i = ix2 (i 0) (i 1) := by funext a; match a with | ⟨0, _⟩ => rfl | ⟨1, _⟩ => rfl
  rw [hi]; exact key _ _

/-- THE CLAIM ON VALUES. -/
theorem algebraic : Cert.algebraic_KernelIdeal_ReferenceIdeal_pre_finite_and_routed_KernelIdeal := by
  intro m g m' g' hpre hag
  refine ⟨Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run _ _ _).mono (fun r h c => ⟨((h.1 c 5).trans (final_out m g c)).trans (agrees m hpre _ _ _ _ _ (fun c =>
        ⟨(II_x m c).trans (hag c).1, (II_w m c).trans (hag c).2.1, (II_r m c).trans (hag c).2.2.1,
          (II_e m c).trans (hag c).2.2.2.1, (II_s m c).trans (hag c).2.2.2.2⟩) c),
      (h.1 c 0).trans (final_in m g c 0 rfl), (h.1 c 1).trans (final_in m g c 1 rfl), (h.1 c 2).trans (final_in m g c 2 rfl),
      (h.1 c 3).trans (final_in m g c 3 rfl), (h.1 c 4).trans (final_in m g c 4 rfl)⟩) (run_main m g)
  · exact (θ_run _ _ _).mono (fun r h => h 0) (Cert.ReferenceIdeal.Value.run (F := Ideal) m' g')

end

end Cert.MoE
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Go
public import proofs.«01_k».proof.Proof.Agree
public import Idealize.ShloMosaic.Adequacy
public import Idealize.ShloMosaic.Init

@[expose] public section

noncomputable section

namespace Cert.Proof

open Idealize.ShloMosaic Idealize.SL.Sem

/-- For any floats: the kernel runs, leaves its arguments alone and returns every counter to zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c 0).trans (Cert.MoE.final_in m ρ c 0 rfl), (h.1 c 1).trans (Cert.MoE.final_in m ρ c 1 rfl),
      (h.1 c 2).trans (Cert.MoE.final_in m ρ c 2 rfl), (h.1 c 3).trans (Cert.MoE.final_in m ρ c 3 rfl),
      (h.1 c 4).trans (Cert.MoE.final_in m ρ c 4 rfl)⟩, h.2⟩)
    (Cert.MoE.run_main m ρ)

set_option maxRecDepth 100000 in
/-- The printed kernel's body is, word for word, the body that was run above. -/
theorem same_defs₀ : Cert.Kernel.defs₀ (F := Bits) = Cert.KernelIdeal.defs₀ := by
  unfold Cert.Kernel.defs₀ Cert.KernelIdeal.defs₀
  refine congrArg Defs.onTc (funext fun l => funext fun a => ?_)
  obtain ⟨l, hl⟩ := l
  match l, hl, a with
  | 0, _, (t, s) => rfl

theorem same_defs : Cert.Kernel.defs (F := Bits) = Cert.KernelIdeal.defs :=
  congrArg (Pipeline.defs Cert.KernelIdeal.pcfgs) same_defs₀

set_option maxRecDepth 100000 in
/-- The printed kernel, whose text is the one run above. -/
theorem frame_kernel : Cert.quiescent_Kernel := fun m ρ _ => by
  have h := frame_any (F := Bits) m ρ
  rw [← same_defs] at h
  exact h

/-- The same of the kernel read over the extended reals. -/
theorem frame_kernelIdeal : Cert.quiescent_KernelIdeal := fun m ρ _ => frame_any (F := Ideal) m ρ

/-- The reference runs and leaves its arguments alone; it has no counter. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.MoE.preK, Cert.MoE.preR,
  frame_kernel, frame_kernelIdeal, fun m ρ _ => frame_kernelIdeal m ρ trivial, frame_referenceIdeal,
  fun m ρ _ => frame_referenceIdeal m ρ trivial, trivial, Cert.MoE.algebraic⟩

end Cert.Proof

end
